-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x96x384x384 : Shape := ⟨4, ![4, 96, 384, 384]⟩
abbrev S96 : Shape := ⟨1, ![96]⟩
abbrev S_ : Shape := ⟨0, ![]⟩

class Facts : Prop where
  bcast_S_S4x96x384x384 : S_.BroadcastsInDim S4x96x384x384 (![] : Fin 0 → Fin S4x96x384x384.rank)
  reducesTo_S4x96x384x384_S_d0_1_2_3 : S4x96x384x384.ReducesTo [0, 1, 2, 3] S_
  h_S_ : 0 < S_.numel
  bcast_S_S96 : S_.BroadcastsInDim S96 (![] : Fin 0 → Fin S96.rank)
  reducesTo_S96_S_d0 : S96.ReducesTo [0] S_

variable [Facts]

def fn {F : FTy → Type} [FloatOps F] (main_arg0 : FVec F S4x96x384x384 .f32) (main_arg1 : FVec F S96 .f32) (main_arg2 : FVec F S96 .f32) : IVec S_ 1 :=
  let main_v0 : FVec F S4x96x384x384 .f32 := Host.absf main_arg0
  let main_cst : FVec F S_ .f32 := constant S_ .f32 0x7F800000#32
  let main_v1 : FVec F S4x96x384x384 .f32 := broadcastInDim S4x96x384x384 ![] bcast_S_S4x96x384x384 main_cst
  let main_v2 : IVec S4x96x384x384 1 := cmpf .olt main_v0 main_v1
  let main_c : IVec S_ 1 := constantI S_ 1 1#1
  let main_v3 : IVec S_ 1 := (fun x v => Host.reduce IntOp.andi x v reducesTo_S4x96x384x384_S_d0_1_2_3 h_S_) main_v2 main_c
  let main_v4 : FVec F S96 .f32 := Host.absf main_arg1
  let main_cst_0 : FVec F S_ .f32 := constant S_ .f32 0x7F800000#32
  let main_v5 : FVec F S96 .f32 := broadcastInDim S96 ![] bcast_S_S96 main_cst_0
  let main_v6 : IVec S96 1 := cmpf .olt main_v4 main_v5
  let main_c_1 : IVec S_ 1 := constantI S_ 1 1#1
  let main_v7 : IVec S_ 1 := (fun x v => Host.reduce IntOp.andi x v reducesTo_S96_S_d0 h_S_) main_v6 main_c_1
  let main_v8 : IVec S_ 1 := andi main_v3 main_v7
  main_v8
-- ==== Kernel.lean ====
abbrev S4x96x384x384 : Shape := ⟨4, ![4, 96, 384, 384]⟩
abbrev S96 : Shape := ⟨1, ![96]⟩
abbrev S4x96x147456 : Shape := ⟨3, ![4, 96, 147456]⟩
abbrev S32x96x16 : Shape := ⟨3, ![32, 96, 16]⟩
abbrev S32x16 : Shape := ⟨2, ![32, 16]⟩
abbrev S4x9216x16 : Shape := ⟨3, ![4, 9216, 16]⟩
abbrev S96x512 : Shape := ⟨2, ![96, 512]⟩
abbrev S96x16 : Shape := ⟨2, ![96, 16]⟩
abbrev S16 : Shape := ⟨1, ![16]⟩
abbrev S1x16 : Shape := ⟨2, ![1, 16]⟩
abbrev S_ : Shape := ⟨0, ![]⟩
abbrev S1x96x512 : Shape := ⟨3, ![1, 96, 512]⟩
abbrev S1x32x16 : Shape := ⟨3, ![1, 32, 16]⟩
abbrev S1x96x16 : Shape := ⟨3, ![1, 96, 16]⟩
abbrev S96x1 : Shape := ⟨2, ![96, 1]⟩
abbrev S1x96x1x1 : Shape := ⟨4, ![1, 96, 1, 1]⟩
abbrev S1x96x16x1 : Shape := ⟨4, ![1, 96, 16, 1]⟩

abbrev nBuf : Table → Nat
  | .hbm => 42
  | .local .scVector .vmem => 9
  | _ => 0

abbrev bufTy : (tb : Table) → Fin (nBuf tb) → BufTy
  | .hbm, ⟨0, _⟩ => ⟨S4x96x384x384, .f32⟩
  | .hbm, ⟨1, _⟩ => ⟨S96, .f32⟩
  | .hbm, ⟨2, _⟩ => ⟨S96, .f32⟩
  | .hbm, ⟨3, _⟩ => ⟨S4x96x147456, .f32⟩
  | .hbm, ⟨4, _⟩ => ⟨S32x96x16, .f32⟩
  | .hbm, ⟨5, _⟩ => ⟨S32x96x16, .f32⟩
  | .hbm, ⟨6, _⟩ => ⟨S32x16, .f32⟩
  | .hbm, ⟨7, _⟩ => ⟨S4x9216x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S96, .f32⟩
  | .hbm, ⟨14, _⟩ => ⟨S96, .f32⟩
  | .hbm, ⟨15, _⟩ => ⟨S96, .f32⟩
  | .hbm, ⟨16, _⟩ => ⟨S_, .f32⟩
  | .hbm, ⟨17, _⟩ => ⟨S96, .f32⟩
  | .hbm, ⟨18, _⟩ => ⟨S96, .f32⟩
  | .hbm, ⟨19, _⟩ => ⟨S96, .f32⟩
  | .hbm, ⟨20, _⟩ => ⟨S96, .f32⟩
  | .hbm, ⟨21, _⟩ => ⟨S96, .f32⟩
  | .hbm, ⟨22, _⟩ => ⟨S_, .f32⟩
  | .hbm, ⟨23, _⟩ => ⟨S96, .f32⟩
  | .hbm, ⟨24, _⟩ => ⟨S96, .f32⟩
  | .hbm, ⟨25, _⟩ => ⟨S_, .f32⟩
  | .hbm, ⟨26, _⟩ => ⟨S96, .f32⟩
  | .hbm, ⟨27, _⟩ => ⟨S96, .f32⟩
  | .hbm, ⟨28, _⟩ => ⟨S96, .f32⟩
  | .hbm, ⟨29, _⟩ => ⟨S96, .f32⟩
  | .hbm, ⟨30, _⟩ => ⟨S96, .f32⟩
  | .hbm, ⟨31, _⟩ => ⟨S96, .f32⟩
  | .hbm, ⟨32, _⟩ => ⟨S96x1, .f32⟩
  | .hbm, ⟨33, _⟩ => ⟨S1x96x1x1, .f32⟩
  | .hbm, ⟨34, _⟩ => ⟨S1x96x16x1, .f32⟩
  | .hbm, ⟨35, _⟩ => ⟨S96x16, .f32⟩
  | .hbm, ⟨36, _⟩ => ⟨S96x1, .f32⟩
  | .hbm, ⟨37, _⟩ => ⟨S1x96x1x1, .f32⟩
  | .hbm, ⟨38, _⟩ => ⟨S1x96x16x1, .f32⟩
  | .hbm, ⟨39, _⟩ => ⟨S96x16, .f32⟩
  | .hbm, ⟨40, _⟩ => ⟨S4x96x147456, .f32⟩
  | .hbm, ⟨41, _⟩ => ⟨S4x96x384x384, .f32⟩
  | .local .scVector .vmem, ⟨0, _⟩ => ⟨S96x512, .f32⟩
  | .local .scVector .vmem, ⟨1, _⟩ => ⟨S32x16, .f32⟩
  | .local .scVector .vmem, ⟨2, _⟩ => ⟨S96x16, .f32⟩
  | .local .scVector .vmem, ⟨3, _⟩ => ⟨S96x16, .f32⟩
  | .local .scVector .vmem, ⟨4, _⟩ => ⟨S16, .f32⟩
  | .local .scVector .vmem, ⟨5, _⟩ => ⟨S96x512, .f32⟩
  | .local .scVector .vmem, ⟨6, _⟩ => ⟨S32x16, .f32⟩
  | .local .scVector .vmem, ⟨7, _⟩ => ⟨S96x16, .f32⟩
  | .local .scVector .vmem, ⟨8, _⟩ => ⟨S96x16, .f32⟩
  | _, _ => ⟨S4x96x384x384, .f32⟩

abbrev dmaSemScopedAt0_0 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => false
  | 39 => false
  | 40 => false
  | 41 => false
  | 42 => false
  | 43 => false
  | 44 => false
  | 45 => false
  | 46 => false
  | 47 => false
  | 48 => false
  | 49 => false
  | 50 => false
  | 51 => false
  | 52 => false
  | 53 => false
  | 54 => false
  | 55 => false
  | 56 => false
  | 57 => false
  | 58 => false
  | 59 => false
  | 60 => false
  | 61 => false
  | 62 => false
  | 63 => false
  | 64 => false
  | 65 => false
  | 66 => false
  | 67 => false
  | 68 => false
  | 69 => false
  | 70 => false
  | 71 => false
  | 72 => false
  | 73 => false
  | 74 => false
  | 75 => false
  | 76 => false
  | 77 => false
  | 78 => false
  | 79 => false
  | 80 => false
  | 81 => false
  | 82 => false
  | 83 => false
  | 84 => false
  | 85 => false
  | 86 => false
  | 87 => false
  | 88 => false
  | 89 => false
  | 90 => false
  | 91 => false
  | 92 => false
  | 93 => false
  | 94 => false
  | 95 => false
  | 96 => false
  | 97 => false
  | 98 => false
  | 99 => false
  | 100 => false
  | 101 => false
  | 102 => false
  | 103 => false
  | 104 => false
  | 105 => false
  | 106 => false
  | 107 => false
  | 108 => false
  | 109 => false
  | 110 => false
  | 111 => false
  | 112 => false
  | 113 => false
  | 114 => false
  | 115 => false
  | 116 => false
  | 117 => false
  | 118 => false
  | 119 => false
  | 120 => false
  | 121 => false
  | 122 => false
  | 123 => false
  | 124 => false
  | 125 => false
  | 126 => false
  | 127 => false
  | _ => false

abbrev dmaSemScopedAt0_1 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => false
  | 39 => false
  | 40 => false
  | 41 => false
  | 42 => false
  | 43 => false
  | 44 => false
  | 45 => false
  | 46 => false
  | 47 => false
  | 48 => false
  | 49 => false
  | 50 => false
  | 51 => false
  | 52 => false
  | 53 => false
  | 54 => false
  | 55 => false
  | 56 => false
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 185 → Bool
  | ⟨i, _⟩ => dmaSemScopedAt i

abbrev sig : RefSig :=
  ofTables nBuf rfl bufTy 4 185 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v0_scv : Ref sig .scVector := ⟨.hbm, 3, rfl⟩
abbrev main_v1_0_scv : Ref sig .scVector := ⟨.hbm, 4, rfl⟩
abbrev main_v1_1_scv : Ref sig .scVector := ⟨.hbm, 5, rfl⟩
abbrev main_v1_2_scv : Ref sig .scVector := ⟨.hbm, 6, rfl⟩
abbrev main_v1_3_scv : Ref sig .scVector := ⟨.hbm, 7, rfl⟩
abbrev main_v23_scv : Ref sig .scVector := ⟨.hbm, 35, rfl⟩
abbrev main_v27_scv : Ref sig .scVector := ⟨.hbm, 39, rfl⟩
abbrev main_v28_scv : Ref sig .scVector := ⟨.hbm, 40, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc1_scratch3 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c96_i32 : BitVec 32 := 96#32
  let v4 : BitVec 32 := Scalar.addi c0_i32_1 c96_i32
  let c1_i32 : BitVec 32 := 1#32
  ⟨c0_i32_1, v4, c1_i32⟩
def k0_off1 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v332 : Index := Scalar.indexCast arg12
  let c0_525 : Index := 0#32
  ![v332.toNat, 0]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32 : BitVec 32 := 4608#32
  let v5 : BitVec 32 := Scalar.muli v1 c4608_i32
  let c0_i32_3 : BitVec 32 := 0#32
  let v6 : BitVec 32 := Scalar.addi v5 c0_i32_3
  v6
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32 : BitVec 32 := 288#32
  let v8 : BitVec 32 := Scalar.muli v1 c288_i32
  let c0_i32_4 : BitVec 32 := 0#32
  let v9 : BitVec 32 := Scalar.addi v8 c0_i32_4
  v9
def k0_off2 (i : grid0.Coords) (c0_i32_3 : BitVec 32) : Fin 3 → Nat :=
  let c0_i32_5 : BitVec 32 := 0#32
  let c0_i32_525_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32 : BitVec 32 := 4608#32
  let v5 : BitVec 32 := Scalar.muli v1 c4608_i32
  let v6 : BitVec 32 := Scalar.addi v5 c0_i32_3
  let v7 : BitVec 32 := v6
  ![0, 0, v7.toNat]
@[reducible] def k0_t2_loop : Scf.Loop 32 :=
  let c0_i32_6 : BitVec 32 := 0#32
  let c32_i32 : BitVec 32 := 32#32
  let v11 : BitVec 32 := Scalar.addi c0_i32_6 c32_i32
  let c1_i32_7 : BitVec 32 := 1#32
  ⟨c0_i32_6, v11, c1_i32_7⟩
def k0_mult3 (k0_t2 : Fin k0_t2_loop.trips) : BitVec 32 :=
  let c0_i32_6 : BitVec 32 := 0#32
  let c1_i32_7 : BitVec 32 := 1#32
  let arg12 : BitVec 32 := Scf.iv c0_i32_6 c1_i32_7 k0_t2
  let c16_i32 : BitVec 32 := 16#32
  let v332 : BitVec 32 := Scalar.muli arg12 c16_i32
  v332
@[reducible] def k0_t3_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off3 (k0_t2 : Fin k0_t2_loop.trips) (k0_t3 : Fin k0_t3_loop.trips) : Fin 2 → Nat :=
  let c0_i32_525 : BitVec 32 := 0#32
  let c1_i32_527 : BitVec 32 := 1#32
  let arg14 : BitVec 32 := Scf.iv c0_i32_525 c1_i32_527 k0_t3
  let v341 : Index := Scalar.indexCast arg14
  let c0_i32_6 : BitVec 32 := 0#32
  let c1_i32_7 : BitVec 32 := 1#32
  let arg12 : BitVec 32 := Scf.iv c0_i32_6 c1_i32_7 k0_t2
  let c16_i32 : BitVec 32 := 16#32
  let v332 : BitVec 32 := Scalar.muli arg12 c16_i32
  let v333 : BitVec 32 := v332
  let v342 : Index := Scalar.indexCast v333
  ![v341.toNat, v342.toNat]
def k0_off4 (k0_t2 : Fin k0_t2_loop.trips) : Fin 2 → Nat :=
  let c0_i32_6 : BitVec 32 := 0#32
  let c1_i32_7 : BitVec 32 := 1#32
  let arg12 : BitVec 32 := Scf.iv c0_i32_6 c1_i32_7 k0_t2
  let v336 : Index := Scalar.indexCast arg12
  let c0_529 : Index := 0#32
  ![v336.toNat, 0]
def k0_off5 (i : grid0.Coords) (c0_i32_4 : BitVec 32) : Fin 3 → Nat :=
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32 : BitVec 32 := 288#32
  let v8 : BitVec 32 := Scalar.muli v1 c288_i32
  let v9 : BitVec 32 := Scalar.addi v8 c0_i32_4
  let v10 : BitVec 32 := v9
  let c0_i32_525_r1 : BitVec 32 := 0#32
  ![0, v10.toNat, 0]
@[reducible] def k0_t4_loop : Scf.Loop 32 :=
  let c0_i32_11 : BitVec 32 := 0#32
  let c96_i32_12 : BitVec 32 := 96#32
  let v13 : BitVec 32 := Scalar.addi c0_i32_11 c96_i32_12
  let c1_i32_13 : BitVec 32 := 1#32
  ⟨c0_i32_11, v13, c1_i32_13⟩
@[reducible] def k0_t5_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult4 (k0_t5 : Fin k0_t5_loop.trips) : BitVec 32 :=
  let c0_i32_525 : BitVec 32 := 0#32
  let c1_i32_527 : BitVec 32 := 1#32
  let arg13 : BitVec 32 := Scf.iv c0_i32_525 c1_i32_527 k0_t5
  let c16_i32 : BitVec 32 := 16#32
  let v350 : BitVec 32 := Scalar.muli arg13 c16_i32
  v350
def k0_off6 (k0_t4 : Fin k0_t4_loop.trips) (k0_t5 : Fin k0_t5_loop.trips) : Fin 2 → Nat :=
  let c0_i32_11 : BitVec 32 := 0#32
  let c1_i32_13 : BitVec 32 := 1#32
  let arg12 : BitVec 32 := Scf.iv c0_i32_11 c1_i32_13 k0_t4
  let v352 : Index := Scalar.indexCast arg12
  let c0_i32_525 : BitVec 32 := 0#32
  let c1_i32_527 : BitVec 32 := 1#32
  let arg13 : BitVec 32 := Scf.iv c0_i32_525 c1_i32_527 k0_t5
  let c16_i32 : BitVec 32 := 16#32
  let v350 : BitVec 32 := Scalar.muli arg13 c16_i32
  let v351 : BitVec 32 := v350
  let v353 : Index := Scalar.indexCast v351
  ![v352.toNat, v353.toNat]
def k0_off7 (k0_t5 : Fin k0_t5_loop.trips) : Fin 2 → Nat :=
  let c0_i32_525 : BitVec 32 := 0#32
  let c1_i32_527 : BitVec 32 := 1#32
  let arg13 : BitVec 32 := Scf.iv c0_i32_525 c1_i32_527 k0_t5
  let v356 : Index := Scalar.indexCast arg13
  let c0_533 : Index := 0#32
  ![v356.toNat, 0]
def k0_off8 (k0_t4 : Fin k0_t4_loop.trips) : Fin 2 → Nat :=
  let c0_i32_11 : BitVec 32 := 0#32
  let c1_i32_13 : BitVec 32 := 1#32
  let arg12 : BitVec 32 := Scf.iv c0_i32_11 c1_i32_13 k0_t4
  let v334 : Index := Scalar.indexCast arg12
  let c0_529 : Index := 0#32
  ![v334.toNat, 0]
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_15 : BitVec 32 := 4608#32
  let v14 : BitVec 32 := Scalar.muli v1 c4608_i32_15
  let c512_i32 : BitVec 32 := 512#32
  let v15 : BitVec 32 := Scalar.addi v14 c512_i32
  v15
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_16 : BitVec 32 := 288#32
  let v17 : BitVec 32 := Scalar.muli v1 c288_i32_16
  let c32_i32_17 : BitVec 32 := 32#32
  let v18 : BitVec 32 := Scalar.addi v17 c32_i32_17
  v18
@[reducible] def k0_t6_loop : Scf.Loop 32 :=
  let c0_i32_19 : BitVec 32 := 0#32
  let c32_i32_20 : BitVec 32 := 32#32
  let v20 : BitVec 32 := Scalar.addi c0_i32_19 c32_i32_20
  let c1_i32_21 : BitVec 32 := 1#32
  ⟨c0_i32_19, v20, c1_i32_21⟩
def k0_mult7 (k0_t6 : Fin k0_t6_loop.trips) : BitVec 32 :=
  let c0_i32_19 : BitVec 32 := 0#32
  let c1_i32_21 : BitVec 32 := 1#32
  let arg12 : BitVec 32 := Scf.iv c0_i32_19 c1_i32_21 k0_t6
  let c16_i32 : BitVec 32 := 16#32
  let v332 : BitVec 32 := Scalar.muli arg12 c16_i32
  v332
@[reducible] def k0_t7_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off9 (k0_t6 : Fin k0_t6_loop.trips) (k0_t7 : Fin k0_t7_loop.trips) : Fin 2 → Nat :=
  let c0_i32_525 : BitVec 32 := 0#32
  let c1_i32_527 : BitVec 32 := 1#32
  let arg14 : BitVec 32 := Scf.iv c0_i32_525 c1_i32_527 k0_t7
  let v341 : Index := Scalar.indexCast arg14
  let c0_i32_19 : BitVec 32 := 0#32
  let c1_i32_21 : BitVec 32 := 1#32
  let arg12 : BitVec 32 := Scf.iv c0_i32_19 c1_i32_21 k0_t6
  let c16_i32 : BitVec 32 := 16#32
  let v332 : BitVec 32 := Scalar.muli arg12 c16_i32
  let v333 : BitVec 32 := v332
  let v342 : Index := Scalar.indexCast v333
  ![v341.toNat, v342.toNat]
def k0_off10 (k0_t6 : Fin k0_t6_loop.trips) : Fin 2 → Nat :=
  let c0_i32_19 : BitVec 32 := 0#32
  let c1_i32_21 : BitVec 32 := 1#32
  let arg12 : BitVec 32 := Scf.iv c0_i32_19 c1_i32_21 k0_t6
  let v336 : Index := Scalar.indexCast arg12
  let c0_529 : Index := 0#32
  ![v336.toNat, 0]
@[reducible] def k0_t8_loop : Scf.Loop 32 :=
  let c0_i32_25 : BitVec 32 := 0#32
  let c96_i32_26 : BitVec 32 := 96#32
  let v22 : BitVec 32 := Scalar.addi c0_i32_25 c96_i32_26
  let c1_i32_27 : BitVec 32 := 1#32
  ⟨c0_i32_25, v22, c1_i32_27⟩
@[reducible] def k0_t9_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult8 (k0_t9 : Fin k0_t9_loop.trips) : BitVec 32 :=
  let c0_i32_525 : BitVec 32 := 0#32
  let c1_i32_527 : BitVec 32 := 1#32
  let arg13 : BitVec 32 := Scf.iv c0_i32_525 c1_i32_527 k0_t9
  let c16_i32 : BitVec 32 := 16#32
  let v350 : BitVec 32 := Scalar.muli arg13 c16_i32
  v350
def k0_off11 (k0_t8 : Fin k0_t8_loop.trips) (k0_t9 : Fin k0_t9_loop.trips) : Fin 2 → Nat :=
  let c0_i32_25 : BitVec 32 := 0#32
  let c1_i32_27 : BitVec 32 := 1#32
  let arg12 : BitVec 32 := Scf.iv c0_i32_25 c1_i32_27 k0_t8
  let v352 : Index := Scalar.indexCast arg12
  let c0_i32_525 : BitVec 32 := 0#32
  let c1_i32_527 : BitVec 32 := 1#32
  let arg13 : BitVec 32 := Scf.iv c0_i32_525 c1_i32_527 k0_t9
  let c16_i32 : BitVec 32 := 16#32
  let v350 : BitVec 32 := Scalar.muli arg13 c16_i32
  let v351 : BitVec 32 := v350
  let v353 : Index := Scalar.indexCast v351
  ![v352.toNat, v353.toNat]
def k0_off12 (k0_t9 : Fin k0_t9_loop.trips) : Fin 2 → Nat :=
  let c0_i32_525 : BitVec 32 := 0#32
  let c1_i32_527 : BitVec 32 := 1#32
  let arg13 : BitVec 32 := Scf.iv c0_i32_525 c1_i32_527 k0_t9
  let v356 : Index := Scalar.indexCast arg13
  let c0_533 : Index := 0#32
  ![v356.toNat, 0]
def k0_off13 (k0_t8 : Fin k0_t8_loop.trips) : Fin 2 → Nat :=
  let c0_i32_25 : BitVec 32 := 0#32
  let c1_i32_27 : BitVec 32 := 1#32
  let arg12 : BitVec 32 := Scf.iv c0_i32_25 c1_i32_27 k0_t8
  let v334 : Index := Scalar.indexCast arg12
  let c0_529 : Index := 0#32
  ![v334.toNat, 0]
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_29 : BitVec 32 := 4608#32
  let v23 : BitVec 32 := Scalar.muli v1 c4608_i32_29
  let c1024_i32 : BitVec 32 := 1024#32
  let v24 : BitVec 32 := Scalar.addi v23 c1024_i32
  v24
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_30 : BitVec 32 := 288#32
  let v26 : BitVec 32 := Scalar.muli v1 c288_i32_30
  let c64_i32 : BitVec 32 := 64#32
  let v27 : BitVec 32 := Scalar.addi v26 c64_i32
  v27
@[reducible] def k0_t10_loop : Scf.Loop 32 :=
  let c0_i32_32 : BitVec 32 := 0#32
  let c32_i32_33 : BitVec 32 := 32#32
  let v29 : BitVec 32 := Scalar.addi c0_i32_32 c32_i32_33
  let c1_i32_34 : BitVec 32 := 1#32
  ⟨c0_i32_32, v29, c1_i32_34⟩
def k0_mult11 (k0_t10 : Fin k0_t10_loop.trips) : BitVec 32 :=
  let c0_i32_32 : BitVec 32 := 0#32
  let c1_i32_34 : BitVec 32 := 1#32
  let arg12 : BitVec 32 := Scf.iv c0_i32_32 c1_i32_34 k0_t10
  let c16_i32 : BitVec 32 := 16#32
  let v332 : BitVec 32 := Scalar.muli arg12 c16_i32
  v332
@[reducible] def k0_t11_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off14 (k0_t10 : Fin k0_t10_loop.trips) (k0_t11 : Fin k0_t11_loop.trips) : Fin 2 → Nat :=
  let c0_i32_525 : BitVec 32 := 0#32
  let c1_i32_527 : BitVec 32 := 1#32
  let arg14 : BitVec 32 := Scf.iv c0_i32_525 c1_i32_527 k0_t11
  let v341 : Index := Scalar.indexCast arg14
  let c0_i32_32 : BitVec 32 := 0#32
  let c1_i32_34 : BitVec 32 := 1#32
  let arg12 : BitVec 32 := Scf.iv c0_i32_32 c1_i32_34 k0_t10
  let c16_i32 : BitVec 32 := 16#32
  let v332 : BitVec 32 := Scalar.muli arg12 c16_i32
  let v333 : BitVec 32 := v332
  let v342 : Index := Scalar.indexCast v333
  ![v341.toNat, v342.toNat]
def k0_off15 (k0_t10 : Fin k0_t10_loop.trips) : Fin 2 → Nat :=
  let c0_i32_32 : BitVec 32 := 0#32
  let c1_i32_34 : BitVec 32 := 1#32
  let arg12 : BitVec 32 := Scf.iv c0_i32_32 c1_i32_34 k0_t10
  let v336 : Index := Scalar.indexCast arg12
  let c0_529 : Index := 0#32
  ![v336.toNat, 0]
@[reducible] def k0_t12_loop : Scf.Loop 32 :=
  let c0_i32_38 : BitVec 32 := 0#32
  let c96_i32_39 : BitVec 32 := 96#32
  let v31 : BitVec 32 := Scalar.addi c0_i32_38 c96_i32_39
  let c1_i32_40 : BitVec 32 := 1#32
  ⟨c0_i32_38, v31, c1_i32_40⟩
@[reducible] def k0_t13_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult12 (k0_t13 : Fin k0_t13_loop.trips) : BitVec 32 :=
  let c0_i32_525 : BitVec 32 := 0#32
  let c1_i32_527 : BitVec 32 := 1#32
  let arg13 : BitVec 32 := Scf.iv c0_i32_525 c1_i32_527 k0_t13
  let c16_i32 : BitVec 32 := 16#32
  let v350 : BitVec 32 := Scalar.muli arg13 c16_i32
  v350
def k0_off16 (k0_t12 : Fin k0_t12_loop.trips) (k0_t13 : Fin k0_t13_loop.trips) : Fin 2 → Nat :=
  let c0_i32_38 : BitVec 32 := 0#32
  let c1_i32_40 : BitVec 32 := 1#32
  let arg12 : BitVec 32 := Scf.iv c0_i32_38 c1_i32_40 k0_t12
  let v352 : Index := Scalar.indexCast arg12
  let c0_i32_525 : BitVec 32 := 0#32
  let c1_i32_527 : BitVec 32 := 1#32
  let arg13 : BitVec 32 := Scf.iv c0_i32_525 c1_i32_527 k0_t13
  let c16_i32 : BitVec 32 := 16#32
  let v350 : BitVec 32 := Scalar.muli arg13 c16_i32
  let v351 : BitVec 32 := v350
  let v353 : Index := Scalar.indexCast v351
  ![v352.toNat, v353.toNat]
def k0_off17 (k0_t13 : Fin k0_t13_loop.trips) : Fin 2 → Nat :=
  let c0_i32_525 : BitVec 32 := 0#32
  let c1_i32_527 : BitVec 32 := 1#32
  let arg13 : BitVec 32 := Scf.iv c0_i32_525 c1_i32_527 k0_t13
  let v356 : Index := Scalar.indexCast arg13
  let c0_533 : Index := 0#32
  ![v356.toNat, 0]
def k0_off18 (k0_t12 : Fin k0_t12_loop.trips) : Fin 2 → Nat :=
  let c0_i32_38 : BitVec 32 := 0#32
  let c1_i32_40 : BitVec 32 := 1#32
  let arg12 : BitVec 32 := Scf.iv c0_i32_38 c1_i32_40 k0_t12
  let v334 : Index := Scalar.indexCast arg12
  let c0_529 : Index := 0#32
  ![v334.toNat, 0]
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_42 : BitVec 32 := 4608#32
  let v32 : BitVec 32 := Scalar.muli v1 c4608_i32_42
  let c1536_i32 : BitVec 32 := 1536#32
  let v33 : BitVec 32 := Scalar.addi v32 c1536_i32
  v33
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_43 : BitVec 32 := 288#32
  let v35 : BitVec 32 := Scalar.muli v1 c288_i32_43
  let c96_i32_44 : BitVec 32 := 96#32
  let v36 : BitVec 32 := Scalar.addi v35 c96_i32_44
  v36
@[reducible] def k0_t14_loop : Scf.Loop 32 :=
  let c0_i32_46 : BitVec 32 := 0#32
  let c32_i32_47 : BitVec 32 := 32#32
  let v38 : BitVec 32 := Scalar.addi c0_i32_46 c32_i32_47
  let c1_i32_48 : BitVec 32 := 1#32
  ⟨c0_i32_46, v38, c1_i32_48⟩
def k0_mult15 (k0_t14 : Fin k0_t14_loop.trips) : BitVec 32 :=
  let c0_i32_46 : BitVec 32 := 0#32
  let c1_i32_48 : BitVec 32 := 1#32
  let arg12 : BitVec 32 := Scf.iv c0_i32_46 c1_i32_48 k0_t14
  let c16_i32 : BitVec 32 := 16#32
  let v332 : BitVec 32 := Scalar.muli arg12 c16_i32
  v332
@[reducible] def k0_t15_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off19 (k0_t14 : Fin k0_t14_loop.trips) (k0_t15 : Fin k0_t15_loop.trips) : Fin 2 → Nat :=
  let c0_i32_525 : BitVec 32 := 0#32
  let c1_i32_527 : BitVec 32 := 1#32
  let arg14 : BitVec 32 := Scf.iv c0_i32_525 c1_i32_527 k0_t15
  let v341 : Index := Scalar.indexCast arg14
  let c0_i32_46 : BitVec 32 := 0#32
  let c1_i32_48 : BitVec 32 := 1#32
  let arg12 : BitVec 32 := Scf.iv c0_i32_46 c1_i32_48 k0_t14
  let c16_i32 : BitVec 32 := 16#32
  let v332 : BitVec 32 := Scalar.muli arg12 c16_i32
  let v333 : BitVec 32 := v332
  let v342 : Index := Scalar.indexCast v333
  ![v341.toNat, v342.toNat]
def k0_off20 (k0_t14 : Fin k0_t14_loop.trips) : Fin 2 → Nat :=
  let c0_i32_46 : BitVec 32 := 0#32
  let c1_i32_48 : BitVec 32 := 1#32
  let arg12 : BitVec 32 := Scf.iv c0_i32_46 c1_i32_48 k0_t14
  let v336 : Index := Scalar.indexCast arg12
  let c0_529 : Index := 0#32
  ![v336.toNat, 0]
@[reducible] def k0_t16_loop : Scf.Loop 32 :=
  let c0_i32_52 : BitVec 32 := 0#32
  let c96_i32_53 : BitVec 32 := 96#32
  let v40 : BitVec 32 := Scalar.addi c0_i32_52 c96_i32_53
  let c1_i32_54 : BitVec 32 := 1#32
  ⟨c0_i32_52, v40, c1_i32_54⟩
@[reducible] def k0_t17_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult16 (k0_t17 : Fin k0_t17_loop.trips) : BitVec 32 :=
  let c0_i32_525 : BitVec 32 := 0#32
  let c1_i32_527 : BitVec 32 := 1#32
  let arg13 : BitVec 32 := Scf.iv c0_i32_525 c1_i32_527 k0_t17
  let c16_i32 : BitVec 32 := 16#32
  let v350 : BitVec 32 := Scalar.muli arg13 c16_i32
  v350
def k0_off21 (k0_t16 : Fin k0_t16_loop.trips) (k0_t17 : Fin k0_t17_loop.trips) : Fin 2 → Nat :=
  let c0_i32_52 : BitVec 32 := 0#32
  let c1_i32_54 : BitVec 32 := 1#32
  let arg12 : BitVec 32 := Scf.iv c0_i32_52 c1_i32_54 k0_t16
  let v352 : Index := Scalar.indexCast arg12
  let c0_i32_525 : BitVec 32 := 0#32
  let c1_i32_527 : BitVec 32 := 1#32
  let arg13 : BitVec 32 := Scf.iv c0_i32_525 c1_i32_527 k0_t17
  let c16_i32 : BitVec 32 := 16#32
  let v350 : BitVec 32 := Scalar.muli arg13 c16_i32
  let v351 : BitVec 32 := v350
  let v353 : Index := Scalar.indexCast v351
  ![v352.toNat, v353.toNat]
def k0_off22 (k0_t17 : Fin k0_t17_loop.trips) : Fin 2 → Nat :=
  let c0_i32_525 : BitVec 32 := 0#32
  let c1_i32_527 : BitVec 32 := 1#32
  let arg13 : BitVec 32 := Scf.iv c0_i32_525 c1_i32_527 k0_t17
  let v356 : Index := Scalar.indexCast arg13
  let c0_533 : Index := 0#32
  ![v356.toNat, 0]
def k0_off23 (k0_t16 : Fin k0_t16_loop.trips) : Fin 2 → Nat :=
  let c0_i32_52 : BitVec 32 := 0#32
  let c1_i32_54 : BitVec 32 := 1#32
  let arg12 : BitVec 32 := Scf.iv c0_i32_52 c1_i32_54 k0_t16
  let v334 : Index := Scalar.indexCast arg12
  let c0_529 : Index := 0#32
  ![v334.toNat, 0]
def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_56 : BitVec 32 := 4608#32
  let v41 : BitVec 32 := Scalar.muli v1 c4608_i32_56
  let c2048_i32 : BitVec 32 := 2048#32
  let v42 : BitVec 32 := Scalar.addi v41 c2048_i32
  v42
def k0_mult18 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_57 : BitVec 32 := 288#32
  let v44 : BitVec 32 := Scalar.muli v1 c288_i32_57
  let c128_i32 : BitVec 32 := 128#32
  let v45 : BitVec 32 := Scalar.addi v44 c128_i32
  v45
@[reducible] def k0_t18_loop : Scf.Loop 32 :=
  let c0_i32_59 : BitVec 32 := 0#32
  let c32_i32_60 : BitVec 32 := 32#32
  let v47 : BitVec 32 := Scalar.addi c0_i32_59 c32_i32_60
  let c1_i32_61 : BitVec 32 := 1#32
  ⟨c0_i32_59, v47, c1_i32_61⟩
def k0_mult19 (k0_t18 : Fin k0_t18_loop.trips) : BitVec 32 :=
  let c0_i32_59 : BitVec 32 := 0#32
  let c1_i32_61 : BitVec 32 := 1#32
  let arg12 : BitVec 32 := Scf.iv c0_i32_59 c1_i32_61 k0_t18
  let c16_i32 : BitVec 32 := 16#32
  let v332 : BitVec 32 := Scalar.muli arg12 c16_i32
  v332
@[reducible] def k0_t19_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off24 (k0_t18 : Fin k0_t18_loop.trips) (k0_t19 : Fin k0_t19_loop.trips) : Fin 2 → Nat :=
  let c0_i32_525 : BitVec 32 := 0#32
  let c1_i32_527 : BitVec 32 := 1#32
  let arg14 : BitVec 32 := Scf.iv c0_i32_525 c1_i32_527 k0_t19
  let v341 : Index := Scalar.indexCast arg14
  let c0_i32_59 : BitVec 32 := 0#32
  let c1_i32_61 : BitVec 32 := 1#32
  let arg12 : BitVec 32 := Scf.iv c0_i32_59 c1_i32_61 k0_t18
  let c16_i32 : BitVec 32 := 16#32
  let v332 : BitVec 32 := Scalar.muli arg12 c16_i32
  let v333 : BitVec 32 := v332
  let v342 : Index := Scalar.indexCast v333
  ![v341.toNat, v342.toNat]
def k0_off25 (k0_t18 : Fin k0_t18_loop.trips) : Fin 2 → Nat :=
  let c0_i32_59 : BitVec 32 := 0#32
  let c1_i32_61 : BitVec 32 := 1#32
  let arg12 : BitVec 32 := Scf.iv c0_i32_59 c1_i32_61 k0_t18
  let v336 : Index := Scalar.indexCast arg12
  let c0_529 : Index := 0#32
  ![v336.toNat, 0]
@[reducible] def k0_t20_loop : Scf.Loop 32 :=
  let c0_i32_65 : BitVec 32 := 0#32
  let c96_i32_66 : BitVec 32 := 96#32
  let v49 : BitVec 32 := Scalar.addi c0_i32_65 c96_i32_66
  let c1_i32_67 : BitVec 32 := 1#32
  ⟨c0_i32_65, v49, c1_i32_67⟩
@[reducible] def k0_t21_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult20 (k0_t21 : Fin k0_t21_loop.trips) : BitVec 32 :=
  let c0_i32_525 : BitVec 32 := 0#32
  let c1_i32_527 : BitVec 32 := 1#32
  let arg13 : BitVec 32 := Scf.iv c0_i32_525 c1_i32_527 k0_t21
  let c16_i32 : BitVec 32 := 16#32
  let v350 : BitVec 32 := Scalar.muli arg13 c16_i32
  v350
def k0_off26 (k0_t20 : Fin k0_t20_loop.trips) (k0_t21 : Fin k0_t21_loop.trips) : Fin 2 → Nat :=
  let c0_i32_65 : BitVec 32 := 0#32
  let c1_i32_67 : BitVec 32 := 1#32
  let arg12 : BitVec 32 := Scf.iv c0_i32_65 c1_i32_67 k0_t20
  let v352 : Index := Scalar.indexCast arg12
  let c0_i32_525 : BitVec 32 := 0#32
  let c1_i32_527 : BitVec 32 := 1#32
  let arg13 : BitVec 32 := Scf.iv c0_i32_525 c1_i32_527 k0_t21
  let c16_i32 : BitVec 32 := 16#32
  let v350 : BitVec 32 := Scalar.muli arg13 c16_i32
  let v351 : BitVec 32 := v350
  let v353 : Index := Scalar.indexCast v351
  ![v352.toNat, v353.toNat]
def k0_off27 (k0_t21 : Fin k0_t21_loop.trips) : Fin 2 → Nat :=
  let c0_i32_525 : BitVec 32 := 0#32
  let c1_i32_527 : BitVec 32 := 1#32
  let arg13 : BitVec 32 := Scf.iv c0_i32_525 c1_i32_527 k0_t21
  let v356 : Index := Scalar.indexCast arg13
  let c0_533 : Index := 0#32
  ![v356.toNat, 0]
def k0_off28 (k0_t20 : Fin k0_t20_loop.trips) : Fin 2 → Nat :=
  let c0_i32_65 : BitVec 32 := 0#32
  let c1_i32_67 : BitVec 32 := 1#32
  let arg12 : BitVec 32 := Scf.iv c0_i32_65 c1_i32_67 k0_t20
  let v334 : Index := Scalar.indexCast arg12
  let c0_529 : Index := 0#32
  ![v334.toNat, 0]
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_69 : BitVec 32 := 4608#32
  let v50 : BitVec 32 := Scalar.muli v1 c4608_i32_69
  let c2560_i32 : BitVec 32 := 2560#32
  let v51 : BitVec 32 := Scalar.addi v50 c2560_i32
  v51
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_70 : BitVec 32 := 288#32
  let v53 : BitVec 32 := Scalar.muli v1 c288_i32_70
  let c160_i32 : BitVec 32 := 160#32
  let v54 : BitVec 32 := Scalar.addi v53 c160_i32
  v54
@[reducible] def k0_t22_loop : Scf.Loop 32 :=
  let c0_i32_72 : BitVec 32 := 0#32
  let c32_i32_73 : BitVec 32 := 32#32
  let v56 : BitVec 32 := Scalar.addi c0_i32_72 c32_i32_73
  let c1_i32_74 : BitVec 32 := 1#32
  ⟨c0_i32_72, v56, c1_i32_74⟩
def k0_mult23 (k0_t22 : Fin k0_t22_loop.trips) : BitVec 32 :=
  let c0_i32_72 : BitVec 32 := 0#32
  let c1_i32_74 : BitVec 32 := 1#32
  let arg12 : BitVec 32 := Scf.iv c0_i32_72 c1_i32_74 k0_t22
  let c16_i32 : BitVec 32 := 16#32
  let v332 : BitVec 32 := Scalar.muli arg12 c16_i32
  v332
@[reducible] def k0_t23_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off29 (k0_t22 : Fin k0_t22_loop.trips) (k0_t23 : Fin k0_t23_loop.trips) : Fin 2 → Nat :=
  let c0_i32_525 : BitVec 32 := 0#32
  let c1_i32_527 : BitVec 32 := 1#32
  let arg14 : BitVec 32 := Scf.iv c0_i32_525 c1_i32_527 k0_t23
  let v341 : Index := Scalar.indexCast arg14
  let c0_i32_72 : BitVec 32 := 0#32
  let c1_i32_74 : BitVec 32 := 1#32
  let arg12 : BitVec 32 := Scf.iv c0_i32_72 c1_i32_74 k0_t22
  let c16_i32 : BitVec 32 := 16#32
  let v332 : BitVec 32 := Scalar.muli arg12 c16_i32
  let v333 : BitVec 32 := v332
  let v342 : Index := Scalar.indexCast v333
  ![v341.toNat, v342.toNat]
def k0_off30 (k0_t22 : Fin k0_t22_loop.trips) : Fin 2 → Nat :=
  let c0_i32_72 : BitVec 32 := 0#32
  let c1_i32_74 : BitVec 32 := 1#32
  let arg12 : BitVec 32 := Scf.iv c0_i32_72 c1_i32_74 k0_t22
  let v336 : Index := Scalar.indexCast arg12
  let c0_529 : Index := 0#32
  ![v336.toNat, 0]
@[reducible] def k0_t24_loop : Scf.Loop 32 :=
  let c0_i32_78 : BitVec 32 := 0#32
  let c96_i32_79 : BitVec 32 := 96#32
  let v58 : BitVec 32 := Scalar.addi c0_i32_78 c96_i32_79
  let c1_i32_80 : BitVec 32 := 1#32
  ⟨c0_i32_78, v58, c1_i32_80⟩
@[reducible] def k0_t25_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult24 (k0_t25 : Fin k0_t25_loop.trips) : BitVec 32 :=
  let c0_i32_525 : BitVec 32 := 0#32
  let c1_i32_527 : BitVec 32 := 1#32
  let arg13 : BitVec 32 := Scf.iv c0_i32_525 c1_i32_527 k0_t25
  let c16_i32 : BitVec 32 := 16#32
  let v350 : BitVec 32 := Scalar.muli arg13 c16_i32
  v350
def k0_off31 (k0_t24 : Fin k0_t24_loop.trips) (k0_t25 : Fin k0_t25_loop.trips) : Fin 2 → Nat :=
  let c0_i32_78 : BitVec 32 := 0#32
  let c1_i32_80 : BitVec 32 := 1#32
  let arg12 : BitVec 32 := Scf.iv c0_i32_78 c1_i32_80 k0_t24
  let v352 : Index := Scalar.indexCast arg12
  let c0_i32_525 : BitVec 32 := 0#32
  let c1_i32_527 : BitVec 32 := 1#32
  let arg13 : BitVec 32 := Scf.iv c0_i32_525 c1_i32_527 k0_t25
  let c16_i32 : BitVec 32 := 16#32
  let v350 : BitVec 32 := Scalar.muli arg13 c16_i32
  let v351 : BitVec 32 := v350
  let v353 : Index := Scalar.indexCast v351
  ![v352.toNat, v353.toNat]
def k0_off32 (k0_t25 : Fin k0_t25_loop.trips) : Fin 2 → Nat :=
  let c0_i32_525 : BitVec 32 := 0#32
  let c1_i32_527 : BitVec 32 := 1#32
  let arg13 : BitVec 32 := Scf.iv c0_i32_525 c1_i32_527 k0_t25
  let v356 : Index := Scalar.indexCast arg13
  let c0_533 : Index := 0#32
  ![v356.toNat, 0]
def k0_off33 (k0_t24 : Fin k0_t24_loop.trips) : Fin 2 → Nat :=
  let c0_i32_78 : BitVec 32 := 0#32
  let c1_i32_80 : BitVec 32 := 1#32
  let arg12 : BitVec 32 := Scf.iv c0_i32_78 c1_i32_80 k0_t24
  let v334 : Index := Scalar.indexCast arg12
  let c0_529 : Index := 0#32
  ![v334.toNat, 0]
def k0_mult25 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_82 : BitVec 32 := 4608#32
  let v59 : BitVec 32 := Scalar.muli v1 c4608_i32_82
  let c3072_i32 : BitVec 32 := 3072#32
  let v60 : BitVec 32 := Scalar.addi v59 c3072_i32
  v60
def k0_mult26 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_83 : BitVec 32 := 288#32
  let v62 : BitVec 32 := Scalar.muli v1 c288_i32_83
  let c192_i32 : BitVec 32 := 192#32
  let v63 : BitVec 32 := Scalar.addi v62 c192_i32
  v63
@[reducible] def k0_t26_loop : Scf.Loop 32 :=
  let c0_i32_85 : BitVec 32 := 0#32
  let c32_i32_86 : BitVec 32 := 32#32
  let v65 : BitVec 32 := Scalar.addi c0_i32_85 c32_i32_86
  let c1_i32_87 : BitVec 32 := 1#32
  ⟨c0_i32_85, v65, c1_i32_87⟩
def k0_mult27 (k0_t26 : Fin k0_t26_loop.trips) : BitVec 32 :=
  let c0_i32_85 : BitVec 32 := 0#32
  let c1_i32_87 : BitVec 32 := 1#32
  let arg12 : BitVec 32 := Scf.iv c0_i32_85 c1_i32_87 k0_t26
  let c16_i32 : BitVec 32 := 16#32
  let v332 : BitVec 32 := Scalar.muli arg12 c16_i32
  v332
@[reducible] def k0_t27_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off34 (k0_t26 : Fin k0_t26_loop.trips) (k0_t27 : Fin k0_t27_loop.trips) : Fin 2 → Nat :=
  let c0_i32_525 : BitVec 32 := 0#32
  let c1_i32_527 : BitVec 32 := 1#32
  let arg14 : BitVec 32 := Scf.iv c0_i32_525 c1_i32_527 k0_t27
  let v341 : Index := Scalar.indexCast arg14
  let c0_i32_85 : BitVec 32 := 0#32
  let c1_i32_87 : BitVec 32 := 1#32
  let arg12 : BitVec 32 := Scf.iv c0_i32_85 c1_i32_87 k0_t26
  let c16_i32 : BitVec 32 := 16#32
  let v332 : BitVec 32 := Scalar.muli arg12 c16_i32
  let v333 : BitVec 32 := v332
  let v342 : Index := Scalar.indexCast v333
  ![v341.toNat, v342.toNat]
def k0_off35 (k0_t26 : Fin k0_t26_loop.trips) : Fin 2 → Nat :=
  let c0_i32_85 : BitVec 32 := 0#32
  let c1_i32_87 : BitVec 32 := 1#32
  let arg12 : BitVec 32 := Scf.iv c0_i32_85 c1_i32_87 k0_t26
  let v336 : Index := Scalar.indexCast arg12
  let c0_529 : Index := 0#32
  ![v336.toNat, 0]
@[reducible] def k0_t28_loop : Scf.Loop 32 :=
  let c0_i32_91 : BitVec 32 := 0#32
  let c96_i32_92 : BitVec 32 := 96#32
  let v67 : BitVec 32 := Scalar.addi c0_i32_91 c96_i32_92
  let c1_i32_93 : BitVec 32 := 1#32
  ⟨c0_i32_91, v67, c1_i32_93⟩
@[reducible] def k0_t29_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult28 (k0_t29 : Fin k0_t29_loop.trips) : BitVec 32 :=
  let c0_i32_525 : BitVec 32 := 0#32
  let c1_i32_527 : BitVec 32 := 1#32
  let arg13 : BitVec 32 := Scf.iv c0_i32_525 c1_i32_527 k0_t29
  let c16_i32 : BitVec 32 := 16#32
  let v350 : BitVec 32 := Scalar.muli arg13 c16_i32
  v350
def k0_off36 (k0_t28 : Fin k0_t28_loop.trips) (k0_t29 : Fin k0_t29_loop.trips) : Fin 2 → Nat :=
  let c0_i32_91 : BitVec 32 := 0#32
  let c1_i32_93 : BitVec 32 := 1#32
  let arg12 : BitVec 32 := Scf.iv c0_i32_91 c1_i32_93 k0_t28
  let v352 : Index := Scalar.indexCast arg12
  let c0_i32_525 : BitVec 32 := 0#32
  let c1_i32_527 : BitVec 32 := 1#32
  let arg13 : BitVec 32 := Scf.iv c0_i32_525 c1_i32_527 k0_t29
  let c16_i32 : BitVec 32 := 16#32
  let v350 : BitVec 32 := Scalar.muli arg13 c16_i32
  let v351 : BitVec 32 := v350
  let v353 : Index := Scalar.indexCast v351
  ![v352.toNat, v353.toNat]
def k0_off37 (k0_t29 : Fin k0_t29_loop.trips) : Fin 2 → Nat :=
  let c0_i32_525 : BitVec 32 := 0#32
  let c1_i32_527 : BitVec 32 := 1#32
  let arg13 : BitVec 32 := Scf.iv c0_i32_525 c1_i32_527 k0_t29
  let v356 : Index := Scalar.indexCast arg13
  let c0_533 : Index := 0#32
  ![v356.toNat, 0]
def k0_off38 (k0_t28 : Fin k0_t28_loop.trips) : Fin 2 → Nat :=
  let c0_i32_91 : BitVec 32 := 0#32
  let c1_i32_93 : BitVec 32 := 1#32
  let arg12 : BitVec 32 := Scf.iv c0_i32_91 c1_i32_93 k0_t28
  let v334 : Index := Scalar.indexCast arg12
  let c0_529 : Index := 0#32
  ![v334.toNat, 0]
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_95 : BitVec 32 := 4608#32
  let v68 : BitVec 32 := Scalar.muli v1 c4608_i32_95
  let c3584_i32 : BitVec 32 := 3584#32
  let v69 : BitVec 32 := Scalar.addi v68 c3584_i32
  v69
def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_96 : BitVec 32 := 288#32
  let v71 : BitVec 32 := Scalar.muli v1 c288_i32_96
  let c224_i32 : BitVec 32 := 224#32
  let v72 : BitVec 32 := Scalar.addi v71 c224_i32
  v72
@[reducible] def k0_t30_loop : Scf.Loop 32 :=
  let c0_i32_98 : BitVec 32 := 0#32
  let c32_i32_99 : BitVec 32 := 32#32
  let v74 : BitVec 32 := Scalar.addi c0_i32_98 c32_i32_99
  let c1_i32_100 : BitVec 32 := 1#32
  ⟨c0_i32_98, v74, c1_i32_100⟩
def k0_mult31 (k0_t30 : Fin k0_t30_loop.trips) : BitVec 32 :=
  let c0_i32_98 : BitVec 32 := 0#32
  let c1_i32_100 : BitVec 32 := 1#32
  let arg12 : BitVec 32 := Scf.iv c0_i32_98 c1_i32_100 k0_t30
  let c16_i32 : BitVec 32 := 16#32
  let v332 : BitVec 32 := Scalar.muli arg12 c16_i32
  v332
@[reducible] def k0_t31_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off39 (k0_t30 : Fin k0_t30_loop.trips) (k0_t31 : Fin k0_t31_loop.trips) : Fin 2 → Nat :=
  let c0_i32_525 : BitVec 32 := 0#32
  let c1_i32_527 : BitVec 32 := 1#32
  let arg14 : BitVec 32 := Scf.iv c0_i32_525 c1_i32_527 k0_t31
  let v341 : Index := Scalar.indexCast arg14
  let c0_i32_98 : BitVec 32 := 0#32
  let c1_i32_100 : BitVec 32 := 1#32
  let arg12 : BitVec 32 := Scf.iv c0_i32_98 c1_i32_100 k0_t30
  let c16_i32 : BitVec 32 := 16#32
  let v332 : BitVec 32 := Scalar.muli arg12 c16_i32
  let v333 : BitVec 32 := v332
  let v342 : Index := Scalar.indexCast v333
  ![v341.toNat, v342.toNat]
def k0_off40 (k0_t30 : Fin k0_t30_loop.trips) : Fin 2 → Nat :=
  let c0_i32_98 : BitVec 32 := 0#32
  let c1_i32_100 : BitVec 32 := 1#32
  let arg12 : BitVec 32 := Scf.iv c0_i32_98 c1_i32_100 k0_t30
  let v336 : Index := Scalar.indexCast arg12
  let c0_529 : Index := 0#32
  ![v336.toNat, 0]
@[reducible] def k0_t32_loop : Scf.Loop 32 :=
  let c0_i32_104 : BitVec 32 := 0#32
  let c96_i32_105 : BitVec 32 := 96#32
  let v76 : BitVec 32 := Scalar.addi c0_i32_104 c96_i32_105
  let c1_i32_106 : BitVec 32 := 1#32
  ⟨c0_i32_104, v76, c1_i32_106⟩
@[reducible] def k0_t33_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult32 (k0_t33 : Fin k0_t33_loop.trips) : BitVec 32 :=
  let c0_i32_525 : BitVec 32 := 0#32
  let c1_i32_527 : BitVec 32 := 1#32
  let arg13 : BitVec 32 := Scf.iv c0_i32_525 c1_i32_527 k0_t33
  let c16_i32 : BitVec 32 := 16#32
  let v350 : BitVec 32 := Scalar.muli arg13 c16_i32
  v350
def k0_off41 (k0_t32 : Fin k0_t32_loop.trips) (k0_t33 : Fin k0_t33_loop.trips) : Fin 2 → Nat :=
  let c0_i32_104 : BitVec 32 := 0#32
  let c1_i32_106 : BitVec 32 := 1#32
  let arg12 : BitVec 32 := Scf.iv c0_i32_104 c1_i32_106 k0_t32
  let v352 : Index := Scalar.indexCast arg12
  let c0_i32_525 : BitVec 32 := 0#32
  let c1_i32_527 : BitVec 32 := 1#32
  let arg13 : BitVec 32 := Scf.iv c0_i32_525 c1_i32_527 k0_t33
  let c16_i32 : BitVec 32 := 16#32
  let v350 : BitVec 32 := Scalar.muli arg13 c16_i32
  let v351 : BitVec 32 := v350
  let v353 : Index := Scalar.indexCast v351
  ![v352.toNat, v353.toNat]
def k0_off42 (k0_t33 : Fin k0_t33_loop.trips) : Fin 2 → Nat :=
  let c0_i32_525 : BitVec 32 := 0#32
  let c1_i32_527 : BitVec 32 := 1#32
  let arg13 : BitVec 32 := Scf.iv c0_i32_525 c1_i32_527 k0_t33
  let v356 : Index := Scalar.indexCast arg13
  let c0_533 : Index := 0#32
  ![v356.toNat, 0]
def k0_off43 (k0_t32 : Fin k0_t32_loop.trips) : Fin 2 → Nat :=
  let c0_i32_104 : BitVec 32 := 0#32
  let c1_i32_106 : BitVec 32 := 1#32
  let arg12 : BitVec 32 := Scf.iv c0_i32_104 c1_i32_106 k0_t32
  let v334 : Index := Scalar.indexCast arg12
  let c0_529 : Index := 0#32
  ![v334.toNat, 0]
def k0_mult33 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_108 : BitVec 32 := 4608#32
  let v77 : BitVec 32 := Scalar.muli v1 c4608_i32_108
  let c4096_i32 : BitVec 32 := 4096#32
  let v78 : BitVec 32 := Scalar.addi v77 c4096_i32
  v78
def k0_mult34 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_109 : BitVec 32 := 288#32
  let v80 : BitVec 32 := Scalar.muli v1 c288_i32_109
  let c256_i32 : BitVec 32 := 256#32
  let v81 : BitVec 32 := Scalar.addi v80 c256_i32
  v81
@[reducible] def k0_t34_loop : Scf.Loop 32 :=
  let c0_i32_111 : BitVec 32 := 0#32
  let c32_i32_112 : BitVec 32 := 32#32
  let v83 : BitVec 32 := Scalar.addi c0_i32_111 c32_i32_112
  let c1_i32_113 : BitVec 32 := 1#32
  ⟨c0_i32_111, v83, c1_i32_113⟩
def k0_mult35 (k0_t34 : Fin k0_t34_loop.trips) : BitVec 32 :=
  let c0_i32_111 : BitVec 32 := 0#32
  let c1_i32_113 : BitVec 32 := 1#32
  let arg12 : BitVec 32 := Scf.iv c0_i32_111 c1_i32_113 k0_t34
  let c16_i32 : BitVec 32 := 16#32
  let v332 : BitVec 32 := Scalar.muli arg12 c16_i32
  v332
@[reducible] def k0_t35_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off44 (k0_t34 : Fin k0_t34_loop.trips) (k0_t35 : Fin k0_t35_loop.trips) : Fin 2 → Nat :=
  let c0_i32_525 : BitVec 32 := 0#32
  let c1_i32_527 : BitVec 32 := 1#32
  let arg14 : BitVec 32 := Scf.iv c0_i32_525 c1_i32_527 k0_t35
  let v341 : Index := Scalar.indexCast arg14
  let c0_i32_111 : BitVec 32 := 0#32
  let c1_i32_113 : BitVec 32 := 1#32
  let arg12 : BitVec 32 := Scf.iv c0_i32_111 c1_i32_113 k0_t34
  let c16_i32 : BitVec 32 := 16#32
  let v332 : BitVec 32 := Scalar.muli arg12 c16_i32
  let v333 : BitVec 32 := v332
  let v342 : Index := Scalar.indexCast v333
  ![v341.toNat, v342.toNat]
def k0_off45 (k0_t34 : Fin k0_t34_loop.trips) : Fin 2 → Nat :=
  let c0_i32_111 : BitVec 32 := 0#32
  let c1_i32_113 : BitVec 32 := 1#32
  let arg12 : BitVec 32 := Scf.iv c0_i32_111 c1_i32_113 k0_t34
  let v336 : Index := Scalar.indexCast arg12
  let c0_529 : Index := 0#32
  ![v336.toNat, 0]
@[reducible] def k0_t36_loop : Scf.Loop 32 :=
  let c0_i32_117 : BitVec 32 := 0#32
  let c96_i32_118 : BitVec 32 := 96#32
  let v85 : BitVec 32 := Scalar.addi c0_i32_117 c96_i32_118
  let c1_i32_119 : BitVec 32 := 1#32
  ⟨c0_i32_117, v85, c1_i32_119⟩
@[reducible] def k0_t37_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult36 (k0_t37 : Fin k0_t37_loop.trips) : BitVec 32 :=
  let c0_i32_525 : BitVec 32 := 0#32
  let c1_i32_527 : BitVec 32 := 1#32
  let arg13 : BitVec 32 := Scf.iv c0_i32_525 c1_i32_527 k0_t37
  let c16_i32 : BitVec 32 := 16#32
  let v350 : BitVec 32 := Scalar.muli arg13 c16_i32
  v350
def k0_off46 (k0_t36 : Fin k0_t36_loop.trips) (k0_t37 : Fin k0_t37_loop.trips) : Fin 2 → Nat :=
  let c0_i32_117 : BitVec 32 := 0#32
  let c1_i32_119 : BitVec 32 := 1#32
  let arg12 : BitVec 32 := Scf.iv c0_i32_117 c1_i32_119 k0_t36
  let v352 : Index := Scalar.indexCast arg12
  let c0_i32_525 : BitVec 32 := 0#32
  let c1_i32_527 : BitVec 32 := 1#32
  let arg13 : BitVec 32 := Scf.iv c0_i32_525 c1_i32_527 k0_t37
  let c16_i32 : BitVec 32 := 16#32
  let v350 : BitVec 32 := Scalar.muli arg13 c16_i32
  let v351 : BitVec 32 := v350
  let v353 : Index := Scalar.indexCast v351
  ![v352.toNat, v353.toNat]
def k0_off47 (k0_t37 : Fin k0_t37_loop.trips) : Fin 2 → Nat :=
  let c0_i32_525 : BitVec 32 := 0#32
  let c1_i32_527 : BitVec 32 := 1#32
  let arg13 : BitVec 32 := Scf.iv c0_i32_525 c1_i32_527 k0_t37
  let v356 : Index := Scalar.indexCast arg13
  let c0_533 : Index := 0#32
  ![v356.toNat, 0]
def k0_off48 (k0_t36 : Fin k0_t36_loop.trips) : Fin 2 → Nat :=
  let c0_i32_117 : BitVec 32 := 0#32
  let c1_i32_119 : BitVec 32 := 1#32
  let arg12 : BitVec 32 := Scf.iv c0_i32_117 c1_i32_119 k0_t36
  let v334 : Index := Scalar.indexCast arg12
  let c0_529 : Index := 0#32
  ![v334.toNat, 0]
def k0_mult37 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_121 : BitVec 32 := 4608#32
  let v86 : BitVec 32 := Scalar.muli v1 c4608_i32_121
  let c0_i32_122 : BitVec 32 := 0#32
  let v87 : BitVec 32 := Scalar.addi v86 c0_i32_122
  v87
def k0_mult38 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_123 : BitVec 32 := 288#32
  let v89 : BitVec 32 := Scalar.muli v1 c288_i32_123
  let c0_i32_124 : BitVec 32 := 0#32
  let v90 : BitVec 32 := Scalar.addi v89 c0_i32_124
  v90
def k0_off49 (i : grid0.Coords) (c0_i32_122 : BitVec 32) : Fin 3 → Nat :=
  let c1_i32_125 : BitVec 32 := 1#32
  let c0_i32_525_r18 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_121 : BitVec 32 := 4608#32
  let v86 : BitVec 32 := Scalar.muli v1 c4608_i32_121
  let v87 : BitVec 32 := Scalar.addi v86 c0_i32_122
  let v88 : BitVec 32 := v87
  ![1, 0, v88.toNat]
@[reducible] def k0_t38_loop : Scf.Loop 32 :=
  let c0_i32_126 : BitVec 32 := 0#32
  let c32_i32_127 : BitVec 32 := 32#32
  let v92 : BitVec 32 := Scalar.addi c0_i32_126 c32_i32_127
  let c1_i32_128 : BitVec 32 := 1#32
  ⟨c0_i32_126, v92, c1_i32_128⟩
def k0_mult39 (k0_t38 : Fin k0_t38_loop.trips) : BitVec 32 :=
  let c0_i32_126 : BitVec 32 := 0#32
  let c1_i32_128 : BitVec 32 := 1#32
  let arg12 : BitVec 32 := Scf.iv c0_i32_126 c1_i32_128 k0_t38
  let c16_i32 : BitVec 32 := 16#32
  let v332 : BitVec 32 := Scalar.muli arg12 c16_i32
  v332
@[reducible] def k0_t39_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off50 (k0_t38 : Fin k0_t38_loop.trips) (k0_t39 : Fin k0_t39_loop.trips) : Fin 2 → Nat :=
  let c0_i32_525 : BitVec 32 := 0#32
  let c1_i32_527 : BitVec 32 := 1#32
  let arg14 : BitVec 32 := Scf.iv c0_i32_525 c1_i32_527 k0_t39
  let v341 : Index := Scalar.indexCast arg14
  let c0_i32_126 : BitVec 32 := 0#32
  let c1_i32_128 : BitVec 32 := 1#32
  let arg12 : BitVec 32 := Scf.iv c0_i32_126 c1_i32_128 k0_t38
  let c16_i32 : BitVec 32 := 16#32
  let v332 : BitVec 32 := Scalar.muli arg12 c16_i32
  let v333 : BitVec 32 := v332
  let v342 : Index := Scalar.indexCast v333
  ![v341.toNat, v342.toNat]
def k0_off51 (k0_t38 : Fin k0_t38_loop.trips) : Fin 2 → Nat :=
  let c0_i32_126 : BitVec 32 := 0#32
  let c1_i32_128 : BitVec 32 := 1#32
  let arg12 : BitVec 32 := Scf.iv c0_i32_126 c1_i32_128 k0_t38
  let v336 : Index := Scalar.indexCast arg12
  let c0_529 : Index := 0#32
  ![v336.toNat, 0]
def k0_off52 (i : grid0.Coords) (c0_i32_124 : BitVec 32) : Fin 3 → Nat :=
  let c1_i32_130 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_123 : BitVec 32 := 288#32
  let v89 : BitVec 32 := Scalar.muli v1 c288_i32_123
  let v90 : BitVec 32 := Scalar.addi v89 c0_i32_124
  let v91 : BitVec 32 := v90
  let c0_i32_525_r19 : BitVec 32 := 0#32
  ![1, v91.toNat, 0]
@[reducible] def k0_t40_loop : Scf.Loop 32 :=
  let c0_i32_132 : BitVec 32 := 0#32
  let c96_i32_133 : BitVec 32 := 96#32
  let v94 : BitVec 32 := Scalar.addi c0_i32_132 c96_i32_133
  let c1_i32_134 : BitVec 32 := 1#32
  ⟨c0_i32_132, v94, c1_i32_134⟩
@[reducible] def k0_t41_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult40 (k0_t41 : Fin k0_t41_loop.trips) : BitVec 32 :=
  let c0_i32_525 : BitVec 32 := 0#32
  let c1_i32_527 : BitVec 32 := 1#32
  let arg13 : BitVec 32 := Scf.iv c0_i32_525 c1_i32_527 k0_t41
  let c16_i32 : BitVec 32 := 16#32
  let v350 : BitVec 32 := Scalar.muli arg13 c16_i32
  v350
def k0_off53 (k0_t40 : Fin k0_t40_loop.trips) (k0_t41 : Fin k0_t41_loop.trips) : Fin 2 → Nat :=
  let c0_i32_132 : BitVec 32 := 0#32
  let c1_i32_134 : BitVec 32 := 1#32
  let arg12 : BitVec 32 := Scf.iv c0_i32_132 c1_i32_134 k0_t40
  let v352 : Index := Scalar.indexCast arg12
  let c0_i32_525 : BitVec 32 := 0#32
  let c1_i32_527 : BitVec 32 := 1#32
  let arg13 : BitVec 32 := Scf.iv c0_i32_525 c1_i32_527 k0_t41
  let c16_i32 : BitVec 32 := 16#32
  let v350 : BitVec 32 := Scalar.muli arg13 c16_i32
  let v351 : BitVec 32 := v350
  let v353 : Index := Scalar.indexCast v351
  ![v352.toNat, v353.toNat]
def k0_off54 (k0_t41 : Fin k0_t41_loop.trips) : Fin 2 → Nat :=
  let c0_i32_525 : BitVec 32 := 0#32
  let c1_i32_527 : BitVec 32 := 1#32
  let arg13 : BitVec 32 := Scf.iv c0_i32_525 c1_i32_527 k0_t41
  let v356 : Index := Scalar.indexCast arg13
  let c0_533 : Index := 0#32
  ![v356.toNat, 0]
def k0_off55 (k0_t40 : Fin k0_t40_loop.trips) : Fin 2 → Nat :=
  let c0_i32_132 : BitVec 32 := 0#32
  let c1_i32_134 : BitVec 32 := 1#32
  let arg12 : BitVec 32 := Scf.iv c0_i32_132 c1_i32_134 k0_t40
  let v334 : Index := Scalar.indexCast arg12
  let c0_529 : Index := 0#32
  ![v334.toNat, 0]
def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_136 : BitVec 32 := 4608#32
  let v95 : BitVec 32 := Scalar.muli v1 c4608_i32_136
  let c512_i32_137 : BitVec 32 := 512#32
  let v96 : BitVec 32 := Scalar.addi v95 c512_i32_137
  v96
def k0_mult42 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_138 : BitVec 32 := 288#32
  let v98 : BitVec 32 := Scalar.muli v1 c288_i32_138
  let c32_i32_139 : BitVec 32 := 32#32
  let v99 : BitVec 32 := Scalar.addi v98 c32_i32_139
  v99
@[reducible] def k0_t42_loop : Scf.Loop 32 :=
  let c0_i32_141 : BitVec 32 := 0#32
  let c32_i32_142 : BitVec 32 := 32#32
  let v101 : BitVec 32 := Scalar.addi c0_i32_141 c32_i32_142
  let c1_i32_143 : BitVec 32 := 1#32
  ⟨c0_i32_141, v101, c1_i32_143⟩
def k0_mult43 (k0_t42 : Fin k0_t42_loop.trips) : BitVec 32 :=
  let c0_i32_141 : BitVec 32 := 0#32
  let c1_i32_143 : BitVec 32 := 1#32
  let arg12 : BitVec 32 := Scf.iv c0_i32_141 c1_i32_143 k0_t42
  let c16_i32 : BitVec 32 := 16#32
  let v332 : BitVec 32 := Scalar.muli arg12 c16_i32
  v332
@[reducible] def k0_t43_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off56 (k0_t42 : Fin k0_t42_loop.trips) (k0_t43 : Fin k0_t43_loop.trips) : Fin 2 → Nat :=
  let c0_i32_525 : BitVec 32 := 0#32
  let c1_i32_527 : BitVec 32 := 1#32
  let arg14 : BitVec 32 := Scf.iv c0_i32_525 c1_i32_527 k0_t43
  let v341 : Index := Scalar.indexCast arg14
  let c0_i32_141 : BitVec 32 := 0#32
  let c1_i32_143 : BitVec 32 := 1#32
  let arg12 : BitVec 32 := Scf.iv c0_i32_141 c1_i32_143 k0_t42
  let c16_i32 : BitVec 32 := 16#32
  let v332 : BitVec 32 := Scalar.muli arg12 c16_i32
  let v333 : BitVec 32 := v332
  let v342 : Index := Scalar.indexCast v333
  ![v341.toNat, v342.toNat]
def k0_off57 (k0_t42 : Fin k0_t42_loop.trips) : Fin 2 → Nat :=
  let c0_i32_141 : BitVec 32 := 0#32
  let c1_i32_143 : BitVec 32 := 1#32
  let arg12 : BitVec 32 := Scf.iv c0_i32_141 c1_i32_143 k0_t42
  let v336 : Index := Scalar.indexCast arg12
  let c0_529 : Index := 0#32
  ![v336.toNat, 0]
@[reducible] def k0_t44_loop : Scf.Loop 32 :=
  let c0_i32_147 : BitVec 32 := 0#32
  let c96_i32_148 : BitVec 32 := 96#32
  let v103 : BitVec 32 := Scalar.addi c0_i32_147 c96_i32_148
  let c1_i32_149 : BitVec 32 := 1#32
  ⟨c0_i32_147, v103, c1_i32_149⟩
@[reducible] def k0_t45_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult44 (k0_t45 : Fin k0_t45_loop.trips) : BitVec 32 :=
  let c0_i32_525 : BitVec 32 := 0#32
  let c1_i32_527 : BitVec 32 := 1#32
  let arg13 : BitVec 32 := Scf.iv c0_i32_525 c1_i32_527 k0_t45
  let c16_i32 : BitVec 32 := 16#32
  let v350 : BitVec 32 := Scalar.muli arg13 c16_i32
  v350
def k0_off58 (k0_t44 : Fin k0_t44_loop.trips) (k0_t45 : Fin k0_t45_loop.trips) : Fin 2 → Nat :=
  let c0_i32_147 : BitVec 32 := 0#32
  let c1_i32_149 : BitVec 32 := 1#32
  let arg12 : BitVec 32 := Scf.iv c0_i32_147 c1_i32_149 k0_t44
  let v352 : Index := Scalar.indexCast arg12
  let c0_i32_525 : BitVec 32 := 0#32
  let c1_i32_527 : BitVec 32 := 1#32
  let arg13 : BitVec 32 := Scf.iv c0_i32_525 c1_i32_527 k0_t45
  let c16_i32 : BitVec 32 := 16#32
  let v350 : BitVec 32 := Scalar.muli arg13 c16_i32
  let v351 : BitVec 32 := v350
  let v353 : Index := Scalar.indexCast v351
  ![v352.toNat, v353.toNat]
def k0_off59 (k0_t45 : Fin k0_t45_loop.trips) : Fin 2 → Nat :=
  let c0_i32_525 : BitVec 32 := 0#32
  let c1_i32_527 : BitVec 32 := 1#32
  let arg13 : BitVec 32 := Scf.iv c0_i32_525 c1_i32_527 k0_t45
  let v356 : Index := Scalar.indexCast arg13
  let c0_533 : Index := 0#32
  ![v356.toNat, 0]
def k0_off60 (k0_t44 : Fin k0_t44_loop.trips) : Fin 2 → Nat :=
  let c0_i32_147 : BitVec 32 := 0#32
  let c1_i32_149 : BitVec 32 := 1#32
  let arg12 : BitVec 32 := Scf.iv c0_i32_147 c1_i32_149 k0_t44
  let v334 : Index := Scalar.indexCast arg12
  let c0_529 : Index := 0#32
  ![v334.toNat, 0]
def k0_mult45 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_151 : BitVec 32 := 4608#32
  let v104 : BitVec 32 := Scalar.muli v1 c4608_i32_151
  let c1024_i32_152 : BitVec 32 := 1024#32
  let v105 : BitVec 32 := Scalar.addi v104 c1024_i32_152
  v105
def k0_mult46 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_153 : BitVec 32 := 288#32
  let v107 : BitVec 32 := Scalar.muli v1 c288_i32_153
  let c64_i32_154 : BitVec 32 := 64#32
  let v108 : BitVec 32 := Scalar.addi v107 c64_i32_154
  v108
@[reducible] def k0_t46_loop : Scf.Loop 32 :=
  let c0_i32_156 : BitVec 32 := 0#32
  let c32_i32_157 : BitVec 32 := 32#32
  let v110 : BitVec 32 := Scalar.addi c0_i32_156 c32_i32_157
  let c1_i32_158 : BitVec 32 := 1#32
  ⟨c0_i32_156, v110, c1_i32_158⟩
def k0_mult47 (k0_t46 : Fin k0_t46_loop.trips) : BitVec 32 :=
  let c0_i32_156 : BitVec 32 := 0#32
  let c1_i32_158 : BitVec 32 := 1#32
  let arg12 : BitVec 32 := Scf.iv c0_i32_156 c1_i32_158 k0_t46
  let c16_i32 : BitVec 32 := 16#32
  let v332 : BitVec 32 := Scalar.muli arg12 c16_i32
  v332
@[reducible] def k0_t47_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off61 (k0_t46 : Fin k0_t46_loop.trips) (k0_t47 : Fin k0_t47_loop.trips) : Fin 2 → Nat :=
  let c0_i32_525 : BitVec 32 := 0#32
  let c1_i32_527 : BitVec 32 := 1#32
  let arg14 : BitVec 32 := Scf.iv c0_i32_525 c1_i32_527 k0_t47
  let v341 : Index := Scalar.indexCast arg14
  let c0_i32_156 : BitVec 32 := 0#32
  let c1_i32_158 : BitVec 32 := 1#32
  let arg12 : BitVec 32 := Scf.iv c0_i32_156 c1_i32_158 k0_t46
  let c16_i32 : BitVec 32 := 16#32
  let v332 : BitVec 32 := Scalar.muli arg12 c16_i32
  let v333 : BitVec 32 := v332
  let v342 : Index := Scalar.indexCast v333
  ![v341.toNat, v342.toNat]
def k0_off62 (k0_t46 : Fin k0_t46_loop.trips) : Fin 2 → Nat :=
  let c0_i32_156 : BitVec 32 := 0#32
  let c1_i32_158 : BitVec 32 := 1#32
  let arg12 : BitVec 32 := Scf.iv c0_i32_156 c1_i32_158 k0_t46
  let v336 : Index := Scalar.indexCast arg12
  let c0_529 : Index := 0#32
  ![v336.toNat, 0]
@[reducible] def k0_t48_loop : Scf.Loop 32 :=
  let c0_i32_162 : BitVec 32 := 0#32
  let c96_i32_163 : BitVec 32 := 96#32
  let v112 : BitVec 32 := Scalar.addi c0_i32_162 c96_i32_163
  let c1_i32_164 : BitVec 32 := 1#32
  ⟨c0_i32_162, v112, c1_i32_164⟩
@[reducible] def k0_t49_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult48 (k0_t49 : Fin k0_t49_loop.trips) : BitVec 32 :=
  let c0_i32_525 : BitVec 32 := 0#32
  let c1_i32_527 : BitVec 32 := 1#32
  let arg13 : BitVec 32 := Scf.iv c0_i32_525 c1_i32_527 k0_t49
  let c16_i32 : BitVec 32 := 16#32
  let v350 : BitVec 32 := Scalar.muli arg13 c16_i32
  v350
def k0_off63 (k0_t48 : Fin k0_t48_loop.trips) (k0_t49 : Fin k0_t49_loop.trips) : Fin 2 → Nat :=
  let c0_i32_162 : BitVec 32 := 0#32
  let c1_i32_164 : BitVec 32 := 1#32
  let arg12 : BitVec 32 := Scf.iv c0_i32_162 c1_i32_164 k0_t48
  let v352 : Index := Scalar.indexCast arg12
  let c0_i32_525 : BitVec 32 := 0#32
  let c1_i32_527 : BitVec 32 := 1#32
  let arg13 : BitVec 32 := Scf.iv c0_i32_525 c1_i32_527 k0_t49
  let c16_i32 : BitVec 32 := 16#32
  let v350 : BitVec 32 := Scalar.muli arg13 c16_i32
  let v351 : BitVec 32 := v350
  let v353 : Index := Scalar.indexCast v351
  ![v352.toNat, v353.toNat]
def k0_off64 (k0_t49 : Fin k0_t49_loop.trips) : Fin 2 → Nat :=
  let c0_i32_525 : BitVec 32 := 0#32
  let c1_i32_527 : BitVec 32 := 1#32
  let arg13 : BitVec 32 := Scf.iv c0_i32_525 c1_i32_527 k0_t49
  let v356 : Index := Scalar.indexCast arg13
  let c0_533 : Index := 0#32
  ![v356.toNat, 0]
def k0_off65 (k0_t48 : Fin k0_t48_loop.trips) : Fin 2 → Nat :=
  let c0_i32_162 : BitVec 32 := 0#32
  let c1_i32_164 : BitVec 32 := 1#32
  let arg12 : BitVec 32 := Scf.iv c0_i32_162 c1_i32_164 k0_t48
  let v334 : Index := Scalar.indexCast arg12
  let c0_529 : Index := 0#32
  ![v334.toNat, 0]
def k0_mult49 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_166 : BitVec 32 := 4608#32
  let v113 : BitVec 32 := Scalar.muli v1 c4608_i32_166
  let c1536_i32_167 : BitVec 32 := 1536#32
  let v114 : BitVec 32 := Scalar.addi v113 c1536_i32_167
  v114
def k0_mult50 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_168 : BitVec 32 := 288#32
  let v116 : BitVec 32 := Scalar.muli v1 c288_i32_168
  let c96_i32_169 : BitVec 32 := 96#32
  let v117 : BitVec 32 := Scalar.addi v116 c96_i32_169
  v117
@[reducible] def k0_t50_loop : Scf.Loop 32 :=
  let c0_i32_171 : BitVec 32 := 0#32
  let c32_i32_172 : BitVec 32 := 32#32
  let v119 : BitVec 32 := Scalar.addi c0_i32_171 c32_i32_172
  let c1_i32_173 : BitVec 32 := 1#32
  ⟨c0_i32_171, v119, c1_i32_173⟩
def k0_mult51 (k0_t50 : Fin k0_t50_loop.trips) : BitVec 32 :=
  let c0_i32_171 : BitVec 32 := 0#32
  let c1_i32_173 : BitVec 32 := 1#32
  let arg12 : BitVec 32 := Scf.iv c0_i32_171 c1_i32_173 k0_t50
  let c16_i32 : BitVec 32 := 16#32
  let v332 : BitVec 32 := Scalar.muli arg12 c16_i32
  v332
@[reducible] def k0_t51_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off66 (k0_t50 : Fin k0_t50_loop.trips) (k0_t51 : Fin k0_t51_loop.trips) : Fin 2 → Nat :=
  let c0_i32_525 : BitVec 32 := 0#32
  let c1_i32_527 : BitVec 32 := 1#32
  let arg14 : BitVec 32 := Scf.iv c0_i32_525 c1_i32_527 k0_t51
  let v341 : Index := Scalar.indexCast arg14
  let c0_i32_171 : BitVec 32 := 0#32
  let c1_i32_173 : BitVec 32 := 1#32
  let arg12 : BitVec 32 := Scf.iv c0_i32_171 c1_i32_173 k0_t50
  let c16_i32 : BitVec 32 := 16#32
  let v332 : BitVec 32 := Scalar.muli arg12 c16_i32
  let v333 : BitVec 32 := v332
  let v342 : Index := Scalar.indexCast v333
  ![v341.toNat, v342.toNat]
def k0_off67 (k0_t50 : Fin k0_t50_loop.trips) : Fin 2 → Nat :=
  let c0_i32_171 : BitVec 32 := 0#32
  let c1_i32_173 : BitVec 32 := 1#32
  let arg12 : BitVec 32 := Scf.iv c0_i32_171 c1_i32_173 k0_t50
  let v336 : Index := Scalar.indexCast arg12
  let c0_529 : Index := 0#32
  ![v336.toNat, 0]
@[reducible] def k0_t52_loop : Scf.Loop 32 :=
  let c0_i32_177 : BitVec 32 := 0#32
  let c96_i32_178 : BitVec 32 := 96#32
  let v121 : BitVec 32 := Scalar.addi c0_i32_177 c96_i32_178
  let c1_i32_179 : BitVec 32 := 1#32
  ⟨c0_i32_177, v121, c1_i32_179⟩
@[reducible] def k0_t53_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult52 (k0_t53 : Fin k0_t53_loop.trips) : BitVec 32 :=
  let c0_i32_525 : BitVec 32 := 0#32
  let c1_i32_527 : BitVec 32 := 1#32
  let arg13 : BitVec 32 := Scf.iv c0_i32_525 c1_i32_527 k0_t53
  let c16_i32 : BitVec 32 := 16#32
  let v350 : BitVec 32 := Scalar.muli arg13 c16_i32
  v350
def k0_off68 (k0_t52 : Fin k0_t52_loop.trips) (k0_t53 : Fin k0_t53_loop.trips) : Fin 2 → Nat :=
  let c0_i32_177 : BitVec 32 := 0#32
  let c1_i32_179 : BitVec 32 := 1#32
  let arg12 : BitVec 32 := Scf.iv c0_i32_177 c1_i32_179 k0_t52
  let v352 : Index := Scalar.indexCast arg12
  let c0_i32_525 : BitVec 32 := 0#32
  let c1_i32_527 : BitVec 32 := 1#32
  let arg13 : BitVec 32 := Scf.iv c0_i32_525 c1_i32_527 k0_t53
  let c16_i32 : BitVec 32 := 16#32
  let v350 : BitVec 32 := Scalar.muli arg13 c16_i32
  let v351 : BitVec 32 := v350
  let v353 : Index := Scalar.indexCast v351
  ![v352.toNat, v353.toNat]
def k0_off69 (k0_t53 : Fin k0_t53_loop.trips) : Fin 2 → Nat :=
  let c0_i32_525 : BitVec 32 := 0#32
  let c1_i32_527 : BitVec 32 := 1#32
  let arg13 : BitVec 32 := Scf.iv c0_i32_525 c1_i32_527 k0_t53
  let v356 : Index := Scalar.indexCast arg13
  let c0_533 : Index := 0#32
  ![v356.toNat, 0]
def k0_off70 (k0_t52 : Fin k0_t52_loop.trips) : Fin 2 → Nat :=
  let c0_i32_177 : BitVec 32 := 0#32
  let c1_i32_179 : BitVec 32 := 1#32
  let arg12 : BitVec 32 := Scf.iv c0_i32_177 c1_i32_179 k0_t52
  let v334 : Index := Scalar.indexCast arg12
  let c0_529 : Index := 0#32
  ![v334.toNat, 0]
def k0_mult53 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_181 : BitVec 32 := 4608#32
  let v122 : BitVec 32 := Scalar.muli v1 c4608_i32_181
  let c2048_i32_182 : BitVec 32 := 2048#32
  let v123 : BitVec 32 := Scalar.addi v122 c2048_i32_182
  v123
def k0_mult54 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_183 : BitVec 32 := 288#32
  let v125 : BitVec 32 := Scalar.muli v1 c288_i32_183
  let c128_i32_184 : BitVec 32 := 128#32
  let v126 : BitVec 32 := Scalar.addi v125 c128_i32_184
  v126
@[reducible] def k0_t54_loop : Scf.Loop 32 :=
  let c0_i32_186 : BitVec 32 := 0#32
  let c32_i32_187 : BitVec 32 := 32#32
  let v128 : BitVec 32 := Scalar.addi c0_i32_186 c32_i32_187
  let c1_i32_188 : BitVec 32 := 1#32
  ⟨c0_i32_186, v128, c1_i32_188⟩
def k0_mult55 (k0_t54 : Fin k0_t54_loop.trips) : BitVec 32 :=
  let c0_i32_186 : BitVec 32 := 0#32
  let c1_i32_188 : BitVec 32 := 1#32
  let arg12 : BitVec 32 := Scf.iv c0_i32_186 c1_i32_188 k0_t54
  let c16_i32 : BitVec 32 := 16#32
  let v332 : BitVec 32 := Scalar.muli arg12 c16_i32
  v332
@[reducible] def k0_t55_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off71 (k0_t54 : Fin k0_t54_loop.trips) (k0_t55 : Fin k0_t55_loop.trips) : Fin 2 → Nat :=
  let c0_i32_525 : BitVec 32 := 0#32
  let c1_i32_527 : BitVec 32 := 1#32
  let arg14 : BitVec 32 := Scf.iv c0_i32_525 c1_i32_527 k0_t55
  let v341 : Index := Scalar.indexCast arg14
  let c0_i32_186 : BitVec 32 := 0#32
  let c1_i32_188 : BitVec 32 := 1#32
  let arg12 : BitVec 32 := Scf.iv c0_i32_186 c1_i32_188 k0_t54
  let c16_i32 : BitVec 32 := 16#32
  let v332 : BitVec 32 := Scalar.muli arg12 c16_i32
  let v333 : BitVec 32 := v332
  let v342 : Index := Scalar.indexCast v333
  ![v341.toNat, v342.toNat]
def k0_off72 (k0_t54 : Fin k0_t54_loop.trips) : Fin 2 → Nat :=
  let c0_i32_186 : BitVec 32 := 0#32
  let c1_i32_188 : BitVec 32 := 1#32
  let arg12 : BitVec 32 := Scf.iv c0_i32_186 c1_i32_188 k0_t54
  let v336 : Index := Scalar.indexCast arg12
  let c0_529 : Index := 0#32
  ![v336.toNat, 0]
@[reducible] def k0_t56_loop : Scf.Loop 32 :=
  let c0_i32_192 : BitVec 32 := 0#32
  let c96_i32_193 : BitVec 32 := 96#32
  let v130 : BitVec 32 := Scalar.addi c0_i32_192 c96_i32_193
  let c1_i32_194 : BitVec 32 := 1#32
  ⟨c0_i32_192, v130, c1_i32_194⟩
@[reducible] def k0_t57_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult56 (k0_t57 : Fin k0_t57_loop.trips) : BitVec 32 :=
  let c0_i32_525 : BitVec 32 := 0#32
  let c1_i32_527 : BitVec 32 := 1#32
  let arg13 : BitVec 32 := Scf.iv c0_i32_525 c1_i32_527 k0_t57
  let c16_i32 : BitVec 32 := 16#32
  let v350 : BitVec 32 := Scalar.muli arg13 c16_i32
  v350
def k0_off73 (k0_t56 : Fin k0_t56_loop.trips) (k0_t57 : Fin k0_t57_loop.trips) : Fin 2 → Nat :=
  let c0_i32_192 : BitVec 32 := 0#32
  let c1_i32_194 : BitVec 32 := 1#32
  let arg12 : BitVec 32 := Scf.iv c0_i32_192 c1_i32_194 k0_t56
  let v352 : Index := Scalar.indexCast arg12
  let c0_i32_525 : BitVec 32 := 0#32
  let c1_i32_527 : BitVec 32 := 1#32
  let arg13 : BitVec 32 := Scf.iv c0_i32_525 c1_i32_527 k0_t57
  let c16_i32 : BitVec 32 := 16#32
  let v350 : BitVec 32 := Scalar.muli arg13 c16_i32
  let v351 : BitVec 32 := v350
  let v353 : Index := Scalar.indexCast v351
  ![v352.toNat, v353.toNat]
def k0_off74 (k0_t57 : Fin k0_t57_loop.trips) : Fin 2 → Nat :=
  let c0_i32_525 : BitVec 32 := 0#32
  let c1_i32_527 : BitVec 32 := 1#32
  let arg13 : BitVec 32 := Scf.iv c0_i32_525 c1_i32_527 k0_t57
  let v356 : Index := Scalar.indexCast arg13
  let c0_533 : Index := 0#32
  ![v356.toNat, 0]
def k0_off75 (k0_t56 : Fin k0_t56_loop.trips) : Fin 2 → Nat :=
  let c0_i32_192 : BitVec 32 := 0#32
  let c1_i32_194 : BitVec 32 := 1#32
  let arg12 : BitVec 32 := Scf.iv c0_i32_192 c1_i32_194 k0_t56
  let v334 : Index := Scalar.indexCast arg12
  let c0_529 : Index := 0#32
  ![v334.toNat, 0]
def k0_mult57 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_196 : BitVec 32 := 4608#32
  let v131 : BitVec 32 := Scalar.muli v1 c4608_i32_196
  let c2560_i32_197 : BitVec 32 := 2560#32
  let v132 : BitVec 32 := Scalar.addi v131 c2560_i32_197
  v132
def k0_mult58 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_198 : BitVec 32 := 288#32
  let v134 : BitVec 32 := Scalar.muli v1 c288_i32_198
  let c160_i32_199 : BitVec 32 := 160#32
  let v135 : BitVec 32 := Scalar.addi v134 c160_i32_199
  v135
@[reducible] def k0_t58_loop : Scf.Loop 32 :=
  let c0_i32_201 : BitVec 32 := 0#32
  let c32_i32_202 : BitVec 32 := 32#32
  let v137 : BitVec 32 := Scalar.addi c0_i32_201 c32_i32_202
  let c1_i32_203 : BitVec 32 := 1#32
  ⟨c0_i32_201, v137, c1_i32_203⟩
def k0_mult59 (k0_t58 : Fin k0_t58_loop.trips) : BitVec 32 :=
  let c0_i32_201 : BitVec 32 := 0#32
  let c1_i32_203 : BitVec 32 := 1#32
  let arg12 : BitVec 32 := Scf.iv c0_i32_201 c1_i32_203 k0_t58
  let c16_i32 : BitVec 32 := 16#32
  let v332 : BitVec 32 := Scalar.muli arg12 c16_i32
  v332
@[reducible] def k0_t59_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off76 (k0_t58 : Fin k0_t58_loop.trips) (k0_t59 : Fin k0_t59_loop.trips) : Fin 2 → Nat :=
  let c0_i32_525 : BitVec 32 := 0#32
  let c1_i32_527 : BitVec 32 := 1#32
  let arg14 : BitVec 32 := Scf.iv c0_i32_525 c1_i32_527 k0_t59
  let v341 : Index := Scalar.indexCast arg14
  let c0_i32_201 : BitVec 32 := 0#32
  let c1_i32_203 : BitVec 32 := 1#32
  let arg12 : BitVec 32 := Scf.iv c0_i32_201 c1_i32_203 k0_t58
  let c16_i32 : BitVec 32 := 16#32
  let v332 : BitVec 32 := Scalar.muli arg12 c16_i32
  let v333 : BitVec 32 := v332
  let v342 : Index := Scalar.indexCast v333
  ![v341.toNat, v342.toNat]
def k0_off77 (k0_t58 : Fin k0_t58_loop.trips) : Fin 2 → Nat :=
  let c0_i32_201 : BitVec 32 := 0#32
  let c1_i32_203 : BitVec 32 := 1#32
  let arg12 : BitVec 32 := Scf.iv c0_i32_201 c1_i32_203 k0_t58
  let v336 : Index := Scalar.indexCast arg12
  let c0_529 : Index := 0#32
  ![v336.toNat, 0]
@[reducible] def k0_t60_loop : Scf.Loop 32 :=
  let c0_i32_207 : BitVec 32 := 0#32
  let c96_i32_208 : BitVec 32 := 96#32
  let v139 : BitVec 32 := Scalar.addi c0_i32_207 c96_i32_208
  let c1_i32_209 : BitVec 32 := 1#32
  ⟨c0_i32_207, v139, c1_i32_209⟩
@[reducible] def k0_t61_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult60 (k0_t61 : Fin k0_t61_loop.trips) : BitVec 32 :=
  let c0_i32_525 : BitVec 32 := 0#32
  let c1_i32_527 : BitVec 32 := 1#32
  let arg13 : BitVec 32 := Scf.iv c0_i32_525 c1_i32_527 k0_t61
  let c16_i32 : BitVec 32 := 16#32
  let v350 : BitVec 32 := Scalar.muli arg13 c16_i32
  v350
def k0_off78 (k0_t60 : Fin k0_t60_loop.trips) (k0_t61 : Fin k0_t61_loop.trips) : Fin 2 → Nat :=
  let c0_i32_207 : BitVec 32 := 0#32
  let c1_i32_209 : BitVec 32 := 1#32
  let arg12 : BitVec 32 := Scf.iv c0_i32_207 c1_i32_209 k0_t60
  let v352 : Index := Scalar.indexCast arg12
  let c0_i32_525 : BitVec 32 := 0#32
  let c1_i32_527 : BitVec 32 := 1#32
  let arg13 : BitVec 32 := Scf.iv c0_i32_525 c1_i32_527 k0_t61
  let c16_i32 : BitVec 32 := 16#32
  let v350 : BitVec 32 := Scalar.muli arg13 c16_i32
  let v351 : BitVec 32 := v350
  let v353 : Index := Scalar.indexCast v351
  ![v352.toNat, v353.toNat]
def k0_off79 (k0_t61 : Fin k0_t61_loop.trips) : Fin 2 → Nat :=
  let c0_i32_525 : BitVec 32 := 0#32
  let c1_i32_527 : BitVec 32 := 1#32
  let arg13 : BitVec 32 := Scf.iv c0_i32_525 c1_i32_527 k0_t61
  let v356 : Index := Scalar.indexCast arg13
  let c0_533 : Index := 0#32
  ![v356.toNat, 0]
def k0_off80 (k0_t60 : Fin k0_t60_loop.trips) : Fin 2 → Nat :=
  let c0_i32_207 : BitVec 32 := 0#32
  let c1_i32_209 : BitVec 32 := 1#32
  let arg12 : BitVec 32 := Scf.iv c0_i32_207 c1_i32_209 k0_t60
  let v334 : Index := Scalar.indexCast arg12
  let c0_529 : Index := 0#32
  ![v334.toNat, 0]
def k0_mult61 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_211 : BitVec 32 := 4608#32
  let v140 : BitVec 32 := Scalar.muli v1 c4608_i32_211
  let c3072_i32_212 : BitVec 32 := 3072#32
  let v141 : BitVec 32 := Scalar.addi v140 c3072_i32_212
  v141
def k0_mult62 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_213 : BitVec 32 := 288#32
  let v143 : BitVec 32 := Scalar.muli v1 c288_i32_213
  let c192_i32_214 : BitVec 32 := 192#32
  let v144 : BitVec 32 := Scalar.addi v143 c192_i32_214
  v144
@[reducible] def k0_t62_loop : Scf.Loop 32 :=
  let c0_i32_216 : BitVec 32 := 0#32
  let c32_i32_217 : BitVec 32 := 32#32
  let v146 : BitVec 32 := Scalar.addi c0_i32_216 c32_i32_217
  let c1_i32_218 : BitVec 32 := 1#32
  ⟨c0_i32_216, v146, c1_i32_218⟩
def k0_mult63 (k0_t62 : Fin k0_t62_loop.trips) : BitVec 32 :=
  let c0_i32_216 : BitVec 32 := 0#32
  let c1_i32_218 : BitVec 32 := 1#32
  let arg12 : BitVec 32 := Scf.iv c0_i32_216 c1_i32_218 k0_t62
  let c16_i32 : BitVec 32 := 16#32
  let v332 : BitVec 32 := Scalar.muli arg12 c16_i32
  v332
@[reducible] def k0_t63_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off81 (k0_t62 : Fin k0_t62_loop.trips) (k0_t63 : Fin k0_t63_loop.trips) : Fin 2 → Nat :=
  let c0_i32_525 : BitVec 32 := 0#32
  let c1_i32_527 : BitVec 32 := 1#32
  let arg14 : BitVec 32 := Scf.iv c0_i32_525 c1_i32_527 k0_t63
  let v341 : Index := Scalar.indexCast arg14
  let c0_i32_216 : BitVec 32 := 0#32
  let c1_i32_218 : BitVec 32 := 1#32
  let arg12 : BitVec 32 := Scf.iv c0_i32_216 c1_i32_218 k0_t62
  let c16_i32 : BitVec 32 := 16#32
  let v332 : BitVec 32 := Scalar.muli arg12 c16_i32
  let v333 : BitVec 32 := v332
  let v342 : Index := Scalar.indexCast v333
  ![v341.toNat, v342.toNat]
def k0_off82 (k0_t62 : Fin k0_t62_loop.trips) : Fin 2 → Nat :=
  let c0_i32_216 : BitVec 32 := 0#32
  let c1_i32_218 : BitVec 32 := 1#32
  let arg12 : BitVec 32 := Scf.iv c0_i32_216 c1_i32_218 k0_t62
  let v336 : Index := Scalar.indexCast arg12
  let c0_529 : Index := 0#32
  ![v336.toNat, 0]
@[reducible] def k0_t64_loop : Scf.Loop 32 :=
  let c0_i32_222 : BitVec 32 := 0#32
  let c96_i32_223 : BitVec 32 := 96#32
  let v148 : BitVec 32 := Scalar.addi c0_i32_222 c96_i32_223
  let c1_i32_224 : BitVec 32 := 1#32
  ⟨c0_i32_222, v148, c1_i32_224⟩
@[reducible] def k0_t65_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult64 (k0_t65 : Fin k0_t65_loop.trips) : BitVec 32 :=
  let c0_i32_525 : BitVec 32 := 0#32
  let c1_i32_527 : BitVec 32 := 1#32
  let arg13 : BitVec 32 := Scf.iv c0_i32_525 c1_i32_527 k0_t65
  let c16_i32 : BitVec 32 := 16#32
  let v350 : BitVec 32 := Scalar.muli arg13 c16_i32
  v350
def k0_off83 (k0_t64 : Fin k0_t64_loop.trips) (k0_t65 : Fin k0_t65_loop.trips) : Fin 2 → Nat :=
  let c0_i32_222 : BitVec 32 := 0#32
  let c1_i32_224 : BitVec 32 := 1#32
  let arg12 : BitVec 32 := Scf.iv c0_i32_222 c1_i32_224 k0_t64
  let v352 : Index := Scalar.indexCast arg12
  let c0_i32_525 : BitVec 32 := 0#32
  let c1_i32_527 : BitVec 32 := 1#32
  let arg13 : BitVec 32 := Scf.iv c0_i32_525 c1_i32_527 k0_t65
  let c16_i32 : BitVec 32 := 16#32
  let v350 : BitVec 32 := Scalar.muli arg13 c16_i32
  let v351 : BitVec 32 := v350
  let v353 : Index := Scalar.indexCast v351
  ![v352.toNat, v353.toNat]
def k0_off84 (k0_t65 : Fin k0_t65_loop.trips) : Fin 2 → Nat :=
  let c0_i32_525 : BitVec 32 := 0#32
  let c1_i32_527 : BitVec 32 := 1#32
  let arg13 : BitVec 32 := Scf.iv c0_i32_525 c1_i32_527 k0_t65
  let v356 : Index := Scalar.indexCast arg13
  let c0_533 : Index := 0#32
  ![v356.toNat, 0]
def k0_off85 (k0_t64 : Fin k0_t64_loop.trips) : Fin 2 → Nat :=
  let c0_i32_222 : BitVec 32 := 0#32
  let c1_i32_224 : BitVec 32 := 1#32
  let arg12 : BitVec 32 := Scf.iv c0_i32_222 c1_i32_224 k0_t64
  let v334 : Index := Scalar.indexCast arg12
  let c0_529 : Index := 0#32
  ![v334.toNat, 0]
def k0_mult65 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_226 : BitVec 32 := 4608#32
  let v149 : BitVec 32 := Scalar.muli v1 c4608_i32_226
  let c3584_i32_227 : BitVec 32 := 3584#32
  let v150 : BitVec 32 := Scalar.addi v149 c3584_i32_227
  v150
def k0_mult66 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_228 : BitVec 32 := 288#32
  let v152 : BitVec 32 := Scalar.muli v1 c288_i32_228
  let c224_i32_229 : BitVec 32 := 224#32
  let v153 : BitVec 32 := Scalar.addi v152 c224_i32_229
  v153
@[reducible] def k0_t66_loop : Scf.Loop 32 :=
  let c0_i32_231 : BitVec 32 := 0#32
  let c32_i32_232 : BitVec 32 := 32#32
  let v155 : BitVec 32 := Scalar.addi c0_i32_231 c32_i32_232
  let c1_i32_233 : BitVec 32 := 1#32
  ⟨c0_i32_231, v155, c1_i32_233⟩
def k0_mult67 (k0_t66 : Fin k0_t66_loop.trips) : BitVec 32 :=
  let c0_i32_231 : BitVec 32 := 0#32
  let c1_i32_233 : BitVec 32 := 1#32
  let arg12 : BitVec 32 := Scf.iv c0_i32_231 c1_i32_233 k0_t66
  let c16_i32 : BitVec 32 := 16#32
  let v332 : BitVec 32 := Scalar.muli arg12 c16_i32
  v332
@[reducible] def k0_t67_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off86 (k0_t66 : Fin k0_t66_loop.trips) (k0_t67 : Fin k0_t67_loop.trips) : Fin 2 → Nat :=
  let c0_i32_525 : BitVec 32 := 0#32
  let c1_i32_527 : BitVec 32 := 1#32
  let arg14 : BitVec 32 := Scf.iv c0_i32_525 c1_i32_527 k0_t67
  let v341 : Index := Scalar.indexCast arg14
  let c0_i32_231 : BitVec 32 := 0#32
  let c1_i32_233 : BitVec 32 := 1#32
  let arg12 : BitVec 32 := Scf.iv c0_i32_231 c1_i32_233 k0_t66
  let c16_i32 : BitVec 32 := 16#32
  let v332 : BitVec 32 := Scalar.muli arg12 c16_i32
  let v333 : BitVec 32 := v332
  let v342 : Index := Scalar.indexCast v333
  ![v341.toNat, v342.toNat]
def k0_off87 (k0_t66 : Fin k0_t66_loop.trips) : Fin 2 → Nat :=
  let c0_i32_231 : BitVec 32 := 0#32
  let c1_i32_233 : BitVec 32 := 1#32
  let arg12 : BitVec 32 := Scf.iv c0_i32_231 c1_i32_233 k0_t66
  let v336 : Index := Scalar.indexCast arg12
  let c0_529 : Index := 0#32
  ![v336.toNat, 0]
@[reducible] def k0_t68_loop : Scf.Loop 32 :=
  let c0_i32_237 : BitVec 32 := 0#32
  let c96_i32_238 : BitVec 32 := 96#32
  let v157 : BitVec 32 := Scalar.addi c0_i32_237 c96_i32_238
  let c1_i32_239 : BitVec 32 := 1#32
  ⟨c0_i32_237, v157, c1_i32_239⟩
@[reducible] def k0_t69_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult68 (k0_t69 : Fin k0_t69_loop.trips) : BitVec 32 :=
  let c0_i32_525 : BitVec 32 := 0#32
  let c1_i32_527 : BitVec 32 := 1#32
  let arg13 : BitVec 32 := Scf.iv c0_i32_525 c1_i32_527 k0_t69
  let c16_i32 : BitVec 32 := 16#32
  let v350 : BitVec 32 := Scalar.muli arg13 c16_i32
  v350
def k0_off88 (k0_t68 : Fin k0_t68_loop.trips) (k0_t69 : Fin k0_t69_loop.trips) : Fin 2 → Nat :=
  let c0_i32_237 : BitVec 32 := 0#32
  let c1_i32_239 : BitVec 32 := 1#32
  let arg12 : BitVec 32 := Scf.iv c0_i32_237 c1_i32_239 k0_t68
  let v352 : Index := Scalar.indexCast arg12
  let c0_i32_525 : BitVec 32 := 0#32
  let c1_i32_527 : BitVec 32 := 1#32
  let arg13 : BitVec 32 := Scf.iv c0_i32_525 c1_i32_527 k0_t69
  let c16_i32 : BitVec 32 := 16#32
  let v350 : BitVec 32 := Scalar.muli arg13 c16_i32
  let v351 : BitVec 32 := v350
  let v353 : Index := Scalar.indexCast v351
  ![v352.toNat, v353.toNat]
def k0_off89 (k0_t69 : Fin k0_t69_loop.trips) : Fin 2 → Nat :=
  let c0_i32_525 : BitVec 32 := 0#32
  let c1_i32_527 : BitVec 32 := 1#32
  let arg13 : BitVec 32 := Scf.iv c0_i32_525 c1_i32_527 k0_t69
  let v356 : Index := Scalar.indexCast arg13
  let c0_533 : Index := 0#32
  ![v356.toNat, 0]
def k0_off90 (k0_t68 : Fin k0_t68_loop.trips) : Fin 2 → Nat :=
  let c0_i32_237 : BitVec 32 := 0#32
  let c1_i32_239 : BitVec 32 := 1#32
  let arg12 : BitVec 32 := Scf.iv c0_i32_237 c1_i32_239 k0_t68
  let v334 : Index := Scalar.indexCast arg12
  let c0_529 : Index := 0#32
  ![v334.toNat, 0]
def k0_mult69 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_241 : BitVec 32 := 4608#32
  let v158 : BitVec 32 := Scalar.muli v1 c4608_i32_241
  let c4096_i32_242 : BitVec 32 := 4096#32
  let v159 : BitVec 32 := Scalar.addi v158 c4096_i32_242
  v159
def k0_mult70 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_243 : BitVec 32 := 288#32
  let v161 : BitVec 32 := Scalar.muli v1 c288_i32_243
  let c256_i32_244 : BitVec 32 := 256#32
  let v162 : BitVec 32 := Scalar.addi v161 c256_i32_244
  v162
@[reducible] def k0_t70_loop : Scf.Loop 32 :=
  let c0_i32_246 : BitVec 32 := 0#32
  let c32_i32_247 : BitVec 32 := 32#32
  let v164 : BitVec 32 := Scalar.addi c0_i32_246 c32_i32_247
  let c1_i32_248 : BitVec 32 := 1#32
  ⟨c0_i32_246, v164, c1_i32_248⟩
def k0_mult71 (k0_t70 : Fin k0_t70_loop.trips) : BitVec 32 :=
  let c0_i32_246 : BitVec 32 := 0#32
  let c1_i32_248 : BitVec 32 := 1#32
  let arg12 : BitVec 32 := Scf.iv c0_i32_246 c1_i32_248 k0_t70
  let c16_i32 : BitVec 32 := 16#32
  let v332 : BitVec 32 := Scalar.muli arg12 c16_i32
  v332
@[reducible] def k0_t71_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off91 (k0_t70 : Fin k0_t70_loop.trips) (k0_t71 : Fin k0_t71_loop.trips) : Fin 2 → Nat :=
  let c0_i32_525 : BitVec 32 := 0#32
  let c1_i32_527 : BitVec 32 := 1#32
  let arg14 : BitVec 32 := Scf.iv c0_i32_525 c1_i32_527 k0_t71
  let v341 : Index := Scalar.indexCast arg14
  let c0_i32_246 : BitVec 32 := 0#32
  let c1_i32_248 : BitVec 32 := 1#32
  let arg12 : BitVec 32 := Scf.iv c0_i32_246 c1_i32_248 k0_t70
  let c16_i32 : BitVec 32 := 16#32
  let v332 : BitVec 32 := Scalar.muli arg12 c16_i32
  let v333 : BitVec 32 := v332
  let v342 : Index := Scalar.indexCast v333
  ![v341.toNat, v342.toNat]
def k0_off92 (k0_t70 : Fin k0_t70_loop.trips) : Fin 2 → Nat :=
  let c0_i32_246 : BitVec 32 := 0#32
  let c1_i32_248 : BitVec 32 := 1#32
  let arg12 : BitVec 32 := Scf.iv c0_i32_246 c1_i32_248 k0_t70
  let v336 : Index := Scalar.indexCast arg12
  let c0_529 : Index := 0#32
  ![v336.toNat, 0]
@[reducible] def k0_t72_loop : Scf.Loop 32 :=
  let c0_i32_252 : BitVec 32 := 0#32
  let c96_i32_253 : BitVec 32 := 96#32
  let v166 : BitVec 32 := Scalar.addi c0_i32_252 c96_i32_253
  let c1_i32_254 : BitVec 32 := 1#32
  ⟨c0_i32_252, v166, c1_i32_254⟩
@[reducible] def k0_t73_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult72 (k0_t73 : Fin k0_t73_loop.trips) : BitVec 32 :=
  let c0_i32_525 : BitVec 32 := 0#32
  let c1_i32_527 : BitVec 32 := 1#32
  let arg13 : BitVec 32 := Scf.iv c0_i32_525 c1_i32_527 k0_t73
  let c16_i32 : BitVec 32 := 16#32
  let v350 : BitVec 32 := Scalar.muli arg13 c16_i32
  v350
def k0_off93 (k0_t72 : Fin k0_t72_loop.trips) (k0_t73 : Fin k0_t73_loop.trips) : Fin 2 → Nat :=
  let c0_i32_252 : BitVec 32 := 0#32
  let c1_i32_254 : BitVec 32 := 1#32
  let arg12 : BitVec 32 := Scf.iv c0_i32_252 c1_i32_254 k0_t72
  let v352 : Index := Scalar.indexCast arg12
  let c0_i32_525 : BitVec 32 := 0#32
  let c1_i32_527 : BitVec 32 := 1#32
  let arg13 : BitVec 32 := Scf.iv c0_i32_525 c1_i32_527 k0_t73
  let c16_i32 : BitVec 32 := 16#32
  let v350 : BitVec 32 := Scalar.muli arg13 c16_i32
  let v351 : BitVec 32 := v350
  let v353 : Index := Scalar.indexCast v351
  ![v352.toNat, v353.toNat]
def k0_off94 (k0_t73 : Fin k0_t73_loop.trips) : Fin 2 → Nat :=
  let c0_i32_525 : BitVec 32 := 0#32
  let c1_i32_527 : BitVec 32 := 1#32
  let arg13 : BitVec 32 := Scf.iv c0_i32_525 c1_i32_527 k0_t73
  let v356 : Index := Scalar.indexCast arg13
  let c0_533 : Index := 0#32
  ![v356.toNat, 0]
def k0_off95 (k0_t72 : Fin k0_t72_loop.trips) : Fin 2 → Nat :=
  let c0_i32_252 : BitVec 32 := 0#32
  let c1_i32_254 : BitVec 32 := 1#32
  let arg12 : BitVec 32 := Scf.iv c0_i32_252 c1_i32_254 k0_t72
  let v334 : Index := Scalar.indexCast arg12
  let c0_529 : Index := 0#32
  ![v334.toNat, 0]
def k0_mult73 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_256 : BitVec 32 := 4608#32
  let v167 : BitVec 32 := Scalar.muli v1 c4608_i32_256
  let c0_i32_257 : BitVec 32 := 0#32
  let v168 : BitVec 32 := Scalar.addi v167 c0_i32_257
  v168
def k0_mult74 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_258 : BitVec 32 := 288#32
  let v170 : BitVec 32 := Scalar.muli v1 c288_i32_258
  let c0_i32_259 : BitVec 32 := 0#32
  let v171 : BitVec 32 := Scalar.addi v170 c0_i32_259
  v171
def k0_off96 (i : grid0.Coords) (c0_i32_257 : BitVec 32) : Fin 3 → Nat :=
  let c2_i32_260 : BitVec 32 := 2#32
  let c0_i32_525_r36 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_256 : BitVec 32 := 4608#32
  let v167 : BitVec 32 := Scalar.muli v1 c4608_i32_256
  let v168 : BitVec 32 := Scalar.addi v167 c0_i32_257
  let v169 : BitVec 32 := v168
  ![2, 0, v169.toNat]
@[reducible] def k0_t74_loop : Scf.Loop 32 :=
  let c0_i32_261 : BitVec 32 := 0#32
  let c32_i32_262 : BitVec 32 := 32#32
  let v173 : BitVec 32 := Scalar.addi c0_i32_261 c32_i32_262
  let c1_i32_263 : BitVec 32 := 1#32
  ⟨c0_i32_261, v173, c1_i32_263⟩
def k0_mult75 (k0_t74 : Fin k0_t74_loop.trips) : BitVec 32 :=
  let c0_i32_261 : BitVec 32 := 0#32
  let c1_i32_263 : BitVec 32 := 1#32
  let arg12 : BitVec 32 := Scf.iv c0_i32_261 c1_i32_263 k0_t74
  let c16_i32 : BitVec 32 := 16#32
  let v332 : BitVec 32 := Scalar.muli arg12 c16_i32
  v332
@[reducible] def k0_t75_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off97 (k0_t74 : Fin k0_t74_loop.trips) (k0_t75 : Fin k0_t75_loop.trips) : Fin 2 → Nat :=
  let c0_i32_525 : BitVec 32 := 0#32
  let c1_i32_527 : BitVec 32 := 1#32
  let arg14 : BitVec 32 := Scf.iv c0_i32_525 c1_i32_527 k0_t75
  let v341 : Index := Scalar.indexCast arg14
  let c0_i32_261 : BitVec 32 := 0#32
  let c1_i32_263 : BitVec 32 := 1#32
  let arg12 : BitVec 32 := Scf.iv c0_i32_261 c1_i32_263 k0_t74
  let c16_i32 : BitVec 32 := 16#32
  let v332 : BitVec 32 := Scalar.muli arg12 c16_i32
  let v333 : BitVec 32 := v332
  let v342 : Index := Scalar.indexCast v333
  ![v341.toNat, v342.toNat]
def k0_off98 (k0_t74 : Fin k0_t74_loop.trips) : Fin 2 → Nat :=
  let c0_i32_261 : BitVec 32 := 0#32
  let c1_i32_263 : BitVec 32 := 1#32
  let arg12 : BitVec 32 := Scf.iv c0_i32_261 c1_i32_263 k0_t74
  let v336 : Index := Scalar.indexCast arg12
  let c0_529 : Index := 0#32
  ![v336.toNat, 0]
def k0_off99 (i : grid0.Coords) (c0_i32_259 : BitVec 32) : Fin 3 → Nat :=
  let c2_i32_265 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_258 : BitVec 32 := 288#32
  let v170 : BitVec 32 := Scalar.muli v1 c288_i32_258
  let v171 : BitVec 32 := Scalar.addi v170 c0_i32_259
  let v172 : BitVec 32 := v171
  let c0_i32_525_r37 : BitVec 32 := 0#32
  ![2, v172.toNat, 0]
@[reducible] def k0_t76_loop : Scf.Loop 32 :=
  let c0_i32_267 : BitVec 32 := 0#32
  let c96_i32_268 : BitVec 32 := 96#32
  let v175 : BitVec 32 := Scalar.addi c0_i32_267 c96_i32_268
  let c1_i32_269 : BitVec 32 := 1#32
  ⟨c0_i32_267, v175, c1_i32_269⟩
@[reducible] def k0_t77_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult76 (k0_t77 : Fin k0_t77_loop.trips) : BitVec 32 :=
  let c0_i32_525 : BitVec 32 := 0#32
  let c1_i32_527 : BitVec 32 := 1#32
  let arg13 : BitVec 32 := Scf.iv c0_i32_525 c1_i32_527 k0_t77
  let c16_i32 : BitVec 32 := 16#32
  let v350 : BitVec 32 := Scalar.muli arg13 c16_i32
  v350
def k0_off100 (k0_t76 : Fin k0_t76_loop.trips) (k0_t77 : Fin k0_t77_loop.trips) : Fin 2 → Nat :=
  let c0_i32_267 : BitVec 32 := 0#32
  let c1_i32_269 : BitVec 32 := 1#32
  let arg12 : BitVec 32 := Scf.iv c0_i32_267 c1_i32_269 k0_t76
  let v352 : Index := Scalar.indexCast arg12
  let c0_i32_525 : BitVec 32 := 0#32
  let c1_i32_527 : BitVec 32 := 1#32
  let arg13 : BitVec 32 := Scf.iv c0_i32_525 c1_i32_527 k0_t77
  let c16_i32 : BitVec 32 := 16#32
  let v350 : BitVec 32 := Scalar.muli arg13 c16_i32
  let v351 : BitVec 32 := v350
  let v353 : Index := Scalar.indexCast v351
  ![v352.toNat, v353.toNat]
def k0_off101 (k0_t77 : Fin k0_t77_loop.trips) : Fin 2 → Nat :=
  let c0_i32_525 : BitVec 32 := 0#32
  let c1_i32_527 : BitVec 32 := 1#32
  let arg13 : BitVec 32 := Scf.iv c0_i32_525 c1_i32_527 k0_t77
  let v356 : Index := Scalar.indexCast arg13
  let c0_533 : Index := 0#32
  ![v356.toNat, 0]
def k0_off102 (k0_t76 : Fin k0_t76_loop.trips) : Fin 2 → Nat :=
  let c0_i32_267 : BitVec 32 := 0#32
  let c1_i32_269 : BitVec 32 := 1#32
  let arg12 : BitVec 32 := Scf.iv c0_i32_267 c1_i32_269 k0_t76
  let v334 : Index := Scalar.indexCast arg12
  let c0_529 : Index := 0#32
  ![v334.toNat, 0]
def k0_mult77 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_271 : BitVec 32 := 4608#32
  let v176 : BitVec 32 := Scalar.muli v1 c4608_i32_271
  let c512_i32_272 : BitVec 32 := 512#32
  let v177 : BitVec 32 := Scalar.addi v176 c512_i32_272
  v177
def k0_mult78 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_273 : BitVec 32 := 288#32
  let v179 : BitVec 32 := Scalar.muli v1 c288_i32_273
  let c32_i32_274 : BitVec 32 := 32#32
  let v180 : BitVec 32 := Scalar.addi v179 c32_i32_274
  v180
@[reducible] def k0_t78_loop : Scf.Loop 32 :=
  let c0_i32_276 : BitVec 32 := 0#32
  let c32_i32_277 : BitVec 32 := 32#32
  let v182 : BitVec 32 := Scalar.addi c0_i32_276 c32_i32_277
  let c1_i32_278 : BitVec 32 := 1#32
  ⟨c0_i32_276, v182, c1_i32_278⟩
def k0_mult79 (k0_t78 : Fin k0_t78_loop.trips) : BitVec 32 :=
  let c0_i32_276 : BitVec 32 := 0#32
  let c1_i32_278 : BitVec 32 := 1#32
  let arg12 : BitVec 32 := Scf.iv c0_i32_276 c1_i32_278 k0_t78
  let c16_i32 : BitVec 32 := 16#32
  let v332 : BitVec 32 := Scalar.muli arg12 c16_i32
  v332
@[reducible] def k0_t79_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off103 (k0_t78 : Fin k0_t78_loop.trips) (k0_t79 : Fin k0_t79_loop.trips) : Fin 2 → Nat :=
  let c0_i32_525 : BitVec 32 := 0#32
  let c1_i32_527 : BitVec 32 := 1#32
  let arg14 : BitVec 32 := Scf.iv c0_i32_525 c1_i32_527 k0_t79
  let v341 : Index := Scalar.indexCast arg14
  let c0_i32_276 : BitVec 32 := 0#32
  let c1_i32_278 : BitVec 32 := 1#32
  let arg12 : BitVec 32 := Scf.iv c0_i32_276 c1_i32_278 k0_t78
  let c16_i32 : BitVec 32 := 16#32
  let v332 : BitVec 32 := Scalar.muli arg12 c16_i32
  let v333 : BitVec 32 := v332
  let v342 : Index := Scalar.indexCast v333
  ![v341.toNat, v342.toNat]
def k0_off104 (k0_t78 : Fin k0_t78_loop.trips) : Fin 2 → Nat :=
  let c0_i32_276 : BitVec 32 := 0#32
  let c1_i32_278 : BitVec 32 := 1#32
  let arg12 : BitVec 32 := Scf.iv c0_i32_276 c1_i32_278 k0_t78
  let v336 : Index := Scalar.indexCast arg12
  let c0_529 : Index := 0#32
  ![v336.toNat, 0]
@[reducible] def k0_t80_loop : Scf.Loop 32 :=
  let c0_i32_282 : BitVec 32 := 0#32
  let c96_i32_283 : BitVec 32 := 96#32
  let v184 : BitVec 32 := Scalar.addi c0_i32_282 c96_i32_283
  let c1_i32_284 : BitVec 32 := 1#32
  ⟨c0_i32_282, v184, c1_i32_284⟩
@[reducible] def k0_t81_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult80 (k0_t81 : Fin k0_t81_loop.trips) : BitVec 32 :=
  let c0_i32_525 : BitVec 32 := 0#32
  let c1_i32_527 : BitVec 32 := 1#32
  let arg13 : BitVec 32 := Scf.iv c0_i32_525 c1_i32_527 k0_t81
  let c16_i32 : BitVec 32 := 16#32
  let v350 : BitVec 32 := Scalar.muli arg13 c16_i32
  v350
def k0_off105 (k0_t80 : Fin k0_t80_loop.trips) (k0_t81 : Fin k0_t81_loop.trips) : Fin 2 → Nat :=
  let c0_i32_282 : BitVec 32 := 0#32
  let c1_i32_284 : BitVec 32 := 1#32
  let arg12 : BitVec 32 := Scf.iv c0_i32_282 c1_i32_284 k0_t80
  let v352 : Index := Scalar.indexCast arg12
  let c0_i32_525 : BitVec 32 := 0#32
  let c1_i32_527 : BitVec 32 := 1#32
  let arg13 : BitVec 32 := Scf.iv c0_i32_525 c1_i32_527 k0_t81
  let c16_i32 : BitVec 32 := 16#32
  let v350 : BitVec 32 := Scalar.muli arg13 c16_i32
  let v351 : BitVec 32 := v350
  let v353 : Index := Scalar.indexCast v351
  ![v352.toNat, v353.toNat]
def k0_off106 (k0_t81 : Fin k0_t81_loop.trips) : Fin 2 → Nat :=
  let c0_i32_525 : BitVec 32 := 0#32
  let c1_i32_527 : BitVec 32 := 1#32
  let arg13 : BitVec 32 := Scf.iv c0_i32_525 c1_i32_527 k0_t81
  let v356 : Index := Scalar.indexCast arg13
  let c0_533 : Index := 0#32
  ![v356.toNat, 0]
def k0_off107 (k0_t80 : Fin k0_t80_loop.trips) : Fin 2 → Nat :=
  let c0_i32_282 : BitVec 32 := 0#32
  let c1_i32_284 : BitVec 32 := 1#32
  let arg12 : BitVec 32 := Scf.iv c0_i32_282 c1_i32_284 k0_t80
  let v334 : Index := Scalar.indexCast arg12
  let c0_529 : Index := 0#32
  ![v334.toNat, 0]
def k0_mult81 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_286 : BitVec 32 := 4608#32
  let v185 : BitVec 32 := Scalar.muli v1 c4608_i32_286
  let c1024_i32_287 : BitVec 32 := 1024#32
  let v186 : BitVec 32 := Scalar.addi v185 c1024_i32_287
  v186
def k0_mult82 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_288 : BitVec 32 := 288#32
  let v188 : BitVec 32 := Scalar.muli v1 c288_i32_288
  let c64_i32_289 : BitVec 32 := 64#32
  let v189 : BitVec 32 := Scalar.addi v188 c64_i32_289
  v189
@[reducible] def k0_t82_loop : Scf.Loop 32 :=
  let c0_i32_291 : BitVec 32 := 0#32
  let c32_i32_292 : BitVec 32 := 32#32
  let v191 : BitVec 32 := Scalar.addi c0_i32_291 c32_i32_292
  let c1_i32_293 : BitVec 32 := 1#32
  ⟨c0_i32_291, v191, c1_i32_293⟩
def k0_mult83 (k0_t82 : Fin k0_t82_loop.trips) : BitVec 32 :=
  let c0_i32_291 : BitVec 32 := 0#32
  let c1_i32_293 : BitVec 32 := 1#32
  let arg12 : BitVec 32 := Scf.iv c0_i32_291 c1_i32_293 k0_t82
  let c16_i32 : BitVec 32 := 16#32
  let v332 : BitVec 32 := Scalar.muli arg12 c16_i32
  v332
@[reducible] def k0_t83_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off108 (k0_t82 : Fin k0_t82_loop.trips) (k0_t83 : Fin k0_t83_loop.trips) : Fin 2 → Nat :=
  let c0_i32_525 : BitVec 32 := 0#32
  let c1_i32_527 : BitVec 32 := 1#32
  let arg14 : BitVec 32 := Scf.iv c0_i32_525 c1_i32_527 k0_t83
  let v341 : Index := Scalar.indexCast arg14
  let c0_i32_291 : BitVec 32 := 0#32
  let c1_i32_293 : BitVec 32 := 1#32
  let arg12 : BitVec 32 := Scf.iv c0_i32_291 c1_i32_293 k0_t82
  let c16_i32 : BitVec 32 := 16#32
  let v332 : BitVec 32 := Scalar.muli arg12 c16_i32
  let v333 : BitVec 32 := v332
  let v342 : Index := Scalar.indexCast v333
  ![v341.toNat, v342.toNat]
def k0_off109 (k0_t82 : Fin k0_t82_loop.trips) : Fin 2 → Nat :=
  let c0_i32_291 : BitVec 32 := 0#32
  let c1_i32_293 : BitVec 32 := 1#32
  let arg12 : BitVec 32 := Scf.iv c0_i32_291 c1_i32_293 k0_t82
  let v336 : Index := Scalar.indexCast arg12
  let c0_529 : Index := 0#32
  ![v336.toNat, 0]
@[reducible] def k0_t84_loop : Scf.Loop 32 :=
  let c0_i32_297 : BitVec 32 := 0#32
  let c96_i32_298 : BitVec 32 := 96#32
  let v193 : BitVec 32 := Scalar.addi c0_i32_297 c96_i32_298
  let c1_i32_299 : BitVec 32 := 1#32
  ⟨c0_i32_297, v193, c1_i32_299⟩
@[reducible] def k0_t85_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult84 (k0_t85 : Fin k0_t85_loop.trips) : BitVec 32 :=
  let c0_i32_525 : BitVec 32 := 0#32
  let c1_i32_527 : BitVec 32 := 1#32
  let arg13 : BitVec 32 := Scf.iv c0_i32_525 c1_i32_527 k0_t85
  let c16_i32 : BitVec 32 := 16#32
  let v350 : BitVec 32 := Scalar.muli arg13 c16_i32
  v350
def k0_off110 (k0_t84 : Fin k0_t84_loop.trips) (k0_t85 : Fin k0_t85_loop.trips) : Fin 2 → Nat :=
  let c0_i32_297 : BitVec 32 := 0#32
  let c1_i32_299 : BitVec 32 := 1#32
  let arg12 : BitVec 32 := Scf.iv c0_i32_297 c1_i32_299 k0_t84
  let v352 : Index := Scalar.indexCast arg12
  let c0_i32_525 : BitVec 32 := 0#32
  let c1_i32_527 : BitVec 32 := 1#32
  let arg13 : BitVec 32 := Scf.iv c0_i32_525 c1_i32_527 k0_t85
  let c16_i32 : BitVec 32 := 16#32
  let v350 : BitVec 32 := Scalar.muli arg13 c16_i32
  let v351 : BitVec 32 := v350
  let v353 : Index := Scalar.indexCast v351
  ![v352.toNat, v353.toNat]
def k0_off111 (k0_t85 : Fin k0_t85_loop.trips) : Fin 2 → Nat :=
  let c0_i32_525 : BitVec 32 := 0#32
  let c1_i32_527 : BitVec 32 := 1#32
  let arg13 : BitVec 32 := Scf.iv c0_i32_525 c1_i32_527 k0_t85
  let v356 : Index := Scalar.indexCast arg13
  let c0_533 : Index := 0#32
  ![v356.toNat, 0]
def k0_off112 (k0_t84 : Fin k0_t84_loop.trips) : Fin 2 → Nat :=
  let c0_i32_297 : BitVec 32 := 0#32
  let c1_i32_299 : BitVec 32 := 1#32
  let arg12 : BitVec 32 := Scf.iv c0_i32_297 c1_i32_299 k0_t84
  let v334 : Index := Scalar.indexCast arg12
  let c0_529 : Index := 0#32
  ![v334.toNat, 0]
def k0_mult85 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_301 : BitVec 32 := 4608#32
  let v194 : BitVec 32 := Scalar.muli v1 c4608_i32_301
  let c1536_i32_302 : BitVec 32 := 1536#32
  let v195 : BitVec 32 := Scalar.addi v194 c1536_i32_302
  v195
def k0_mult86 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_303 : BitVec 32 := 288#32
  let v197 : BitVec 32 := Scalar.muli v1 c288_i32_303
  let c96_i32_304 : BitVec 32 := 96#32
  let v198 : BitVec 32 := Scalar.addi v197 c96_i32_304
  v198
@[reducible] def k0_t86_loop : Scf.Loop 32 :=
  let c0_i32_306 : BitVec 32 := 0#32
  let c32_i32_307 : BitVec 32 := 32#32
  let v200 : BitVec 32 := Scalar.addi c0_i32_306 c32_i32_307
  let c1_i32_308 : BitVec 32 := 1#32
  ⟨c0_i32_306, v200, c1_i32_308⟩
def k0_mult87 (k0_t86 : Fin k0_t86_loop.trips) : BitVec 32 :=
  let c0_i32_306 : BitVec 32 := 0#32
  let c1_i32_308 : BitVec 32 := 1#32
  let arg12 : BitVec 32 := Scf.iv c0_i32_306 c1_i32_308 k0_t86
  let c16_i32 : BitVec 32 := 16#32
  let v332 : BitVec 32 := Scalar.muli arg12 c16_i32
  v332
@[reducible] def k0_t87_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off113 (k0_t86 : Fin k0_t86_loop.trips) (k0_t87 : Fin k0_t87_loop.trips) : Fin 2 → Nat :=
  let c0_i32_525 : BitVec 32 := 0#32
  let c1_i32_527 : BitVec 32 := 1#32
  let arg14 : BitVec 32 := Scf.iv c0_i32_525 c1_i32_527 k0_t87
  let v341 : Index := Scalar.indexCast arg14
  let c0_i32_306 : BitVec 32 := 0#32
  let c1_i32_308 : BitVec 32 := 1#32
  let arg12 : BitVec 32 := Scf.iv c0_i32_306 c1_i32_308 k0_t86
  let c16_i32 : BitVec 32 := 16#32
  let v332 : BitVec 32 := Scalar.muli arg12 c16_i32
  let v333 : BitVec 32 := v332
  let v342 : Index := Scalar.indexCast v333
  ![v341.toNat, v342.toNat]
def k0_off114 (k0_t86 : Fin k0_t86_loop.trips) : Fin 2 → Nat :=
  let c0_i32_306 : BitVec 32 := 0#32
  let c1_i32_308 : BitVec 32 := 1#32
  let arg12 : BitVec 32 := Scf.iv c0_i32_306 c1_i32_308 k0_t86
  let v336 : Index := Scalar.indexCast arg12
  let c0_529 : Index := 0#32
  ![v336.toNat, 0]
@[reducible] def k0_t88_loop : Scf.Loop 32 :=
  let c0_i32_312 : BitVec 32 := 0#32
  let c96_i32_313 : BitVec 32 := 96#32
  let v202 : BitVec 32 := Scalar.addi c0_i32_312 c96_i32_313
  let c1_i32_314 : BitVec 32 := 1#32
  ⟨c0_i32_312, v202, c1_i32_314⟩
@[reducible] def k0_t89_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult88 (k0_t89 : Fin k0_t89_loop.trips) : BitVec 32 :=
  let c0_i32_525 : BitVec 32 := 0#32
  let c1_i32_527 : BitVec 32 := 1#32
  let arg13 : BitVec 32 := Scf.iv c0_i32_525 c1_i32_527 k0_t89
  let c16_i32 : BitVec 32 := 16#32
  let v350 : BitVec 32 := Scalar.muli arg13 c16_i32
  v350
def k0_off115 (k0_t88 : Fin k0_t88_loop.trips) (k0_t89 : Fin k0_t89_loop.trips) : Fin 2 → Nat :=
  let c0_i32_312 : BitVec 32 := 0#32
  let c1_i32_314 : BitVec 32 := 1#32
  let arg12 : BitVec 32 := Scf.iv c0_i32_312 c1_i32_314 k0_t88
  let v352 : Index := Scalar.indexCast arg12
  let c0_i32_525 : BitVec 32 := 0#32
  let c1_i32_527 : BitVec 32 := 1#32
  let arg13 : BitVec 32 := Scf.iv c0_i32_525 c1_i32_527 k0_t89
  let c16_i32 : BitVec 32 := 16#32
  let v350 : BitVec 32 := Scalar.muli arg13 c16_i32
  let v351 : BitVec 32 := v350
  let v353 : Index := Scalar.indexCast v351
  ![v352.toNat, v353.toNat]
def k0_off116 (k0_t89 : Fin k0_t89_loop.trips) : Fin 2 → Nat :=
  let c0_i32_525 : BitVec 32 := 0#32
  let c1_i32_527 : BitVec 32 := 1#32
  let arg13 : BitVec 32 := Scf.iv c0_i32_525 c1_i32_527 k0_t89
  let v356 : Index := Scalar.indexCast arg13
  let c0_533 : Index := 0#32
  ![v356.toNat, 0]
def k0_off117 (k0_t88 : Fin k0_t88_loop.trips) : Fin 2 → Nat :=
  let c0_i32_312 : BitVec 32 := 0#32
  let c1_i32_314 : BitVec 32 := 1#32
  let arg12 : BitVec 32 := Scf.iv c0_i32_312 c1_i32_314 k0_t88
  let v334 : Index := Scalar.indexCast arg12
  let c0_529 : Index := 0#32
  ![v334.toNat, 0]
def k0_mult89 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_316 : BitVec 32 := 4608#32
  let v203 : BitVec 32 := Scalar.muli v1 c4608_i32_316
  let c2048_i32_317 : BitVec 32 := 2048#32
  let v204 : BitVec 32 := Scalar.addi v203 c2048_i32_317
  v204
def k0_mult90 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_318 : BitVec 32 := 288#32
  let v206 : BitVec 32 := Scalar.muli v1 c288_i32_318
  let c128_i32_319 : BitVec 32 := 128#32
  let v207 : BitVec 32 := Scalar.addi v206 c128_i32_319
  v207
@[reducible] def k0_t90_loop : Scf.Loop 32 :=
  let c0_i32_321 : BitVec 32 := 0#32
  let c32_i32_322 : BitVec 32 := 32#32
  let v209 : BitVec 32 := Scalar.addi c0_i32_321 c32_i32_322
  let c1_i32_323 : BitVec 32 := 1#32
  ⟨c0_i32_321, v209, c1_i32_323⟩
def k0_mult91 (k0_t90 : Fin k0_t90_loop.trips) : BitVec 32 :=
  let c0_i32_321 : BitVec 32 := 0#32
  let c1_i32_323 : BitVec 32 := 1#32
  let arg12 : BitVec 32 := Scf.iv c0_i32_321 c1_i32_323 k0_t90
  let c16_i32 : BitVec 32 := 16#32
  let v332 : BitVec 32 := Scalar.muli arg12 c16_i32
  v332
@[reducible] def k0_t91_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off118 (k0_t90 : Fin k0_t90_loop.trips) (k0_t91 : Fin k0_t91_loop.trips) : Fin 2 → Nat :=
  let c0_i32_525 : BitVec 32 := 0#32
  let c1_i32_527 : BitVec 32 := 1#32
  let arg14 : BitVec 32 := Scf.iv c0_i32_525 c1_i32_527 k0_t91
  let v341 : Index := Scalar.indexCast arg14
  let c0_i32_321 : BitVec 32 := 0#32
  let c1_i32_323 : BitVec 32 := 1#32
  let arg12 : BitVec 32 := Scf.iv c0_i32_321 c1_i32_323 k0_t90
  let c16_i32 : BitVec 32 := 16#32
  let v332 : BitVec 32 := Scalar.muli arg12 c16_i32
  let v333 : BitVec 32 := v332
  let v342 : Index := Scalar.indexCast v333
  ![v341.toNat, v342.toNat]
def k0_off119 (k0_t90 : Fin k0_t90_loop.trips) : Fin 2 → Nat :=
  let c0_i32_321 : BitVec 32 := 0#32
  let c1_i32_323 : BitVec 32 := 1#32
  let arg12 : BitVec 32 := Scf.iv c0_i32_321 c1_i32_323 k0_t90
  let v336 : Index := Scalar.indexCast arg12
  let c0_529 : Index := 0#32
  ![v336.toNat, 0]
@[reducible] def k0_t92_loop : Scf.Loop 32 :=
  let c0_i32_327 : BitVec 32 := 0#32
  let c96_i32_328 : BitVec 32 := 96#32
  let v211 : BitVec 32 := Scalar.addi c0_i32_327 c96_i32_328
  let c1_i32_329 : BitVec 32 := 1#32
  ⟨c0_i32_327, v211, c1_i32_329⟩
@[reducible] def k0_t93_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult92 (k0_t93 : Fin k0_t93_loop.trips) : BitVec 32 :=
  let c0_i32_525 : BitVec 32 := 0#32
  let c1_i32_527 : BitVec 32 := 1#32
  let arg13 : BitVec 32 := Scf.iv c0_i32_525 c1_i32_527 k0_t93
  let c16_i32 : BitVec 32 := 16#32
  let v350 : BitVec 32 := Scalar.muli arg13 c16_i32
  v350
def k0_off120 (k0_t92 : Fin k0_t92_loop.trips) (k0_t93 : Fin k0_t93_loop.trips) : Fin 2 → Nat :=
  let c0_i32_327 : BitVec 32 := 0#32
  let c1_i32_329 : BitVec 32 := 1#32
  let arg12 : BitVec 32 := Scf.iv c0_i32_327 c1_i32_329 k0_t92
  let v352 : Index := Scalar.indexCast arg12
  let c0_i32_525 : BitVec 32 := 0#32
  let c1_i32_527 : BitVec 32 := 1#32
  let arg13 : BitVec 32 := Scf.iv c0_i32_525 c1_i32_527 k0_t93
  let c16_i32 : BitVec 32 := 16#32
  let v350 : BitVec 32 := Scalar.muli arg13 c16_i32
  let v351 : BitVec 32 := v350
  let v353 : Index := Scalar.indexCast v351
  ![v352.toNat, v353.toNat]
def k0_off121 (k0_t93 : Fin k0_t93_loop.trips) : Fin 2 → Nat :=
  let c0_i32_525 : BitVec 32 := 0#32
  let c1_i32_527 : BitVec 32 := 1#32
  let arg13 : BitVec 32 := Scf.iv c0_i32_525 c1_i32_527 k0_t93
  let v356 : Index := Scalar.indexCast arg13
  let c0_533 : Index := 0#32
  ![v356.toNat, 0]
def k0_off122 (k0_t92 : Fin k0_t92_loop.trips) : Fin 2 → Nat :=
  let c0_i32_327 : BitVec 32 := 0#32
  let c1_i32_329 : BitVec 32 := 1#32
  let arg12 : BitVec 32 := Scf.iv c0_i32_327 c1_i32_329 k0_t92
  let v334 : Index := Scalar.indexCast arg12
  let c0_529 : Index := 0#32
  ![v334.toNat, 0]
def k0_mult93 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_331 : BitVec 32 := 4608#32
  let v212 : BitVec 32 := Scalar.muli v1 c4608_i32_331
  let c2560_i32_332 : BitVec 32 := 2560#32
  let v213 : BitVec 32 := Scalar.addi v212 c2560_i32_332
  v213
def k0_mult94 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_333 : BitVec 32 := 288#32
  let v215 : BitVec 32 := Scalar.muli v1 c288_i32_333
  let c160_i32_334 : BitVec 32 := 160#32
  let v216 : BitVec 32 := Scalar.addi v215 c160_i32_334
  v216
@[reducible] def k0_t94_loop : Scf.Loop 32 :=
  let c0_i32_336 : BitVec 32 := 0#32
  let c32_i32_337 : BitVec 32 := 32#32
  let v218 : BitVec 32 := Scalar.addi c0_i32_336 c32_i32_337
  let c1_i32_338 : BitVec 32 := 1#32
  ⟨c0_i32_336, v218, c1_i32_338⟩
def k0_mult95 (k0_t94 : Fin k0_t94_loop.trips) : BitVec 32 :=
  let c0_i32_336 : BitVec 32 := 0#32
  let c1_i32_338 : BitVec 32 := 1#32
  let arg12 : BitVec 32 := Scf.iv c0_i32_336 c1_i32_338 k0_t94
  let c16_i32 : BitVec 32 := 16#32
  let v332 : BitVec 32 := Scalar.muli arg12 c16_i32
  v332
@[reducible] def k0_t95_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off123 (k0_t94 : Fin k0_t94_loop.trips) (k0_t95 : Fin k0_t95_loop.trips) : Fin 2 → Nat :=
  let c0_i32_525 : BitVec 32 := 0#32
  let c1_i32_527 : BitVec 32 := 1#32
  let arg14 : BitVec 32 := Scf.iv c0_i32_525 c1_i32_527 k0_t95
  let v341 : Index := Scalar.indexCast arg14
  let c0_i32_336 : BitVec 32 := 0#32
  let c1_i32_338 : BitVec 32 := 1#32
  let arg12 : BitVec 32 := Scf.iv c0_i32_336 c1_i32_338 k0_t94
  let c16_i32 : BitVec 32 := 16#32
  let v332 : BitVec 32 := Scalar.muli arg12 c16_i32
  let v333 : BitVec 32 := v332
  let v342 : Index := Scalar.indexCast v333
  ![v341.toNat, v342.toNat]
def k0_off124 (k0_t94 : Fin k0_t94_loop.trips) : Fin 2 → Nat :=
  let c0_i32_336 : BitVec 32 := 0#32
  let c1_i32_338 : BitVec 32 := 1#32
  let arg12 : BitVec 32 := Scf.iv c0_i32_336 c1_i32_338 k0_t94
  let v336 : Index := Scalar.indexCast arg12
  let c0_529 : Index := 0#32
  ![v336.toNat, 0]
@[reducible] def k0_t96_loop : Scf.Loop 32 :=
  let c0_i32_342 : BitVec 32 := 0#32
  let c96_i32_343 : BitVec 32 := 96#32
  let v220 : BitVec 32 := Scalar.addi c0_i32_342 c96_i32_343
  let c1_i32_344 : BitVec 32 := 1#32
  ⟨c0_i32_342, v220, c1_i32_344⟩
@[reducible] def k0_t97_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult96 (k0_t97 : Fin k0_t97_loop.trips) : BitVec 32 :=
  let c0_i32_525 : BitVec 32 := 0#32
  let c1_i32_527 : BitVec 32 := 1#32
  let arg13 : BitVec 32 := Scf.iv c0_i32_525 c1_i32_527 k0_t97
  let c16_i32 : BitVec 32 := 16#32
  let v350 : BitVec 32 := Scalar.muli arg13 c16_i32
  v350
def k0_off125 (k0_t96 : Fin k0_t96_loop.trips) (k0_t97 : Fin k0_t97_loop.trips) : Fin 2 → Nat :=
  let c0_i32_342 : BitVec 32 := 0#32
  let c1_i32_344 : BitVec 32 := 1#32
  let arg12 : BitVec 32 := Scf.iv c0_i32_342 c1_i32_344 k0_t96
  let v352 : Index := Scalar.indexCast arg12
  let c0_i32_525 : BitVec 32 := 0#32
  let c1_i32_527 : BitVec 32 := 1#32
  let arg13 : BitVec 32 := Scf.iv c0_i32_525 c1_i32_527 k0_t97
  let c16_i32 : BitVec 32 := 16#32
  let v350 : BitVec 32 := Scalar.muli arg13 c16_i32
  let v351 : BitVec 32 := v350
  let v353 : Index := Scalar.indexCast v351
  ![v352.toNat, v353.toNat]
def k0_off126 (k0_t97 : Fin k0_t97_loop.trips) : Fin 2 → Nat :=
  let c0_i32_525 : BitVec 32 := 0#32
  let c1_i32_527 : BitVec 32 := 1#32
  let arg13 : BitVec 32 := Scf.iv c0_i32_525 c1_i32_527 k0_t97
  let v356 : Index := Scalar.indexCast arg13
  let c0_533 : Index := 0#32
  ![v356.toNat, 0]
def k0_off127 (k0_t96 : Fin k0_t96_loop.trips) : Fin 2 → Nat :=
  let c0_i32_342 : BitVec 32 := 0#32
  let c1_i32_344 : BitVec 32 := 1#32
  let arg12 : BitVec 32 := Scf.iv c0_i32_342 c1_i32_344 k0_t96
  let v334 : Index := Scalar.indexCast arg12
  let c0_529 : Index := 0#32
  ![v334.toNat, 0]
def k0_mult97 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_346 : BitVec 32 := 4608#32
  let v221 : BitVec 32 := Scalar.muli v1 c4608_i32_346
  let c3072_i32_347 : BitVec 32 := 3072#32
  let v222 : BitVec 32 := Scalar.addi v221 c3072_i32_347
  v222
def k0_mult98 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_348 : BitVec 32 := 288#32
  let v224 : BitVec 32 := Scalar.muli v1 c288_i32_348
  let c192_i32_349 : BitVec 32 := 192#32
  let v225 : BitVec 32 := Scalar.addi v224 c192_i32_349
  v225
@[reducible] def k0_t98_loop : Scf.Loop 32 :=
  let c0_i32_351 : BitVec 32 := 0#32
  let c32_i32_352 : BitVec 32 := 32#32
  let v227 : BitVec 32 := Scalar.addi c0_i32_351 c32_i32_352
  let c1_i32_353 : BitVec 32 := 1#32
  ⟨c0_i32_351, v227, c1_i32_353⟩
def k0_mult99 (k0_t98 : Fin k0_t98_loop.trips) : BitVec 32 :=
  let c0_i32_351 : BitVec 32 := 0#32
  let c1_i32_353 : BitVec 32 := 1#32
  let arg12 : BitVec 32 := Scf.iv c0_i32_351 c1_i32_353 k0_t98
  let c16_i32 : BitVec 32 := 16#32
  let v332 : BitVec 32 := Scalar.muli arg12 c16_i32
  v332
@[reducible] def k0_t99_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off128 (k0_t98 : Fin k0_t98_loop.trips) (k0_t99 : Fin k0_t99_loop.trips) : Fin 2 → Nat :=
  let c0_i32_525 : BitVec 32 := 0#32
  let c1_i32_527 : BitVec 32 := 1#32
  let arg14 : BitVec 32 := Scf.iv c0_i32_525 c1_i32_527 k0_t99
  let v341 : Index := Scalar.indexCast arg14
  let c0_i32_351 : BitVec 32 := 0#32
  let c1_i32_353 : BitVec 32 := 1#32
  let arg12 : BitVec 32 := Scf.iv c0_i32_351 c1_i32_353 k0_t98
  let c16_i32 : BitVec 32 := 16#32
  let v332 : BitVec 32 := Scalar.muli arg12 c16_i32
  let v333 : BitVec 32 := v332
  let v342 : Index := Scalar.indexCast v333
  ![v341.toNat, v342.toNat]
def k0_off129 (k0_t98 : Fin k0_t98_loop.trips) : Fin 2 → Nat :=
  let c0_i32_351 : BitVec 32 := 0#32
  let c1_i32_353 : BitVec 32 := 1#32
  let arg12 : BitVec 32 := Scf.iv c0_i32_351 c1_i32_353 k0_t98
  let v336 : Index := Scalar.indexCast arg12
  let c0_529 : Index := 0#32
  ![v336.toNat, 0]
@[reducible] def k0_t100_loop : Scf.Loop 32 :=
  let c0_i32_357 : BitVec 32 := 0#32
  let c96_i32_358 : BitVec 32 := 96#32
  let v229 : BitVec 32 := Scalar.addi c0_i32_357 c96_i32_358
  let c1_i32_359 : BitVec 32 := 1#32
  ⟨c0_i32_357, v229, c1_i32_359⟩
@[reducible] def k0_t101_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult100 (k0_t101 : Fin k0_t101_loop.trips) : BitVec 32 :=
  let c0_i32_525 : BitVec 32 := 0#32
  let c1_i32_527 : BitVec 32 := 1#32
  let arg13 : BitVec 32 := Scf.iv c0_i32_525 c1_i32_527 k0_t101
  let c16_i32 : BitVec 32 := 16#32
  let v350 : BitVec 32 := Scalar.muli arg13 c16_i32
  v350
def k0_off130 (k0_t100 : Fin k0_t100_loop.trips) (k0_t101 : Fin k0_t101_loop.trips) : Fin 2 → Nat :=
  let c0_i32_357 : BitVec 32 := 0#32
  let c1_i32_359 : BitVec 32 := 1#32
  let arg12 : BitVec 32 := Scf.iv c0_i32_357 c1_i32_359 k0_t100
  let v352 : Index := Scalar.indexCast arg12
  let c0_i32_525 : BitVec 32 := 0#32
  let c1_i32_527 : BitVec 32 := 1#32
  let arg13 : BitVec 32 := Scf.iv c0_i32_525 c1_i32_527 k0_t101
  let c16_i32 : BitVec 32 := 16#32
  let v350 : BitVec 32 := Scalar.muli arg13 c16_i32
  let v351 : BitVec 32 := v350
  let v353 : Index := Scalar.indexCast v351
  ![v352.toNat, v353.toNat]
def k0_off131 (k0_t101 : Fin k0_t101_loop.trips) : Fin 2 → Nat :=
  let c0_i32_525 : BitVec 32 := 0#32
  let c1_i32_527 : BitVec 32 := 1#32
  let arg13 : BitVec 32 := Scf.iv c0_i32_525 c1_i32_527 k0_t101
  let v356 : Index := Scalar.indexCast arg13
  let c0_533 : Index := 0#32
  ![v356.toNat, 0]
def k0_off132 (k0_t100 : Fin k0_t100_loop.trips) : Fin 2 → Nat :=
  let c0_i32_357 : BitVec 32 := 0#32
  let c1_i32_359 : BitVec 32 := 1#32
  let arg12 : BitVec 32 := Scf.iv c0_i32_357 c1_i32_359 k0_t100
  let v334 : Index := Scalar.indexCast arg12
  let c0_529 : Index := 0#32
  ![v334.toNat, 0]
def k0_mult101 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_361 : BitVec 32 := 4608#32
  let v230 : BitVec 32 := Scalar.muli v1 c4608_i32_361
  let c3584_i32_362 : BitVec 32 := 3584#32
  let v231 : BitVec 32 := Scalar.addi v230 c3584_i32_362
  v231
def k0_mult102 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_363 : BitVec 32 := 288#32
  let v233 : BitVec 32 := Scalar.muli v1 c288_i32_363
  let c224_i32_364 : BitVec 32 := 224#32
  let v234 : BitVec 32 := Scalar.addi v233 c224_i32_364
  v234
@[reducible] def k0_t102_loop : Scf.Loop 32 :=
  let c0_i32_366 : BitVec 32 := 0#32
  let c32_i32_367 : BitVec 32 := 32#32
  let v236 : BitVec 32 := Scalar.addi c0_i32_366 c32_i32_367
  let c1_i32_368 : BitVec 32 := 1#32
  ⟨c0_i32_366, v236, c1_i32_368⟩
def k0_mult103 (k0_t102 : Fin k0_t102_loop.trips) : BitVec 32 :=
  let c0_i32_366 : BitVec 32 := 0#32
  let c1_i32_368 : BitVec 32 := 1#32
  let arg12 : BitVec 32 := Scf.iv c0_i32_366 c1_i32_368 k0_t102
  let c16_i32 : BitVec 32 := 16#32
  let v332 : BitVec 32 := Scalar.muli arg12 c16_i32
  v332
@[reducible] def k0_t103_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off133 (k0_t102 : Fin k0_t102_loop.trips) (k0_t103 : Fin k0_t103_loop.trips) : Fin 2 → Nat :=
  let c0_i32_525 : BitVec 32 := 0#32
  let c1_i32_527 : BitVec 32 := 1#32
  let arg14 : BitVec 32 := Scf.iv c0_i32_525 c1_i32_527 k0_t103
  let v341 : Index := Scalar.indexCast arg14
  let c0_i32_366 : BitVec 32 := 0#32
  let c1_i32_368 : BitVec 32 := 1#32
  let arg12 : BitVec 32 := Scf.iv c0_i32_366 c1_i32_368 k0_t102
  let c16_i32 : BitVec 32 := 16#32
  let v332 : BitVec 32 := Scalar.muli arg12 c16_i32
  let v333 : BitVec 32 := v332
  let v342 : Index := Scalar.indexCast v333
  ![v341.toNat, v342.toNat]
def k0_off134 (k0_t102 : Fin k0_t102_loop.trips) : Fin 2 → Nat :=
  let c0_i32_366 : BitVec 32 := 0#32
  let c1_i32_368 : BitVec 32 := 1#32
  let arg12 : BitVec 32 := Scf.iv c0_i32_366 c1_i32_368 k0_t102
  let v336 : Index := Scalar.indexCast arg12
  let c0_529 : Index := 0#32
  ![v336.toNat, 0]
@[reducible] def k0_t104_loop : Scf.Loop 32 :=
  let c0_i32_372 : BitVec 32 := 0#32
  let c96_i32_373 : BitVec 32 := 96#32
  let v238 : BitVec 32 := Scalar.addi c0_i32_372 c96_i32_373
  let c1_i32_374 : BitVec 32 := 1#32
  ⟨c0_i32_372, v238, c1_i32_374⟩
@[reducible] def k0_t105_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult104 (k0_t105 : Fin k0_t105_loop.trips) : BitVec 32 :=
  let c0_i32_525 : BitVec 32 := 0#32
  let c1_i32_527 : BitVec 32 := 1#32
  let arg13 : BitVec 32 := Scf.iv c0_i32_525 c1_i32_527 k0_t105
  let c16_i32 : BitVec 32 := 16#32
  let v350 : BitVec 32 := Scalar.muli arg13 c16_i32
  v350
def k0_off135 (k0_t104 : Fin k0_t104_loop.trips) (k0_t105 : Fin k0_t105_loop.trips) : Fin 2 → Nat :=
  let c0_i32_372 : BitVec 32 := 0#32
  let c1_i32_374 : BitVec 32 := 1#32
  let arg12 : BitVec 32 := Scf.iv c0_i32_372 c1_i32_374 k0_t104
  let v352 : Index := Scalar.indexCast arg12
  let c0_i32_525 : BitVec 32 := 0#32
  let c1_i32_527 : BitVec 32 := 1#32
  let arg13 : BitVec 32 := Scf.iv c0_i32_525 c1_i32_527 k0_t105
  let c16_i32 : BitVec 32 := 16#32
  let v350 : BitVec 32 := Scalar.muli arg13 c16_i32
  let v351 : BitVec 32 := v350
  let v353 : Index := Scalar.indexCast v351
  ![v352.toNat, v353.toNat]
def k0_off136 (k0_t105 : Fin k0_t105_loop.trips) : Fin 2 → Nat :=
  let c0_i32_525 : BitVec 32 := 0#32
  let c1_i32_527 : BitVec 32 := 1#32
  let arg13 : BitVec 32 := Scf.iv c0_i32_525 c1_i32_527 k0_t105
  let v356 : Index := Scalar.indexCast arg13
  let c0_533 : Index := 0#32
  ![v356.toNat, 0]
def k0_off137 (k0_t104 : Fin k0_t104_loop.trips) : Fin 2 → Nat :=
  let c0_i32_372 : BitVec 32 := 0#32
  let c1_i32_374 : BitVec 32 := 1#32
  let arg12 : BitVec 32 := Scf.iv c0_i32_372 c1_i32_374 k0_t104
  let v334 : Index := Scalar.indexCast arg12
  let c0_529 : Index := 0#32
  ![v334.toNat, 0]
def k0_mult105 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_376 : BitVec 32 := 4608#32
  let v239 : BitVec 32 := Scalar.muli v1 c4608_i32_376
  let c4096_i32_377 : BitVec 32 := 4096#32
  let v240 : BitVec 32 := Scalar.addi v239 c4096_i32_377
  v240
def k0_mult106 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_378 : BitVec 32 := 288#32
  let v242 : BitVec 32 := Scalar.muli v1 c288_i32_378
  let c256_i32_379 : BitVec 32 := 256#32
  let v243 : BitVec 32 := Scalar.addi v242 c256_i32_379
  v243
@[reducible] def k0_t106_loop : Scf.Loop 32 :=
  let c0_i32_381 : BitVec 32 := 0#32
  let c32_i32_382 : BitVec 32 := 32#32
  let v245 : BitVec 32 := Scalar.addi c0_i32_381 c32_i32_382
  let c1_i32_383 : BitVec 32 := 1#32
  ⟨c0_i32_381, v245, c1_i32_383⟩
def k0_mult107 (k0_t106 : Fin k0_t106_loop.trips) : BitVec 32 :=
  let c0_i32_381 : BitVec 32 := 0#32
  let c1_i32_383 : BitVec 32 := 1#32
  let arg12 : BitVec 32 := Scf.iv c0_i32_381 c1_i32_383 k0_t106
  let c16_i32 : BitVec 32 := 16#32
  let v332 : BitVec 32 := Scalar.muli arg12 c16_i32
  v332
@[reducible] def k0_t107_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off138 (k0_t106 : Fin k0_t106_loop.trips) (k0_t107 : Fin k0_t107_loop.trips) : Fin 2 → Nat :=
  let c0_i32_525 : BitVec 32 := 0#32
  let c1_i32_527 : BitVec 32 := 1#32
  let arg14 : BitVec 32 := Scf.iv c0_i32_525 c1_i32_527 k0_t107
  let v341 : Index := Scalar.indexCast arg14
  let c0_i32_381 : BitVec 32 := 0#32
  let c1_i32_383 : BitVec 32 := 1#32
  let arg12 : BitVec 32 := Scf.iv c0_i32_381 c1_i32_383 k0_t106
  let c16_i32 : BitVec 32 := 16#32
  let v332 : BitVec 32 := Scalar.muli arg12 c16_i32
  let v333 : BitVec 32 := v332
  let v342 : Index := Scalar.indexCast v333
  ![v341.toNat, v342.toNat]
def k0_off139 (k0_t106 : Fin k0_t106_loop.trips) : Fin 2 → Nat :=
  let c0_i32_381 : BitVec 32 := 0#32
  let c1_i32_383 : BitVec 32 := 1#32
  let arg12 : BitVec 32 := Scf.iv c0_i32_381 c1_i32_383 k0_t106
  let v336 : Index := Scalar.indexCast arg12
  let c0_529 : Index := 0#32
  ![v336.toNat, 0]
@[reducible] def k0_t108_loop : Scf.Loop 32 :=
  let c0_i32_387 : BitVec 32 := 0#32
  let c96_i32_388 : BitVec 32 := 96#32
  let v247 : BitVec 32 := Scalar.addi c0_i32_387 c96_i32_388
  let c1_i32_389 : BitVec 32 := 1#32
  ⟨c0_i32_387, v247, c1_i32_389⟩
@[reducible] def k0_t109_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult108 (k0_t109 : Fin k0_t109_loop.trips) : BitVec 32 :=
  let c0_i32_525 : BitVec 32 := 0#32
  let c1_i32_527 : BitVec 32 := 1#32
  let arg13 : BitVec 32 := Scf.iv c0_i32_525 c1_i32_527 k0_t109
  let c16_i32 : BitVec 32 := 16#32
  let v350 : BitVec 32 := Scalar.muli arg13 c16_i32
  v350
def k0_off140 (k0_t108 : Fin k0_t108_loop.trips) (k0_t109 : Fin k0_t109_loop.trips) : Fin 2 → Nat :=
  let c0_i32_387 : BitVec 32 := 0#32
  let c1_i32_389 : BitVec 32 := 1#32
  let arg12 : BitVec 32 := Scf.iv c0_i32_387 c1_i32_389 k0_t108
  let v352 : Index := Scalar.indexCast arg12
  let c0_i32_525 : BitVec 32 := 0#32
  let c1_i32_527 : BitVec 32 := 1#32
  let arg13 : BitVec 32 := Scf.iv c0_i32_525 c1_i32_527 k0_t109
  let c16_i32 : BitVec 32 := 16#32
  let v350 : BitVec 32 := Scalar.muli arg13 c16_i32
  let v351 : BitVec 32 := v350
  let v353 : Index := Scalar.indexCast v351
  ![v352.toNat, v353.toNat]
def k0_off141 (k0_t109 : Fin k0_t109_loop.trips) : Fin 2 → Nat :=
  let c0_i32_525 : BitVec 32 := 0#32
  let c1_i32_527 : BitVec 32 := 1#32
  let arg13 : BitVec 32 := Scf.iv c0_i32_525 c1_i32_527 k0_t109
  let v356 : Index := Scalar.indexCast arg13
  let c0_533 : Index := 0#32
  ![v356.toNat, 0]
def k0_off142 (k0_t108 : Fin k0_t108_loop.trips) : Fin 2 → Nat :=
  let c0_i32_387 : BitVec 32 := 0#32
  let c1_i32_389 : BitVec 32 := 1#32
  let arg12 : BitVec 32 := Scf.iv c0_i32_387 c1_i32_389 k0_t108
  let v334 : Index := Scalar.indexCast arg12
  let c0_529 : Index := 0#32
  ![v334.toNat, 0]
def k0_mult109 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_391 : BitVec 32 := 4608#32
  let v248 : BitVec 32 := Scalar.muli v1 c4608_i32_391
  let c0_i32_392 : BitVec 32 := 0#32
  let v249 : BitVec 32 := Scalar.addi v248 c0_i32_392
  v249
def k0_mult110 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_393 : BitVec 32 := 288#32
  let v251 : BitVec 32 := Scalar.muli v1 c288_i32_393
  let c0_i32_394 : BitVec 32 := 0#32
  let v252 : BitVec 32 := Scalar.addi v251 c0_i32_394
  v252
def k0_off143 (i : grid0.Coords) (c0_i32_392 : BitVec 32) : Fin 3 → Nat :=
  let c3_i32 : BitVec 32 := 3#32
  let c0_i32_525_r54 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_391 : BitVec 32 := 4608#32
  let v248 : BitVec 32 := Scalar.muli v1 c4608_i32_391
  let v249 : BitVec 32 := Scalar.addi v248 c0_i32_392
  let v250 : BitVec 32 := v249
  ![3, 0, v250.toNat]
@[reducible] def k0_t110_loop : Scf.Loop 32 :=
  let c0_i32_395 : BitVec 32 := 0#32
  let c32_i32_396 : BitVec 32 := 32#32
  let v254 : BitVec 32 := Scalar.addi c0_i32_395 c32_i32_396
  let c1_i32_397 : BitVec 32 := 1#32
  ⟨c0_i32_395, v254, c1_i32_397⟩
def k0_mult111 (k0_t110 : Fin k0_t110_loop.trips) : BitVec 32 :=
  let c0_i32_395 : BitVec 32 := 0#32
  let c1_i32_397 : BitVec 32 := 1#32
  let arg12 : BitVec 32 := Scf.iv c0_i32_395 c1_i32_397 k0_t110
  let c16_i32 : BitVec 32 := 16#32
  let v332 : BitVec 32 := Scalar.muli arg12 c16_i32
  v332
@[reducible] def k0_t111_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off144 (k0_t110 : Fin k0_t110_loop.trips) (k0_t111 : Fin k0_t111_loop.trips) : Fin 2 → Nat :=
  let c0_i32_525 : BitVec 32 := 0#32
  let c1_i32_527 : BitVec 32 := 1#32
  let arg14 : BitVec 32 := Scf.iv c0_i32_525 c1_i32_527 k0_t111
  let v341 : Index := Scalar.indexCast arg14
  let c0_i32_395 : BitVec 32 := 0#32
  let c1_i32_397 : BitVec 32 := 1#32
  let arg12 : BitVec 32 := Scf.iv c0_i32_395 c1_i32_397 k0_t110
  let c16_i32 : BitVec 32 := 16#32
  let v332 : BitVec 32 := Scalar.muli arg12 c16_i32
  let v333 : BitVec 32 := v332
  let v342 : Index := Scalar.indexCast v333
  ![v341.toNat, v342.toNat]
def k0_off145 (k0_t110 : Fin k0_t110_loop.trips) : Fin 2 → Nat :=
  let c0_i32_395 : BitVec 32 := 0#32
  let c1_i32_397 : BitVec 32 := 1#32
  let arg12 : BitVec 32 := Scf.iv c0_i32_395 c1_i32_397 k0_t110
  let v336 : Index := Scalar.indexCast arg12
  let c0_529 : Index := 0#32
  ![v336.toNat, 0]
def k0_off146 (i : grid0.Coords) (c0_i32_394 : BitVec 32) : Fin 3 → Nat :=
  let c3_i32_399 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_393 : BitVec 32 := 288#32
  let v251 : BitVec 32 := Scalar.muli v1 c288_i32_393
  let v252 : BitVec 32 := Scalar.addi v251 c0_i32_394
  let v253 : BitVec 32 := v252
  let c0_i32_525_r55 : BitVec 32 := 0#32
  ![3, v253.toNat, 0]
@[reducible] def k0_t112_loop : Scf.Loop 32 :=
  let c0_i32_401 : BitVec 32 := 0#32
  let c96_i32_402 : BitVec 32 := 96#32
  let v256 : BitVec 32 := Scalar.addi c0_i32_401 c96_i32_402
  let c1_i32_403 : BitVec 32 := 1#32
  ⟨c0_i32_401, v256, c1_i32_403⟩
@[reducible] def k0_t113_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult112 (k0_t113 : Fin k0_t113_loop.trips) : BitVec 32 :=
  let c0_i32_525 : BitVec 32 := 0#32
  let c1_i32_527 : BitVec 32 := 1#32
  let arg13 : BitVec 32 := Scf.iv c0_i32_525 c1_i32_527 k0_t113
  let c16_i32 : BitVec 32 := 16#32
  let v350 : BitVec 32 := Scalar.muli arg13 c16_i32
  v350
def k0_off147 (k0_t112 : Fin k0_t112_loop.trips) (k0_t113 : Fin k0_t113_loop.trips) : Fin 2 → Nat :=
  let c0_i32_401 : BitVec 32 := 0#32
  let c1_i32_403 : BitVec 32 := 1#32
  let arg12 : BitVec 32 := Scf.iv c0_i32_401 c1_i32_403 k0_t112
  let v352 : Index := Scalar.indexCast arg12
  let c0_i32_525 : BitVec 32 := 0#32
  let c1_i32_527 : BitVec 32 := 1#32
  let arg13 : BitVec 32 := Scf.iv c0_i32_525 c1_i32_527 k0_t113
  let c16_i32 : BitVec 32 := 16#32
  let v350 : BitVec 32 := Scalar.muli arg13 c16_i32
  let v351 : BitVec 32 := v350
  let v353 : Index := Scalar.indexCast v351
  ![v352.toNat, v353.toNat]
def k0_off148 (k0_t113 : Fin k0_t113_loop.trips) : Fin 2 → Nat :=
  let c0_i32_525 : BitVec 32 := 0#32
  let c1_i32_527 : BitVec 32 := 1#32
  let arg13 : BitVec 32 := Scf.iv c0_i32_525 c1_i32_527 k0_t113
  let v356 : Index := Scalar.indexCast arg13
  let c0_533 : Index := 0#32
  ![v356.toNat, 0]
def k0_off149 (k0_t112 : Fin k0_t112_loop.trips) : Fin 2 → Nat :=
  let c0_i32_401 : BitVec 32 := 0#32
  let c1_i32_403 : BitVec 32 := 1#32
  let arg12 : BitVec 32 := Scf.iv c0_i32_401 c1_i32_403 k0_t112
  let v334 : Index := Scalar.indexCast arg12
  let c0_529 : Index := 0#32
  ![v334.toNat, 0]
def k0_mult113 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_405 : BitVec 32 := 4608#32
  let v257 : BitVec 32 := Scalar.muli v1 c4608_i32_405
  let c512_i32_406 : BitVec 32 := 512#32
  let v258 : BitVec 32 := Scalar.addi v257 c512_i32_406
  v258
def k0_mult114 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_407 : BitVec 32 := 288#32
  let v260 : BitVec 32 := Scalar.muli v1 c288_i32_407
  let c32_i32_408 : BitVec 32 := 32#32
  let v261 : BitVec 32 := Scalar.addi v260 c32_i32_408
  v261
@[reducible] def k0_t114_loop : Scf.Loop 32 :=
  let c0_i32_410 : BitVec 32 := 0#32
  let c32_i32_411 : BitVec 32 := 32#32
  let v263 : BitVec 32 := Scalar.addi c0_i32_410 c32_i32_411
  let c1_i32_412 : BitVec 32 := 1#32
  ⟨c0_i32_410, v263, c1_i32_412⟩
def k0_mult115 (k0_t114 : Fin k0_t114_loop.trips) : BitVec 32 :=
  let c0_i32_410 : BitVec 32 := 0#32
  let c1_i32_412 : BitVec 32 := 1#32
  let arg12 : BitVec 32 := Scf.iv c0_i32_410 c1_i32_412 k0_t114
  let c16_i32 : BitVec 32 := 16#32
  let v332 : BitVec 32 := Scalar.muli arg12 c16_i32
  v332
@[reducible] def k0_t115_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off150 (k0_t114 : Fin k0_t114_loop.trips) (k0_t115 : Fin k0_t115_loop.trips) : Fin 2 → Nat :=
  let c0_i32_525 : BitVec 32 := 0#32
  let c1_i32_527 : BitVec 32 := 1#32
  let arg14 : BitVec 32 := Scf.iv c0_i32_525 c1_i32_527 k0_t115
  let v341 : Index := Scalar.indexCast arg14
  let c0_i32_410 : BitVec 32 := 0#32
  let c1_i32_412 : BitVec 32 := 1#32
  let arg12 : BitVec 32 := Scf.iv c0_i32_410 c1_i32_412 k0_t114
  let c16_i32 : BitVec 32 := 16#32
  let v332 : BitVec 32 := Scalar.muli arg12 c16_i32
  let v333 : BitVec 32 := v332
  let v342 : Index := Scalar.indexCast v333
  ![v341.toNat, v342.toNat]
def k0_off151 (k0_t114 : Fin k0_t114_loop.trips) : Fin 2 → Nat :=
  let c0_i32_410 : BitVec 32 := 0#32
  let c1_i32_412 : BitVec 32 := 1#32
  let arg12 : BitVec 32 := Scf.iv c0_i32_410 c1_i32_412 k0_t114
  let v336 : Index := Scalar.indexCast arg12
  let c0_529 : Index := 0#32
  ![v336.toNat, 0]
@[reducible] def k0_t116_loop : Scf.Loop 32 :=
  let c0_i32_416 : BitVec 32 := 0#32
  let c96_i32_417 : BitVec 32 := 96#32
  let v265 : BitVec 32 := Scalar.addi c0_i32_416 c96_i32_417
  let c1_i32_418 : BitVec 32 := 1#32
  ⟨c0_i32_416, v265, c1_i32_418⟩
@[reducible] def k0_t117_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult116 (k0_t117 : Fin k0_t117_loop.trips) : BitVec 32 :=
  let c0_i32_525 : BitVec 32 := 0#32
  let c1_i32_527 : BitVec 32 := 1#32
  let arg13 : BitVec 32 := Scf.iv c0_i32_525 c1_i32_527 k0_t117
  let c16_i32 : BitVec 32 := 16#32
  let v350 : BitVec 32 := Scalar.muli arg13 c16_i32
  v350
def k0_off152 (k0_t116 : Fin k0_t116_loop.trips) (k0_t117 : Fin k0_t117_loop.trips) : Fin 2 → Nat :=
  let c0_i32_416 : BitVec 32 := 0#32
  let c1_i32_418 : BitVec 32 := 1#32
  let arg12 : BitVec 32 := Scf.iv c0_i32_416 c1_i32_418 k0_t116
  let v352 : Index := Scalar.indexCast arg12
  let c0_i32_525 : BitVec 32 := 0#32
  let c1_i32_527 : BitVec 32 := 1#32
  let arg13 : BitVec 32 := Scf.iv c0_i32_525 c1_i32_527 k0_t117
  let c16_i32 : BitVec 32 := 16#32
  let v350 : BitVec 32 := Scalar.muli arg13 c16_i32
  let v351 : BitVec 32 := v350
  let v353 : Index := Scalar.indexCast v351
  ![v352.toNat, v353.toNat]
def k0_off153 (k0_t117 : Fin k0_t117_loop.trips) : Fin 2 → Nat :=
  let c0_i32_525 : BitVec 32 := 0#32
  let c1_i32_527 : BitVec 32 := 1#32
  let arg13 : BitVec 32 := Scf.iv c0_i32_525 c1_i32_527 k0_t117
  let v356 : Index := Scalar.indexCast arg13
  let c0_533 : Index := 0#32
  ![v356.toNat, 0]
def k0_off154 (k0_t116 : Fin k0_t116_loop.trips) : Fin 2 → Nat :=
  let c0_i32_416 : BitVec 32 := 0#32
  let c1_i32_418 : BitVec 32 := 1#32
  let arg12 : BitVec 32 := Scf.iv c0_i32_416 c1_i32_418 k0_t116
  let v334 : Index := Scalar.indexCast arg12
  let c0_529 : Index := 0#32
  ![v334.toNat, 0]
def k0_mult117 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_420 : BitVec 32 := 4608#32
  let v266 : BitVec 32 := Scalar.muli v1 c4608_i32_420
  let c1024_i32_421 : BitVec 32 := 1024#32
  let v267 : BitVec 32 := Scalar.addi v266 c1024_i32_421
  v267
def k0_mult118 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_422 : BitVec 32 := 288#32
  let v269 : BitVec 32 := Scalar.muli v1 c288_i32_422
  let c64_i32_423 : BitVec 32 := 64#32
  let v270 : BitVec 32 := Scalar.addi v269 c64_i32_423
  v270
@[reducible] def k0_t118_loop : Scf.Loop 32 :=
  let c0_i32_425 : BitVec 32 := 0#32
  let c32_i32_426 : BitVec 32 := 32#32
  let v272 : BitVec 32 := Scalar.addi c0_i32_425 c32_i32_426
  let c1_i32_427 : BitVec 32 := 1#32
  ⟨c0_i32_425, v272, c1_i32_427⟩
def k0_mult119 (k0_t118 : Fin k0_t118_loop.trips) : BitVec 32 :=
  let c0_i32_425 : BitVec 32 := 0#32
  let c1_i32_427 : BitVec 32 := 1#32
  let arg12 : BitVec 32 := Scf.iv c0_i32_425 c1_i32_427 k0_t118
  let c16_i32 : BitVec 32 := 16#32
  let v332 : BitVec 32 := Scalar.muli arg12 c16_i32
  v332
@[reducible] def k0_t119_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off155 (k0_t118 : Fin k0_t118_loop.trips) (k0_t119 : Fin k0_t119_loop.trips) : Fin 2 → Nat :=
  let c0_i32_525 : BitVec 32 := 0#32
  let c1_i32_527 : BitVec 32 := 1#32
  let arg14 : BitVec 32 := Scf.iv c0_i32_525 c1_i32_527 k0_t119
  let v341 : Index := Scalar.indexCast arg14
  let c0_i32_425 : BitVec 32 := 0#32
  let c1_i32_427 : BitVec 32 := 1#32
  let arg12 : BitVec 32 := Scf.iv c0_i32_425 c1_i32_427 k0_t118
  let c16_i32 : BitVec 32 := 16#32
  let v332 : BitVec 32 := Scalar.muli arg12 c16_i32
  let v333 : BitVec 32 := v332
  let v342 : Index := Scalar.indexCast v333
  ![v341.toNat, v342.toNat]
def k0_off156 (k0_t118 : Fin k0_t118_loop.trips) : Fin 2 → Nat :=
  let c0_i32_425 : BitVec 32 := 0#32
  let c1_i32_427 : BitVec 32 := 1#32
  let arg12 : BitVec 32 := Scf.iv c0_i32_425 c1_i32_427 k0_t118
  let v336 : Index := Scalar.indexCast arg12
  let c0_529 : Index := 0#32
  ![v336.toNat, 0]
@[reducible] def k0_t120_loop : Scf.Loop 32 :=
  let c0_i32_431 : BitVec 32 := 0#32
  let c96_i32_432 : BitVec 32 := 96#32
  let v274 : BitVec 32 := Scalar.addi c0_i32_431 c96_i32_432
  let c1_i32_433 : BitVec 32 := 1#32
  ⟨c0_i32_431, v274, c1_i32_433⟩
@[reducible] def k0_t121_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult120 (k0_t121 : Fin k0_t121_loop.trips) : BitVec 32 :=
  let c0_i32_525 : BitVec 32 := 0#32
  let c1_i32_527 : BitVec 32 := 1#32
  let arg13 : BitVec 32 := Scf.iv c0_i32_525 c1_i32_527 k0_t121
  let c16_i32 : BitVec 32 := 16#32
  let v350 : BitVec 32 := Scalar.muli arg13 c16_i32
  v350
def k0_off157 (k0_t120 : Fin k0_t120_loop.trips) (k0_t121 : Fin k0_t121_loop.trips) : Fin 2 → Nat :=
  let c0_i32_431 : BitVec 32 := 0#32
  let c1_i32_433 : BitVec 32 := 1#32
  let arg12 : BitVec 32 := Scf.iv c0_i32_431 c1_i32_433 k0_t120
  let v352 : Index := Scalar.indexCast arg12
  let c0_i32_525 : BitVec 32 := 0#32
  let c1_i32_527 : BitVec 32 := 1#32
  let arg13 : BitVec 32 := Scf.iv c0_i32_525 c1_i32_527 k0_t121
  let c16_i32 : BitVec 32 := 16#32
  let v350 : BitVec 32 := Scalar.muli arg13 c16_i32
  let v351 : BitVec 32 := v350
  let v353 : Index := Scalar.indexCast v351
  ![v352.toNat, v353.toNat]
def k0_off158 (k0_t121 : Fin k0_t121_loop.trips) : Fin 2 → Nat :=
  let c0_i32_525 : BitVec 32 := 0#32
  let c1_i32_527 : BitVec 32 := 1#32
  let arg13 : BitVec 32 := Scf.iv c0_i32_525 c1_i32_527 k0_t121
  let v356 : Index := Scalar.indexCast arg13
  let c0_533 : Index := 0#32
  ![v356.toNat, 0]
def k0_off159 (k0_t120 : Fin k0_t120_loop.trips) : Fin 2 → Nat :=
  let c0_i32_431 : BitVec 32 := 0#32
  let c1_i32_433 : BitVec 32 := 1#32
  let arg12 : BitVec 32 := Scf.iv c0_i32_431 c1_i32_433 k0_t120
  let v334 : Index := Scalar.indexCast arg12
  let c0_529 : Index := 0#32
  ![v334.toNat, 0]
def k0_mult121 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_435 : BitVec 32 := 4608#32
  let v275 : BitVec 32 := Scalar.muli v1 c4608_i32_435
  let c1536_i32_436 : BitVec 32 := 1536#32
  let v276 : BitVec 32 := Scalar.addi v275 c1536_i32_436
  v276
def k0_mult122 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_437 : BitVec 32 := 288#32
  let v278 : BitVec 32 := Scalar.muli v1 c288_i32_437
  let c96_i32_438 : BitVec 32 := 96#32
  let v279 : BitVec 32 := Scalar.addi v278 c96_i32_438
  v279
@[reducible] def k0_t122_loop : Scf.Loop 32 :=
  let c0_i32_440 : BitVec 32 := 0#32
  let c32_i32_441 : BitVec 32 := 32#32
  let v281 : BitVec 32 := Scalar.addi c0_i32_440 c32_i32_441
  let c1_i32_442 : BitVec 32 := 1#32
  ⟨c0_i32_440, v281, c1_i32_442⟩
def k0_mult123 (k0_t122 : Fin k0_t122_loop.trips) : BitVec 32 :=
  let c0_i32_440 : BitVec 32 := 0#32
  let c1_i32_442 : BitVec 32 := 1#32
  let arg12 : BitVec 32 := Scf.iv c0_i32_440 c1_i32_442 k0_t122
  let c16_i32 : BitVec 32 := 16#32
  let v332 : BitVec 32 := Scalar.muli arg12 c16_i32
  v332
@[reducible] def k0_t123_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off160 (k0_t122 : Fin k0_t122_loop.trips) (k0_t123 : Fin k0_t123_loop.trips) : Fin 2 → Nat :=
  let c0_i32_525 : BitVec 32 := 0#32
  let c1_i32_527 : BitVec 32 := 1#32
  let arg14 : BitVec 32 := Scf.iv c0_i32_525 c1_i32_527 k0_t123
  let v341 : Index := Scalar.indexCast arg14
  let c0_i32_440 : BitVec 32 := 0#32
  let c1_i32_442 : BitVec 32 := 1#32
  let arg12 : BitVec 32 := Scf.iv c0_i32_440 c1_i32_442 k0_t122
  let c16_i32 : BitVec 32 := 16#32
  let v332 : BitVec 32 := Scalar.muli arg12 c16_i32
  let v333 : BitVec 32 := v332
  let v342 : Index := Scalar.indexCast v333
  ![v341.toNat, v342.toNat]
def k0_off161 (k0_t122 : Fin k0_t122_loop.trips) : Fin 2 → Nat :=
  let c0_i32_440 : BitVec 32 := 0#32
  let c1_i32_442 : BitVec 32 := 1#32
  let arg12 : BitVec 32 := Scf.iv c0_i32_440 c1_i32_442 k0_t122
  let v336 : Index := Scalar.indexCast arg12
  let c0_529 : Index := 0#32
  ![v336.toNat, 0]
@[reducible] def k0_t124_loop : Scf.Loop 32 :=
  let c0_i32_446 : BitVec 32 := 0#32
  let c96_i32_447 : BitVec 32 := 96#32
  let v283 : BitVec 32 := Scalar.addi c0_i32_446 c96_i32_447
  let c1_i32_448 : BitVec 32 := 1#32
  ⟨c0_i32_446, v283, c1_i32_448⟩
@[reducible] def k0_t125_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult124 (k0_t125 : Fin k0_t125_loop.trips) : BitVec 32 :=
  let c0_i32_525 : BitVec 32 := 0#32
  let c1_i32_527 : BitVec 32 := 1#32
  let arg13 : BitVec 32 := Scf.iv c0_i32_525 c1_i32_527 k0_t125
  let c16_i32 : BitVec 32 := 16#32
  let v350 : BitVec 32 := Scalar.muli arg13 c16_i32
  v350
def k0_off162 (k0_t124 : Fin k0_t124_loop.trips) (k0_t125 : Fin k0_t125_loop.trips) : Fin 2 → Nat :=
  let c0_i32_446 : BitVec 32 := 0#32
  let c1_i32_448 : BitVec 32 := 1#32
  let arg12 : BitVec 32 := Scf.iv c0_i32_446 c1_i32_448 k0_t124
  let v352 : Index := Scalar.indexCast arg12
  let c0_i32_525 : BitVec 32 := 0#32
  let c1_i32_527 : BitVec 32 := 1#32
  let arg13 : BitVec 32 := Scf.iv c0_i32_525 c1_i32_527 k0_t125
  let c16_i32 : BitVec 32 := 16#32
  let v350 : BitVec 32 := Scalar.muli arg13 c16_i32
  let v351 : BitVec 32 := v350
  let v353 : Index := Scalar.indexCast v351
  ![v352.toNat, v353.toNat]
def k0_off163 (k0_t125 : Fin k0_t125_loop.trips) : Fin 2 → Nat :=
  let c0_i32_525 : BitVec 32 := 0#32
  let c1_i32_527 : BitVec 32 := 1#32
  let arg13 : BitVec 32 := Scf.iv c0_i32_525 c1_i32_527 k0_t125
  let v356 : Index := Scalar.indexCast arg13
  let c0_533 : Index := 0#32
  ![v356.toNat, 0]
def k0_off164 (k0_t124 : Fin k0_t124_loop.trips) : Fin 2 → Nat :=
  let c0_i32_446 : BitVec 32 := 0#32
  let c1_i32_448 : BitVec 32 := 1#32
  let arg12 : BitVec 32 := Scf.iv c0_i32_446 c1_i32_448 k0_t124
  let v334 : Index := Scalar.indexCast arg12
  let c0_529 : Index := 0#32
  ![v334.toNat, 0]
def k0_mult125 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_450 : BitVec 32 := 4608#32
  let v284 : BitVec 32 := Scalar.muli v1 c4608_i32_450
  let c2048_i32_451 : BitVec 32 := 2048#32
  let v285 : BitVec 32 := Scalar.addi v284 c2048_i32_451
  v285
def k0_mult126 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_452 : BitVec 32 := 288#32
  let v287 : BitVec 32 := Scalar.muli v1 c288_i32_452
  let c128_i32_453 : BitVec 32 := 128#32
  let v288 : BitVec 32 := Scalar.addi v287 c128_i32_453
  v288
@[reducible] def k0_t126_loop : Scf.Loop 32 :=
  let c0_i32_455 : BitVec 32 := 0#32
  let c32_i32_456 : BitVec 32 := 32#32
  let v290 : BitVec 32 := Scalar.addi c0_i32_455 c32_i32_456
  let c1_i32_457 : BitVec 32 := 1#32
  ⟨c0_i32_455, v290, c1_i32_457⟩
def k0_mult127 (k0_t126 : Fin k0_t126_loop.trips) : BitVec 32 :=
  let c0_i32_455 : BitVec 32 := 0#32
  let c1_i32_457 : BitVec 32 := 1#32
  let arg12 : BitVec 32 := Scf.iv c0_i32_455 c1_i32_457 k0_t126
  let c16_i32 : BitVec 32 := 16#32
  let v332 : BitVec 32 := Scalar.muli arg12 c16_i32
  v332
@[reducible] def k0_t127_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off165 (k0_t126 : Fin k0_t126_loop.trips) (k0_t127 : Fin k0_t127_loop.trips) : Fin 2 → Nat :=
  let c0_i32_525 : BitVec 32 := 0#32
  let c1_i32_527 : BitVec 32 := 1#32
  let arg14 : BitVec 32 := Scf.iv c0_i32_525 c1_i32_527 k0_t127
  let v341 : Index := Scalar.indexCast arg14
  let c0_i32_455 : BitVec 32 := 0#32
  let c1_i32_457 : BitVec 32 := 1#32
  let arg12 : BitVec 32 := Scf.iv c0_i32_455 c1_i32_457 k0_t126
  let c16_i32 : BitVec 32 := 16#32
  let v332 : BitVec 32 := Scalar.muli arg12 c16_i32
  let v333 : BitVec 32 := v332
  let v342 : Index := Scalar.indexCast v333
  ![v341.toNat, v342.toNat]
def k0_off166 (k0_t126 : Fin k0_t126_loop.trips) : Fin 2 → Nat :=
  let c0_i32_455 : BitVec 32 := 0#32
  let c1_i32_457 : BitVec 32 := 1#32
  let arg12 : BitVec 32 := Scf.iv c0_i32_455 c1_i32_457 k0_t126
  let v336 : Index := Scalar.indexCast arg12
  let c0_529 : Index := 0#32
  ![v336.toNat, 0]
@[reducible] def k0_t128_loop : Scf.Loop 32 :=
  let c0_i32_461 : BitVec 32 := 0#32
  let c96_i32_462 : BitVec 32 := 96#32
  let v292 : BitVec 32 := Scalar.addi c0_i32_461 c96_i32_462
  let c1_i32_463 : BitVec 32 := 1#32
  ⟨c0_i32_461, v292, c1_i32_463⟩
@[reducible] def k0_t129_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult128 (k0_t129 : Fin k0_t129_loop.trips) : BitVec 32 :=
  let c0_i32_525 : BitVec 32 := 0#32
  let c1_i32_527 : BitVec 32 := 1#32
  let arg13 : BitVec 32 := Scf.iv c0_i32_525 c1_i32_527 k0_t129
  let c16_i32 : BitVec 32 := 16#32
  let v350 : BitVec 32 := Scalar.muli arg13 c16_i32
  v350
def k0_off167 (k0_t128 : Fin k0_t128_loop.trips) (k0_t129 : Fin k0_t129_loop.trips) : Fin 2 → Nat :=
  let c0_i32_461 : BitVec 32 := 0#32
  let c1_i32_463 : BitVec 32 := 1#32
  let arg12 : BitVec 32 := Scf.iv c0_i32_461 c1_i32_463 k0_t128
  let v352 : Index := Scalar.indexCast arg12
  let c0_i32_525 : BitVec 32 := 0#32
  let c1_i32_527 : BitVec 32 := 1#32
  let arg13 : BitVec 32 := Scf.iv c0_i32_525 c1_i32_527 k0_t129
  let c16_i32 : BitVec 32 := 16#32
  let v350 : BitVec 32 := Scalar.muli arg13 c16_i32
  let v351 : BitVec 32 := v350
  let v353 : Index := Scalar.indexCast v351
  ![v352.toNat, v353.toNat]
def k0_off168 (k0_t129 : Fin k0_t129_loop.trips) : Fin 2 → Nat :=
  let c0_i32_525 : BitVec 32 := 0#32
  let c1_i32_527 : BitVec 32 := 1#32
  let arg13 : BitVec 32 := Scf.iv c0_i32_525 c1_i32_527 k0_t129
  let v356 : Index := Scalar.indexCast arg13
  let c0_533 : Index := 0#32
  ![v356.toNat, 0]
def k0_off169 (k0_t128 : Fin k0_t128_loop.trips) : Fin 2 → Nat :=
  let c0_i32_461 : BitVec 32 := 0#32
  let c1_i32_463 : BitVec 32 := 1#32
  let arg12 : BitVec 32 := Scf.iv c0_i32_461 c1_i32_463 k0_t128
  let v334 : Index := Scalar.indexCast arg12
  let c0_529 : Index := 0#32
  ![v334.toNat, 0]
def k0_mult129 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_465 : BitVec 32 := 4608#32
  let v293 : BitVec 32 := Scalar.muli v1 c4608_i32_465
  let c2560_i32_466 : BitVec 32 := 2560#32
  let v294 : BitVec 32 := Scalar.addi v293 c2560_i32_466
  v294
def k0_mult130 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_467 : BitVec 32 := 288#32
  let v296 : BitVec 32 := Scalar.muli v1 c288_i32_467
  let c160_i32_468 : BitVec 32 := 160#32
  let v297 : BitVec 32 := Scalar.addi v296 c160_i32_468
  v297
@[reducible] def k0_t130_loop : Scf.Loop 32 :=
  let c0_i32_470 : BitVec 32 := 0#32
  let c32_i32_471 : BitVec 32 := 32#32
  let v299 : BitVec 32 := Scalar.addi c0_i32_470 c32_i32_471
  let c1_i32_472 : BitVec 32 := 1#32
  ⟨c0_i32_470, v299, c1_i32_472⟩
def k0_mult131 (k0_t130 : Fin k0_t130_loop.trips) : BitVec 32 :=
  let c0_i32_470 : BitVec 32 := 0#32
  let c1_i32_472 : BitVec 32 := 1#32
  let arg12 : BitVec 32 := Scf.iv c0_i32_470 c1_i32_472 k0_t130
  let c16_i32 : BitVec 32 := 16#32
  let v332 : BitVec 32 := Scalar.muli arg12 c16_i32
  v332
@[reducible] def k0_t131_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off170 (k0_t130 : Fin k0_t130_loop.trips) (k0_t131 : Fin k0_t131_loop.trips) : Fin 2 → Nat :=
  let c0_i32_525 : BitVec 32 := 0#32
  let c1_i32_527 : BitVec 32 := 1#32
  let arg14 : BitVec 32 := Scf.iv c0_i32_525 c1_i32_527 k0_t131
  let v341 : Index := Scalar.indexCast arg14
  let c0_i32_470 : BitVec 32 := 0#32
  let c1_i32_472 : BitVec 32 := 1#32
  let arg12 : BitVec 32 := Scf.iv c0_i32_470 c1_i32_472 k0_t130
  let c16_i32 : BitVec 32 := 16#32
  let v332 : BitVec 32 := Scalar.muli arg12 c16_i32
  let v333 : BitVec 32 := v332
  let v342 : Index := Scalar.indexCast v333
  ![v341.toNat, v342.toNat]
def k0_off171 (k0_t130 : Fin k0_t130_loop.trips) : Fin 2 → Nat :=
  let c0_i32_470 : BitVec 32 := 0#32
  let c1_i32_472 : BitVec 32 := 1#32
  let arg12 : BitVec 32 := Scf.iv c0_i32_470 c1_i32_472 k0_t130
  let v336 : Index := Scalar.indexCast arg12
  let c0_529 : Index := 0#32
  ![v336.toNat, 0]
@[reducible] def k0_t132_loop : Scf.Loop 32 :=
  let c0_i32_476 : BitVec 32 := 0#32
  let c96_i32_477 : BitVec 32 := 96#32
  let v301 : BitVec 32 := Scalar.addi c0_i32_476 c96_i32_477
  let c1_i32_478 : BitVec 32 := 1#32
  ⟨c0_i32_476, v301, c1_i32_478⟩
@[reducible] def k0_t133_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult132 (k0_t133 : Fin k0_t133_loop.trips) : BitVec 32 :=
  let c0_i32_525 : BitVec 32 := 0#32
  let c1_i32_527 : BitVec 32 := 1#32
  let arg13 : BitVec 32 := Scf.iv c0_i32_525 c1_i32_527 k0_t133
  let c16_i32 : BitVec 32 := 16#32
  let v350 : BitVec 32 := Scalar.muli arg13 c16_i32
  v350
def k0_off172 (k0_t132 : Fin k0_t132_loop.trips) (k0_t133 : Fin k0_t133_loop.trips) : Fin 2 → Nat :=
  let c0_i32_476 : BitVec 32 := 0#32
  let c1_i32_478 : BitVec 32 := 1#32
  let arg12 : BitVec 32 := Scf.iv c0_i32_476 c1_i32_478 k0_t132
  let v352 : Index := Scalar.indexCast arg12
  let c0_i32_525 : BitVec 32 := 0#32
  let c1_i32_527 : BitVec 32 := 1#32
  let arg13 : BitVec 32 := Scf.iv c0_i32_525 c1_i32_527 k0_t133
  let c16_i32 : BitVec 32 := 16#32
  let v350 : BitVec 32 := Scalar.muli arg13 c16_i32
  let v351 : BitVec 32 := v350
  let v353 : Index := Scalar.indexCast v351
  ![v352.toNat, v353.toNat]
def k0_off173 (k0_t133 : Fin k0_t133_loop.trips) : Fin 2 → Nat :=
  let c0_i32_525 : BitVec 32 := 0#32
  let c1_i32_527 : BitVec 32 := 1#32
  let arg13 : BitVec 32 := Scf.iv c0_i32_525 c1_i32_527 k0_t133
  let v356 : Index := Scalar.indexCast arg13
  let c0_533 : Index := 0#32
  ![v356.toNat, 0]
def k0_off174 (k0_t132 : Fin k0_t132_loop.trips) : Fin 2 → Nat :=
  let c0_i32_476 : BitVec 32 := 0#32
  let c1_i32_478 : BitVec 32 := 1#32
  let arg12 : BitVec 32 := Scf.iv c0_i32_476 c1_i32_478 k0_t132
  let v334 : Index := Scalar.indexCast arg12
  let c0_529 : Index := 0#32
  ![v334.toNat, 0]
def k0_mult133 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_480 : BitVec 32 := 4608#32
  let v302 : BitVec 32 := Scalar.muli v1 c4608_i32_480
  let c3072_i32_481 : BitVec 32 := 3072#32
  let v303 : BitVec 32 := Scalar.addi v302 c3072_i32_481
  v303
def k0_mult134 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_482 : BitVec 32 := 288#32
  let v305 : BitVec 32 := Scalar.muli v1 c288_i32_482
  let c192_i32_483 : BitVec 32 := 192#32
  let v306 : BitVec 32 := Scalar.addi v305 c192_i32_483
  v306
@[reducible] def k0_t134_loop : Scf.Loop 32 :=
  let c0_i32_485 : BitVec 32 := 0#32
  let c32_i32_486 : BitVec 32 := 32#32
  let v308 : BitVec 32 := Scalar.addi c0_i32_485 c32_i32_486
  let c1_i32_487 : BitVec 32 := 1#32
  ⟨c0_i32_485, v308, c1_i32_487⟩
def k0_mult135 (k0_t134 : Fin k0_t134_loop.trips) : BitVec 32 :=
  let c0_i32_485 : BitVec 32 := 0#32
  let c1_i32_487 : BitVec 32 := 1#32
  let arg12 : BitVec 32 := Scf.iv c0_i32_485 c1_i32_487 k0_t134
  let c16_i32 : BitVec 32 := 16#32
  let v332 : BitVec 32 := Scalar.muli arg12 c16_i32
  v332
@[reducible] def k0_t135_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off175 (k0_t134 : Fin k0_t134_loop.trips) (k0_t135 : Fin k0_t135_loop.trips) : Fin 2 → Nat :=
  let c0_i32_525 : BitVec 32 := 0#32
  let c1_i32_527 : BitVec 32 := 1#32
  let arg14 : BitVec 32 := Scf.iv c0_i32_525 c1_i32_527 k0_t135
  let v341 : Index := Scalar.indexCast arg14
  let c0_i32_485 : BitVec 32 := 0#32
  let c1_i32_487 : BitVec 32 := 1#32
  let arg12 : BitVec 32 := Scf.iv c0_i32_485 c1_i32_487 k0_t134
  let c16_i32 : BitVec 32 := 16#32
  let v332 : BitVec 32 := Scalar.muli arg12 c16_i32
  let v333 : BitVec 32 := v332
  let v342 : Index := Scalar.indexCast v333
  ![v341.toNat, v342.toNat]
def k0_off176 (k0_t134 : Fin k0_t134_loop.trips) : Fin 2 → Nat :=
  let c0_i32_485 : BitVec 32 := 0#32
  let c1_i32_487 : BitVec 32 := 1#32
  let arg12 : BitVec 32 := Scf.iv c0_i32_485 c1_i32_487 k0_t134
  let v336 : Index := Scalar.indexCast arg12
  let c0_529 : Index := 0#32
  ![v336.toNat, 0]
@[reducible] def k0_t136_loop : Scf.Loop 32 :=
  let c0_i32_491 : BitVec 32 := 0#32
  let c96_i32_492 : BitVec 32 := 96#32
  let v310 : BitVec 32 := Scalar.addi c0_i32_491 c96_i32_492
  let c1_i32_493 : BitVec 32 := 1#32
  ⟨c0_i32_491, v310, c1_i32_493⟩
@[reducible] def k0_t137_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult136 (k0_t137 : Fin k0_t137_loop.trips) : BitVec 32 :=
  let c0_i32_525 : BitVec 32 := 0#32
  let c1_i32_527 : BitVec 32 := 1#32
  let arg13 : BitVec 32 := Scf.iv c0_i32_525 c1_i32_527 k0_t137
  let c16_i32 : BitVec 32 := 16#32
  let v350 : BitVec 32 := Scalar.muli arg13 c16_i32
  v350
def k0_off177 (k0_t136 : Fin k0_t136_loop.trips) (k0_t137 : Fin k0_t137_loop.trips) : Fin 2 → Nat :=
  let c0_i32_491 : BitVec 32 := 0#32
  let c1_i32_493 : BitVec 32 := 1#32
  let arg12 : BitVec 32 := Scf.iv c0_i32_491 c1_i32_493 k0_t136
  let v352 : Index := Scalar.indexCast arg12
  let c0_i32_525 : BitVec 32 := 0#32
  let c1_i32_527 : BitVec 32 := 1#32
  let arg13 : BitVec 32 := Scf.iv c0_i32_525 c1_i32_527 k0_t137
  let c16_i32 : BitVec 32 := 16#32
  let v350 : BitVec 32 := Scalar.muli arg13 c16_i32
  let v351 : BitVec 32 := v350
  let v353 : Index := Scalar.indexCast v351
  ![v352.toNat, v353.toNat]
def k0_off178 (k0_t137 : Fin k0_t137_loop.trips) : Fin 2 → Nat :=
  let c0_i32_525 : BitVec 32 := 0#32
  let c1_i32_527 : BitVec 32 := 1#32
  let arg13 : BitVec 32 := Scf.iv c0_i32_525 c1_i32_527 k0_t137
  let v356 : Index := Scalar.indexCast arg13
  let c0_533 : Index := 0#32
  ![v356.toNat, 0]
def k0_off179 (k0_t136 : Fin k0_t136_loop.trips) : Fin 2 → Nat :=
  let c0_i32_491 : BitVec 32 := 0#32
  let c1_i32_493 : BitVec 32 := 1#32
  let arg12 : BitVec 32 := Scf.iv c0_i32_491 c1_i32_493 k0_t136
  let v334 : Index := Scalar.indexCast arg12
  let c0_529 : Index := 0#32
  ![v334.toNat, 0]
def k0_mult137 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_495 : BitVec 32 := 4608#32
  let v311 : BitVec 32 := Scalar.muli v1 c4608_i32_495
  let c3584_i32_496 : BitVec 32 := 3584#32
  let v312 : BitVec 32 := Scalar.addi v311 c3584_i32_496
  v312
def k0_mult138 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_497 : BitVec 32 := 288#32
  let v314 : BitVec 32 := Scalar.muli v1 c288_i32_497
  let c224_i32_498 : BitVec 32 := 224#32
  let v315 : BitVec 32 := Scalar.addi v314 c224_i32_498
  v315
@[reducible] def k0_t138_loop : Scf.Loop 32 :=
  let c0_i32_500 : BitVec 32 := 0#32
  let c32_i32_501 : BitVec 32 := 32#32
  let v317 : BitVec 32 := Scalar.addi c0_i32_500 c32_i32_501
  let c1_i32_502 : BitVec 32 := 1#32
  ⟨c0_i32_500, v317, c1_i32_502⟩
def k0_mult139 (k0_t138 : Fin k0_t138_loop.trips) : BitVec 32 :=
  let c0_i32_500 : BitVec 32 := 0#32
  let c1_i32_502 : BitVec 32 := 1#32
  let arg12 : BitVec 32 := Scf.iv c0_i32_500 c1_i32_502 k0_t138
  let c16_i32 : BitVec 32 := 16#32
  let v332 : BitVec 32 := Scalar.muli arg12 c16_i32
  v332
@[reducible] def k0_t139_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off180 (k0_t138 : Fin k0_t138_loop.trips) (k0_t139 : Fin k0_t139_loop.trips) : Fin 2 → Nat :=
  let c0_i32_525 : BitVec 32 := 0#32
  let c1_i32_527 : BitVec 32 := 1#32
  let arg14 : BitVec 32 := Scf.iv c0_i32_525 c1_i32_527 k0_t139
  let v341 : Index := Scalar.indexCast arg14
  let c0_i32_500 : BitVec 32 := 0#32
  let c1_i32_502 : BitVec 32 := 1#32
  let arg12 : BitVec 32 := Scf.iv c0_i32_500 c1_i32_502 k0_t138
  let c16_i32 : BitVec 32 := 16#32
  let v332 : BitVec 32 := Scalar.muli arg12 c16_i32
  let v333 : BitVec 32 := v332
  let v342 : Index := Scalar.indexCast v333
  ![v341.toNat, v342.toNat]
def k0_off181 (k0_t138 : Fin k0_t138_loop.trips) : Fin 2 → Nat :=
  let c0_i32_500 : BitVec 32 := 0#32
  let c1_i32_502 : BitVec 32 := 1#32
  let arg12 : BitVec 32 := Scf.iv c0_i32_500 c1_i32_502 k0_t138
  let v336 : Index := Scalar.indexCast arg12
  let c0_529 : Index := 0#32
  ![v336.toNat, 0]
@[reducible] def k0_t140_loop : Scf.Loop 32 :=
  let c0_i32_506 : BitVec 32 := 0#32
  let c96_i32_507 : BitVec 32 := 96#32
  let v319 : BitVec 32 := Scalar.addi c0_i32_506 c96_i32_507
  let c1_i32_508 : BitVec 32 := 1#32
  ⟨c0_i32_506, v319, c1_i32_508⟩
@[reducible] def k0_t141_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult140 (k0_t141 : Fin k0_t141_loop.trips) : BitVec 32 :=
  let c0_i32_525 : BitVec 32 := 0#32
  let c1_i32_527 : BitVec 32 := 1#32
  let arg13 : BitVec 32 := Scf.iv c0_i32_525 c1_i32_527 k0_t141
  let c16_i32 : BitVec 32 := 16#32
  let v350 : BitVec 32 := Scalar.muli arg13 c16_i32
  v350
def k0_off182 (k0_t140 : Fin k0_t140_loop.trips) (k0_t141 : Fin k0_t141_loop.trips) : Fin 2 → Nat :=
  let c0_i32_506 : BitVec 32 := 0#32
  let c1_i32_508 : BitVec 32 := 1#32
  let arg12 : BitVec 32 := Scf.iv c0_i32_506 c1_i32_508 k0_t140
  let v352 : Index := Scalar.indexCast arg12
  let c0_i32_525 : BitVec 32 := 0#32
  let c1_i32_527 : BitVec 32 := 1#32
  let arg13 : BitVec 32 := Scf.iv c0_i32_525 c1_i32_527 k0_t141
  let c16_i32 : BitVec 32 := 16#32
  let v350 : BitVec 32 := Scalar.muli arg13 c16_i32
  let v351 : BitVec 32 := v350
  let v353 : Index := Scalar.indexCast v351
  ![v352.toNat, v353.toNat]
def k0_off183 (k0_t141 : Fin k0_t141_loop.trips) : Fin 2 → Nat :=
  let c0_i32_525 : BitVec 32 := 0#32
  let c1_i32_527 : BitVec 32 := 1#32
  let arg13 : BitVec 32 := Scf.iv c0_i32_525 c1_i32_527 k0_t141
  let v356 : Index := Scalar.indexCast arg13
  let c0_533 : Index := 0#32
  ![v356.toNat, 0]
def k0_off184 (k0_t140 : Fin k0_t140_loop.trips) : Fin 2 → Nat :=
  let c0_i32_506 : BitVec 32 := 0#32
  let c1_i32_508 : BitVec 32 := 1#32
  let arg12 : BitVec 32 := Scf.iv c0_i32_506 c1_i32_508 k0_t140
  let v334 : Index := Scalar.indexCast arg12
  let c0_529 : Index := 0#32
  ![v334.toNat, 0]
def k0_mult141 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_510 : BitVec 32 := 4608#32
  let v320 : BitVec 32 := Scalar.muli v1 c4608_i32_510
  let c4096_i32_511 : BitVec 32 := 4096#32
  let v321 : BitVec 32 := Scalar.addi v320 c4096_i32_511
  v321
def k0_mult142 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_512 : BitVec 32 := 288#32
  let v323 : BitVec 32 := Scalar.muli v1 c288_i32_512
  let c256_i32_513 : BitVec 32 := 256#32
  let v324 : BitVec 32 := Scalar.addi v323 c256_i32_513
  v324
@[reducible] def k0_t142_loop : Scf.Loop 32 :=
  let c0_i32_515 : BitVec 32 := 0#32
  let c32_i32_516 : BitVec 32 := 32#32
  let v326 : BitVec 32 := Scalar.addi c0_i32_515 c32_i32_516
  let c1_i32_517 : BitVec 32 := 1#32
  ⟨c0_i32_515, v326, c1_i32_517⟩
def k0_mult143 (k0_t142 : Fin k0_t142_loop.trips) : BitVec 32 :=
  let c0_i32_515 : BitVec 32 := 0#32
  let c1_i32_517 : BitVec 32 := 1#32
  let arg12 : BitVec 32 := Scf.iv c0_i32_515 c1_i32_517 k0_t142
  let c16_i32 : BitVec 32 := 16#32
  let v332 : BitVec 32 := Scalar.muli arg12 c16_i32
  v332
@[reducible] def k0_t143_loop : Scf.Loop 32 :=
  let c0_i32_525 : BitVec 32 := 0#32
  let c96_i32_526 : BitVec 32 := 96#32
  let v334 : BitVec 32 := Scalar.addi c0_i32_525 c96_i32_526
  let c1_i32_527 : BitVec 32 := 1#32
  ⟨c0_i32_525, v334, c1_i32_527⟩
def k0_off185 (k0_t142 : Fin k0_t142_loop.trips) (k0_t143 : Fin k0_t143_loop.trips) : Fin 2 → Nat :=
  let c0_i32_525 : BitVec 32 := 0#32
  let c1_i32_527 : BitVec 32 := 1#32
  let arg14 : BitVec 32 := Scf.iv c0_i32_525 c1_i32_527 k0_t143
  let v341 : Index := Scalar.indexCast arg14
  let c0_i32_515 : BitVec 32 := 0#32
  let c1_i32_517 : BitVec 32 := 1#32
  let arg12 : BitVec 32 := Scf.iv c0_i32_515 c1_i32_517 k0_t142
  let c16_i32 : BitVec 32 := 16#32
  let v332 : BitVec 32 := Scalar.muli arg12 c16_i32
  let v333 : BitVec 32 := v332
  let v342 : Index := Scalar.indexCast v333
  ![v341.toNat, v342.toNat]
def k0_off186 (k0_t142 : Fin k0_t142_loop.trips) : Fin 2 → Nat :=
  let c0_i32_515 : BitVec 32 := 0#32
  let c1_i32_517 : BitVec 32 := 1#32
  let arg12 : BitVec 32 := Scf.iv c0_i32_515 c1_i32_517 k0_t142
  let v336 : Index := Scalar.indexCast arg12
  let c0_529 : Index := 0#32
  ![v336.toNat, 0]
@[reducible] def k0_t144_loop : Scf.Loop 32 :=
  let c0_i32_521 : BitVec 32 := 0#32
  let c96_i32_522 : BitVec 32 := 96#32
  let v328 : BitVec 32 := Scalar.addi c0_i32_521 c96_i32_522
  let c1_i32_523 : BitVec 32 := 1#32
  ⟨c0_i32_521, v328, c1_i32_523⟩
@[reducible] def k0_t145_loop : Scf.Loop 32 :=
  let c0_i32_525 : BitVec 32 := 0#32
  let c32_i32_526 : BitVec 32 := 32#32
  let v332 : BitVec 32 := Scalar.addi c0_i32_525 c32_i32_526
  let c1_i32_527 : BitVec 32 := 1#32
  ⟨c0_i32_525, v332, c1_i32_527⟩
def k0_mult144 (k0_t145 : Fin k0_t145_loop.trips) : BitVec 32 :=
  let c0_i32_525 : BitVec 32 := 0#32
  let c1_i32_527 : BitVec 32 := 1#32
  let arg13 : BitVec 32 := Scf.iv c0_i32_525 c1_i32_527 k0_t145
  let c16_i32 : BitVec 32 := 16#32
  let v350 : BitVec 32 := Scalar.muli arg13 c16_i32
  v350
def k0_off187 (k0_t144 : Fin k0_t144_loop.trips) (k0_t145 : Fin k0_t145_loop.trips) : Fin 2 → Nat :=
  let c0_i32_521 : BitVec 32 := 0#32
  let c1_i32_523 : BitVec 32 := 1#32
  let arg12 : BitVec 32 := Scf.iv c0_i32_521 c1_i32_523 k0_t144
  let v352 : Index := Scalar.indexCast arg12
  let c0_i32_525 : BitVec 32 := 0#32
  let c1_i32_527 : BitVec 32 := 1#32
  let arg13 : BitVec 32 := Scf.iv c0_i32_525 c1_i32_527 k0_t145
  let c16_i32 : BitVec 32 := 16#32
  let v350 : BitVec 32 := Scalar.muli arg13 c16_i32
  let v351 : BitVec 32 := v350
  let v353 : Index := Scalar.indexCast v351
  ![v352.toNat, v353.toNat]
def k0_off188 (k0_t145 : Fin k0_t145_loop.trips) : Fin 2 → Nat :=
  let c0_i32_525 : BitVec 32 := 0#32
  let c1_i32_527 : BitVec 32 := 1#32
  let arg13 : BitVec 32 := Scf.iv c0_i32_525 c1_i32_527 k0_t145
  let v356 : Index := Scalar.indexCast arg13
  let c0_533 : Index := 0#32
  ![v356.toNat, 0]
def k0_off189 (k0_t144 : Fin k0_t144_loop.trips) : Fin 2 → Nat :=
  let c0_i32_521 : BitVec 32 := 0#32
  let c1_i32_523 : BitVec 32 := 1#32
  let arg12 : BitVec 32 := Scf.iv c0_i32_521 c1_i32_523 k0_t144
  let v334 : Index := Scalar.indexCast arg12
  let c0_529 : Index := 0#32
  ![v334.toNat, 0]
def k0_off190 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_525_r72 : BitVec 32 := 0#32
  let c0_i32_526_r72 : BitVec 32 := 0#32
  ![v1.toNat, 0, 0]
def k0_off191 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_525_r74 : BitVec 32 := 0#32
  ![v1.toNat, 0]
abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32 : BitVec 32 := 4608#32
  let v2 : BitVec 32 := Scalar.muli v1 c4608_i32
  let c0_i32 : BitVec 32 := 0#32
  let v3 : BitVec 32 := Scalar.addi v2 c0_i32
  v3
def k1_mult2 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32 : BitVec 32 := 288#32
  let v5 : BitVec 32 := Scalar.muli v1 c288_i32
  let c0_i32_0 : BitVec 32 := 0#32
  let v6 : BitVec 32 := Scalar.addi v5 c0_i32_0
  v6
def k1_off1 (i : grid1.Coords) (c0_i32 : BitVec 32) : Fin 3 → Nat :=
  let c0_i32_1 : BitVec 32 := 0#32
  let c0_i32_411_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32 : BitVec 32 := 4608#32
  let v2 : BitVec 32 := Scalar.muli v1 c4608_i32
  let v3 : BitVec 32 := Scalar.addi v2 c0_i32
  let v4 : BitVec 32 := v3
  ![0, 0, v4.toNat]
def k1_off2 (i : grid1.Coords) (c0_i32_0 : BitVec 32) : Fin 3 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32 : BitVec 32 := 288#32
  let v5 : BitVec 32 := Scalar.muli v1 c288_i32
  let v6 : BitVec 32 := Scalar.addi v5 c0_i32_0
  let v7 : BitVec 32 := v6
  let c0_i32_411_r3 : BitVec 32 := 0#32
  ![0, v7.toNat, 0]
@[reducible] def k1_t1_loop : Scf.Loop 32 :=
  let c0_i32_4 : BitVec 32 := 0#32
  let c96_i32 : BitVec 32 := 96#32
  let v8 : BitVec 32 := Scalar.addi c0_i32_4 c96_i32
  let c1_i32 : BitVec 32 := 1#32
  ⟨c0_i32_4, v8, c1_i32⟩
def k1_off3 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let v254 : Index := Scalar.indexCast arg11
  let c0 : Index := 0#32
  ![v254.toNat, 0]
@[reducible] def k1_t2_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult3 (k1_t2 : Fin k1_t2_loop.trips) : BitVec 32 :=
  let c0_i32_413 : BitVec 32 := 0#32
  let c1_i32_415 : BitVec 32 := 1#32
  let arg12 : BitVec 32 := Scf.iv c0_i32_413 c1_i32_415 k1_t2
  let c16_i32 : BitVec 32 := 16#32
  let v261 : BitVec 32 := Scalar.muli arg12 c16_i32
  v261
def k1_off4 (k1_t1 : Fin k1_t1_loop.trips) (k1_t2 : Fin k1_t2_loop.trips) : Fin 2 → Nat :=
  let c0_i32_4 : BitVec 32 := 0#32
  let c1_i32 : BitVec 32 := 1#32
  let arg11 : BitVec 32 := Scf.iv c0_i32_4 c1_i32 k1_t1
  let v263 : Index := Scalar.indexCast arg11
  let c0_i32_413 : BitVec 32 := 0#32
  let c1_i32_415 : BitVec 32 := 1#32
  let arg12 : BitVec 32 := Scf.iv c0_i32_413 c1_i32_415 k1_t2
  let c16_i32 : BitVec 32 := 16#32
  let v261 : BitVec 32 := Scalar.muli arg12 c16_i32
  let v262 : BitVec 32 := v261
  let v264 : Index := Scalar.indexCast v262
  ![v263.toNat, v264.toNat]
def k1_off5 (k1_t2 : Fin k1_t2_loop.trips) : Fin 2 → Nat :=
  let c0_i32_413 : BitVec 32 := 0#32
  let c1_i32_415 : BitVec 32 := 1#32
  let arg12 : BitVec 32 := Scf.iv c0_i32_413 c1_i32_415 k1_t2
  let v267 : Index := Scalar.indexCast arg12
  let c0_417 : Index := 0#32
  ![v267.toNat, 0]
def k1_mult4 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_7 : BitVec 32 := 4608#32
  let v9 : BitVec 32 := Scalar.muli v1 c4608_i32_7
  let c512_i32 : BitVec 32 := 512#32
  let v10 : BitVec 32 := Scalar.addi v9 c512_i32
  v10
def k1_mult5 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_8 : BitVec 32 := 288#32
  let v12 : BitVec 32 := Scalar.muli v1 c288_i32_8
  let c32_i32 : BitVec 32 := 32#32
  let v13 : BitVec 32 := Scalar.addi v12 c32_i32
  v13
@[reducible] def k1_t3_loop : Scf.Loop 32 :=
  let c0_i32_12 : BitVec 32 := 0#32
  let c96_i32_13 : BitVec 32 := 96#32
  let v15 : BitVec 32 := Scalar.addi c0_i32_12 c96_i32_13
  let c1_i32_14 : BitVec 32 := 1#32
  ⟨c0_i32_12, v15, c1_i32_14⟩
def k1_off6 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v254 : Index := Scalar.indexCast arg11
  let c0 : Index := 0#32
  ![v254.toNat, 0]
@[reducible] def k1_t4_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult6 (k1_t4 : Fin k1_t4_loop.trips) : BitVec 32 :=
  let c0_i32_413 : BitVec 32 := 0#32
  let c1_i32_415 : BitVec 32 := 1#32
  let arg12 : BitVec 32 := Scf.iv c0_i32_413 c1_i32_415 k1_t4
  let c16_i32 : BitVec 32 := 16#32
  let v261 : BitVec 32 := Scalar.muli arg12 c16_i32
  v261
def k1_off7 (k1_t3 : Fin k1_t3_loop.trips) (k1_t4 : Fin k1_t4_loop.trips) : Fin 2 → Nat :=
  let c0_i32_12 : BitVec 32 := 0#32
  let c1_i32_14 : BitVec 32 := 1#32
  let arg11 : BitVec 32 := Scf.iv c0_i32_12 c1_i32_14 k1_t3
  let v263 : Index := Scalar.indexCast arg11
  let c0_i32_413 : BitVec 32 := 0#32
  let c1_i32_415 : BitVec 32 := 1#32
  let arg12 : BitVec 32 := Scf.iv c0_i32_413 c1_i32_415 k1_t4
  let c16_i32 : BitVec 32 := 16#32
  let v261 : BitVec 32 := Scalar.muli arg12 c16_i32
  let v262 : BitVec 32 := v261
  let v264 : Index := Scalar.indexCast v262
  ![v263.toNat, v264.toNat]
def k1_off8 (k1_t4 : Fin k1_t4_loop.trips) : Fin 2 → Nat :=
  let c0_i32_413 : BitVec 32 := 0#32
  let c1_i32_415 : BitVec 32 := 1#32
  let arg12 : BitVec 32 := Scf.iv c0_i32_413 c1_i32_415 k1_t4
  let v267 : Index := Scalar.indexCast arg12
  let c0_417 : Index := 0#32
  ![v267.toNat, 0]
def k1_mult7 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_17 : BitVec 32 := 4608#32
  let v16 : BitVec 32 := Scalar.muli v1 c4608_i32_17
  let c1024_i32 : BitVec 32 := 1024#32
  let v17 : BitVec 32 := Scalar.addi v16 c1024_i32
  v17
def k1_mult8 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_18 : BitVec 32 := 288#32
  let v19 : BitVec 32 := Scalar.muli v1 c288_i32_18
  let c64_i32 : BitVec 32 := 64#32
  let v20 : BitVec 32 := Scalar.addi v19 c64_i32
  v20
@[reducible] def k1_t5_loop : Scf.Loop 32 :=
  let c0_i32_22 : BitVec 32 := 0#32
  let c96_i32_23 : BitVec 32 := 96#32
  let v22 : BitVec 32 := Scalar.addi c0_i32_22 c96_i32_23
  let c1_i32_24 : BitVec 32 := 1#32
  ⟨c0_i32_22, v22, c1_i32_24⟩
def k1_off9 (k1_t5 : Fin k1_t5_loop.trips) : Fin 2 → Nat :=
  let c0_i32_22 : BitVec 32 := 0#32
  let c1_i32_24 : BitVec 32 := 1#32
  let arg11 : BitVec 32 := Scf.iv c0_i32_22 c1_i32_24 k1_t5
  let v254 : Index := Scalar.indexCast arg11
  let c0 : Index := 0#32
  ![v254.toNat, 0]
@[reducible] def k1_t6_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult9 (k1_t6 : Fin k1_t6_loop.trips) : BitVec 32 :=
  let c0_i32_413 : BitVec 32 := 0#32
  let c1_i32_415 : BitVec 32 := 1#32
  let arg12 : BitVec 32 := Scf.iv c0_i32_413 c1_i32_415 k1_t6
  let c16_i32 : BitVec 32 := 16#32
  let v261 : BitVec 32 := Scalar.muli arg12 c16_i32
  v261
def k1_off10 (k1_t5 : Fin k1_t5_loop.trips) (k1_t6 : Fin k1_t6_loop.trips) : Fin 2 → Nat :=
  let c0_i32_22 : BitVec 32 := 0#32
  let c1_i32_24 : BitVec 32 := 1#32
  let arg11 : BitVec 32 := Scf.iv c0_i32_22 c1_i32_24 k1_t5
  let v263 : Index := Scalar.indexCast arg11
  let c0_i32_413 : BitVec 32 := 0#32
  let c1_i32_415 : BitVec 32 := 1#32
  let arg12 : BitVec 32 := Scf.iv c0_i32_413 c1_i32_415 k1_t6
  let c16_i32 : BitVec 32 := 16#32
  let v261 : BitVec 32 := Scalar.muli arg12 c16_i32
  let v262 : BitVec 32 := v261
  let v264 : Index := Scalar.indexCast v262
  ![v263.toNat, v264.toNat]
def k1_off11 (k1_t6 : Fin k1_t6_loop.trips) : Fin 2 → Nat :=
  let c0_i32_413 : BitVec 32 := 0#32
  let c1_i32_415 : BitVec 32 := 1#32
  let arg12 : BitVec 32 := Scf.iv c0_i32_413 c1_i32_415 k1_t6
  let v267 : Index := Scalar.indexCast arg12
  let c0_417 : Index := 0#32
  ![v267.toNat, 0]
def k1_mult10 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_27 : BitVec 32 := 4608#32
  let v23 : BitVec 32 := Scalar.muli v1 c4608_i32_27
  let c1536_i32 : BitVec 32 := 1536#32
  let v24 : BitVec 32 := Scalar.addi v23 c1536_i32
  v24
def k1_mult11 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_28 : BitVec 32 := 288#32
  let v26 : BitVec 32 := Scalar.muli v1 c288_i32_28
  let c96_i32_29 : BitVec 32 := 96#32
  let v27 : BitVec 32 := Scalar.addi v26 c96_i32_29
  v27
@[reducible] def k1_t7_loop : Scf.Loop 32 :=
  let c0_i32_33 : BitVec 32 := 0#32
  let c96_i32_34 : BitVec 32 := 96#32
  let v29 : BitVec 32 := Scalar.addi c0_i32_33 c96_i32_34
  let c1_i32_35 : BitVec 32 := 1#32
  ⟨c0_i32_33, v29, c1_i32_35⟩
def k1_off12 (k1_t7 : Fin k1_t7_loop.trips) : Fin 2 → Nat :=
  let c0_i32_33 : BitVec 32 := 0#32
  let c1_i32_35 : BitVec 32 := 1#32
  let arg11 : BitVec 32 := Scf.iv c0_i32_33 c1_i32_35 k1_t7
  let v254 : Index := Scalar.indexCast arg11
  let c0 : Index := 0#32
  ![v254.toNat, 0]
@[reducible] def k1_t8_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult12 (k1_t8 : Fin k1_t8_loop.trips) : BitVec 32 :=
  let c0_i32_413 : BitVec 32 := 0#32
  let c1_i32_415 : BitVec 32 := 1#32
  let arg12 : BitVec 32 := Scf.iv c0_i32_413 c1_i32_415 k1_t8
  let c16_i32 : BitVec 32 := 16#32
  let v261 : BitVec 32 := Scalar.muli arg12 c16_i32
  v261
def k1_off13 (k1_t7 : Fin k1_t7_loop.trips) (k1_t8 : Fin k1_t8_loop.trips) : Fin 2 → Nat :=
  let c0_i32_33 : BitVec 32 := 0#32
  let c1_i32_35 : BitVec 32 := 1#32
  let arg11 : BitVec 32 := Scf.iv c0_i32_33 c1_i32_35 k1_t7
  let v263 : Index := Scalar.indexCast arg11
  let c0_i32_413 : BitVec 32 := 0#32
  let c1_i32_415 : BitVec 32 := 1#32
  let arg12 : BitVec 32 := Scf.iv c0_i32_413 c1_i32_415 k1_t8
  let c16_i32 : BitVec 32 := 16#32
  let v261 : BitVec 32 := Scalar.muli arg12 c16_i32
  let v262 : BitVec 32 := v261
  let v264 : Index := Scalar.indexCast v262
  ![v263.toNat, v264.toNat]
def k1_off14 (k1_t8 : Fin k1_t8_loop.trips) : Fin 2 → Nat :=
  let c0_i32_413 : BitVec 32 := 0#32
  let c1_i32_415 : BitVec 32 := 1#32
  let arg12 : BitVec 32 := Scf.iv c0_i32_413 c1_i32_415 k1_t8
  let v267 : Index := Scalar.indexCast arg12
  let c0_417 : Index := 0#32
  ![v267.toNat, 0]
def k1_mult13 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_38 : BitVec 32 := 4608#32
  let v30 : BitVec 32 := Scalar.muli v1 c4608_i32_38
  let c2048_i32 : BitVec 32 := 2048#32
  let v31 : BitVec 32 := Scalar.addi v30 c2048_i32
  v31
def k1_mult14 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_39 : BitVec 32 := 288#32
  let v33 : BitVec 32 := Scalar.muli v1 c288_i32_39
  let c128_i32 : BitVec 32 := 128#32
  let v34 : BitVec 32 := Scalar.addi v33 c128_i32
  v34
@[reducible] def k1_t9_loop : Scf.Loop 32 :=
  let c0_i32_43 : BitVec 32 := 0#32
  let c96_i32_44 : BitVec 32 := 96#32
  let v36 : BitVec 32 := Scalar.addi c0_i32_43 c96_i32_44
  let c1_i32_45 : BitVec 32 := 1#32
  ⟨c0_i32_43, v36, c1_i32_45⟩
def k1_off15 (k1_t9 : Fin k1_t9_loop.trips) : Fin 2 → Nat :=
  let c0_i32_43 : BitVec 32 := 0#32
  let c1_i32_45 : BitVec 32 := 1#32
  let arg11 : BitVec 32 := Scf.iv c0_i32_43 c1_i32_45 k1_t9
  let v254 : Index := Scalar.indexCast arg11
  let c0 : Index := 0#32
  ![v254.toNat, 0]
@[reducible] def k1_t10_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult15 (k1_t10 : Fin k1_t10_loop.trips) : BitVec 32 :=
  let c0_i32_413 : BitVec 32 := 0#32
  let c1_i32_415 : BitVec 32 := 1#32
  let arg12 : BitVec 32 := Scf.iv c0_i32_413 c1_i32_415 k1_t10
  let c16_i32 : BitVec 32 := 16#32
  let v261 : BitVec 32 := Scalar.muli arg12 c16_i32
  v261
def k1_off16 (k1_t9 : Fin k1_t9_loop.trips) (k1_t10 : Fin k1_t10_loop.trips) : Fin 2 → Nat :=
  let c0_i32_43 : BitVec 32 := 0#32
  let c1_i32_45 : BitVec 32 := 1#32
  let arg11 : BitVec 32 := Scf.iv c0_i32_43 c1_i32_45 k1_t9
  let v263 : Index := Scalar.indexCast arg11
  let c0_i32_413 : BitVec 32 := 0#32
  let c1_i32_415 : BitVec 32 := 1#32
  let arg12 : BitVec 32 := Scf.iv c0_i32_413 c1_i32_415 k1_t10
  let c16_i32 : BitVec 32 := 16#32
  let v261 : BitVec 32 := Scalar.muli arg12 c16_i32
  let v262 : BitVec 32 := v261
  let v264 : Index := Scalar.indexCast v262
  ![v263.toNat, v264.toNat]
def k1_off17 (k1_t10 : Fin k1_t10_loop.trips) : Fin 2 → Nat :=
  let c0_i32_413 : BitVec 32 := 0#32
  let c1_i32_415 : BitVec 32 := 1#32
  let arg12 : BitVec 32 := Scf.iv c0_i32_413 c1_i32_415 k1_t10
  let v267 : Index := Scalar.indexCast arg12
  let c0_417 : Index := 0#32
  ![v267.toNat, 0]
def k1_mult16 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_48 : BitVec 32 := 4608#32
  let v37 : BitVec 32 := Scalar.muli v1 c4608_i32_48
  let c2560_i32 : BitVec 32 := 2560#32
  let v38 : BitVec 32 := Scalar.addi v37 c2560_i32
  v38
def k1_mult17 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_49 : BitVec 32 := 288#32
  let v40 : BitVec 32 := Scalar.muli v1 c288_i32_49
  let c160_i32 : BitVec 32 := 160#32
  let v41 : BitVec 32 := Scalar.addi v40 c160_i32
  v41
@[reducible] def k1_t11_loop : Scf.Loop 32 :=
  let c0_i32_53 : BitVec 32 := 0#32
  let c96_i32_54 : BitVec 32 := 96#32
  let v43 : BitVec 32 := Scalar.addi c0_i32_53 c96_i32_54
  let c1_i32_55 : BitVec 32 := 1#32
  ⟨c0_i32_53, v43, c1_i32_55⟩
def k1_off18 (k1_t11 : Fin k1_t11_loop.trips) : Fin 2 → Nat :=
  let c0_i32_53 : BitVec 32 := 0#32
  let c1_i32_55 : BitVec 32 := 1#32
  let arg11 : BitVec 32 := Scf.iv c0_i32_53 c1_i32_55 k1_t11
  let v254 : Index := Scalar.indexCast arg11
  let c0 : Index := 0#32
  ![v254.toNat, 0]
@[reducible] def k1_t12_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult18 (k1_t12 : Fin k1_t12_loop.trips) : BitVec 32 :=
  let c0_i32_413 : BitVec 32 := 0#32
  let c1_i32_415 : BitVec 32 := 1#32
  let arg12 : BitVec 32 := Scf.iv c0_i32_413 c1_i32_415 k1_t12
  let c16_i32 : BitVec 32 := 16#32
  let v261 : BitVec 32 := Scalar.muli arg12 c16_i32
  v261
def k1_off19 (k1_t11 : Fin k1_t11_loop.trips) (k1_t12 : Fin k1_t12_loop.trips) : Fin 2 → Nat :=
  let c0_i32_53 : BitVec 32 := 0#32
  let c1_i32_55 : BitVec 32 := 1#32
  let arg11 : BitVec 32 := Scf.iv c0_i32_53 c1_i32_55 k1_t11
  let v263 : Index := Scalar.indexCast arg11
  let c0_i32_413 : BitVec 32 := 0#32
  let c1_i32_415 : BitVec 32 := 1#32
  let arg12 : BitVec 32 := Scf.iv c0_i32_413 c1_i32_415 k1_t12
  let c16_i32 : BitVec 32 := 16#32
  let v261 : BitVec 32 := Scalar.muli arg12 c16_i32
  let v262 : BitVec 32 := v261
  let v264 : Index := Scalar.indexCast v262
  ![v263.toNat, v264.toNat]
def k1_off20 (k1_t12 : Fin k1_t12_loop.trips) : Fin 2 → Nat :=
  let c0_i32_413 : BitVec 32 := 0#32
  let c1_i32_415 : BitVec 32 := 1#32
  let arg12 : BitVec 32 := Scf.iv c0_i32_413 c1_i32_415 k1_t12
  let v267 : Index := Scalar.indexCast arg12
  let c0_417 : Index := 0#32
  ![v267.toNat, 0]
def k1_mult19 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_58 : BitVec 32 := 4608#32
  let v44 : BitVec 32 := Scalar.muli v1 c4608_i32_58
  let c3072_i32 : BitVec 32 := 3072#32
  let v45 : BitVec 32 := Scalar.addi v44 c3072_i32
  v45
def k1_mult20 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_59 : BitVec 32 := 288#32
  let v47 : BitVec 32 := Scalar.muli v1 c288_i32_59
  let c192_i32 : BitVec 32 := 192#32
  let v48 : BitVec 32 := Scalar.addi v47 c192_i32
  v48
@[reducible] def k1_t13_loop : Scf.Loop 32 :=
  let c0_i32_63 : BitVec 32 := 0#32
  let c96_i32_64 : BitVec 32 := 96#32
  let v50 : BitVec 32 := Scalar.addi c0_i32_63 c96_i32_64
  let c1_i32_65 : BitVec 32 := 1#32
  ⟨c0_i32_63, v50, c1_i32_65⟩
def k1_off21 (k1_t13 : Fin k1_t13_loop.trips) : Fin 2 → Nat :=
  let c0_i32_63 : BitVec 32 := 0#32
  let c1_i32_65 : BitVec 32 := 1#32
  let arg11 : BitVec 32 := Scf.iv c0_i32_63 c1_i32_65 k1_t13
  let v254 : Index := Scalar.indexCast arg11
  let c0 : Index := 0#32
  ![v254.toNat, 0]
@[reducible] def k1_t14_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult21 (k1_t14 : Fin k1_t14_loop.trips) : BitVec 32 :=
  let c0_i32_413 : BitVec 32 := 0#32
  let c1_i32_415 : BitVec 32 := 1#32
  let arg12 : BitVec 32 := Scf.iv c0_i32_413 c1_i32_415 k1_t14
  let c16_i32 : BitVec 32 := 16#32
  let v261 : BitVec 32 := Scalar.muli arg12 c16_i32
  v261
def k1_off22 (k1_t13 : Fin k1_t13_loop.trips) (k1_t14 : Fin k1_t14_loop.trips) : Fin 2 → Nat :=
  let c0_i32_63 : BitVec 32 := 0#32
  let c1_i32_65 : BitVec 32 := 1#32
  let arg11 : BitVec 32 := Scf.iv c0_i32_63 c1_i32_65 k1_t13
  let v263 : Index := Scalar.indexCast arg11
  let c0_i32_413 : BitVec 32 := 0#32
  let c1_i32_415 : BitVec 32 := 1#32
  let arg12 : BitVec 32 := Scf.iv c0_i32_413 c1_i32_415 k1_t14
  let c16_i32 : BitVec 32 := 16#32
  let v261 : BitVec 32 := Scalar.muli arg12 c16_i32
  let v262 : BitVec 32 := v261
  let v264 : Index := Scalar.indexCast v262
  ![v263.toNat, v264.toNat]
def k1_off23 (k1_t14 : Fin k1_t14_loop.trips) : Fin 2 → Nat :=
  let c0_i32_413 : BitVec 32 := 0#32
  let c1_i32_415 : BitVec 32 := 1#32
  let arg12 : BitVec 32 := Scf.iv c0_i32_413 c1_i32_415 k1_t14
  let v267 : Index := Scalar.indexCast arg12
  let c0_417 : Index := 0#32
  ![v267.toNat, 0]
def k1_mult22 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_68 : BitVec 32 := 4608#32
  let v51 : BitVec 32 := Scalar.muli v1 c4608_i32_68
  let c3584_i32 : BitVec 32 := 3584#32
  let v52 : BitVec 32 := Scalar.addi v51 c3584_i32
  v52
def k1_mult23 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_69 : BitVec 32 := 288#32
  let v54 : BitVec 32 := Scalar.muli v1 c288_i32_69
  let c224_i32 : BitVec 32 := 224#32
  let v55 : BitVec 32 := Scalar.addi v54 c224_i32
  v55
@[reducible] def k1_t15_loop : Scf.Loop 32 :=
  let c0_i32_73 : BitVec 32 := 0#32
  let c96_i32_74 : BitVec 32 := 96#32
  let v57 : BitVec 32 := Scalar.addi c0_i32_73 c96_i32_74
  let c1_i32_75 : BitVec 32 := 1#32
  ⟨c0_i32_73, v57, c1_i32_75⟩
def k1_off24 (k1_t15 : Fin k1_t15_loop.trips) : Fin 2 → Nat :=
  let c0_i32_73 : BitVec 32 := 0#32
  let c1_i32_75 : BitVec 32 := 1#32
  let arg11 : BitVec 32 := Scf.iv c0_i32_73 c1_i32_75 k1_t15
  let v254 : Index := Scalar.indexCast arg11
  let c0 : Index := 0#32
  ![v254.toNat, 0]
@[reducible] def k1_t16_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult24 (k1_t16 : Fin k1_t16_loop.trips) : BitVec 32 :=
  let c0_i32_413 : BitVec 32 := 0#32
  let c1_i32_415 : BitVec 32 := 1#32
  let arg12 : BitVec 32 := Scf.iv c0_i32_413 c1_i32_415 k1_t16
  let c16_i32 : BitVec 32 := 16#32
  let v261 : BitVec 32 := Scalar.muli arg12 c16_i32
  v261
def k1_off25 (k1_t15 : Fin k1_t15_loop.trips) (k1_t16 : Fin k1_t16_loop.trips) : Fin 2 → Nat :=
  let c0_i32_73 : BitVec 32 := 0#32
  let c1_i32_75 : BitVec 32 := 1#32
  let arg11 : BitVec 32 := Scf.iv c0_i32_73 c1_i32_75 k1_t15
  let v263 : Index := Scalar.indexCast arg11
  let c0_i32_413 : BitVec 32 := 0#32
  let c1_i32_415 : BitVec 32 := 1#32
  let arg12 : BitVec 32 := Scf.iv c0_i32_413 c1_i32_415 k1_t16
  let c16_i32 : BitVec 32 := 16#32
  let v261 : BitVec 32 := Scalar.muli arg12 c16_i32
  let v262 : BitVec 32 := v261
  let v264 : Index := Scalar.indexCast v262
  ![v263.toNat, v264.toNat]
def k1_off26 (k1_t16 : Fin k1_t16_loop.trips) : Fin 2 → Nat :=
  let c0_i32_413 : BitVec 32 := 0#32
  let c1_i32_415 : BitVec 32 := 1#32
  let arg12 : BitVec 32 := Scf.iv c0_i32_413 c1_i32_415 k1_t16
  let v267 : Index := Scalar.indexCast arg12
  let c0_417 : Index := 0#32
  ![v267.toNat, 0]
def k1_mult25 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_78 : BitVec 32 := 4608#32
  let v58 : BitVec 32 := Scalar.muli v1 c4608_i32_78
  let c4096_i32 : BitVec 32 := 4096#32
  let v59 : BitVec 32 := Scalar.addi v58 c4096_i32
  v59
def k1_mult26 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_79 : BitVec 32 := 288#32
  let v61 : BitVec 32 := Scalar.muli v1 c288_i32_79
  let c256_i32 : BitVec 32 := 256#32
  let v62 : BitVec 32 := Scalar.addi v61 c256_i32
  v62
@[reducible] def k1_t17_loop : Scf.Loop 32 :=
  let c0_i32_83 : BitVec 32 := 0#32
  let c96_i32_84 : BitVec 32 := 96#32
  let v64 : BitVec 32 := Scalar.addi c0_i32_83 c96_i32_84
  let c1_i32_85 : BitVec 32 := 1#32
  ⟨c0_i32_83, v64, c1_i32_85⟩
def k1_off27 (k1_t17 : Fin k1_t17_loop.trips) : Fin 2 → Nat :=
  let c0_i32_83 : BitVec 32 := 0#32
  let c1_i32_85 : BitVec 32 := 1#32
  let arg11 : BitVec 32 := Scf.iv c0_i32_83 c1_i32_85 k1_t17
  let v254 : Index := Scalar.indexCast arg11
  let c0 : Index := 0#32
  ![v254.toNat, 0]
@[reducible] def k1_t18_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult27 (k1_t18 : Fin k1_t18_loop.trips) : BitVec 32 :=
  let c0_i32_413 : BitVec 32 := 0#32
  let c1_i32_415 : BitVec 32 := 1#32
  let arg12 : BitVec 32 := Scf.iv c0_i32_413 c1_i32_415 k1_t18
  let c16_i32 : BitVec 32 := 16#32
  let v261 : BitVec 32 := Scalar.muli arg12 c16_i32
  v261
def k1_off28 (k1_t17 : Fin k1_t17_loop.trips) (k1_t18 : Fin k1_t18_loop.trips) : Fin 2 → Nat :=
  let c0_i32_83 : BitVec 32 := 0#32
  let c1_i32_85 : BitVec 32 := 1#32
  let arg11 : BitVec 32 := Scf.iv c0_i32_83 c1_i32_85 k1_t17
  let v263 : Index := Scalar.indexCast arg11
  let c0_i32_413 : BitVec 32 := 0#32
  let c1_i32_415 : BitVec 32 := 1#32
  let arg12 : BitVec 32 := Scf.iv c0_i32_413 c1_i32_415 k1_t18
  let c16_i32 : BitVec 32 := 16#32
  let v261 : BitVec 32 := Scalar.muli arg12 c16_i32
  let v262 : BitVec 32 := v261
  let v264 : Index := Scalar.indexCast v262
  ![v263.toNat, v264.toNat]
def k1_off29 (k1_t18 : Fin k1_t18_loop.trips) : Fin 2 → Nat :=
  let c0_i32_413 : BitVec 32 := 0#32
  let c1_i32_415 : BitVec 32 := 1#32
  let arg12 : BitVec 32 := Scf.iv c0_i32_413 c1_i32_415 k1_t18
  let v267 : Index := Scalar.indexCast arg12
  let c0_417 : Index := 0#32
  ![v267.toNat, 0]
def k1_mult28 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_88 : BitVec 32 := 4608#32
  let v65 : BitVec 32 := Scalar.muli v1 c4608_i32_88
  let c0_i32_89 : BitVec 32 := 0#32
  let v66 : BitVec 32 := Scalar.addi v65 c0_i32_89
  v66
def k1_mult29 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_90 : BitVec 32 := 288#32
  let v68 : BitVec 32 := Scalar.muli v1 c288_i32_90
  let c0_i32_91 : BitVec 32 := 0#32
  let v69 : BitVec 32 := Scalar.addi v68 c0_i32_91
  v69
def k1_off30 (i : grid1.Coords) (c0_i32_89 : BitVec 32) : Fin 3 → Nat :=
  let c1_i32_92 : BitVec 32 := 1#32
  let c0_i32_411_r29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_88 : BitVec 32 := 4608#32
  let v65 : BitVec 32 := Scalar.muli v1 c4608_i32_88
  let v66 : BitVec 32 := Scalar.addi v65 c0_i32_89
  let v67 : BitVec 32 := v66
  ![1, 0, v67.toNat]
def k1_off31 (i : grid1.Coords) (c0_i32_91 : BitVec 32) : Fin 3 → Nat :=
  let c1_i32_93 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_90 : BitVec 32 := 288#32
  let v68 : BitVec 32 := Scalar.muli v1 c288_i32_90
  let v69 : BitVec 32 := Scalar.addi v68 c0_i32_91
  let v70 : BitVec 32 := v69
  let c0_i32_411_r30 : BitVec 32 := 0#32
  ![1, v70.toNat, 0]
@[reducible] def k1_t19_loop : Scf.Loop 32 :=
  let c0_i32_95 : BitVec 32 := 0#32
  let c96_i32_96 : BitVec 32 := 96#32
  let v71 : BitVec 32 := Scalar.addi c0_i32_95 c96_i32_96
  let c1_i32_97 : BitVec 32 := 1#32
  ⟨c0_i32_95, v71, c1_i32_97⟩
def k1_off32 (k1_t19 : Fin k1_t19_loop.trips) : Fin 2 → Nat :=
  let c0_i32_95 : BitVec 32 := 0#32
  let c1_i32_97 : BitVec 32 := 1#32
  let arg11 : BitVec 32 := Scf.iv c0_i32_95 c1_i32_97 k1_t19
  let v254 : Index := Scalar.indexCast arg11
  let c0 : Index := 0#32
  ![v254.toNat, 0]
@[reducible] def k1_t20_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult30 (k1_t20 : Fin k1_t20_loop.trips) : BitVec 32 :=
  let c0_i32_413 : BitVec 32 := 0#32
  let c1_i32_415 : BitVec 32 := 1#32
  let arg12 : BitVec 32 := Scf.iv c0_i32_413 c1_i32_415 k1_t20
  let c16_i32 : BitVec 32 := 16#32
  let v261 : BitVec 32 := Scalar.muli arg12 c16_i32
  v261
def k1_off33 (k1_t19 : Fin k1_t19_loop.trips) (k1_t20 : Fin k1_t20_loop.trips) : Fin 2 → Nat :=
  let c0_i32_95 : BitVec 32 := 0#32
  let c1_i32_97 : BitVec 32 := 1#32
  let arg11 : BitVec 32 := Scf.iv c0_i32_95 c1_i32_97 k1_t19
  let v263 : Index := Scalar.indexCast arg11
  let c0_i32_413 : BitVec 32 := 0#32
  let c1_i32_415 : BitVec 32 := 1#32
  let arg12 : BitVec 32 := Scf.iv c0_i32_413 c1_i32_415 k1_t20
  let c16_i32 : BitVec 32 := 16#32
  let v261 : BitVec 32 := Scalar.muli arg12 c16_i32
  let v262 : BitVec 32 := v261
  let v264 : Index := Scalar.indexCast v262
  ![v263.toNat, v264.toNat]
def k1_off34 (k1_t20 : Fin k1_t20_loop.trips) : Fin 2 → Nat :=
  let c0_i32_413 : BitVec 32 := 0#32
  let c1_i32_415 : BitVec 32 := 1#32
  let arg12 : BitVec 32 := Scf.iv c0_i32_413 c1_i32_415 k1_t20
  let v267 : Index := Scalar.indexCast arg12
  let c0_417 : Index := 0#32
  ![v267.toNat, 0]
def k1_mult31 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_100 : BitVec 32 := 4608#32
  let v72 : BitVec 32 := Scalar.muli v1 c4608_i32_100
  let c512_i32_101 : BitVec 32 := 512#32
  let v73 : BitVec 32 := Scalar.addi v72 c512_i32_101
  v73
def k1_mult32 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_102 : BitVec 32 := 288#32
  let v75 : BitVec 32 := Scalar.muli v1 c288_i32_102
  let c32_i32_103 : BitVec 32 := 32#32
  let v76 : BitVec 32 := Scalar.addi v75 c32_i32_103
  v76
@[reducible] def k1_t21_loop : Scf.Loop 32 :=
  let c0_i32_107 : BitVec 32 := 0#32
  let c96_i32_108 : BitVec 32 := 96#32
  let v78 : BitVec 32 := Scalar.addi c0_i32_107 c96_i32_108
  let c1_i32_109 : BitVec 32 := 1#32
  ⟨c0_i32_107, v78, c1_i32_109⟩
def k1_off35 (k1_t21 : Fin k1_t21_loop.trips) : Fin 2 → Nat :=
  let c0_i32_107 : BitVec 32 := 0#32
  let c1_i32_109 : BitVec 32 := 1#32
  let arg11 : BitVec 32 := Scf.iv c0_i32_107 c1_i32_109 k1_t21
  let v254 : Index := Scalar.indexCast arg11
  let c0 : Index := 0#32
  ![v254.toNat, 0]
@[reducible] def k1_t22_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult33 (k1_t22 : Fin k1_t22_loop.trips) : BitVec 32 :=
  let c0_i32_413 : BitVec 32 := 0#32
  let c1_i32_415 : BitVec 32 := 1#32
  let arg12 : BitVec 32 := Scf.iv c0_i32_413 c1_i32_415 k1_t22
  let c16_i32 : BitVec 32 := 16#32
  let v261 : BitVec 32 := Scalar.muli arg12 c16_i32
  v261
def k1_off36 (k1_t21 : Fin k1_t21_loop.trips) (k1_t22 : Fin k1_t22_loop.trips) : Fin 2 → Nat :=
  let c0_i32_107 : BitVec 32 := 0#32
  let c1_i32_109 : BitVec 32 := 1#32
  let arg11 : BitVec 32 := Scf.iv c0_i32_107 c1_i32_109 k1_t21
  let v263 : Index := Scalar.indexCast arg11
  let c0_i32_413 : BitVec 32 := 0#32
  let c1_i32_415 : BitVec 32 := 1#32
  let arg12 : BitVec 32 := Scf.iv c0_i32_413 c1_i32_415 k1_t22
  let c16_i32 : BitVec 32 := 16#32
  let v261 : BitVec 32 := Scalar.muli arg12 c16_i32
  let v262 : BitVec 32 := v261
  let v264 : Index := Scalar.indexCast v262
  ![v263.toNat, v264.toNat]
def k1_off37 (k1_t22 : Fin k1_t22_loop.trips) : Fin 2 → Nat :=
  let c0_i32_413 : BitVec 32 := 0#32
  let c1_i32_415 : BitVec 32 := 1#32
  let arg12 : BitVec 32 := Scf.iv c0_i32_413 c1_i32_415 k1_t22
  let v267 : Index := Scalar.indexCast arg12
  let c0_417 : Index := 0#32
  ![v267.toNat, 0]
def k1_mult34 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_112 : BitVec 32 := 4608#32
  let v79 : BitVec 32 := Scalar.muli v1 c4608_i32_112
  let c1024_i32_113 : BitVec 32 := 1024#32
  let v80 : BitVec 32 := Scalar.addi v79 c1024_i32_113
  v80
def k1_mult35 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_114 : BitVec 32 := 288#32
  let v82 : BitVec 32 := Scalar.muli v1 c288_i32_114
  let c64_i32_115 : BitVec 32 := 64#32
  let v83 : BitVec 32 := Scalar.addi v82 c64_i32_115
  v83
@[reducible] def k1_t23_loop : Scf.Loop 32 :=
  let c0_i32_119 : BitVec 32 := 0#32
  let c96_i32_120 : BitVec 32 := 96#32
  let v85 : BitVec 32 := Scalar.addi c0_i32_119 c96_i32_120
  let c1_i32_121 : BitVec 32 := 1#32
  ⟨c0_i32_119, v85, c1_i32_121⟩
def k1_off38 (k1_t23 : Fin k1_t23_loop.trips) : Fin 2 → Nat :=
  let c0_i32_119 : BitVec 32 := 0#32
  let c1_i32_121 : BitVec 32 := 1#32
  let arg11 : BitVec 32 := Scf.iv c0_i32_119 c1_i32_121 k1_t23
  let v254 : Index := Scalar.indexCast arg11
  let c0 : Index := 0#32
  ![v254.toNat, 0]
@[reducible] def k1_t24_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult36 (k1_t24 : Fin k1_t24_loop.trips) : BitVec 32 :=
  let c0_i32_413 : BitVec 32 := 0#32
  let c1_i32_415 : BitVec 32 := 1#32
  let arg12 : BitVec 32 := Scf.iv c0_i32_413 c1_i32_415 k1_t24
  let c16_i32 : BitVec 32 := 16#32
  let v261 : BitVec 32 := Scalar.muli arg12 c16_i32
  v261
def k1_off39 (k1_t23 : Fin k1_t23_loop.trips) (k1_t24 : Fin k1_t24_loop.trips) : Fin 2 → Nat :=
  let c0_i32_119 : BitVec 32 := 0#32
  let c1_i32_121 : BitVec 32 := 1#32
  let arg11 : BitVec 32 := Scf.iv c0_i32_119 c1_i32_121 k1_t23
  let v263 : Index := Scalar.indexCast arg11
  let c0_i32_413 : BitVec 32 := 0#32
  let c1_i32_415 : BitVec 32 := 1#32
  let arg12 : BitVec 32 := Scf.iv c0_i32_413 c1_i32_415 k1_t24
  let c16_i32 : BitVec 32 := 16#32
  let v261 : BitVec 32 := Scalar.muli arg12 c16_i32
  let v262 : BitVec 32 := v261
  let v264 : Index := Scalar.indexCast v262
  ![v263.toNat, v264.toNat]
def k1_off40 (k1_t24 : Fin k1_t24_loop.trips) : Fin 2 → Nat :=
  let c0_i32_413 : BitVec 32 := 0#32
  let c1_i32_415 : BitVec 32 := 1#32
  let arg12 : BitVec 32 := Scf.iv c0_i32_413 c1_i32_415 k1_t24
  let v267 : Index := Scalar.indexCast arg12
  let c0_417 : Index := 0#32
  ![v267.toNat, 0]
def k1_mult37 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_124 : BitVec 32 := 4608#32
  let v86 : BitVec 32 := Scalar.muli v1 c4608_i32_124
  let c1536_i32_125 : BitVec 32 := 1536#32
  let v87 : BitVec 32 := Scalar.addi v86 c1536_i32_125
  v87
def k1_mult38 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_126 : BitVec 32 := 288#32
  let v89 : BitVec 32 := Scalar.muli v1 c288_i32_126
  let c96_i32_127 : BitVec 32 := 96#32
  let v90 : BitVec 32 := Scalar.addi v89 c96_i32_127
  v90
@[reducible] def k1_t25_loop : Scf.Loop 32 :=
  let c0_i32_131 : BitVec 32 := 0#32
  let c96_i32_132 : BitVec 32 := 96#32
  let v92 : BitVec 32 := Scalar.addi c0_i32_131 c96_i32_132
  let c1_i32_133 : BitVec 32 := 1#32
  ⟨c0_i32_131, v92, c1_i32_133⟩
def k1_off41 (k1_t25 : Fin k1_t25_loop.trips) : Fin 2 → Nat :=
  let c0_i32_131 : BitVec 32 := 0#32
  let c1_i32_133 : BitVec 32 := 1#32
  let arg11 : BitVec 32 := Scf.iv c0_i32_131 c1_i32_133 k1_t25
  let v254 : Index := Scalar.indexCast arg11
  let c0 : Index := 0#32
  ![v254.toNat, 0]
@[reducible] def k1_t26_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult39 (k1_t26 : Fin k1_t26_loop.trips) : BitVec 32 :=
  let c0_i32_413 : BitVec 32 := 0#32
  let c1_i32_415 : BitVec 32 := 1#32
  let arg12 : BitVec 32 := Scf.iv c0_i32_413 c1_i32_415 k1_t26
  let c16_i32 : BitVec 32 := 16#32
  let v261 : BitVec 32 := Scalar.muli arg12 c16_i32
  v261
def k1_off42 (k1_t25 : Fin k1_t25_loop.trips) (k1_t26 : Fin k1_t26_loop.trips) : Fin 2 → Nat :=
  let c0_i32_131 : BitVec 32 := 0#32
  let c1_i32_133 : BitVec 32 := 1#32
  let arg11 : BitVec 32 := Scf.iv c0_i32_131 c1_i32_133 k1_t25
  let v263 : Index := Scalar.indexCast arg11
  let c0_i32_413 : BitVec 32 := 0#32
  let c1_i32_415 : BitVec 32 := 1#32
  let arg12 : BitVec 32 := Scf.iv c0_i32_413 c1_i32_415 k1_t26
  let c16_i32 : BitVec 32 := 16#32
  let v261 : BitVec 32 := Scalar.muli arg12 c16_i32
  let v262 : BitVec 32 := v261
  let v264 : Index := Scalar.indexCast v262
  ![v263.toNat, v264.toNat]
def k1_off43 (k1_t26 : Fin k1_t26_loop.trips) : Fin 2 → Nat :=
  let c0_i32_413 : BitVec 32 := 0#32
  let c1_i32_415 : BitVec 32 := 1#32
  let arg12 : BitVec 32 := Scf.iv c0_i32_413 c1_i32_415 k1_t26
  let v267 : Index := Scalar.indexCast arg12
  let c0_417 : Index := 0#32
  ![v267.toNat, 0]
def k1_mult40 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_136 : BitVec 32 := 4608#32
  let v93 : BitVec 32 := Scalar.muli v1 c4608_i32_136
  let c2048_i32_137 : BitVec 32 := 2048#32
  let v94 : BitVec 32 := Scalar.addi v93 c2048_i32_137
  v94
def k1_mult41 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_138 : BitVec 32 := 288#32
  let v96 : BitVec 32 := Scalar.muli v1 c288_i32_138
  let c128_i32_139 : BitVec 32 := 128#32
  let v97 : BitVec 32 := Scalar.addi v96 c128_i32_139
  v97
@[reducible] def k1_t27_loop : Scf.Loop 32 :=
  let c0_i32_143 : BitVec 32 := 0#32
  let c96_i32_144 : BitVec 32 := 96#32
  let v99 : BitVec 32 := Scalar.addi c0_i32_143 c96_i32_144
  let c1_i32_145 : BitVec 32 := 1#32
  ⟨c0_i32_143, v99, c1_i32_145⟩
def k1_off44 (k1_t27 : Fin k1_t27_loop.trips) : Fin 2 → Nat :=
  let c0_i32_143 : BitVec 32 := 0#32
  let c1_i32_145 : BitVec 32 := 1#32
  let arg11 : BitVec 32 := Scf.iv c0_i32_143 c1_i32_145 k1_t27
  let v254 : Index := Scalar.indexCast arg11
  let c0 : Index := 0#32
  ![v254.toNat, 0]
@[reducible] def k1_t28_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult42 (k1_t28 : Fin k1_t28_loop.trips) : BitVec 32 :=
  let c0_i32_413 : BitVec 32 := 0#32
  let c1_i32_415 : BitVec 32 := 1#32
  let arg12 : BitVec 32 := Scf.iv c0_i32_413 c1_i32_415 k1_t28
  let c16_i32 : BitVec 32 := 16#32
  let v261 : BitVec 32 := Scalar.muli arg12 c16_i32
  v261
def k1_off45 (k1_t27 : Fin k1_t27_loop.trips) (k1_t28 : Fin k1_t28_loop.trips) : Fin 2 → Nat :=
  let c0_i32_143 : BitVec 32 := 0#32
  let c1_i32_145 : BitVec 32 := 1#32
  let arg11 : BitVec 32 := Scf.iv c0_i32_143 c1_i32_145 k1_t27
  let v263 : Index := Scalar.indexCast arg11
  let c0_i32_413 : BitVec 32 := 0#32
  let c1_i32_415 : BitVec 32 := 1#32
  let arg12 : BitVec 32 := Scf.iv c0_i32_413 c1_i32_415 k1_t28
  let c16_i32 : BitVec 32 := 16#32
  let v261 : BitVec 32 := Scalar.muli arg12 c16_i32
  let v262 : BitVec 32 := v261
  let v264 : Index := Scalar.indexCast v262
  ![v263.toNat, v264.toNat]
def k1_off46 (k1_t28 : Fin k1_t28_loop.trips) : Fin 2 → Nat :=
  let c0_i32_413 : BitVec 32 := 0#32
  let c1_i32_415 : BitVec 32 := 1#32
  let arg12 : BitVec 32 := Scf.iv c0_i32_413 c1_i32_415 k1_t28
  let v267 : Index := Scalar.indexCast arg12
  let c0_417 : Index := 0#32
  ![v267.toNat, 0]
def k1_mult43 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_148 : BitVec 32 := 4608#32
  let v100 : BitVec 32 := Scalar.muli v1 c4608_i32_148
  let c2560_i32_149 : BitVec 32 := 2560#32
  let v101 : BitVec 32 := Scalar.addi v100 c2560_i32_149
  v101
def k1_mult44 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_150 : BitVec 32 := 288#32
  let v103 : BitVec 32 := Scalar.muli v1 c288_i32_150
  let c160_i32_151 : BitVec 32 := 160#32
  let v104 : BitVec 32 := Scalar.addi v103 c160_i32_151
  v104
@[reducible] def k1_t29_loop : Scf.Loop 32 :=
  let c0_i32_155 : BitVec 32 := 0#32
  let c96_i32_156 : BitVec 32 := 96#32
  let v106 : BitVec 32 := Scalar.addi c0_i32_155 c96_i32_156
  let c1_i32_157 : BitVec 32 := 1#32
  ⟨c0_i32_155, v106, c1_i32_157⟩
def k1_off47 (k1_t29 : Fin k1_t29_loop.trips) : Fin 2 → Nat :=
  let c0_i32_155 : BitVec 32 := 0#32
  let c1_i32_157 : BitVec 32 := 1#32
  let arg11 : BitVec 32 := Scf.iv c0_i32_155 c1_i32_157 k1_t29
  let v254 : Index := Scalar.indexCast arg11
  let c0 : Index := 0#32
  ![v254.toNat, 0]
@[reducible] def k1_t30_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult45 (k1_t30 : Fin k1_t30_loop.trips) : BitVec 32 :=
  let c0_i32_413 : BitVec 32 := 0#32
  let c1_i32_415 : BitVec 32 := 1#32
  let arg12 : BitVec 32 := Scf.iv c0_i32_413 c1_i32_415 k1_t30
  let c16_i32 : BitVec 32 := 16#32
  let v261 : BitVec 32 := Scalar.muli arg12 c16_i32
  v261
def k1_off48 (k1_t29 : Fin k1_t29_loop.trips) (k1_t30 : Fin k1_t30_loop.trips) : Fin 2 → Nat :=
  let c0_i32_155 : BitVec 32 := 0#32
  let c1_i32_157 : BitVec 32 := 1#32
  let arg11 : BitVec 32 := Scf.iv c0_i32_155 c1_i32_157 k1_t29
  let v263 : Index := Scalar.indexCast arg11
  let c0_i32_413 : BitVec 32 := 0#32
  let c1_i32_415 : BitVec 32 := 1#32
  let arg12 : BitVec 32 := Scf.iv c0_i32_413 c1_i32_415 k1_t30
  let c16_i32 : BitVec 32 := 16#32
  let v261 : BitVec 32 := Scalar.muli arg12 c16_i32
  let v262 : BitVec 32 := v261
  let v264 : Index := Scalar.indexCast v262
  ![v263.toNat, v264.toNat]
def k1_off49 (k1_t30 : Fin k1_t30_loop.trips) : Fin 2 → Nat :=
  let c0_i32_413 : BitVec 32 := 0#32
  let c1_i32_415 : BitVec 32 := 1#32
  let arg12 : BitVec 32 := Scf.iv c0_i32_413 c1_i32_415 k1_t30
  let v267 : Index := Scalar.indexCast arg12
  let c0_417 : Index := 0#32
  ![v267.toNat, 0]
def k1_mult46 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_160 : BitVec 32 := 4608#32
  let v107 : BitVec 32 := Scalar.muli v1 c4608_i32_160
  let c3072_i32_161 : BitVec 32 := 3072#32
  let v108 : BitVec 32 := Scalar.addi v107 c3072_i32_161
  v108
def k1_mult47 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_162 : BitVec 32 := 288#32
  let v110 : BitVec 32 := Scalar.muli v1 c288_i32_162
  let c192_i32_163 : BitVec 32 := 192#32
  let v111 : BitVec 32 := Scalar.addi v110 c192_i32_163
  v111
@[reducible] def k1_t31_loop : Scf.Loop 32 :=
  let c0_i32_167 : BitVec 32 := 0#32
  let c96_i32_168 : BitVec 32 := 96#32
  let v113 : BitVec 32 := Scalar.addi c0_i32_167 c96_i32_168
  let c1_i32_169 : BitVec 32 := 1#32
  ⟨c0_i32_167, v113, c1_i32_169⟩
def k1_off50 (k1_t31 : Fin k1_t31_loop.trips) : Fin 2 → Nat :=
  let c0_i32_167 : BitVec 32 := 0#32
  let c1_i32_169 : BitVec 32 := 1#32
  let arg11 : BitVec 32 := Scf.iv c0_i32_167 c1_i32_169 k1_t31
  let v254 : Index := Scalar.indexCast arg11
  let c0 : Index := 0#32
  ![v254.toNat, 0]
@[reducible] def k1_t32_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult48 (k1_t32 : Fin k1_t32_loop.trips) : BitVec 32 :=
  let c0_i32_413 : BitVec 32 := 0#32
  let c1_i32_415 : BitVec 32 := 1#32
  let arg12 : BitVec 32 := Scf.iv c0_i32_413 c1_i32_415 k1_t32
  let c16_i32 : BitVec 32 := 16#32
  let v261 : BitVec 32 := Scalar.muli arg12 c16_i32
  v261
def k1_off51 (k1_t31 : Fin k1_t31_loop.trips) (k1_t32 : Fin k1_t32_loop.trips) : Fin 2 → Nat :=
  let c0_i32_167 : BitVec 32 := 0#32
  let c1_i32_169 : BitVec 32 := 1#32
  let arg11 : BitVec 32 := Scf.iv c0_i32_167 c1_i32_169 k1_t31
  let v263 : Index := Scalar.indexCast arg11
  let c0_i32_413 : BitVec 32 := 0#32
  let c1_i32_415 : BitVec 32 := 1#32
  let arg12 : BitVec 32 := Scf.iv c0_i32_413 c1_i32_415 k1_t32
  let c16_i32 : BitVec 32 := 16#32
  let v261 : BitVec 32 := Scalar.muli arg12 c16_i32
  let v262 : BitVec 32 := v261
  let v264 : Index := Scalar.indexCast v262
  ![v263.toNat, v264.toNat]
def k1_off52 (k1_t32 : Fin k1_t32_loop.trips) : Fin 2 → Nat :=
  let c0_i32_413 : BitVec 32 := 0#32
  let c1_i32_415 : BitVec 32 := 1#32
  let arg12 : BitVec 32 := Scf.iv c0_i32_413 c1_i32_415 k1_t32
  let v267 : Index := Scalar.indexCast arg12
  let c0_417 : Index := 0#32
  ![v267.toNat, 0]
def k1_mult49 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_172 : BitVec 32 := 4608#32
  let v114 : BitVec 32 := Scalar.muli v1 c4608_i32_172
  let c3584_i32_173 : BitVec 32 := 3584#32
  let v115 : BitVec 32 := Scalar.addi v114 c3584_i32_173
  v115
def k1_mult50 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_174 : BitVec 32 := 288#32
  let v117 : BitVec 32 := Scalar.muli v1 c288_i32_174
  let c224_i32_175 : BitVec 32 := 224#32
  let v118 : BitVec 32 := Scalar.addi v117 c224_i32_175
  v118
@[reducible] def k1_t33_loop : Scf.Loop 32 :=
  let c0_i32_179 : BitVec 32 := 0#32
  let c96_i32_180 : BitVec 32 := 96#32
  let v120 : BitVec 32 := Scalar.addi c0_i32_179 c96_i32_180
  let c1_i32_181 : BitVec 32 := 1#32
  ⟨c0_i32_179, v120, c1_i32_181⟩
def k1_off53 (k1_t33 : Fin k1_t33_loop.trips) : Fin 2 → Nat :=
  let c0_i32_179 : BitVec 32 := 0#32
  let c1_i32_181 : BitVec 32 := 1#32
  let arg11 : BitVec 32 := Scf.iv c0_i32_179 c1_i32_181 k1_t33
  let v254 : Index := Scalar.indexCast arg11
  let c0 : Index := 0#32
  ![v254.toNat, 0]
@[reducible] def k1_t34_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult51 (k1_t34 : Fin k1_t34_loop.trips) : BitVec 32 :=
  let c0_i32_413 : BitVec 32 := 0#32
  let c1_i32_415 : BitVec 32 := 1#32
  let arg12 : BitVec 32 := Scf.iv c0_i32_413 c1_i32_415 k1_t34
  let c16_i32 : BitVec 32 := 16#32
  let v261 : BitVec 32 := Scalar.muli arg12 c16_i32
  v261
def k1_off54 (k1_t33 : Fin k1_t33_loop.trips) (k1_t34 : Fin k1_t34_loop.trips) : Fin 2 → Nat :=
  let c0_i32_179 : BitVec 32 := 0#32
  let c1_i32_181 : BitVec 32 := 1#32
  let arg11 : BitVec 32 := Scf.iv c0_i32_179 c1_i32_181 k1_t33
  let v263 : Index := Scalar.indexCast arg11
  let c0_i32_413 : BitVec 32 := 0#32
  let c1_i32_415 : BitVec 32 := 1#32
  let arg12 : BitVec 32 := Scf.iv c0_i32_413 c1_i32_415 k1_t34
  let c16_i32 : BitVec 32 := 16#32
  let v261 : BitVec 32 := Scalar.muli arg12 c16_i32
  let v262 : BitVec 32 := v261
  let v264 : Index := Scalar.indexCast v262
  ![v263.toNat, v264.toNat]
def k1_off55 (k1_t34 : Fin k1_t34_loop.trips) : Fin 2 → Nat :=
  let c0_i32_413 : BitVec 32 := 0#32
  let c1_i32_415 : BitVec 32 := 1#32
  let arg12 : BitVec 32 := Scf.iv c0_i32_413 c1_i32_415 k1_t34
  let v267 : Index := Scalar.indexCast arg12
  let c0_417 : Index := 0#32
  ![v267.toNat, 0]
def k1_mult52 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_184 : BitVec 32 := 4608#32
  let v121 : BitVec 32 := Scalar.muli v1 c4608_i32_184
  let c4096_i32_185 : BitVec 32 := 4096#32
  let v122 : BitVec 32 := Scalar.addi v121 c4096_i32_185
  v122
def k1_mult53 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_186 : BitVec 32 := 288#32
  let v124 : BitVec 32 := Scalar.muli v1 c288_i32_186
  let c256_i32_187 : BitVec 32 := 256#32
  let v125 : BitVec 32 := Scalar.addi v124 c256_i32_187
  v125
@[reducible] def k1_t35_loop : Scf.Loop 32 :=
  let c0_i32_191 : BitVec 32 := 0#32
  let c96_i32_192 : BitVec 32 := 96#32
  let v127 : BitVec 32 := Scalar.addi c0_i32_191 c96_i32_192
  let c1_i32_193 : BitVec 32 := 1#32
  ⟨c0_i32_191, v127, c1_i32_193⟩
def k1_off56 (k1_t35 : Fin k1_t35_loop.trips) : Fin 2 → Nat :=
  let c0_i32_191 : BitVec 32 := 0#32
  let c1_i32_193 : BitVec 32 := 1#32
  let arg11 : BitVec 32 := Scf.iv c0_i32_191 c1_i32_193 k1_t35
  let v254 : Index := Scalar.indexCast arg11
  let c0 : Index := 0#32
  ![v254.toNat, 0]
@[reducible] def k1_t36_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult54 (k1_t36 : Fin k1_t36_loop.trips) : BitVec 32 :=
  let c0_i32_413 : BitVec 32 := 0#32
  let c1_i32_415 : BitVec 32 := 1#32
  let arg12 : BitVec 32 := Scf.iv c0_i32_413 c1_i32_415 k1_t36
  let c16_i32 : BitVec 32 := 16#32
  let v261 : BitVec 32 := Scalar.muli arg12 c16_i32
  v261
def k1_off57 (k1_t35 : Fin k1_t35_loop.trips) (k1_t36 : Fin k1_t36_loop.trips) : Fin 2 → Nat :=
  let c0_i32_191 : BitVec 32 := 0#32
  let c1_i32_193 : BitVec 32 := 1#32
  let arg11 : BitVec 32 := Scf.iv c0_i32_191 c1_i32_193 k1_t35
  let v263 : Index := Scalar.indexCast arg11
  let c0_i32_413 : BitVec 32 := 0#32
  let c1_i32_415 : BitVec 32 := 1#32
  let arg12 : BitVec 32 := Scf.iv c0_i32_413 c1_i32_415 k1_t36
  let c16_i32 : BitVec 32 := 16#32
  let v261 : BitVec 32 := Scalar.muli arg12 c16_i32
  let v262 : BitVec 32 := v261
  let v264 : Index := Scalar.indexCast v262
  ![v263.toNat, v264.toNat]
def k1_off58 (k1_t36 : Fin k1_t36_loop.trips) : Fin 2 → Nat :=
  let c0_i32_413 : BitVec 32 := 0#32
  let c1_i32_415 : BitVec 32 := 1#32
  let arg12 : BitVec 32 := Scf.iv c0_i32_413 c1_i32_415 k1_t36
  let v267 : Index := Scalar.indexCast arg12
  let c0_417 : Index := 0#32
  ![v267.toNat, 0]
def k1_mult55 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_196 : BitVec 32 := 4608#32
  let v128 : BitVec 32 := Scalar.muli v1 c4608_i32_196
  let c0_i32_197 : BitVec 32 := 0#32
  let v129 : BitVec 32 := Scalar.addi v128 c0_i32_197
  v129
def k1_mult56 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_198 : BitVec 32 := 288#32
  let v131 : BitVec 32 := Scalar.muli v1 c288_i32_198
  let c0_i32_199 : BitVec 32 := 0#32
  let v132 : BitVec 32 := Scalar.addi v131 c0_i32_199
  v132
def k1_off59 (i : grid1.Coords) (c0_i32_197 : BitVec 32) : Fin 3 → Nat :=
  let c2_i32_200 : BitVec 32 := 2#32
  let c0_i32_411_r56 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_196 : BitVec 32 := 4608#32
  let v128 : BitVec 32 := Scalar.muli v1 c4608_i32_196
  let v129 : BitVec 32 := Scalar.addi v128 c0_i32_197
  let v130 : BitVec 32 := v129
  ![2, 0, v130.toNat]
def k1_off60 (i : grid1.Coords) (c0_i32_199 : BitVec 32) : Fin 3 → Nat :=
  let c2_i32_201 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_198 : BitVec 32 := 288#32
  let v131 : BitVec 32 := Scalar.muli v1 c288_i32_198
  let v132 : BitVec 32 := Scalar.addi v131 c0_i32_199
  let v133 : BitVec 32 := v132
  let c0_i32_411_r57 : BitVec 32 := 0#32
  ![2, v133.toNat, 0]
@[reducible] def k1_t37_loop : Scf.Loop 32 :=
  let c0_i32_203 : BitVec 32 := 0#32
  let c96_i32_204 : BitVec 32 := 96#32
  let v134 : BitVec 32 := Scalar.addi c0_i32_203 c96_i32_204
  let c1_i32_205 : BitVec 32 := 1#32
  ⟨c0_i32_203, v134, c1_i32_205⟩
def k1_off61 (k1_t37 : Fin k1_t37_loop.trips) : Fin 2 → Nat :=
  let c0_i32_203 : BitVec 32 := 0#32
  let c1_i32_205 : BitVec 32 := 1#32
  let arg11 : BitVec 32 := Scf.iv c0_i32_203 c1_i32_205 k1_t37
  let v254 : Index := Scalar.indexCast arg11
  let c0 : Index := 0#32
  ![v254.toNat, 0]
@[reducible] def k1_t38_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult57 (k1_t38 : Fin k1_t38_loop.trips) : BitVec 32 :=
  let c0_i32_413 : BitVec 32 := 0#32
  let c1_i32_415 : BitVec 32 := 1#32
  let arg12 : BitVec 32 := Scf.iv c0_i32_413 c1_i32_415 k1_t38
  let c16_i32 : BitVec 32 := 16#32
  let v261 : BitVec 32 := Scalar.muli arg12 c16_i32
  v261
def k1_off62 (k1_t37 : Fin k1_t37_loop.trips) (k1_t38 : Fin k1_t38_loop.trips) : Fin 2 → Nat :=
  let c0_i32_203 : BitVec 32 := 0#32
  let c1_i32_205 : BitVec 32 := 1#32
  let arg11 : BitVec 32 := Scf.iv c0_i32_203 c1_i32_205 k1_t37
  let v263 : Index := Scalar.indexCast arg11
  let c0_i32_413 : BitVec 32 := 0#32
  let c1_i32_415 : BitVec 32 := 1#32
  let arg12 : BitVec 32 := Scf.iv c0_i32_413 c1_i32_415 k1_t38
  let c16_i32 : BitVec 32 := 16#32
  let v261 : BitVec 32 := Scalar.muli arg12 c16_i32
  let v262 : BitVec 32 := v261
  let v264 : Index := Scalar.indexCast v262
  ![v263.toNat, v264.toNat]
def k1_off63 (k1_t38 : Fin k1_t38_loop.trips) : Fin 2 → Nat :=
  let c0_i32_413 : BitVec 32 := 0#32
  let c1_i32_415 : BitVec 32 := 1#32
  let arg12 : BitVec 32 := Scf.iv c0_i32_413 c1_i32_415 k1_t38
  let v267 : Index := Scalar.indexCast arg12
  let c0_417 : Index := 0#32
  ![v267.toNat, 0]
def k1_mult58 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_208 : BitVec 32 := 4608#32
  let v135 : BitVec 32 := Scalar.muli v1 c4608_i32_208
  let c512_i32_209 : BitVec 32 := 512#32
  let v136 : BitVec 32 := Scalar.addi v135 c512_i32_209
  v136
def k1_mult59 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_210 : BitVec 32 := 288#32
  let v138 : BitVec 32 := Scalar.muli v1 c288_i32_210
  let c32_i32_211 : BitVec 32 := 32#32
  let v139 : BitVec 32 := Scalar.addi v138 c32_i32_211
  v139
@[reducible] def k1_t39_loop : Scf.Loop 32 :=
  let c0_i32_215 : BitVec 32 := 0#32
  let c96_i32_216 : BitVec 32 := 96#32
  let v141 : BitVec 32 := Scalar.addi c0_i32_215 c96_i32_216
  let c1_i32_217 : BitVec 32 := 1#32
  ⟨c0_i32_215, v141, c1_i32_217⟩
def k1_off64 (k1_t39 : Fin k1_t39_loop.trips) : Fin 2 → Nat :=
  let c0_i32_215 : BitVec 32 := 0#32
  let c1_i32_217 : BitVec 32 := 1#32
  let arg11 : BitVec 32 := Scf.iv c0_i32_215 c1_i32_217 k1_t39
  let v254 : Index := Scalar.indexCast arg11
  let c0 : Index := 0#32
  ![v254.toNat, 0]
@[reducible] def k1_t40_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult60 (k1_t40 : Fin k1_t40_loop.trips) : BitVec 32 :=
  let c0_i32_413 : BitVec 32 := 0#32
  let c1_i32_415 : BitVec 32 := 1#32
  let arg12 : BitVec 32 := Scf.iv c0_i32_413 c1_i32_415 k1_t40
  let c16_i32 : BitVec 32 := 16#32
  let v261 : BitVec 32 := Scalar.muli arg12 c16_i32
  v261
def k1_off65 (k1_t39 : Fin k1_t39_loop.trips) (k1_t40 : Fin k1_t40_loop.trips) : Fin 2 → Nat :=
  let c0_i32_215 : BitVec 32 := 0#32
  let c1_i32_217 : BitVec 32 := 1#32
  let arg11 : BitVec 32 := Scf.iv c0_i32_215 c1_i32_217 k1_t39
  let v263 : Index := Scalar.indexCast arg11
  let c0_i32_413 : BitVec 32 := 0#32
  let c1_i32_415 : BitVec 32 := 1#32
  let arg12 : BitVec 32 := Scf.iv c0_i32_413 c1_i32_415 k1_t40
  let c16_i32 : BitVec 32 := 16#32
  let v261 : BitVec 32 := Scalar.muli arg12 c16_i32
  let v262 : BitVec 32 := v261
  let v264 : Index := Scalar.indexCast v262
  ![v263.toNat, v264.toNat]
def k1_off66 (k1_t40 : Fin k1_t40_loop.trips) : Fin 2 → Nat :=
  let c0_i32_413 : BitVec 32 := 0#32
  let c1_i32_415 : BitVec 32 := 1#32
  let arg12 : BitVec 32 := Scf.iv c0_i32_413 c1_i32_415 k1_t40
  let v267 : Index := Scalar.indexCast arg12
  let c0_417 : Index := 0#32
  ![v267.toNat, 0]
def k1_mult61 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_220 : BitVec 32 := 4608#32
  let v142 : BitVec 32 := Scalar.muli v1 c4608_i32_220
  let c1024_i32_221 : BitVec 32 := 1024#32
  let v143 : BitVec 32 := Scalar.addi v142 c1024_i32_221
  v143
def k1_mult62 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_222 : BitVec 32 := 288#32
  let v145 : BitVec 32 := Scalar.muli v1 c288_i32_222
  let c64_i32_223 : BitVec 32 := 64#32
  let v146 : BitVec 32 := Scalar.addi v145 c64_i32_223
  v146
@[reducible] def k1_t41_loop : Scf.Loop 32 :=
  let c0_i32_227 : BitVec 32 := 0#32
  let c96_i32_228 : BitVec 32 := 96#32
  let v148 : BitVec 32 := Scalar.addi c0_i32_227 c96_i32_228
  let c1_i32_229 : BitVec 32 := 1#32
  ⟨c0_i32_227, v148, c1_i32_229⟩
def k1_off67 (k1_t41 : Fin k1_t41_loop.trips) : Fin 2 → Nat :=
  let c0_i32_227 : BitVec 32 := 0#32
  let c1_i32_229 : BitVec 32 := 1#32
  let arg11 : BitVec 32 := Scf.iv c0_i32_227 c1_i32_229 k1_t41
  let v254 : Index := Scalar.indexCast arg11
  let c0 : Index := 0#32
  ![v254.toNat, 0]
@[reducible] def k1_t42_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult63 (k1_t42 : Fin k1_t42_loop.trips) : BitVec 32 :=
  let c0_i32_413 : BitVec 32 := 0#32
  let c1_i32_415 : BitVec 32 := 1#32
  let arg12 : BitVec 32 := Scf.iv c0_i32_413 c1_i32_415 k1_t42
  let c16_i32 : BitVec 32 := 16#32
  let v261 : BitVec 32 := Scalar.muli arg12 c16_i32
  v261
def k1_off68 (k1_t41 : Fin k1_t41_loop.trips) (k1_t42 : Fin k1_t42_loop.trips) : Fin 2 → Nat :=
  let c0_i32_227 : BitVec 32 := 0#32
  let c1_i32_229 : BitVec 32 := 1#32
  let arg11 : BitVec 32 := Scf.iv c0_i32_227 c1_i32_229 k1_t41
  let v263 : Index := Scalar.indexCast arg11
  let c0_i32_413 : BitVec 32 := 0#32
  let c1_i32_415 : BitVec 32 := 1#32
  let arg12 : BitVec 32 := Scf.iv c0_i32_413 c1_i32_415 k1_t42
  let c16_i32 : BitVec 32 := 16#32
  let v261 : BitVec 32 := Scalar.muli arg12 c16_i32
  let v262 : BitVec 32 := v261
  let v264 : Index := Scalar.indexCast v262
  ![v263.toNat, v264.toNat]
def k1_off69 (k1_t42 : Fin k1_t42_loop.trips) : Fin 2 → Nat :=
  let c0_i32_413 : BitVec 32 := 0#32
  let c1_i32_415 : BitVec 32 := 1#32
  let arg12 : BitVec 32 := Scf.iv c0_i32_413 c1_i32_415 k1_t42
  let v267 : Index := Scalar.indexCast arg12
  let c0_417 : Index := 0#32
  ![v267.toNat, 0]
def k1_mult64 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_232 : BitVec 32 := 4608#32
  let v149 : BitVec 32 := Scalar.muli v1 c4608_i32_232
  let c1536_i32_233 : BitVec 32 := 1536#32
  let v150 : BitVec 32 := Scalar.addi v149 c1536_i32_233
  v150
def k1_mult65 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_234 : BitVec 32 := 288#32
  let v152 : BitVec 32 := Scalar.muli v1 c288_i32_234
  let c96_i32_235 : BitVec 32 := 96#32
  let v153 : BitVec 32 := Scalar.addi v152 c96_i32_235
  v153
@[reducible] def k1_t43_loop : Scf.Loop 32 :=
  let c0_i32_239 : BitVec 32 := 0#32
  let c96_i32_240 : BitVec 32 := 96#32
  let v155 : BitVec 32 := Scalar.addi c0_i32_239 c96_i32_240
  let c1_i32_241 : BitVec 32 := 1#32
  ⟨c0_i32_239, v155, c1_i32_241⟩
def k1_off70 (k1_t43 : Fin k1_t43_loop.trips) : Fin 2 → Nat :=
  let c0_i32_239 : BitVec 32 := 0#32
  let c1_i32_241 : BitVec 32 := 1#32
  let arg11 : BitVec 32 := Scf.iv c0_i32_239 c1_i32_241 k1_t43
  let v254 : Index := Scalar.indexCast arg11
  let c0 : Index := 0#32
  ![v254.toNat, 0]
@[reducible] def k1_t44_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult66 (k1_t44 : Fin k1_t44_loop.trips) : BitVec 32 :=
  let c0_i32_413 : BitVec 32 := 0#32
  let c1_i32_415 : BitVec 32 := 1#32
  let arg12 : BitVec 32 := Scf.iv c0_i32_413 c1_i32_415 k1_t44
  let c16_i32 : BitVec 32 := 16#32
  let v261 : BitVec 32 := Scalar.muli arg12 c16_i32
  v261
def k1_off71 (k1_t43 : Fin k1_t43_loop.trips) (k1_t44 : Fin k1_t44_loop.trips) : Fin 2 → Nat :=
  let c0_i32_239 : BitVec 32 := 0#32
  let c1_i32_241 : BitVec 32 := 1#32
  let arg11 : BitVec 32 := Scf.iv c0_i32_239 c1_i32_241 k1_t43
  let v263 : Index := Scalar.indexCast arg11
  let c0_i32_413 : BitVec 32 := 0#32
  let c1_i32_415 : BitVec 32 := 1#32
  let arg12 : BitVec 32 := Scf.iv c0_i32_413 c1_i32_415 k1_t44
  let c16_i32 : BitVec 32 := 16#32
  let v261 : BitVec 32 := Scalar.muli arg12 c16_i32
  let v262 : BitVec 32 := v261
  let v264 : Index := Scalar.indexCast v262
  ![v263.toNat, v264.toNat]
def k1_off72 (k1_t44 : Fin k1_t44_loop.trips) : Fin 2 → Nat :=
  let c0_i32_413 : BitVec 32 := 0#32
  let c1_i32_415 : BitVec 32 := 1#32
  let arg12 : BitVec 32 := Scf.iv c0_i32_413 c1_i32_415 k1_t44
  let v267 : Index := Scalar.indexCast arg12
  let c0_417 : Index := 0#32
  ![v267.toNat, 0]
def k1_mult67 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_244 : BitVec 32 := 4608#32
  let v156 : BitVec 32 := Scalar.muli v1 c4608_i32_244
  let c2048_i32_245 : BitVec 32 := 2048#32
  let v157 : BitVec 32 := Scalar.addi v156 c2048_i32_245
  v157
def k1_mult68 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_246 : BitVec 32 := 288#32
  let v159 : BitVec 32 := Scalar.muli v1 c288_i32_246
  let c128_i32_247 : BitVec 32 := 128#32
  let v160 : BitVec 32 := Scalar.addi v159 c128_i32_247
  v160
@[reducible] def k1_t45_loop : Scf.Loop 32 :=
  let c0_i32_251 : BitVec 32 := 0#32
  let c96_i32_252 : BitVec 32 := 96#32
  let v162 : BitVec 32 := Scalar.addi c0_i32_251 c96_i32_252
  let c1_i32_253 : BitVec 32 := 1#32
  ⟨c0_i32_251, v162, c1_i32_253⟩
def k1_off73 (k1_t45 : Fin k1_t45_loop.trips) : Fin 2 → Nat :=
  let c0_i32_251 : BitVec 32 := 0#32
  let c1_i32_253 : BitVec 32 := 1#32
  let arg11 : BitVec 32 := Scf.iv c0_i32_251 c1_i32_253 k1_t45
  let v254 : Index := Scalar.indexCast arg11
  let c0 : Index := 0#32
  ![v254.toNat, 0]
@[reducible] def k1_t46_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult69 (k1_t46 : Fin k1_t46_loop.trips) : BitVec 32 :=
  let c0_i32_413 : BitVec 32 := 0#32
  let c1_i32_415 : BitVec 32 := 1#32
  let arg12 : BitVec 32 := Scf.iv c0_i32_413 c1_i32_415 k1_t46
  let c16_i32 : BitVec 32 := 16#32
  let v261 : BitVec 32 := Scalar.muli arg12 c16_i32
  v261
def k1_off74 (k1_t45 : Fin k1_t45_loop.trips) (k1_t46 : Fin k1_t46_loop.trips) : Fin 2 → Nat :=
  let c0_i32_251 : BitVec 32 := 0#32
  let c1_i32_253 : BitVec 32 := 1#32
  let arg11 : BitVec 32 := Scf.iv c0_i32_251 c1_i32_253 k1_t45
  let v263 : Index := Scalar.indexCast arg11
  let c0_i32_413 : BitVec 32 := 0#32
  let c1_i32_415 : BitVec 32 := 1#32
  let arg12 : BitVec 32 := Scf.iv c0_i32_413 c1_i32_415 k1_t46
  let c16_i32 : BitVec 32 := 16#32
  let v261 : BitVec 32 := Scalar.muli arg12 c16_i32
  let v262 : BitVec 32 := v261
  let v264 : Index := Scalar.indexCast v262
  ![v263.toNat, v264.toNat]
def k1_off75 (k1_t46 : Fin k1_t46_loop.trips) : Fin 2 → Nat :=
  let c0_i32_413 : BitVec 32 := 0#32
  let c1_i32_415 : BitVec 32 := 1#32
  let arg12 : BitVec 32 := Scf.iv c0_i32_413 c1_i32_415 k1_t46
  let v267 : Index := Scalar.indexCast arg12
  let c0_417 : Index := 0#32
  ![v267.toNat, 0]
def k1_mult70 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_256 : BitVec 32 := 4608#32
  let v163 : BitVec 32 := Scalar.muli v1 c4608_i32_256
  let c2560_i32_257 : BitVec 32 := 2560#32
  let v164 : BitVec 32 := Scalar.addi v163 c2560_i32_257
  v164
def k1_mult71 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_258 : BitVec 32 := 288#32
  let v166 : BitVec 32 := Scalar.muli v1 c288_i32_258
  let c160_i32_259 : BitVec 32 := 160#32
  let v167 : BitVec 32 := Scalar.addi v166 c160_i32_259
  v167
@[reducible] def k1_t47_loop : Scf.Loop 32 :=
  let c0_i32_263 : BitVec 32 := 0#32
  let c96_i32_264 : BitVec 32 := 96#32
  let v169 : BitVec 32 := Scalar.addi c0_i32_263 c96_i32_264
  let c1_i32_265 : BitVec 32 := 1#32
  ⟨c0_i32_263, v169, c1_i32_265⟩
def k1_off76 (k1_t47 : Fin k1_t47_loop.trips) : Fin 2 → Nat :=
  let c0_i32_263 : BitVec 32 := 0#32
  let c1_i32_265 : BitVec 32 := 1#32
  let arg11 : BitVec 32 := Scf.iv c0_i32_263 c1_i32_265 k1_t47
  let v254 : Index := Scalar.indexCast arg11
  let c0 : Index := 0#32
  ![v254.toNat, 0]
@[reducible] def k1_t48_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult72 (k1_t48 : Fin k1_t48_loop.trips) : BitVec 32 :=
  let c0_i32_413 : BitVec 32 := 0#32
  let c1_i32_415 : BitVec 32 := 1#32
  let arg12 : BitVec 32 := Scf.iv c0_i32_413 c1_i32_415 k1_t48
  let c16_i32 : BitVec 32 := 16#32
  let v261 : BitVec 32 := Scalar.muli arg12 c16_i32
  v261
def k1_off77 (k1_t47 : Fin k1_t47_loop.trips) (k1_t48 : Fin k1_t48_loop.trips) : Fin 2 → Nat :=
  let c0_i32_263 : BitVec 32 := 0#32
  let c1_i32_265 : BitVec 32 := 1#32
  let arg11 : BitVec 32 := Scf.iv c0_i32_263 c1_i32_265 k1_t47
  let v263 : Index := Scalar.indexCast arg11
  let c0_i32_413 : BitVec 32 := 0#32
  let c1_i32_415 : BitVec 32 := 1#32
  let arg12 : BitVec 32 := Scf.iv c0_i32_413 c1_i32_415 k1_t48
  let c16_i32 : BitVec 32 := 16#32
  let v261 : BitVec 32 := Scalar.muli arg12 c16_i32
  let v262 : BitVec 32 := v261
  let v264 : Index := Scalar.indexCast v262
  ![v263.toNat, v264.toNat]
def k1_off78 (k1_t48 : Fin k1_t48_loop.trips) : Fin 2 → Nat :=
  let c0_i32_413 : BitVec 32 := 0#32
  let c1_i32_415 : BitVec 32 := 1#32
  let arg12 : BitVec 32 := Scf.iv c0_i32_413 c1_i32_415 k1_t48
  let v267 : Index := Scalar.indexCast arg12
  let c0_417 : Index := 0#32
  ![v267.toNat, 0]
def k1_mult73 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_268 : BitVec 32 := 4608#32
  let v170 : BitVec 32 := Scalar.muli v1 c4608_i32_268
  let c3072_i32_269 : BitVec 32 := 3072#32
  let v171 : BitVec 32 := Scalar.addi v170 c3072_i32_269
  v171
def k1_mult74 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_270 : BitVec 32 := 288#32
  let v173 : BitVec 32 := Scalar.muli v1 c288_i32_270
  let c192_i32_271 : BitVec 32 := 192#32
  let v174 : BitVec 32 := Scalar.addi v173 c192_i32_271
  v174
@[reducible] def k1_t49_loop : Scf.Loop 32 :=
  let c0_i32_275 : BitVec 32 := 0#32
  let c96_i32_276 : BitVec 32 := 96#32
  let v176 : BitVec 32 := Scalar.addi c0_i32_275 c96_i32_276
  let c1_i32_277 : BitVec 32 := 1#32
  ⟨c0_i32_275, v176, c1_i32_277⟩
def k1_off79 (k1_t49 : Fin k1_t49_loop.trips) : Fin 2 → Nat :=
  let c0_i32_275 : BitVec 32 := 0#32
  let c1_i32_277 : BitVec 32 := 1#32
  let arg11 : BitVec 32 := Scf.iv c0_i32_275 c1_i32_277 k1_t49
  let v254 : Index := Scalar.indexCast arg11
  let c0 : Index := 0#32
  ![v254.toNat, 0]
@[reducible] def k1_t50_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult75 (k1_t50 : Fin k1_t50_loop.trips) : BitVec 32 :=
  let c0_i32_413 : BitVec 32 := 0#32
  let c1_i32_415 : BitVec 32 := 1#32
  let arg12 : BitVec 32 := Scf.iv c0_i32_413 c1_i32_415 k1_t50
  let c16_i32 : BitVec 32 := 16#32
  let v261 : BitVec 32 := Scalar.muli arg12 c16_i32
  v261
def k1_off80 (k1_t49 : Fin k1_t49_loop.trips) (k1_t50 : Fin k1_t50_loop.trips) : Fin 2 → Nat :=
  let c0_i32_275 : BitVec 32 := 0#32
  let c1_i32_277 : BitVec 32 := 1#32
  let arg11 : BitVec 32 := Scf.iv c0_i32_275 c1_i32_277 k1_t49
  let v263 : Index := Scalar.indexCast arg11
  let c0_i32_413 : BitVec 32 := 0#32
  let c1_i32_415 : BitVec 32 := 1#32
  let arg12 : BitVec 32 := Scf.iv c0_i32_413 c1_i32_415 k1_t50
  let c16_i32 : BitVec 32 := 16#32
  let v261 : BitVec 32 := Scalar.muli arg12 c16_i32
  let v262 : BitVec 32 := v261
  let v264 : Index := Scalar.indexCast v262
  ![v263.toNat, v264.toNat]
def k1_off81 (k1_t50 : Fin k1_t50_loop.trips) : Fin 2 → Nat :=
  let c0_i32_413 : BitVec 32 := 0#32
  let c1_i32_415 : BitVec 32 := 1#32
  let arg12 : BitVec 32 := Scf.iv c0_i32_413 c1_i32_415 k1_t50
  let v267 : Index := Scalar.indexCast arg12
  let c0_417 : Index := 0#32
  ![v267.toNat, 0]
def k1_mult76 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_280 : BitVec 32 := 4608#32
  let v177 : BitVec 32 := Scalar.muli v1 c4608_i32_280
  let c3584_i32_281 : BitVec 32 := 3584#32
  let v178 : BitVec 32 := Scalar.addi v177 c3584_i32_281
  v178
def k1_mult77 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_282 : BitVec 32 := 288#32
  let v180 : BitVec 32 := Scalar.muli v1 c288_i32_282
  let c224_i32_283 : BitVec 32 := 224#32
  let v181 : BitVec 32 := Scalar.addi v180 c224_i32_283
  v181
@[reducible] def k1_t51_loop : Scf.Loop 32 :=
  let c0_i32_287 : BitVec 32 := 0#32
  let c96_i32_288 : BitVec 32 := 96#32
  let v183 : BitVec 32 := Scalar.addi c0_i32_287 c96_i32_288
  let c1_i32_289 : BitVec 32 := 1#32
  ⟨c0_i32_287, v183, c1_i32_289⟩
def k1_off82 (k1_t51 : Fin k1_t51_loop.trips) : Fin 2 → Nat :=
  let c0_i32_287 : BitVec 32 := 0#32
  let c1_i32_289 : BitVec 32 := 1#32
  let arg11 : BitVec 32 := Scf.iv c0_i32_287 c1_i32_289 k1_t51
  let v254 : Index := Scalar.indexCast arg11
  let c0 : Index := 0#32
  ![v254.toNat, 0]
@[reducible] def k1_t52_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult78 (k1_t52 : Fin k1_t52_loop.trips) : BitVec 32 :=
  let c0_i32_413 : BitVec 32 := 0#32
  let c1_i32_415 : BitVec 32 := 1#32
  let arg12 : BitVec 32 := Scf.iv c0_i32_413 c1_i32_415 k1_t52
  let c16_i32 : BitVec 32 := 16#32
  let v261 : BitVec 32 := Scalar.muli arg12 c16_i32
  v261
def k1_off83 (k1_t51 : Fin k1_t51_loop.trips) (k1_t52 : Fin k1_t52_loop.trips) : Fin 2 → Nat :=
  let c0_i32_287 : BitVec 32 := 0#32
  let c1_i32_289 : BitVec 32 := 1#32
  let arg11 : BitVec 32 := Scf.iv c0_i32_287 c1_i32_289 k1_t51
  let v263 : Index := Scalar.indexCast arg11
  let c0_i32_413 : BitVec 32 := 0#32
  let c1_i32_415 : BitVec 32 := 1#32
  let arg12 : BitVec 32 := Scf.iv c0_i32_413 c1_i32_415 k1_t52
  let c16_i32 : BitVec 32 := 16#32
  let v261 : BitVec 32 := Scalar.muli arg12 c16_i32
  let v262 : BitVec 32 := v261
  let v264 : Index := Scalar.indexCast v262
  ![v263.toNat, v264.toNat]
def k1_off84 (k1_t52 : Fin k1_t52_loop.trips) : Fin 2 → Nat :=
  let c0_i32_413 : BitVec 32 := 0#32
  let c1_i32_415 : BitVec 32 := 1#32
  let arg12 : BitVec 32 := Scf.iv c0_i32_413 c1_i32_415 k1_t52
  let v267 : Index := Scalar.indexCast arg12
  let c0_417 : Index := 0#32
  ![v267.toNat, 0]
def k1_mult79 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_292 : BitVec 32 := 4608#32
  let v184 : BitVec 32 := Scalar.muli v1 c4608_i32_292
  let c4096_i32_293 : BitVec 32 := 4096#32
  let v185 : BitVec 32 := Scalar.addi v184 c4096_i32_293
  v185
def k1_mult80 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_294 : BitVec 32 := 288#32
  let v187 : BitVec 32 := Scalar.muli v1 c288_i32_294
  let c256_i32_295 : BitVec 32 := 256#32
  let v188 : BitVec 32 := Scalar.addi v187 c256_i32_295
  v188
@[reducible] def k1_t53_loop : Scf.Loop 32 :=
  let c0_i32_299 : BitVec 32 := 0#32
  let c96_i32_300 : BitVec 32 := 96#32
  let v190 : BitVec 32 := Scalar.addi c0_i32_299 c96_i32_300
  let c1_i32_301 : BitVec 32 := 1#32
  ⟨c0_i32_299, v190, c1_i32_301⟩
def k1_off85 (k1_t53 : Fin k1_t53_loop.trips) : Fin 2 → Nat :=
  let c0_i32_299 : BitVec 32 := 0#32
  let c1_i32_301 : BitVec 32 := 1#32
  let arg11 : BitVec 32 := Scf.iv c0_i32_299 c1_i32_301 k1_t53
  let v254 : Index := Scalar.indexCast arg11
  let c0 : Index := 0#32
  ![v254.toNat, 0]
@[reducible] def k1_t54_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult81 (k1_t54 : Fin k1_t54_loop.trips) : BitVec 32 :=
  let c0_i32_413 : BitVec 32 := 0#32
  let c1_i32_415 : BitVec 32 := 1#32
  let arg12 : BitVec 32 := Scf.iv c0_i32_413 c1_i32_415 k1_t54
  let c16_i32 : BitVec 32 := 16#32
  let v261 : BitVec 32 := Scalar.muli arg12 c16_i32
  v261
def k1_off86 (k1_t53 : Fin k1_t53_loop.trips) (k1_t54 : Fin k1_t54_loop.trips) : Fin 2 → Nat :=
  let c0_i32_299 : BitVec 32 := 0#32
  let c1_i32_301 : BitVec 32 := 1#32
  let arg11 : BitVec 32 := Scf.iv c0_i32_299 c1_i32_301 k1_t53
  let v263 : Index := Scalar.indexCast arg11
  let c0_i32_413 : BitVec 32 := 0#32
  let c1_i32_415 : BitVec 32 := 1#32
  let arg12 : BitVec 32 := Scf.iv c0_i32_413 c1_i32_415 k1_t54
  let c16_i32 : BitVec 32 := 16#32
  let v261 : BitVec 32 := Scalar.muli arg12 c16_i32
  let v262 : BitVec 32 := v261
  let v264 : Index := Scalar.indexCast v262
  ![v263.toNat, v264.toNat]
def k1_off87 (k1_t54 : Fin k1_t54_loop.trips) : Fin 2 → Nat :=
  let c0_i32_413 : BitVec 32 := 0#32
  let c1_i32_415 : BitVec 32 := 1#32
  let arg12 : BitVec 32 := Scf.iv c0_i32_413 c1_i32_415 k1_t54
  let v267 : Index := Scalar.indexCast arg12
  let c0_417 : Index := 0#32
  ![v267.toNat, 0]
def k1_mult82 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_304 : BitVec 32 := 4608#32
  let v191 : BitVec 32 := Scalar.muli v1 c4608_i32_304
  let c0_i32_305 : BitVec 32 := 0#32
  let v192 : BitVec 32 := Scalar.addi v191 c0_i32_305
  v192
def k1_mult83 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_306 : BitVec 32 := 288#32
  let v194 : BitVec 32 := Scalar.muli v1 c288_i32_306
  let c0_i32_307 : BitVec 32 := 0#32
  let v195 : BitVec 32 := Scalar.addi v194 c0_i32_307
  v195
def k1_off88 (i : grid1.Coords) (c0_i32_305 : BitVec 32) : Fin 3 → Nat :=
  let c3_i32 : BitVec 32 := 3#32
  let c0_i32_411_r83 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_304 : BitVec 32 := 4608#32
  let v191 : BitVec 32 := Scalar.muli v1 c4608_i32_304
  let v192 : BitVec 32 := Scalar.addi v191 c0_i32_305
  let v193 : BitVec 32 := v192
  ![3, 0, v193.toNat]
def k1_off89 (i : grid1.Coords) (c0_i32_307 : BitVec 32) : Fin 3 → Nat :=
  let c3_i32_308 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_306 : BitVec 32 := 288#32
  let v194 : BitVec 32 := Scalar.muli v1 c288_i32_306
  let v195 : BitVec 32 := Scalar.addi v194 c0_i32_307
  let v196 : BitVec 32 := v195
  let c0_i32_411_r84 : BitVec 32 := 0#32
  ![3, v196.toNat, 0]
@[reducible] def k1_t55_loop : Scf.Loop 32 :=
  let c0_i32_310 : BitVec 32 := 0#32
  let c96_i32_311 : BitVec 32 := 96#32
  let v197 : BitVec 32 := Scalar.addi c0_i32_310 c96_i32_311
  let c1_i32_312 : BitVec 32 := 1#32
  ⟨c0_i32_310, v197, c1_i32_312⟩
def k1_off90 (k1_t55 : Fin k1_t55_loop.trips) : Fin 2 → Nat :=
  let c0_i32_310 : BitVec 32 := 0#32
  let c1_i32_312 : BitVec 32 := 1#32
  let arg11 : BitVec 32 := Scf.iv c0_i32_310 c1_i32_312 k1_t55
  let v254 : Index := Scalar.indexCast arg11
  let c0 : Index := 0#32
  ![v254.toNat, 0]
@[reducible] def k1_t56_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult84 (k1_t56 : Fin k1_t56_loop.trips) : BitVec 32 :=
  let c0_i32_413 : BitVec 32 := 0#32
  let c1_i32_415 : BitVec 32 := 1#32
  let arg12 : BitVec 32 := Scf.iv c0_i32_413 c1_i32_415 k1_t56
  let c16_i32 : BitVec 32 := 16#32
  let v261 : BitVec 32 := Scalar.muli arg12 c16_i32
  v261
def k1_off91 (k1_t55 : Fin k1_t55_loop.trips) (k1_t56 : Fin k1_t56_loop.trips) : Fin 2 → Nat :=
  let c0_i32_310 : BitVec 32 := 0#32
  let c1_i32_312 : BitVec 32 := 1#32
  let arg11 : BitVec 32 := Scf.iv c0_i32_310 c1_i32_312 k1_t55
  let v263 : Index := Scalar.indexCast arg11
  let c0_i32_413 : BitVec 32 := 0#32
  let c1_i32_415 : BitVec 32 := 1#32
  let arg12 : BitVec 32 := Scf.iv c0_i32_413 c1_i32_415 k1_t56
  let c16_i32 : BitVec 32 := 16#32
  let v261 : BitVec 32 := Scalar.muli arg12 c16_i32
  let v262 : BitVec 32 := v261
  let v264 : Index := Scalar.indexCast v262
  ![v263.toNat, v264.toNat]
def k1_off92 (k1_t56 : Fin k1_t56_loop.trips) : Fin 2 → Nat :=
  let c0_i32_413 : BitVec 32 := 0#32
  let c1_i32_415 : BitVec 32 := 1#32
  let arg12 : BitVec 32 := Scf.iv c0_i32_413 c1_i32_415 k1_t56
  let v267 : Index := Scalar.indexCast arg12
  let c0_417 : Index := 0#32
  ![v267.toNat, 0]
def k1_mult85 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_315 : BitVec 32 := 4608#32
  let v198 : BitVec 32 := Scalar.muli v1 c4608_i32_315
  let c512_i32_316 : BitVec 32 := 512#32
  let v199 : BitVec 32 := Scalar.addi v198 c512_i32_316
  v199
def k1_mult86 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_317 : BitVec 32 := 288#32
  let v201 : BitVec 32 := Scalar.muli v1 c288_i32_317
  let c32_i32_318 : BitVec 32 := 32#32
  let v202 : BitVec 32 := Scalar.addi v201 c32_i32_318
  v202
@[reducible] def k1_t57_loop : Scf.Loop 32 :=
  let c0_i32_322 : BitVec 32 := 0#32
  let c96_i32_323 : BitVec 32 := 96#32
  let v204 : BitVec 32 := Scalar.addi c0_i32_322 c96_i32_323
  let c1_i32_324 : BitVec 32 := 1#32
  ⟨c0_i32_322, v204, c1_i32_324⟩
def k1_off93 (k1_t57 : Fin k1_t57_loop.trips) : Fin 2 → Nat :=
  let c0_i32_322 : BitVec 32 := 0#32
  let c1_i32_324 : BitVec 32 := 1#32
  let arg11 : BitVec 32 := Scf.iv c0_i32_322 c1_i32_324 k1_t57
  let v254 : Index := Scalar.indexCast arg11
  let c0 : Index := 0#32
  ![v254.toNat, 0]
@[reducible] def k1_t58_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult87 (k1_t58 : Fin k1_t58_loop.trips) : BitVec 32 :=
  let c0_i32_413 : BitVec 32 := 0#32
  let c1_i32_415 : BitVec 32 := 1#32
  let arg12 : BitVec 32 := Scf.iv c0_i32_413 c1_i32_415 k1_t58
  let c16_i32 : BitVec 32 := 16#32
  let v261 : BitVec 32 := Scalar.muli arg12 c16_i32
  v261
def k1_off94 (k1_t57 : Fin k1_t57_loop.trips) (k1_t58 : Fin k1_t58_loop.trips) : Fin 2 → Nat :=
  let c0_i32_322 : BitVec 32 := 0#32
  let c1_i32_324 : BitVec 32 := 1#32
  let arg11 : BitVec 32 := Scf.iv c0_i32_322 c1_i32_324 k1_t57
  let v263 : Index := Scalar.indexCast arg11
  let c0_i32_413 : BitVec 32 := 0#32
  let c1_i32_415 : BitVec 32 := 1#32
  let arg12 : BitVec 32 := Scf.iv c0_i32_413 c1_i32_415 k1_t58
  let c16_i32 : BitVec 32 := 16#32
  let v261 : BitVec 32 := Scalar.muli arg12 c16_i32
  let v262 : BitVec 32 := v261
  let v264 : Index := Scalar.indexCast v262
  ![v263.toNat, v264.toNat]
def k1_off95 (k1_t58 : Fin k1_t58_loop.trips) : Fin 2 → Nat :=
  let c0_i32_413 : BitVec 32 := 0#32
  let c1_i32_415 : BitVec 32 := 1#32
  let arg12 : BitVec 32 := Scf.iv c0_i32_413 c1_i32_415 k1_t58
  let v267 : Index := Scalar.indexCast arg12
  let c0_417 : Index := 0#32
  ![v267.toNat, 0]
def k1_mult88 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_327 : BitVec 32 := 4608#32
  let v205 : BitVec 32 := Scalar.muli v1 c4608_i32_327
  let c1024_i32_328 : BitVec 32 := 1024#32
  let v206 : BitVec 32 := Scalar.addi v205 c1024_i32_328
  v206
def k1_mult89 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_329 : BitVec 32 := 288#32
  let v208 : BitVec 32 := Scalar.muli v1 c288_i32_329
  let c64_i32_330 : BitVec 32 := 64#32
  let v209 : BitVec 32 := Scalar.addi v208 c64_i32_330
  v209
@[reducible] def k1_t59_loop : Scf.Loop 32 :=
  let c0_i32_334 : BitVec 32 := 0#32
  let c96_i32_335 : BitVec 32 := 96#32
  let v211 : BitVec 32 := Scalar.addi c0_i32_334 c96_i32_335
  let c1_i32_336 : BitVec 32 := 1#32
  ⟨c0_i32_334, v211, c1_i32_336⟩
def k1_off96 (k1_t59 : Fin k1_t59_loop.trips) : Fin 2 → Nat :=
  let c0_i32_334 : BitVec 32 := 0#32
  let c1_i32_336 : BitVec 32 := 1#32
  let arg11 : BitVec 32 := Scf.iv c0_i32_334 c1_i32_336 k1_t59
  let v254 : Index := Scalar.indexCast arg11
  let c0 : Index := 0#32
  ![v254.toNat, 0]
@[reducible] def k1_t60_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult90 (k1_t60 : Fin k1_t60_loop.trips) : BitVec 32 :=
  let c0_i32_413 : BitVec 32 := 0#32
  let c1_i32_415 : BitVec 32 := 1#32
  let arg12 : BitVec 32 := Scf.iv c0_i32_413 c1_i32_415 k1_t60
  let c16_i32 : BitVec 32 := 16#32
  let v261 : BitVec 32 := Scalar.muli arg12 c16_i32
  v261
def k1_off97 (k1_t59 : Fin k1_t59_loop.trips) (k1_t60 : Fin k1_t60_loop.trips) : Fin 2 → Nat :=
  let c0_i32_334 : BitVec 32 := 0#32
  let c1_i32_336 : BitVec 32 := 1#32
  let arg11 : BitVec 32 := Scf.iv c0_i32_334 c1_i32_336 k1_t59
  let v263 : Index := Scalar.indexCast arg11
  let c0_i32_413 : BitVec 32 := 0#32
  let c1_i32_415 : BitVec 32 := 1#32
  let arg12 : BitVec 32 := Scf.iv c0_i32_413 c1_i32_415 k1_t60
  let c16_i32 : BitVec 32 := 16#32
  let v261 : BitVec 32 := Scalar.muli arg12 c16_i32
  let v262 : BitVec 32 := v261
  let v264 : Index := Scalar.indexCast v262
  ![v263.toNat, v264.toNat]
def k1_off98 (k1_t60 : Fin k1_t60_loop.trips) : Fin 2 → Nat :=
  let c0_i32_413 : BitVec 32 := 0#32
  let c1_i32_415 : BitVec 32 := 1#32
  let arg12 : BitVec 32 := Scf.iv c0_i32_413 c1_i32_415 k1_t60
  let v267 : Index := Scalar.indexCast arg12
  let c0_417 : Index := 0#32
  ![v267.toNat, 0]
def k1_mult91 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_339 : BitVec 32 := 4608#32
  let v212 : BitVec 32 := Scalar.muli v1 c4608_i32_339
  let c1536_i32_340 : BitVec 32 := 1536#32
  let v213 : BitVec 32 := Scalar.addi v212 c1536_i32_340
  v213
def k1_mult92 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_341 : BitVec 32 := 288#32
  let v215 : BitVec 32 := Scalar.muli v1 c288_i32_341
  let c96_i32_342 : BitVec 32 := 96#32
  let v216 : BitVec 32 := Scalar.addi v215 c96_i32_342
  v216
@[reducible] def k1_t61_loop : Scf.Loop 32 :=
  let c0_i32_346 : BitVec 32 := 0#32
  let c96_i32_347 : BitVec 32 := 96#32
  let v218 : BitVec 32 := Scalar.addi c0_i32_346 c96_i32_347
  let c1_i32_348 : BitVec 32 := 1#32
  ⟨c0_i32_346, v218, c1_i32_348⟩
def k1_off99 (k1_t61 : Fin k1_t61_loop.trips) : Fin 2 → Nat :=
  let c0_i32_346 : BitVec 32 := 0#32
  let c1_i32_348 : BitVec 32 := 1#32
  let arg11 : BitVec 32 := Scf.iv c0_i32_346 c1_i32_348 k1_t61
  let v254 : Index := Scalar.indexCast arg11
  let c0 : Index := 0#32
  ![v254.toNat, 0]
@[reducible] def k1_t62_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult93 (k1_t62 : Fin k1_t62_loop.trips) : BitVec 32 :=
  let c0_i32_413 : BitVec 32 := 0#32
  let c1_i32_415 : BitVec 32 := 1#32
  let arg12 : BitVec 32 := Scf.iv c0_i32_413 c1_i32_415 k1_t62
  let c16_i32 : BitVec 32 := 16#32
  let v261 : BitVec 32 := Scalar.muli arg12 c16_i32
  v261
def k1_off100 (k1_t61 : Fin k1_t61_loop.trips) (k1_t62 : Fin k1_t62_loop.trips) : Fin 2 → Nat :=
  let c0_i32_346 : BitVec 32 := 0#32
  let c1_i32_348 : BitVec 32 := 1#32
  let arg11 : BitVec 32 := Scf.iv c0_i32_346 c1_i32_348 k1_t61
  let v263 : Index := Scalar.indexCast arg11
  let c0_i32_413 : BitVec 32 := 0#32
  let c1_i32_415 : BitVec 32 := 1#32
  let arg12 : BitVec 32 := Scf.iv c0_i32_413 c1_i32_415 k1_t62
  let c16_i32 : BitVec 32 := 16#32
  let v261 : BitVec 32 := Scalar.muli arg12 c16_i32
  let v262 : BitVec 32 := v261
  let v264 : Index := Scalar.indexCast v262
  ![v263.toNat, v264.toNat]
def k1_off101 (k1_t62 : Fin k1_t62_loop.trips) : Fin 2 → Nat :=
  let c0_i32_413 : BitVec 32 := 0#32
  let c1_i32_415 : BitVec 32 := 1#32
  let arg12 : BitVec 32 := Scf.iv c0_i32_413 c1_i32_415 k1_t62
  let v267 : Index := Scalar.indexCast arg12
  let c0_417 : Index := 0#32
  ![v267.toNat, 0]
def k1_mult94 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_351 : BitVec 32 := 4608#32
  let v219 : BitVec 32 := Scalar.muli v1 c4608_i32_351
  let c2048_i32_352 : BitVec 32 := 2048#32
  let v220 : BitVec 32 := Scalar.addi v219 c2048_i32_352
  v220
def k1_mult95 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_353 : BitVec 32 := 288#32
  let v222 : BitVec 32 := Scalar.muli v1 c288_i32_353
  let c128_i32_354 : BitVec 32 := 128#32
  let v223 : BitVec 32 := Scalar.addi v222 c128_i32_354
  v223
@[reducible] def k1_t63_loop : Scf.Loop 32 :=
  let c0_i32_358 : BitVec 32 := 0#32
  let c96_i32_359 : BitVec 32 := 96#32
  let v225 : BitVec 32 := Scalar.addi c0_i32_358 c96_i32_359
  let c1_i32_360 : BitVec 32 := 1#32
  ⟨c0_i32_358, v225, c1_i32_360⟩
def k1_off102 (k1_t63 : Fin k1_t63_loop.trips) : Fin 2 → Nat :=
  let c0_i32_358 : BitVec 32 := 0#32
  let c1_i32_360 : BitVec 32 := 1#32
  let arg11 : BitVec 32 := Scf.iv c0_i32_358 c1_i32_360 k1_t63
  let v254 : Index := Scalar.indexCast arg11
  let c0 : Index := 0#32
  ![v254.toNat, 0]
@[reducible] def k1_t64_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult96 (k1_t64 : Fin k1_t64_loop.trips) : BitVec 32 :=
  let c0_i32_413 : BitVec 32 := 0#32
  let c1_i32_415 : BitVec 32 := 1#32
  let arg12 : BitVec 32 := Scf.iv c0_i32_413 c1_i32_415 k1_t64
  let c16_i32 : BitVec 32 := 16#32
  let v261 : BitVec 32 := Scalar.muli arg12 c16_i32
  v261
def k1_off103 (k1_t63 : Fin k1_t63_loop.trips) (k1_t64 : Fin k1_t64_loop.trips) : Fin 2 → Nat :=
  let c0_i32_358 : BitVec 32 := 0#32
  let c1_i32_360 : BitVec 32 := 1#32
  let arg11 : BitVec 32 := Scf.iv c0_i32_358 c1_i32_360 k1_t63
  let v263 : Index := Scalar.indexCast arg11
  let c0_i32_413 : BitVec 32 := 0#32
  let c1_i32_415 : BitVec 32 := 1#32
  let arg12 : BitVec 32 := Scf.iv c0_i32_413 c1_i32_415 k1_t64
  let c16_i32 : BitVec 32 := 16#32
  let v261 : BitVec 32 := Scalar.muli arg12 c16_i32
  let v262 : BitVec 32 := v261
  let v264 : Index := Scalar.indexCast v262
  ![v263.toNat, v264.toNat]
def k1_off104 (k1_t64 : Fin k1_t64_loop.trips) : Fin 2 → Nat :=
  let c0_i32_413 : BitVec 32 := 0#32
  let c1_i32_415 : BitVec 32 := 1#32
  let arg12 : BitVec 32 := Scf.iv c0_i32_413 c1_i32_415 k1_t64
  let v267 : Index := Scalar.indexCast arg12
  let c0_417 : Index := 0#32
  ![v267.toNat, 0]
def k1_mult97 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_363 : BitVec 32 := 4608#32
  let v226 : BitVec 32 := Scalar.muli v1 c4608_i32_363
  let c2560_i32_364 : BitVec 32 := 2560#32
  let v227 : BitVec 32 := Scalar.addi v226 c2560_i32_364
  v227
def k1_mult98 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_365 : BitVec 32 := 288#32
  let v229 : BitVec 32 := Scalar.muli v1 c288_i32_365
  let c160_i32_366 : BitVec 32 := 160#32
  let v230 : BitVec 32 := Scalar.addi v229 c160_i32_366
  v230
@[reducible] def k1_t65_loop : Scf.Loop 32 :=
  let c0_i32_370 : BitVec 32 := 0#32
  let c96_i32_371 : BitVec 32 := 96#32
  let v232 : BitVec 32 := Scalar.addi c0_i32_370 c96_i32_371
  let c1_i32_372 : BitVec 32 := 1#32
  ⟨c0_i32_370, v232, c1_i32_372⟩
def k1_off105 (k1_t65 : Fin k1_t65_loop.trips) : Fin 2 → Nat :=
  let c0_i32_370 : BitVec 32 := 0#32
  let c1_i32_372 : BitVec 32 := 1#32
  let arg11 : BitVec 32 := Scf.iv c0_i32_370 c1_i32_372 k1_t65
  let v254 : Index := Scalar.indexCast arg11
  let c0 : Index := 0#32
  ![v254.toNat, 0]
@[reducible] def k1_t66_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult99 (k1_t66 : Fin k1_t66_loop.trips) : BitVec 32 :=
  let c0_i32_413 : BitVec 32 := 0#32
  let c1_i32_415 : BitVec 32 := 1#32
  let arg12 : BitVec 32 := Scf.iv c0_i32_413 c1_i32_415 k1_t66
  let c16_i32 : BitVec 32 := 16#32
  let v261 : BitVec 32 := Scalar.muli arg12 c16_i32
  v261
def k1_off106 (k1_t65 : Fin k1_t65_loop.trips) (k1_t66 : Fin k1_t66_loop.trips) : Fin 2 → Nat :=
  let c0_i32_370 : BitVec 32 := 0#32
  let c1_i32_372 : BitVec 32 := 1#32
  let arg11 : BitVec 32 := Scf.iv c0_i32_370 c1_i32_372 k1_t65
  let v263 : Index := Scalar.indexCast arg11
  let c0_i32_413 : BitVec 32 := 0#32
  let c1_i32_415 : BitVec 32 := 1#32
  let arg12 : BitVec 32 := Scf.iv c0_i32_413 c1_i32_415 k1_t66
  let c16_i32 : BitVec 32 := 16#32
  let v261 : BitVec 32 := Scalar.muli arg12 c16_i32
  let v262 : BitVec 32 := v261
  let v264 : Index := Scalar.indexCast v262
  ![v263.toNat, v264.toNat]
def k1_off107 (k1_t66 : Fin k1_t66_loop.trips) : Fin 2 → Nat :=
  let c0_i32_413 : BitVec 32 := 0#32
  let c1_i32_415 : BitVec 32 := 1#32
  let arg12 : BitVec 32 := Scf.iv c0_i32_413 c1_i32_415 k1_t66
  let v267 : Index := Scalar.indexCast arg12
  let c0_417 : Index := 0#32
  ![v267.toNat, 0]
def k1_mult100 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_375 : BitVec 32 := 4608#32
  let v233 : BitVec 32 := Scalar.muli v1 c4608_i32_375
  let c3072_i32_376 : BitVec 32 := 3072#32
  let v234 : BitVec 32 := Scalar.addi v233 c3072_i32_376
  v234
def k1_mult101 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_377 : BitVec 32 := 288#32
  let v236 : BitVec 32 := Scalar.muli v1 c288_i32_377
  let c192_i32_378 : BitVec 32 := 192#32
  let v237 : BitVec 32 := Scalar.addi v236 c192_i32_378
  v237
@[reducible] def k1_t67_loop : Scf.Loop 32 :=
  let c0_i32_382 : BitVec 32 := 0#32
  let c96_i32_383 : BitVec 32 := 96#32
  let v239 : BitVec 32 := Scalar.addi c0_i32_382 c96_i32_383
  let c1_i32_384 : BitVec 32 := 1#32
  ⟨c0_i32_382, v239, c1_i32_384⟩
def k1_off108 (k1_t67 : Fin k1_t67_loop.trips) : Fin 2 → Nat :=
  let c0_i32_382 : BitVec 32 := 0#32
  let c1_i32_384 : BitVec 32 := 1#32
  let arg11 : BitVec 32 := Scf.iv c0_i32_382 c1_i32_384 k1_t67
  let v254 : Index := Scalar.indexCast arg11
  let c0 : Index := 0#32
  ![v254.toNat, 0]
@[reducible] def k1_t68_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult102 (k1_t68 : Fin k1_t68_loop.trips) : BitVec 32 :=
  let c0_i32_413 : BitVec 32 := 0#32
  let c1_i32_415 : BitVec 32 := 1#32
  let arg12 : BitVec 32 := Scf.iv c0_i32_413 c1_i32_415 k1_t68
  let c16_i32 : BitVec 32 := 16#32
  let v261 : BitVec 32 := Scalar.muli arg12 c16_i32
  v261
def k1_off109 (k1_t67 : Fin k1_t67_loop.trips) (k1_t68 : Fin k1_t68_loop.trips) : Fin 2 → Nat :=
  let c0_i32_382 : BitVec 32 := 0#32
  let c1_i32_384 : BitVec 32 := 1#32
  let arg11 : BitVec 32 := Scf.iv c0_i32_382 c1_i32_384 k1_t67
  let v263 : Index := Scalar.indexCast arg11
  let c0_i32_413 : BitVec 32 := 0#32
  let c1_i32_415 : BitVec 32 := 1#32
  let arg12 : BitVec 32 := Scf.iv c0_i32_413 c1_i32_415 k1_t68
  let c16_i32 : BitVec 32 := 16#32
  let v261 : BitVec 32 := Scalar.muli arg12 c16_i32
  let v262 : BitVec 32 := v261
  let v264 : Index := Scalar.indexCast v262
  ![v263.toNat, v264.toNat]
def k1_off110 (k1_t68 : Fin k1_t68_loop.trips) : Fin 2 → Nat :=
  let c0_i32_413 : BitVec 32 := 0#32
  let c1_i32_415 : BitVec 32 := 1#32
  let arg12 : BitVec 32 := Scf.iv c0_i32_413 c1_i32_415 k1_t68
  let v267 : Index := Scalar.indexCast arg12
  let c0_417 : Index := 0#32
  ![v267.toNat, 0]
def k1_mult103 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_387 : BitVec 32 := 4608#32
  let v240 : BitVec 32 := Scalar.muli v1 c4608_i32_387
  let c3584_i32_388 : BitVec 32 := 3584#32
  let v241 : BitVec 32 := Scalar.addi v240 c3584_i32_388
  v241
def k1_mult104 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_389 : BitVec 32 := 288#32
  let v243 : BitVec 32 := Scalar.muli v1 c288_i32_389
  let c224_i32_390 : BitVec 32 := 224#32
  let v244 : BitVec 32 := Scalar.addi v243 c224_i32_390
  v244
@[reducible] def k1_t69_loop : Scf.Loop 32 :=
  let c0_i32_394 : BitVec 32 := 0#32
  let c96_i32_395 : BitVec 32 := 96#32
  let v246 : BitVec 32 := Scalar.addi c0_i32_394 c96_i32_395
  let c1_i32_396 : BitVec 32 := 1#32
  ⟨c0_i32_394, v246, c1_i32_396⟩
def k1_off111 (k1_t69 : Fin k1_t69_loop.trips) : Fin 2 → Nat :=
  let c0_i32_394 : BitVec 32 := 0#32
  let c1_i32_396 : BitVec 32 := 1#32
  let arg11 : BitVec 32 := Scf.iv c0_i32_394 c1_i32_396 k1_t69
  let v254 : Index := Scalar.indexCast arg11
  let c0 : Index := 0#32
  ![v254.toNat, 0]
@[reducible] def k1_t70_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult105 (k1_t70 : Fin k1_t70_loop.trips) : BitVec 32 :=
  let c0_i32_413 : BitVec 32 := 0#32
  let c1_i32_415 : BitVec 32 := 1#32
  let arg12 : BitVec 32 := Scf.iv c0_i32_413 c1_i32_415 k1_t70
  let c16_i32 : BitVec 32 := 16#32
  let v261 : BitVec 32 := Scalar.muli arg12 c16_i32
  v261
def k1_off112 (k1_t69 : Fin k1_t69_loop.trips) (k1_t70 : Fin k1_t70_loop.trips) : Fin 2 → Nat :=
  let c0_i32_394 : BitVec 32 := 0#32
  let c1_i32_396 : BitVec 32 := 1#32
  let arg11 : BitVec 32 := Scf.iv c0_i32_394 c1_i32_396 k1_t69
  let v263 : Index := Scalar.indexCast arg11
  let c0_i32_413 : BitVec 32 := 0#32
  let c1_i32_415 : BitVec 32 := 1#32
  let arg12 : BitVec 32 := Scf.iv c0_i32_413 c1_i32_415 k1_t70
  let c16_i32 : BitVec 32 := 16#32
  let v261 : BitVec 32 := Scalar.muli arg12 c16_i32
  let v262 : BitVec 32 := v261
  let v264 : Index := Scalar.indexCast v262
  ![v263.toNat, v264.toNat]
def k1_off113 (k1_t70 : Fin k1_t70_loop.trips) : Fin 2 → Nat :=
  let c0_i32_413 : BitVec 32 := 0#32
  let c1_i32_415 : BitVec 32 := 1#32
  let arg12 : BitVec 32 := Scf.iv c0_i32_413 c1_i32_415 k1_t70
  let v267 : Index := Scalar.indexCast arg12
  let c0_417 : Index := 0#32
  ![v267.toNat, 0]
def k1_mult106 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4608_i32_399 : BitVec 32 := 4608#32
  let v247 : BitVec 32 := Scalar.muli v1 c4608_i32_399
  let c4096_i32_400 : BitVec 32 := 4096#32
  let v248 : BitVec 32 := Scalar.addi v247 c4096_i32_400
  v248
def k1_mult107 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32_401 : BitVec 32 := 288#32
  let v250 : BitVec 32 := Scalar.muli v1 c288_i32_401
  let c256_i32_402 : BitVec 32 := 256#32
  let v251 : BitVec 32 := Scalar.addi v250 c256_i32_402
  v251
@[reducible] def k1_t71_loop : Scf.Loop 32 :=
  let c0_i32_406 : BitVec 32 := 0#32
  let c96_i32_407 : BitVec 32 := 96#32
  let v253 : BitVec 32 := Scalar.addi c0_i32_406 c96_i32_407
  let c1_i32_408 : BitVec 32 := 1#32
  ⟨c0_i32_406, v253, c1_i32_408⟩
def k1_off114 (k1_t71 : Fin k1_t71_loop.trips) : Fin 2 → Nat :=
  let c0_i32_406 : BitVec 32 := 0#32
  let c1_i32_408 : BitVec 32 := 1#32
  let arg11 : BitVec 32 := Scf.iv c0_i32_406 c1_i32_408 k1_t71
  let v254 : Index := Scalar.indexCast arg11
  let c0 : Index := 0#32
  ![v254.toNat, 0]
@[reducible] def k1_t72_loop : Scf.Loop 32 :=
  let c0_i32_413 : BitVec 32 := 0#32
  let c32_i32_414 : BitVec 32 := 32#32
  let v260 : BitVec 32 := Scalar.addi c0_i32_413 c32_i32_414
  let c1_i32_415 : BitVec 32 := 1#32
  ⟨c0_i32_413, v260, c1_i32_415⟩
def k1_mult108 (k1_t72 : Fin k1_t72_loop.trips) : BitVec 32 :=
  let c0_i32_413 : BitVec 32 := 0#32
  let c1_i32_415 : BitVec 32 := 1#32
  let arg12 : BitVec 32 := Scf.iv c0_i32_413 c1_i32_415 k1_t72
  let c16_i32 : BitVec 32 := 16#32
  let v261 : BitVec 32 := Scalar.muli arg12 c16_i32
  v261
def k1_off115 (k1_t71 : Fin k1_t71_loop.trips) (k1_t72 : Fin k1_t72_loop.trips) : Fin 2 → Nat :=
  let c0_i32_406 : BitVec 32 := 0#32
  let c1_i32_408 : BitVec 32 := 1#32
  let arg11 : BitVec 32 := Scf.iv c0_i32_406 c1_i32_408 k1_t71
  let v263 : Index := Scalar.indexCast arg11
  let c0_i32_413 : BitVec 32 := 0#32
  let c1_i32_415 : BitVec 32 := 1#32
  let arg12 : BitVec 32 := Scf.iv c0_i32_413 c1_i32_415 k1_t72
  let c16_i32 : BitVec 32 := 16#32
  let v261 : BitVec 32 := Scalar.muli arg12 c16_i32
  let v262 : BitVec 32 := v261
  let v264 : Index := Scalar.indexCast v262
  ![v263.toNat, v264.toNat]
def k1_off116 (k1_t72 : Fin k1_t72_loop.trips) : Fin 2 → Nat :=
  let c0_i32_413 : BitVec 32 := 0#32
  let c1_i32_415 : BitVec 32 := 1#32
  let arg12 : BitVec 32 := Scf.iv c0_i32_413 c1_i32_415 k1_t72
  let v267 : Index := Scalar.indexCast arg12
  let c0_417 : Index := 0#32
  ![v267.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4x96x384x384 : Shape := ⟨4, ![4, 96, 384, 384]⟩
abbrev S96 : Shape := ⟨1, ![96]⟩
abbrev S4x384x384x96 : Shape := ⟨4, ![4, 384, 384, 96]⟩
abbrev S_ : Shape := ⟨0, ![]⟩
abbrev S4x384x384 : Shape := ⟨3, ![4, 384, 384]⟩
abbrev S4x384x384x1 : Shape := ⟨4, ![4, 384, 384, 1]⟩
abbrev S1x1x1x96 : Shape := ⟨4, ![1, 1, 1, 96]⟩

abbrev nBuf : Space → Nat
  | .hbm => 51
  | .vmem => 0
  | .smem => 0
  | _ => 0

abbrev bufTy : (tb : Table) → Fin (tcTables nBuf tb) → BufTy
  | .hbm, ⟨0, _⟩ => ⟨S4x96x384x384, .f32⟩
  | .hbm, ⟨1, _⟩ => ⟨S96, .f32⟩
  | .hbm, ⟨2, _⟩ => ⟨S96, .f32⟩
  | .hbm, ⟨3, _⟩ => ⟨S4x384x384x96, .f32⟩
  | .hbm, ⟨4, _⟩ => ⟨S_, .f32⟩
  | .hbm, ⟨5, _⟩ => ⟨S4x384x384x96, .f32⟩
  | .hbm, ⟨6, _⟩ => ⟨S4x384x384x96, .i1⟩
  | .hbm, ⟨7, _⟩ => ⟨S_, .i1⟩
  | .hbm, ⟨8, _⟩ => ⟨S4x384x384, .i1⟩
  | .hbm, ⟨9, _⟩ => ⟨S4x384x384, .f32⟩
  | .hbm, ⟨10, _⟩ => ⟨S4x384x384x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x384x384x96, .f32⟩
  | .hbm, ⟨16, _⟩ => ⟨S4x384x384x96, .f32⟩
  | .hbm, ⟨17, _⟩ => ⟨S_, .f32⟩
  | .hbm, ⟨18, _⟩ => ⟨S96, .f32⟩
  | .hbm, ⟨19, _⟩ => ⟨S96, .f32⟩
  | .hbm, ⟨20, _⟩ => ⟨S96, .f32⟩
  | .hbm, ⟨21, _⟩ => ⟨S1x1x1x96, .f32⟩
  | .hbm, ⟨22, _⟩ => ⟨S4x384x384x96, .f32⟩
  | .hbm, ⟨23, _⟩ => ⟨S4x384x384x96, .f32⟩
  | .hbm, ⟨24, _⟩ => ⟨S4x384x384x96, .f32⟩
  | .hbm, ⟨25, _⟩ => ⟨S4x384x384x96, .f32⟩
  | .hbm, ⟨26, _⟩ => ⟨S4x384x384x96, .f32⟩
  | .hbm, ⟨27, _⟩ => ⟨S_, .f32⟩
  | .hbm, ⟨28, _⟩ => ⟨S96, .f32⟩
  | .hbm, ⟨29, _⟩ => ⟨S96, .f32⟩
  | .hbm, ⟨30, _⟩ => ⟨S96, .f32⟩
  | .hbm, ⟨31, _⟩ => ⟨S1x1x1x96, .f32⟩
  | .hbm, ⟨32, _⟩ => ⟨S4x384x384x96, .f32⟩
  | .hbm, ⟨33, _⟩ => ⟨S4x384x384x96, .f32⟩
  | .hbm, ⟨34, _⟩ => ⟨S_, .f32⟩
  | .hbm, ⟨35, _⟩ => ⟨S96, .f32⟩
  | .hbm, ⟨36, _⟩ => ⟨S96, .f32⟩
  | .hbm, ⟨37, _⟩ => ⟨S96, .f32⟩
  | .hbm, ⟨38, _⟩ => ⟨S1x1x1x96, .f32⟩
  | .hbm, ⟨39, _⟩ => ⟨S4x384x384x96, .f32⟩
  | .hbm, ⟨40, _⟩ => ⟨S4x384x384x96, .f32⟩
  | .hbm, ⟨41, _⟩ => ⟨S1x1x1x96, .f32⟩
  | .hbm, ⟨42, _⟩ => ⟨S4x384x384x96, .f32⟩
  | .hbm, ⟨43, _⟩ => ⟨S4x384x384x96, .f32⟩
  | .hbm, ⟨44, _⟩ => ⟨S1x1x1x96, .f32⟩
  | .hbm, ⟨45, _⟩ => ⟨S4x384x384x96, .f32⟩
  | .hbm, ⟨46, _⟩ => ⟨S4x384x384x96, .f32⟩
  | .hbm, ⟨47, _⟩ => ⟨S4x384x384x1, .i1⟩
  | .hbm, ⟨48, _⟩ => ⟨S4x384x384x96, .i1⟩
  | .hbm, ⟨49, _⟩ => ⟨S4x384x384x96, .f32⟩
  | .hbm, ⟨50, _⟩ => ⟨S4x96x384x384, .f32⟩
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Vals.lean ====
/- What the two kernels' tiles compute, as functions of the arrays they read. -/
module

public import proofs.«01_k».proof.Proof.Gen.Kernel
public import Idealize.ShloMosaic.Lib.ValueIdxCore
public import Idealize.ShloMosaic.Lib.ValueLayout
public import Idealize.ShloMosaic.Lib.Pipeline.Value

@[expose] public section

noncomputable section

namespace Cert.Proof.BN

open Cert.Kernel Cert.Kernel.Gen
open Idealize.ShloMosaic Idealize.ShloMosaic.ValueIdx

variable {F : FTy → Type} [FloatOps F]

/-! ## Rows of sixteen lanes -/

/-- Sixteen zeros. -/
def zero16 : FVec F S16 .f32 := broadcast S16 (Scalar.ofBits .f32 0x00000000#32)
/-- Sixteen ones. -/
def one16 : FVec F S16 .f32 := broadcast S16 (Scalar.ofBits .f32 0x3F800000#32)

/-- Channel `c`'s lanes of group `g` of a chunk. -/
def row (ch : FVec F S96x512 .f32) (c g : ℕ) : FVec F S16 .f32 :=
  fun l => ch (ix2 (Fin.ofNat 96 c) (Fin.ofNat 512 (16 * g + (l 0).val)))
/-- Group `g`'s lanes of a chunk's mask. -/
def mrow (mb : FVec F S32x16 .f32) (g : ℕ) : FVec F S16 .f32 := fun l => mb (ix2 (Fin.ofNat 32 g) (l 0))
/-- Channel `c`'s lanes of a per-channel array. -/
def arow (a : FVec F S96x16 .f32) (c : ℕ) : FVec F S16 .f32 := fun l => a (ix2 (Fin.ofNat 96 c) (l 0))

/-! ## The statistics -/

/-- The mask of the rows `0 … n-1`: one at a lane where some row is positive, zero elsewhere. -/
def maskOf (rows : ℕ → FVec F S16 .f32) : ℕ → FVec F S16 .f32
  | 0 => zero16
  | n + 1 => select (cmpf .ogt (rows n) zero16) one16 (maskOf rows n)

/-- The mask of group `g` of a chunk. -/
def maskv (ch : FVec F S96x512 .f32) (g : ℕ) : FVec F S16 .f32 := maskOf (fun c => row ch c g) 96
/-- A chunk's mask, all groups. -/
def maskBuf (ch : FVec F S96x512 .f32) : FVec F S32x16 .f32 := fun p => maskv ch (p 0).val (ix1 (p 1))
/-- The count of valid positions per lane after the first `n` groups of a chunk, from `v`. -/
def cntN (ch : FVec F S96x512 .f32) (v : FVec F S16 .f32) : ℕ → FVec F S16 .f32
  | 0 => v
  | n + 1 => addf (cntN ch v n) (maskv ch n)
/-- Channel `c`'s masked sums (of the values, of their squares) over the first `n` groups of a chunk. -/
def sumN (ch : FVec F S96x512 .f32) (mb : FVec F S32x16 .f32) (c : ℕ) : ℕ → FVec F S16 .f32 × FVec F S16 .f32
  | 0 => (zero16, zero16)
  | g + 1 => (addf (sumN ch mb c g).1 (mulf (row ch c g) (mrow mb g)),
      addf (sumN ch mb c g).2 (mulf (mulf (row ch c g) (mrow mb g)) (row ch c g)))
/-- The accumulated sums after a chunk, from what was accumulated before. -/
def acc1New (ch : FVec F S96x512 .f32) (mb : FVec F S32x16 .f32) (a : FVec F S96x16 .f32) : FVec F S96x16 .f32 :=
  fun p => addf (arow a (p 0).val) (sumN ch mb (p 0).val 32).1 (ix1 (p 1))
/-- The accumulated sums of squares after a chunk, from what was accumulated before. -/
def acc2New (ch : FVec F S96x512 .f32) (mb : FVec F S32x16 .f32) (a : FVec F S96x16 .f32) : FVec F S96x16 .f32 :=
  fun p => addf (arow a (p 0).val) (sumN ch mb (p 0).val 32).2 (ix1 (p 1))

/-- Chunk `k` of tile `w`'s part of the input: batch `k / 9`, columns from `4608 w + 512 (k % 9)`. -/
def chunk (x : FVec F S4x96x147456 .f32) (w k : ℕ) : FVec F S96x512 .f32 :=
  fun p => x (ix3 (Fin.ofNat 4 (k / 9)) (p 0) (Fin.ofNat 147456 (4608 * w + 512 * (k % 9) + (p 1).val)))

/-- What tile `w` has accumulated after its first `k` chunks: sums, sums of squares, counts. -/
def accAt (x : FVec F S4x96x147456 .f32) (w : ℕ) : ℕ → FVec F S96x16 .f32 × FVec F S96x16 .f32 × FVec F S16 .f32
  | 0 => (fun _ => Scalar.ofBits .f32 0x00000000#32, fun _ => Scalar.ofBits .f32 0x00000000#32, zero16)
  | k + 1 => (acc1New (chunk x w k) (maskBuf (chunk x w k)) (accAt x w k).1,
      acc2New (chunk x w k) (maskBuf (chunk x w k)) (accAt x w k).2.1,
      cntN (chunk x w k) (accAt x w k).2.2 32)

/-- The mask of every position. -/
def maskArr (x : FVec F S4x96x147456 .f32) : FVec F S4x9216x16 .f32 :=
  fun p => maskOf (fun c (l : S16.Idx) => x (ix3 (p 0) (Fin.ofNat 96 c) (Fin.ofNat 147456 (16 * (p 1).val + (l 0).val)))) 96 (ix1 (p 2))

/-- The tiles' sums, one tile a row. -/
def s1Arr (x : FVec F S4x96x147456 .f32) : FVec F S32x96x16 .f32 := fun p => (accAt x (p 0).val 36).1 (ix2 (p 1) (p 2))
/-- The tiles' sums of squares, one tile a row. -/
def s2Arr (x : FVec F S4x96x147456 .f32) : FVec F S32x96x16 .f32 := fun p => (accAt x (p 0).val 36).2.1 (ix2 (p 1) (p 2))
/-- The tiles' counts, one tile a row. -/
def cntArr (x : FVec F S4x96x147456 .f32) : FVec F S32x16 .f32 := fun p => (accAt x (p 0).val 36).2.2 (ix1 (p 1))

/-! ## The normalisation -/

/-- Sixteen lanes scaled and shifted where the mask is positive, kept elsewhere. -/
def normv (v m sc sh : FVec F S16 .f32) : FVec F S16 .f32 := select (cmpf .ogt m zero16) (addf (mulf v sc) sh) v
/-- A chunk normalised. -/
def normBuf (ch : FVec F S96x512 .f32) (mb : FVec F S32x16 .f32) (sc sh : FVec F S96x16 .f32) : FVec F S96x512 .f32 :=
  fun p => normv (row ch (p 0).val ((p 1).val / 16)) (mrow mb ((p 1).val / 16)) (arow sc (p 0).val) (arow sh (p 0).val) (ix1 (Fin.ofNat 16 (p 1).val))
/-- A chunk with its first `n` groups of sixteen columns, over all channels in turn, normalised: `n = 32 c + g` counts channels `c` whole and `g` groups. -/
def normFill (ch : FVec F S96x512 .f32) (mb : FVec F S32x16 .f32) (sc sh : FVec F S96x16 .f32) (n : ℕ) : FVec F S96x512 .f32 :=
  fun p => if 32 * (p 0).val + (p 1).val / 16 < n then normBuf ch mb sc sh p else ch p
/-- Chunk `k` of tile `w`'s part of a mask. -/
def mchunk (mk : FVec F S4x9216x16 .f32) (w k : ℕ) : FVec F S32x16 .f32 :=
  fun p => mk (ix3 (Fin.ofNat 4 (k / 9)) (Fin.ofNat 9216 (288 * w + 32 * (k % 9) + (p 0).val)) (p 1))
/-- The whole array normalised. -/
def outArr (x : FVec F S4x96x147456 .f32) (mk : FVec F S4x9216x16 .f32) (sc sh : FVec F S96x16 .f32) : FVec F S4x96x147456 .f32 :=
  fun p => normv (fun l => x (ix3 (p 0) (p 1) (Fin.ofNat 147456 (16 * ((p 2).val / 16) + (l 0).val)))) (fun l => mk (ix3 (p 0) (Fin.ofNat 9216 ((p 2).val / 16)) (l 0)))
    (arow sc (p 1).val) (arow sh (p 1).val) (ix1 (Fin.ofNat 16 (p 2).val))

end Cert.Proof.BN

end
-- ==== Proof.Geo.lean ====
/- The elements the kernels' copies, loads and stores address, and what they read and leave there. -/
module

public import proofs.«01_k».proof.Proof.Vals

@[expose] public section

noncomputable section

namespace Cert.Proof.BN

open Cert.Kernel Cert.Kernel.Gen
open Idealize.ShloMosaic Idealize.ShloMosaic.ValueIdx

variable {F : FTy → Type} [FloatOps F]

/-! ## The parts of the arrays the copies move -/

/-- A 96 × 512 piece of an array of the input's shape, at `off`. -/
abbrev xCh (m : Memref sig .scVector .hbm S4x96x147456 .f32) (off : Fin 3 → ℕ) (inb : ∀ a, off a + S1x96x512.size a ≤ S4x96x147456.size a) :
    Memref sig .scVector .hbm S96x512 .f32 :=
  (m.slice (Rect.unit (s := S4x96x147456) off S1x96x512.size inb) (fun _ => rfl)).squeeze S96x512 squeezes_S1x96x512_S96x512
/-- A 32 × 16 piece of the mask, at `off`. -/
abbrev mCh (m : Memref sig .scVector .hbm S4x9216x16 .f32) (off : Fin 3 → ℕ) (inb : ∀ a, off a + S1x32x16.size a ≤ S4x9216x16.size a) :
    Memref sig .scVector .hbm S32x16 .f32 :=
  (m.slice (Rect.unit (s := S4x9216x16) off S1x32x16.size inb) (fun _ => rfl)).squeeze S32x16 squeezes_S1x32x16_S32x16
/-- A 96 × 16 piece of the tiles' sums, at `off`. -/
abbrev rCh (m : Memref sig .scVector .hbm S32x96x16 .f32) (off : Fin 3 → ℕ) (inb : ∀ a, off a + S1x96x16.size a ≤ S32x96x16.size a) :
    Memref sig .scVector .hbm S96x16 .f32 :=
  (m.slice (Rect.unit (s := S32x96x16) off S1x96x16.size inb) (fun _ => rfl)).squeeze S96x16 squeezes_S1x96x16_S96x16
/-- A row of the tiles' counts, at `off`. -/
abbrev cCh (m : Memref sig .scVector .hbm S32x16 .f32) (off : Fin 2 → ℕ) (inb : ∀ a, off a + S1x16.size a ≤ S32x16.size a) :
    Memref sig .scVector .hbm S16 .f32 :=
  (m.slice (Rect.unit (s := S32x16) off S1x16.size inb) (fun _ => rfl)).squeeze S16 squeezes_S1x16_S16

/-- Where a matrix index of a one-deep block of a rank-3 array lands. -/
theorem unit_emb3 {n0 n1 n2 a b : ℕ} (off : Fin 3 → ℕ) (inb : ∀ c, off c + (⟨3, ![1, a, b]⟩ : Shape).size c ≤ (⟨3, ![n0, n1, n2]⟩ : Shape).size c)
    (h : (⟨2, ![a, b]⟩ : Shape).numel = (⟨3, ![1, a, b]⟩ : Shape).numel) (i : Fin a) (j : Fin b) :
    (Rect.unit (s := ⟨3, ![n0, n1, n2]⟩) off (⟨3, ![1, a, b]⟩ : Shape).size inb).emb (Shape.reshapeEquiv h (ix2 i j))
      = ix3 ⟨off 0, by have h := inb 0; change off 0 + 1 ≤ n0 at h; omega⟩ ⟨off 1 + i.val, by have h := inb 1; change off 1 + a ≤ n1 at h; omega⟩
          ⟨off 2 + j.val, by have h := inb 2; change off 2 + b ≤ n2 at h; omega⟩ := by
  rw [reshapeEquiv_ix2_1ab]
  funext d
  match d with
  | ⟨0, _⟩ => exact Fin.ext (by show off 0 + 1 * 0 = off 0; omega)
  | ⟨1, _⟩ => exact Fin.ext (by show off 1 + 1 * i.val = off 1 + i.val; omega)
  | ⟨2, _⟩ => exact Fin.ext (by show off 2 + 1 * j.val = off 2 + j.val; omega)

/-- Where an index of a row of a matrix lands. -/
theorem unit_emb2 {n0 n1 a b : ℕ} (off : Fin 2 → ℕ) (inb : ∀ c, off c + (⟨2, ![a, b]⟩ : Shape).size c ≤ (⟨2, ![n0, n1]⟩ : Shape).size c)
    (i : Fin a) (j : Fin b) :
    (Rect.unit (s := ⟨2, ![n0, n1]⟩) off (⟨2, ![a, b]⟩ : Shape).size inb).emb (ix2 i j)
      = ix2 ⟨off 0 + i.val, by have h := inb 0; change off 0 + a ≤ n0 at h; omega⟩ ⟨off 1 + j.val, by have h := inb 1; change off 1 + b ≤ n1 at h; omega⟩ := by
  funext d
  match d with
  | ⟨0, _⟩ => exact Fin.ext (by show off 0 + 1 * i.val = off 0 + i.val; omega)
  | ⟨1, _⟩ => exact Fin.ext (by show off 1 + 1 * j.val = off 1 + j.val; omega)

/-- An index of a vector matched with a one-row matrix. -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    omega)

/-! ## Reading and writing through a view, by coordinates -/

/-- A write through the whole of a view leaves, at an element the view names, what was written there. -/
theorem write_at {κ : Kind} {sp : Space} {s : Shape} {e : EltTy} {v : View sig κ sp s e} {Val : EltTy → Type} (f : v.ty.Contents Val)
    (w : s.Idx → Val e) {p : v.ty.Idx} {x : s.Idx} (h : v.emb x = p) :
    v.write Val f w Finset.univ p = _root_.cast (congrArg Val v.elt_eq.symm) (w x) := by
  subst h; exact View.write_emb_of_mem f w (Finset.mem_univ x)
/-- A write through a view leaves an element it does not name as it was. -/
theorem write_off {κ : Kind} {sp : Space} {s : Shape} {e : EltTy} {v : View sig κ sp s e} {Val : EltTy → Type} (f : v.ty.Contents Val)
    (w : s.Idx → Val e) {p : v.ty.Idx} (h : ∀ x, v.emb x ≠ p) :
    v.write Val f w Finset.univ p = f p :=
  View.write_of_not_mem f w Finset.univ fun hp => by
    obtain ⟨x, -, hx⟩ := Finset.mem_map.mp hp
    exact h x hx

/-- A load of sixteen lanes of a row, as a vector of sixteen. -/
theorem load_row {n0 n1 : ℕ} (m : Memref sig .scVector .vmem ⟨2, ![n0, n1]⟩ .f32) (off : Fin 2 → ℕ)
    (inb : ∀ c, off c + S1x16.size c ≤ (⟨2, ![n0, n1]⟩ : Shape).size c) (f : m.view.ty.Contents (Elt F)) (l : Fin 16) :
    (shapeCast S16 ((m.view.readAt (Elt F) (Rect.unit (s := ⟨2, ![n0, n1]⟩) off S1x16.size inb).toLoadRect f : Vec F S1x16 .f32)) shapeCasts_S1x16_S16 : FVec F S16 .f32) (ix1 l)
      = m.view.read (Elt F) f (ix2 ⟨off 0, by have h := inb 0; change off 0 + 1 ≤ n0 at h; omega⟩ ⟨off 1 + l.val, by have h := inb 1; change off 1 + 16 ≤ n1 at h; omega⟩) := by
  rw [shapeCast_1a_a_apply]
  show m.view.read (Elt F) f ((Rect.unit (s := ⟨2, ![n0, n1]⟩) off S1x16.size inb).emb (ix2 0 l)) = _
  rw [unit_emb2]
  congr 1

/-! ## The tiles' parts of the arrays -/

/-- The tile at coordinates `L` of either kernel's grid, as a number below 32. -/
def wid (L : grid0.Coords) : ℕ := 2 * (L 1).val + (L 0).val
theorem wid_lt (L : grid0.Coords) : wid L < 32 := by
  have h0 : (L 0).val < 2 := (L 0).isLt
  have h1 : (L 1).val < 16 := (L 1).isLt
  unfold wid; omega

/-- Where chunk `k` of the tile at `L` starts in an array of the input's shape. -/
def offX (L : grid0.Coords) (k : ℕ) : Fin 3 → ℕ := ![k / 9, 0, 9216 * (L 1).val + 4608 * (L 0).val + 512 * (k % 9)]
/-- Where chunk `k` of the tile at `L` starts in the mask. -/
def offM (L : grid0.Coords) (k : ℕ) : Fin 3 → ℕ := ![k / 9, 576 * (L 1).val + 288 * (L 0).val + 32 * (k % 9), 0]

/-- The tile that works on an element of an array of the input's shape. -/
def wX (p : S4x96x147456.Idx) : ℕ := (p 2).val / 4608
/-- The tile that works on an element of the mask. -/
def wM (p : S4x9216x16.Idx) : ℕ := (p 1).val / 288
/-- The chunk an element of an array of the input's shape belongs to. -/
def kX (p : S4x96x147456.Idx) : ℕ := 9 * (p 0).val + (p 2).val % 4608 / 512
/-- The chunk an element of the mask belongs to. -/
def kM (p : S4x9216x16.Idx) : ℕ := 9 * (p 0).val + (p 1).val % 288 / 32

/-- Contents with the first `n` chunks at `G`. -/
def fillX {α : Type} (G f : S4x96x147456.Idx → α) (n : ℕ) : S4x96x147456.Idx → α := fun p => if kX p < n then G p else f p
/-- Contents with the first `n` chunks at `G`. -/
def fillM {α : Type} (G f : S4x9216x16.Idx → α) (n : ℕ) : S4x9216x16.Idx → α := fun p => if kM p < n then G p else f p

theorem fillX_zero {α : Type} (G f : S4x96x147456.Idx → α) : fillX G f 0 = f := rfl
theorem fillM_zero {α : Type} (G f : S4x9216x16.Idx → α) : fillM G f 0 = f := rfl
theorem fillX_all {α : Type} (G f : S4x96x147456.Idx → α) : fillX G f 36 = G := funext fun p => if_pos (by
  have h0 : (p 0).val < 4 := (p 0).isLt
  unfold kX; omega)
theorem fillM_all {α : Type} (G f : S4x9216x16.Idx → α) : fillM G f 36 = G := funext fun p => if_pos (by
  have h0 : (p 0).val < 4 := (p 0).isLt
  unfold kM; omega)

/-- Index `(i, j)` of chunk `k` of tile `w`, in an array of the input's shape. -/
def atX (w k : ℕ) (i : Fin 96) (j : Fin 512) : S4x96x147456.Idx := ix3 (Fin.ofNat 4 (k / 9)) i (Fin.ofNat 147456 (4608 * w + 512 * (k % 9) + j.val))
/-- Index `(i, j)` of chunk `k` of tile `w`, in the mask. -/
def atM (w k : ℕ) (i : Fin 32) (j : Fin 16) : S4x9216x16.Idx := ix3 (Fin.ofNat 4 (k / 9)) (Fin.ofNat 9216 (288 * w + 32 * (k % 9) + i.val)) j

theorem atX_own {w k : ℕ} (hw : w < 32) (hk : k < 36) (i : Fin 96) (j : Fin 512) : wX (atX w k i j) = w ∧ kX (atX w k i j) = k := by
  have hj := j.isLt
  have e0 : ((atX w k i j) 0).val = k / 9 % 4 := rfl
  have e2 : ((atX w k i j) 2).val = (4608 * w + 512 * (k % 9) + j.val) % 147456 := rfl
  unfold wX kX; rw [e0, e2]; omega
theorem atM_own {w k : ℕ} (hw : w < 32) (hk : k < 36) (i : Fin 32) (j : Fin 16) : wM (atM w k i j) = w ∧ kM (atM w k i j) = k := by
  have hi := i.isLt
  have e0 : ((atM w k i j) 0).val = k / 9 % 4 := rfl
  have e1 : ((atM w k i j) 1).val = (288 * w + 32 * (k % 9) + i.val) % 9216 := rfl
  unfold wM kM; rw [e0, e1]; omega
theorem own_atX {w k : ℕ} (p : S4x96x147456.Idx) (hw : wX p = w) (hk : kX p = k) : ∃ i j, atX w k i j = p := by
  have h0 : (p 0).val < 4 := (p 0).isLt
  have h2 : (p 2).val < 147456 := (p 2).isLt
  unfold wX at hw; unfold kX at hk
  refine ⟨p 1, ⟨(p 2).val % 512, by omega⟩, ?_⟩
  rw [eq_ix3 p]
  unfold atX
  funext d
  match d with
  | ⟨0, _⟩ => exact Fin.ext (by show k / 9 % 4 = (p 0).val; omega)
  | ⟨1, _⟩ => rfl
  | ⟨2, _⟩ => exact Fin.ext (by show (4608 * w + 512 * (k % 9) + (p 2).val % 512) % 147456 = (p 2).val; omega)
theorem own_atM {w k : ℕ} (p : S4x9216x16.Idx) (hw : wM p = w) (hk : kM p = k) : ∃ i j, atM w k i j = p := by
  have h0 : (p 0).val < 4 := (p 0).isLt
  have h1 : (p 1).val < 9216 := (p 1).isLt
  unfold wM at hw; unfold kM at hk
  refine ⟨⟨(p 1).val % 32, by omega⟩, p 2, ?_⟩
  rw [eq_ix3 p]
  unfold atM
  funext d
  match d with
  | ⟨0, _⟩ => exact Fin.ext (by show k / 9 % 4 = (p 0).val; omega)
  | ⟨1, _⟩ => exact Fin.ext (by show (288 * w + 32 * (k % 9) + (p 1).val % 32) % 9216 = (p 1).val; omega)
  | ⟨2, _⟩ => rfl

/-- The elements of an array of the input's shape that are tile `w`'s. -/
def tX (w : ℕ) : Finset S4x96x147456.Idx := Finset.univ.filter fun p => wX p = w
/-- The elements of the mask that are tile `w`'s. -/
def tM (w : ℕ) : Finset S4x9216x16.Idx := Finset.univ.filter fun p => wM p = w
/-- The row of the tiles' sums that is tile `w`'s. -/
def tR (w : ℕ) : Finset S32x96x16.Idx := Finset.univ.filter fun p => (p 0).val = w
/-- The row of the tiles' counts that is tile `w`'s. -/
def tC (w : ℕ) : Finset S32x16.Idx := Finset.univ.filter fun p => (p 0).val = w

section Chunks

variable (L : grid0.Coords) {k : ℕ} (hk : k < 36)

include hk in
/-- The element an index of chunk `k` names. -/
theorem xCh_emb (inb : ∀ a, offX L k a + S1x96x512.size a ≤ S4x96x147456.size a)
    (m : Memref sig .scVector .hbm S4x96x147456 .f32) (i : Fin 96) (j : Fin 512) :
    (xCh m (offX L k) inb).view.emb (ix2 i j) = m.view.emb (atX (wid L) k i j) := by
  have hw := wid_lt L
  have hj := j.isLt
  show m.view.emb ((Rect.unit (s := S4x96x147456) (offX L k) S1x96x512.size inb).emb (Shape.reshapeEquiv _ (ix2 i j))) = _
  rw [unit_emb3]
  congr 1
  funext d
  match d with
  | ⟨0, _⟩ => exact Fin.ext (by show k / 9 = k / 9 % 4; omega)
  | ⟨1, _⟩ => exact Fin.ext (by show 0 + i.val = i.val; omega)
  | ⟨2, _⟩ => exact Fin.ext (by
      show 9216 * (L 1).val + 4608 * (L 0).val + 512 * (k % 9) + j.val = (4608 * wid L + 512 * (k % 9) + j.val) % 147456
      unfold wid at *; omega)

include hk in
/-- The element an index of the mask's chunk `k` names. -/
theorem mCh_emb (inb : ∀ a, offM L k a + S1x32x16.size a ≤ S4x9216x16.size a)
    (m : Memref sig .scVector .hbm S4x9216x16 .f32) (i : Fin 32) (j : Fin 16) :
    (mCh m (offM L k) inb).view.emb (ix2 i j) = m.view.emb (atM (wid L) k i j) := by
  have hw := wid_lt L
  have hi := i.isLt
  show m.view.emb ((Rect.unit (s := S4x9216x16) (offM L k) S1x32x16.size inb).emb (Shape.reshapeEquiv _ (ix2 i j))) = _
  rw [unit_emb3]
  congr 1
  funext d
  match d with
  | ⟨0, _⟩ => exact Fin.ext (by show k / 9 = k / 9 % 4; omega)
  | ⟨1, _⟩ => exact Fin.ext (by
      show 576 * (L 1).val + 288 * (L 0).val + 32 * (k % 9) + i.val = (288 * wid L + 32 * (k % 9) + i.val) % 9216
      unfold wid at *; omega)
  | ⟨2, _⟩ => exact Fin.ext (by show 0 + j.val = j.val; omega)

/-! ### The arrays the kernels are handed -/

abbrev xV : Memref sig .scVector .hbm S4x96x147456 .f32 := Memref.whole main_v0_scv
abbrev s1V : Memref sig .scVector .hbm S32x96x16 .f32 := Memref.whole main_v1_0_scv
abbrev s2V : Memref sig .scVector .hbm S32x96x16 .f32 := Memref.whole main_v1_1_scv
abbrev ctV : Memref sig .scVector .hbm S32x16 .f32 := Memref.whole main_v1_2_scv
abbrev mkV : Memref sig .scVector .hbm S4x9216x16 .f32 := Memref.whole main_v1_3_scv
abbrev scV : Memref sig .scVector .hbm S96x16 .f32 := Memref.whole main_v23_scv
abbrev shV : Memref sig .scVector .hbm S96x16 .f32 := Memref.whole main_v27_scv
abbrev oV : Memref sig .scVector .hbm S4x96x147456 .f32 := Memref.whole main_v28_scv

section

variable (inbX : ∀ a, offX L k a + S1x96x512.size a ≤ S4x96x147456.size a) (inbM : ∀ a, offM L k a + S1x32x16.size a ≤ S4x9216x16.size a)

include hk in
theorem emb_x (x : S96x512.Idx) : (xCh xV (offX L k) inbX).view.emb x = atX (wid L) k (x 0) (x 1) :=
  (congrArg (xCh xV (offX L k) inbX).view.emb (eq_ix2 x)).trans (xCh_emb L hk inbX xV (x 0) (x 1))
include hk in
theorem emb_o (x : S96x512.Idx) : (xCh oV (offX L k) inbX).view.emb x = atX (wid L) k (x 0) (x 1) :=
  (congrArg (xCh oV (offX L k) inbX).view.emb (eq_ix2 x)).trans (xCh_emb L hk inbX oV (x 0) (x 1))
include hk in
theorem emb_m (x : S32x16.Idx) : (mCh mkV (offM L k) inbM).view.emb x = atM (wid L) k (x 0) (x 1) :=
  (congrArg (mCh mkV (offM L k) inbM).view.emb (eq_ix2 x)).trans (mCh_emb L hk inbM mkV (x 0) (x 1))

include hk in
/-- What a copy of chunk `k` of the input reads. -/
theorem read_xCh (x : FVec F S4x96x147456 .f32) : (xCh xV (offX L k) inbX).view.read (Elt F) x = chunk x (wid L) k := by
  exact funext fun p => congrArg x (emb_x L hk inbX p)
include hk in
/-- What a copy of chunk `k` of the mask reads. -/
theorem read_mCh (x : FVec F S4x9216x16 .f32) : (mCh mkV (offM L k) inbM).view.read (Elt F) x = mchunk x (wid L) k := by
  exact funext fun p => congrArg x (emb_m L hk inbM p)

include hk in
theorem set_xCh : (xCh xV (offX L k) inbX).view.set ⊆ tX (wid L) := by
  intro p hp
  obtain ⟨x, -, hx⟩ := Finset.mem_map.mp hp
  have hx := (emb_x L hk inbX x).symm.trans hx
  exact Finset.mem_filter.mpr ⟨Finset.mem_univ _, hx ▸ (atX_own (wid_lt L) hk _ _).1⟩
include hk in
theorem set_oCh : (xCh oV (offX L k) inbX).view.set ⊆ tX (wid L) := by
  intro p hp
  obtain ⟨x, -, hx⟩ := Finset.mem_map.mp hp
  have hx := (emb_o L hk inbX x).symm.trans hx
  exact Finset.mem_filter.mpr ⟨Finset.mem_univ _, hx ▸ (atX_own (wid_lt L) hk _ _).1⟩
include hk in
theorem set_mCh : (mCh mkV (offM L k) inbM).view.set ⊆ tM (wid L) := by
  intro p hp
  obtain ⟨x, -, hx⟩ := Finset.mem_map.mp hp
  have hx := (emb_m L hk inbM x).symm.trans hx
  exact Finset.mem_filter.mpr ⟨Finset.mem_univ _, hx ▸ (atM_own (wid_lt L) hk _ _).1⟩

include hk in
/-- What a copy onto chunk `k` of the result leaves, on the tile's part. -/
theorem write_oCh (G f : FVec F S4x96x147456 .f32) (B : FVec F S96x512 .f32) (hB : ∀ i j, B (ix2 i j) = G (atX (wid L) k i j)) :
    ∀ p ∈ tX (wid L), (xCh oV (offX L k) inbX).view.write (Elt F) (fillX G f k) B Finset.univ p = fillX G f (k + 1) p := by
  intro p hp
  have hw := (Finset.mem_filter.mp hp).2
  by_cases hkp : kX p = k
  · obtain ⟨i, j, rfl⟩ := own_atX p hw hkp
    exact (write_at (v := (xCh oV (offX L k) inbX).view) (x := ix2 i j) _ _ (emb_o L hk inbX (ix2 i j))).trans ((hB i j).trans (if_pos (by omega)).symm)
  · rw [write_off (v := (xCh oV (offX L k) inbX).view)]
    · unfold fillX
      by_cases h : kX p < k
      · rw [if_pos h, if_pos (by omega)]
      · rw [if_neg h, if_neg (by omega)]
    · intro x hx
      have hx := (emb_o L hk inbX x).symm.trans hx
      exact hkp (hx ▸ (atX_own (wid_lt L) hk _ _).2)
include hk in
/-- What a copy onto chunk `k` of the mask leaves, on the tile's part. -/
theorem write_mCh (G f : FVec F S4x9216x16 .f32) (B : FVec F S32x16 .f32) (hB : ∀ i j, B (ix2 i j) = G (atM (wid L) k i j)) :
    ∀ p ∈ tM (wid L), (mCh mkV (offM L k) inbM).view.write (Elt F) (fillM G f k) B Finset.univ p = fillM G f (k + 1) p := by
  intro p hp
  have hw := (Finset.mem_filter.mp hp).2
  by_cases hkp : kM p = k
  · obtain ⟨i, j, rfl⟩ := own_atM p hw hkp
    exact (write_at (v := (mCh mkV (offM L k) inbM).view) (x := ix2 i j) _ _ (emb_m L hk inbM (ix2 i j))).trans ((hB i j).trans (if_pos (by omega)).symm)
  · rw [write_off (v := (mCh mkV (offM L k) inbM).view)]
    · unfold fillM
      by_cases h : kM p < k
      · rw [if_pos h, if_pos (by omega)]
      · rw [if_neg h, if_neg (by omega)]
    · intro x hx
      have hx := (emb_m L hk inbM x).symm.trans hx
      exact hkp (hx ▸ (atM_own (wid_lt L) hk _ _).2)

end

end Chunks

/-- A chunk's mask is the mask's chunk. -/
theorem maskBuf_chunk (x : FVec F S4x96x147456 .f32) {w k : ℕ} (hw : w < 32) (hk : k < 36) (i : Fin 32) (j : Fin 16) :
    maskBuf (chunk x w k) (ix2 i j) = maskArr x (atM w k i j) := by
  show maskOf (fun c => row (chunk x w k) c i.val) 96 (ix1 j) = maskOf _ 96 (ix1 j)
  congr 2
  funext c l
  have hl : (l 0).val < 16 := (l 0).isLt
  have hi := i.isLt
  show x (ix3 _ _ _) = x (ix3 _ _ _)
  congr 2
  exact Fin.ext (by
    show (4608 * w + 512 * (k % 9) + (16 * i.val + (l 0).val) % 512) % 147456 = (16 * ((288 * w + 32 * (k % 9) + i.val) % 9216) + (l 0).val) % 147456
    omega)

/-- A chunk normalised by the mask's chunk is the normalised array's chunk. -/
theorem normBuf_chunk (x : FVec F S4x96x147456 .f32) (mk : FVec F S4x9216x16 .f32) (sc sh : FVec F S96x16 .f32) {w k : ℕ} (hw : w < 32) (hk : k < 36)
    (i : Fin 96) (j : Fin 512) :
    normBuf (chunk x w k) (mchunk mk w k) sc sh (ix2 i j) = outArr x mk sc sh (atX w k i j) := by
  have hj := j.isLt
  have hi := i.isLt
  show normv _ _ (arow sc i.val) (arow sh i.val) (ix1 (Fin.ofNat 16 j.val)) = normv _ _ (arow sc i.val) (arow sh i.val) (ix1 (Fin.ofNat 16 ((4608 * w + 512 * (k % 9) + j.val) % 147456)))
  have e : (Fin.ofNat 16 ((4608 * w + 512 * (k % 9) + j.val) % 147456)) = Fin.ofNat 16 j.val := Fin.ext (by
    show (4608 * w + 512 * (k % 9) + j.val) % 147456 % 16 = j.val % 16; omega)
  rw [e]
  congr 2
  · funext l
    have hl : (l 0).val < 16 := (l 0).isLt
    show x (ix3 _ _ _) = x (ix3 _ _ _)
    congr 2
    · exact Fin.ext (by show i.val % 96 = i.val; omega)
    · exact Fin.ext (by
        show (4608 * w + 512 * (k % 9) + (16 * (j.val / 16) + (l 0).val) % 512) % 147456 = (16 * ((4608 * w + 512 * (k % 9) + j.val) % 147456 / 16) + (l 0).val) % 147456
        omega)
  · funext l
    show mk (ix3 _ _ _) = mk (ix3 _ _ _)
    congr 2
    exact Fin.ext (by
      show (288 * w + 32 * (k % 9) + j.val / 16 % 32) % 9216 = (4608 * w + 512 * (k % 9) + j.val) % 147456 / 16 % 9216
      omega)

/-! ## Loads and stores of rows -/

/-- What a memref reads after a store of sixteen lanes of a row: those lanes there, and what it read elsewhere. -/
theorem store_row {n0 n1 : ℕ} (m : Memref sig .scVector .vmem ⟨2, ![n0, n1]⟩ .f32) (off : Fin 2 → ℕ)
    (inb : ∀ c, off c + S1x16.size c ≤ (⟨2, ![n0, n1]⟩ : Shape).size c) (f : m.view.ty.Contents (Elt F)) (v : FVec F S16 .f32)
    (h : S16.ShapeCasts S1x16) (p : (⟨2, ![n0, n1]⟩ : Shape).Idx) :
    m.view.read (Elt F) ((m.access (Rect.unit (s := ⟨2, ![n0, n1]⟩) off S1x16.size inb)).write (Elt F) f (shapeCast S1x16 v h : FVec F S1x16 .f32) Finset.univ) p
      = if (p 0).val = off 0 ∧ off 1 ≤ (p 1).val ∧ (p 1).val < off 1 + 16 then v (ix1 (Fin.ofNat 16 ((p 1).val - off 1))) else m.view.read (Elt F) f p := by
  by_cases hp : (p 0).val = off 0 ∧ off 1 ≤ (p 1).val ∧ (p 1).val < off 1 + 16
  · rw [if_pos hp]
    have e : (Rect.unit (s := ⟨2, ![n0, n1]⟩) off S1x16.size inb).emb (ix2 (0 : Fin 1) ⟨(p 1).val - off 1, by omega⟩) = p := by
      refine (unit_emb2 off inb _ _).trans ?_
      funext d
      match d with
      | ⟨0, _⟩ => exact Fin.ext (by show off 0 + 0 = (p 0).val; omega)
      | ⟨1, _⟩ => exact Fin.ext (by show off 1 + ((p 1).val - off 1) = (p 1).val; omega)
    refine (congrArg _ e.symm).trans ((View.read_slice_write_emb (v := m.view) _ f _ (Finset.mem_univ _)).trans ?_)
    refine (shapeCast_a_1a_apply v h 0 _).trans (congrArg v ?_)
    congr 1
    exact Fin.ext (by show (p 1).val - off 1 = ((p 1).val - off 1) % 16; omega)
  · rw [if_neg hp]
    refine View.read_slice_write_of_not_mem (v := m.view) _ f _ Finset.univ fun hm => hp ?_
    obtain ⟨x, -, hx⟩ := Finset.mem_map.mp hm
    have hx0 : (x 0).val < 1 := (x 0).isLt
    have hx1 : (x 1).val < 16 := (x 1).isLt
    have e0 : (p 0).val = off 0 + 1 * (x 0).val := congrArg (fun q : (⟨2, ![n0, n1]⟩ : Shape).Idx => (q 0).val) hx.symm
    have e1 : (p 1).val = off 1 + 1 * (x 1).val := congrArg (fun q : (⟨2, ![n0, n1]⟩ : Shape).Idx => (q 1).val) hx.symm
    omega

/-- A load of sixteen lanes of a channel's row. -/
theorem load7 (m : Memref sig .scVector .vmem S96x512 .f32) {off : Fin 2 → ℕ} {inb : ∀ c, off c + S1x16.size c ≤ S96x512.size c} (f : m.view.ty.Contents (Elt F))
    {c g : ℕ} (hc : c < 96) (hg : g < 32) (ho : off = ![c, 16 * g]) :
    (shapeCast S16 ((m.view.readAt (Elt F) (Rect.unit (s := S96x512) off S1x16.size inb).toLoadRect f : Vec F S1x16 .f32)) shapeCasts_S1x16_S16 : FVec F S16 .f32)
      = row (m.view.read (Elt F) f) c g := by
  subst ho
  funext l
  rw [eq_ix1 l]
  have hl : (l 0).val < 16 := (l 0).isLt
  refine (load_row m ![c, 16 * g] inb f (l 0)).trans (congrArg (m.view.read (Elt F) f) ?_)
  funext d
  match d with
  | ⟨0, _⟩ => exact Fin.ext (by show c = c % 96; omega)
  | ⟨1, _⟩ => exact Fin.ext (by show 16 * g + (l 0).val = (16 * g + (l 0).val) % 512; omega)
/-- A load of a group's lanes of a mask. -/
theorem load8 (m : Memref sig .scVector .vmem S32x16 .f32) {off : Fin 2 → ℕ} {inb : ∀ c, off c + S1x16.size c ≤ S32x16.size c} (f : m.view.ty.Contents (Elt F))
    {g : ℕ} (hg : g < 32) (ho : off = ![g, 0]) :
    (shapeCast S16 ((m.view.readAt (Elt F) (Rect.unit (s := S32x16) off S1x16.size inb).toLoadRect f : Vec F S1x16 .f32)) shapeCasts_S1x16_S16 : FVec F S16 .f32)
      = mrow (m.view.read (Elt F) f) g := by
  subst ho
  funext l
  rw [eq_ix1 l]
  refine (load_row m ![g, 0] inb f (l 0)).trans (congrArg (m.view.read (Elt F) f) ?_)
  funext d
  match d with
  | ⟨0, _⟩ => exact Fin.ext (by show g = g % 32; omega)
  | ⟨1, _⟩ => exact Fin.ext (by show 0 + (l 0).val = (l 0).val; omega)
/-- A load of a channel's lanes of a per-channel array. -/
theorem load9 (m : Memref sig .scVector .vmem S96x16 .f32) {off : Fin 2 → ℕ} {inb : ∀ c, off c + S1x16.size c ≤ S96x16.size c} (f : m.view.ty.Contents (Elt F))
    {c : ℕ} (hc : c < 96) (ho : off = ![c, 0]) :
    (shapeCast S16 ((m.view.readAt (Elt F) (Rect.unit (s := S96x16) off S1x16.size inb).toLoadRect f : Vec F S1x16 .f32)) shapeCasts_S1x16_S16 : FVec F S16 .f32)
      = arow (m.view.read (Elt F) f) c := by
  subst ho
  funext l
  rw [eq_ix1 l]
  refine (load_row m ![c, 0] inb f (l 0)).trans (congrArg (m.view.read (Elt F) f) ?_)
  funext d
  match d with
  | ⟨0, _⟩ => exact Fin.ext (by show c = c % 96; omega)
  | ⟨1, _⟩ => exact Fin.ext (by show 0 + (l 0).val = (l 0).val; omega)

/-- Contents whose rows below `n` are `G`'s. -/
def fillR {α : Type} {n0 n1 : ℕ} (G f : (⟨2, ![n0, n1]⟩ : Shape).Idx → α) (n : ℕ) : (⟨2, ![n0, n1]⟩ : Shape).Idx → α := fun p => if (p 0).val < n then G p else f p

/-- A store of row `r` of `G` over contents whose rows below `r` are `G`'s. -/
theorem store_fillR {n0 : ℕ} (m : Memref sig .scVector .vmem ⟨2, ![n0, 16]⟩ .f32) {off : Fin 2 → ℕ}
    {inb : ∀ c, off c + S1x16.size c ≤ (⟨2, ![n0, 16]⟩ : Shape).size c} (f : m.view.ty.Contents (Elt F)) (v : FVec F S16 .f32)
    {h : S16.ShapeCasts S1x16} {r : ℕ} (ho : off = ![r, 0]) (G f0 : FVec F ⟨2, ![n0, 16]⟩ .f32) (hf : m.view.read (Elt F) f = fillR G f0 r)
    (hv : ∀ (p : (⟨2, ![n0, 16]⟩ : Shape).Idx), (p 0).val = r → v (ix1 (p 1)) = G p) :
    m.view.read (Elt F) ((m.access (Rect.unit (s := ⟨2, ![n0, 16]⟩) off S1x16.size inb)).write (Elt F) f (shapeCast S1x16 v h : FVec F S1x16 .f32) Finset.univ)
      = fillR G f0 (r + 1) := by
  subst ho
  funext p
  rw [store_row, hf]
  have h1 : (p 1).val < 16 := (p 1).isLt
  show (if (p 0).val = r ∧ 0 ≤ (p 1).val ∧ (p 1).val < 0 + 16 then _ else _) = _
  by_cases hp : (p 0).val = r
  · rw [if_pos ⟨hp, by omega, by omega⟩]
    show _ = if (p 0).val < r + 1 then G p else f0 p
    rw [if_pos (by omega), ← hv p hp]
    congr 2
    exact Fin.ext (by show ((p 1).val - 0) % 16 = (p 1).val; omega)
  · rw [if_neg fun q => hp q.1]
    show (if (p 0).val < r then _ else _) = if (p 0).val < r + 1 then _ else _
    by_cases hlt : (p 0).val < r
    · rw [if_pos hlt, if_pos (by omega)]
    · rw [if_neg hlt, if_neg (by omega)]

/-- A store of the normalised group `g` of channel `c` over a chunk normalised up to there. -/
theorem store_norm (m : Memref sig .scVector .vmem S96x512 .f32) {off : Fin 2 → ℕ} {inb : ∀ c, off c + S1x16.size c ≤ S96x512.size c}
    (f : m.view.ty.Contents (Elt F)) (v : FVec F S16 .f32) {h : S16.ShapeCasts S1x16} {c g : ℕ} (hg : g < 32) (ho : off = ![c, 16 * g])
    (ch : FVec F S96x512 .f32) (mb : FVec F S32x16 .f32) (sc sh : FVec F S96x16 .f32) (hf : m.view.read (Elt F) f = normFill ch mb sc sh (32 * c + g))
    (hv : v = normv (row ch c g) (mrow mb g) (arow sc c) (arow sh c)) :
    m.view.read (Elt F) ((m.access (Rect.unit (s := S96x512) off S1x16.size inb)).write (Elt F) f (shapeCast S1x16 v h : FVec F S1x16 .f32) Finset.univ)
      = normFill ch mb sc sh (32 * c + (g + 1)) := by
  subst ho
  funext p
  refine (store_row m ![c, 16 * g] inb f v h p).trans ?_
  rw [hf]
  have h1 : (p 1).val < 512 := (p 1).isLt
  show (if (p 0).val = c ∧ 16 * g ≤ (p 1).val ∧ (p 1).val < 16 * g + 16 then _ else _) = _
  unfold normFill
  by_cases hp : (p 0).val = c ∧ 16 * g ≤ (p 1).val ∧ (p 1).val < 16 * g + 16
  · rw [if_pos hp, if_pos (by omega)]
    have eg : (p 1).val / 16 = g := by omega
    unfold normBuf
    rw [eg, hp.1, hv]
    congr 2
    exact Fin.ext (by show ((p 1).val - 16 * g) % 16 = (p 1).val % 16; omega)
  · rw [if_neg hp]
    by_cases hlt : 32 * (p 0).val + (p 1).val / 16 < 32 * c + g
    · rw [if_pos hlt, if_pos (by omega)]
    · rw [if_neg hlt, if_neg (by omega)]

/-- Channel `c`'s group `g` is untouched when only earlier groups are normalised. -/
theorem row_normFill (ch : FVec F S96x512 .f32) (mb : FVec F S32x16 .f32) (sc sh : FVec F S96x16 .f32) {c g : ℕ} (hc : c < 96) (hg : g < 32) :
    row (normFill ch mb sc sh (32 * c + g)) c g = row ch c g := by
  funext l
  have hl : (l 0).val < 16 := (l 0).isLt
  exact if_neg (by
    show ¬ 32 * (c % 96) + (16 * g + (l 0).val) % 512 / 16 < 32 * c + g
    omega)
theorem normFill_all (ch : FVec F S96x512 .f32) (mb : FVec F S32x16 .f32) (sc sh : FVec F S96x16 .f32) : normFill ch mb sc sh (32 * 96) = normBuf ch mb sc sh :=
  funext fun p => if_pos (by
    have h0 : (p 0).val < 96 := (p 0).isLt
    have h1 : (p 1).val < 512 := (p 1).isLt
    omega)
theorem normFill_zero (ch : FVec F S96x512 .f32) (mb : FVec F S32x16 .f32) (sc sh : FVec F S96x16 .f32) : normFill ch mb sc sh 0 = ch :=
  funext fun p => if_neg (Nat.not_lt_zero _)
theorem fillR_all {α : Type} {n0 n1 : ℕ} (G f : (⟨2, ![n0, n1]⟩ : Shape).Idx → α) : fillR G f n0 = G := funext fun p => if_pos (p 0).isLt
theorem fillR_zero {α : Type} {n0 n1 : ℕ} (G f : (⟨2, ![n0, n1]⟩ : Shape).Idx → α) : fillR G f 0 = f := funext fun p => if_neg (Nat.not_lt_zero _)
/-- Row `r` is untouched when only earlier rows are filled. -/
theorem arow_fillR (G f : FVec F S96x16 .f32) {c : ℕ} (hc : c < 96) : arow (fillR G f c) c = arow f c :=
  funext fun l => if_neg (by show ¬ c % 96 < c; omega)

end Cert.Proof.BN

end
-- ==== Proof.Base.lean ====
/- The program as the launch theorem sees it, and the steps a tile's program is made of. -/
module

public import proofs.«01_k».proof.Proof.Geo
public import Idealize.ShloMosaic.Lib.SparseCore.Quiescent
public import Idealize.ShloMosaic.Lib.StableHlo.Run
public import Idealize.ShloMosaic.Lib.Pipeline.Kit
public import Idealize.ShloMosaic.Lib.Transfers
public import Idealize.ShloMosaic.Lib.Tactic

@[expose] public section

noncomputable section

namespace Cert.Proof.BN

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL
abbrev EC : UEmb Counters (MT nD τ sig (HIx 2) (Elt F) ℕ UU ℕ) := countersEmb

/-! ## Sequencing -/

section Seq

variable [FloatOps F] (c : Thread nD τ) {α β : Type}

/-- A program followed by another. -/
theorem seq {H : sProp 𝕄} {p : Prog (TpuEff nD τ sig (Elt F) Λ₀ c.2) α} {k : α → Prog (TpuEff nD τ sig (Elt F) Λ₀ c.2) β} {Q : β → sProp 𝕄}
    (h : H ⊢ wp frame (wpE defs₀ 𝒱₀ c none) Set.univ p fun a => wp frame (wpE defs₀ 𝒱₀ c none) Set.univ (k a) Q) :
    H ⊢ wp frame (wpE defs₀ 𝒱₀ c none) Set.univ (p >>= k) Q := by
  rw [wp_bind]; exact h
/-- A program that returns. -/
theorem fin {H : sProp 𝕄} {a : α} {Q : α → sProp 𝕄} (h : H ⊢ Q a) :
    H ⊢ wp frame (wpE (defs₀ (F := F)) 𝒱₀ c none) Set.univ (pure a : Prog (TpuEff nD τ sig (Elt F) Λ₀ c.2) α) Q := by
  rw [wp_pure]; iintro H; imodintro; iapply h $$ H

end Seq

/-! ## Copies a tile makes and waits for -/

/-- What a tile owes, its waits recorded beyond `W` being its own. -/
def Own (c : Thread nD τ) (O : CellTallies nD τ sig (HIx 2)) (W : Waits sig (HIx 2)) : sProp 𝕄 :=
  iprop(∃ W', ⌜∀ p ∈ W', p ∈ W ∨ p.2 = none⌝ ∗ owes c O W')
/-- Between copies: every cell of the tile at zero. -/
def Idle (c : Thread nD τ) (O : CellTallies nD τ sig (HIx 2)) (W : Waits sig (HIx 2)) : sProp 𝕄 :=
  iprop(levAts (K (F := F)).L (K (F := F)).lev ∗ ownSems0 c ∗ Own (F := F) c O W)
/-- A copy under way on the cell `sem`, to deliver `D`: the other cells at zero. -/
def Busy (c : Thread nD τ) (O : CellTallies nD τ sig (HIx 2)) (W : Waits sig (HIx 2)) (sem : DmaSem sig) (N : ℕ) (D : sProp 𝕄) : sProp 𝕄 :=
  iprop(levAts (K (F := F)).L (K (F := F)).lev ∗ bigSep ((ownCells c).erase (c, .dma sem)) (fun g => semVal g 0)
    ∗ Transfers.Flight EC c (.dma sem) none N D ∗ Own (F := F) c O W)

section Copies

variable [FloatOps F] (d : Dev nD) (i : Fin τ.nSC) (j : Fin τ.nSub) (O : CellTallies nD τ sig (HIx 2)) (W : Waits sig (HIx 2))

/-- Starting a copy: the source's elements and the destination lent to it. -/
theorem step_enq {sp sp' : Space} {s : Shape} {e : EltTy} {src : Memref sig .scVector sp s e} {dst : Memref sig .scVector sp' s e} {sem : DmaSem sig}
    {hsrc : src.view.WordExact} {hdst : dst.view.WordExact} {hsem : DmaTarget.Typed (nD := nD) (p := (V d i j : Thread nD τ).2) sp (.dma sem) (.here dst)}
    {q : PosShare TreeShare} {Ss : Finset (Idx (src.view.loc (V d i j)))} {fs : Buf (Elt F) (src.view.loc (V d i j))}
    {Sd : Finset (Idx (dst.view.loc (V d i j)))} {fd : Buf (Elt F) (dst.view.loc (V d i j))} {R : sProp 𝕄} {Q : PUnit → sProp 𝕄}
    (hsm : ((V d i j, SemLoc.dma sem) : GSem nD τ sig) ∈ ownCells (V d i j)) (hn : 0 < s.numel)
    (hSs : src.view.set ⊆ Ss) (hSd : dst.view.set ⊆ Sd)
    (h : iprop(Busy (F := F) (V d i j) O W sem dst.view.dmaCredit
          iprop((dst.view.loc (V d i j) ↦[Sd]{fullShare} (dst.view.write (Elt F) fd (src.view.read (Elt F) fs) Finset.univ)) ∗ (src.view.loc (V d i j) ↦[src.view.set]{q} fs))
        ∗ (src.view.loc (V d i j) ↦[Ss \ src.view.set]{q} fs) ∗ R) ⊢ Q ⟨⟩) :
    iprop(Idle (F := F) (V d i j) O W ∗ (src.view.loc (V d i j) ↦[Ss]{q} fs) ∗ (dst.view.loc (V d i j) ↦[Sd]{fullShare} fd) ∗ R)
      ⊢ wp frame (wpE (defs₀ (F := F)) 𝒱₀ (V d i j) none) Set.univ (Prog.lift (.enqueueDma src (.here dst) (.dma sem) hsrc hdst hsem)) Q := by
  unfold Idle
  rw [show ownSems0 (V d i j) = iprop(semVal ((V d i j, SemLoc.dma sem) : GSem nD τ sig) 0 ∗ bigSep ((ownCells (V d i j)).erase (V d i j, .dma sem)) (fun g => semVal g 0) : sProp 𝕄)
    from SparseCore.bigSep_erase' hsm]
  iintro ⟨⟨Hlv, ⟨Hv, Hcells⟩, HO⟩, Hs, Hd, HR⟩
  ihave Hs' := (pointsTo_split_subset hSs).1 $$ Hs
  icases Hs' with ⟨Hs, Hrest⟩
  iapply (Transfers.wp_dmaLocal (s₀ := s) (e₀ := e) (via := .same) EC 𝒱₀ (V d i j) none (none : HIx 2) dst.view.dmaCredit rfl (View.amount_pos dst.view (.dma sem) hn) hSd) $$ [Hs Hd Hv]
  · isplitl [Hs]; · iexact Hs
    isplitl [Hd]; · iexact Hd
    iexact Hv
  iintro Hf
  rw [wp_ret]
  imodintro
  iapply h
  unfold Busy
  isplitl [Hlv Hcells HO Hf]
  · isplitl [Hlv]; · iexact Hlv
    isplitl [Hcells]; · iexact Hcells
    isplitl [Hf]; · iexact Hf
    iexact HO
  isplitl [Hrest]; · iexact Hrest
  iexact HR

/-- Waiting for the copy under way: what it delivers. -/
theorem step_wait (hO : ∀ g, O g none = 0) {sp sp' : Space} {s s' : Shape} {e e' : EltTy} {srcw : Memref sig .scVector sp' s' e'} {dstw : Memref sig .scVector sp s e} {sem : DmaSem sig}
    {hsrc : srcw.view.WordExact} {hdst : dstw.view.WordExact} {D R : sProp 𝕄} {Q : PUnit → sProp 𝕄}
    (hsm : ((V d i j, SemLoc.dma sem) : GSem nD τ sig) ∈ ownCells (V d i j))
    (h : iprop(Idle (F := F) (V d i j) O W ∗ D ∗ R) ⊢ Q ⟨⟩) :
    iprop(Busy (F := F) (V d i j) O W sem dstw.view.dmaCredit D ∗ R)
      ⊢ wp frame (wpE (defs₀ (F := F)) 𝒱₀ (V d i j) none) Set.univ (Prog.lift (.waitDma2 sem srcw dstw hsrc hdst)) Q := by
  unfold Busy Own
  iintro ⟨⟨#Hlv, Hcells, Hf, %W', %hW', HO⟩, HR⟩
  ihave Hmw := ((K (F := F)).mayWaits_none (thr := V d i j) hO (U := UU) (Val := Elt F) (Name := ℕ)) $$ Hlv
  ihave Hmw' := (Transfers.MayWaits.elim (SemLoc.dma sem)) $$ Hmw
  iapply (Transfers.wp_waitLocalO EC 𝒱₀ (V d i j) none (none : HIx 2) rfl) $$ [Hf HO Hmw']
  · isplitl [Hf]; · iexact Hf
    isplitl [HO]; · iexact HO
    iexact Hmw'
  iintro ⟨HD, Hv, HO⟩
  rw [wp_ret]
  imodintro
  iapply h
  unfold Idle Own
  rw [show ownSems0 (V d i j) = iprop(semVal ((V d i j, SemLoc.dma sem) : GSem nD τ sig) 0 ∗ bigSep ((ownCells (V d i j)).erase (V d i j, .dma sem)) (fun g => semVal g 0) : sProp 𝕄)
    from SparseCore.bigSep_erase' hsm]
  isplitl [Hcells HO Hv]
  · isplitr; · iexact Hlv
    isplitl [Hcells Hv]
    · isplitl [Hv]; · iexact Hv
      iexact Hcells
    iexists (insert (SemLoc.dma sem, (none : HIx 2)) W')
    isplitr
    · ipureintro
      intro p hp
      rcases Finset.mem_insert.mp hp with hp | hp
      · exact Or.inr (congrArg Prod.snd hp)
      · exact hW' p hp
    iexact HO
  isplitl [HD]; · iexact HD
  iexact HR

end Copies

end Cert.Proof.BN

end
-- ==== Proof.Host.lean ====
/- The host's operations around the two SparseCore calls, and what each array of the main memory holds as they go. -/
module

public import proofs.«01_k».proof.Proof.Base
public import Idealize.ShloMosaic.Lib.Pipeline.Frame
public import Idealize.ShloMosaic.Lib.StableHlo.RunRead

@[expose] public section

noncomputable section

namespace Cert.Proof.BN

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
open Idealize.ShloMosaic.StableHlo (held after)

/-! ## The operations -/

/-- The host's operations before the first call. -/
abbrev opsA : List (HloOp τ sig (Elt F)) :=
  [StableHlo.reshape main_arg0 main_v0 (rfl : (.f32 : EltTy) = .f32) shapeCasts_S4x96x384x384_S4x96x147456]

/-- The host's operations between the calls. -/
abbrev opsB : List (HloOp τ sig (Elt F)) :=
  [StableHlo.nullary main_cst (constant S_ .f32 0x00000000#32),
   StableHlo.binary main_v1_2 main_cst main_v2 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.nullary main_cst_0 (constant S_ .f32 0x3F800000#32),
   StableHlo.binary main_v2 main_cst_0 main_v3 (maximumf : (⟨S_, .f32⟩ : BufTy).Contents (Elt F) → (⟨S_, .f32⟩ : BufTy).Contents (Elt F) → (⟨S_, .f32⟩ : BufTy).Contents (Elt F)),
   StableHlo.nullary main_cst_1 (constant S_ .f32 0x00000000#32),
   StableHlo.binary main_v1_0 main_cst_1 main_v4 ((fun x v => Host.reduceAdd x v reducesTo_S32x96x16_S96_d0_2 h_S_) : (⟨S32x96x16, .f32⟩ : BufTy).Contents (Elt F) → (⟨S_, .f32⟩ : BufTy).Contents (Elt F) → (⟨S96, .f32⟩ : BufTy).Contents (Elt F)),
   StableHlo.unary main_v3 main_v5 (broadcastInDim S96 ![] bcast_S_S96 : (⟨S_, .f32⟩ : BufTy).Contents (Elt F) → (⟨S96, .f32⟩ : BufTy).Contents (Elt F)),
   StableHlo.binary main_v4 main_v5 main_v6 (Host.divf : (⟨S96, .f32⟩ : BufTy).Contents (Elt F) → (⟨S96, .f32⟩ : BufTy).Contents (Elt F) → (⟨S96, .f32⟩ : BufTy).Contents (Elt F)),
   StableHlo.nullary main_cst_2 (constant S_ .f32 0x00000000#32),
   StableHlo.binary main_v1_1 main_cst_2 main_v7 ((fun x v => Host.reduceAdd x v reducesTo_S32x96x16_S96_d0_2 h_S_) : (⟨S32x96x16, .f32⟩ : BufTy).Contents (Elt F) → (⟨S_, .f32⟩ : BufTy).Contents (Elt F) → (⟨S96, .f32⟩ : BufTy).Contents (Elt F)),
   StableHlo.unary main_v3 main_v8 (broadcastInDim S96 ![] bcast_S_S96 : (⟨S_, .f32⟩ : BufTy).Contents (Elt F) → (⟨S96, .f32⟩ : BufTy).Contents (Elt F)),
   StableHlo.binary main_v7 main_v8 main_v9 (Host.divf : (⟨S96, .f32⟩ : BufTy).Contents (Elt F) → (⟨S96, .f32⟩ : BufTy).Contents (Elt F) → (⟨S96, .f32⟩ : BufTy).Contents (Elt F)),
   StableHlo.binary main_v6 main_v6 main_v10 (mulf : (⟨S96, .f32⟩ : BufTy).Contents (Elt F) → (⟨S96, .f32⟩ : BufTy).Contents (Elt F) → (⟨S96, .f32⟩ : BufTy).Contents (Elt F)),
   StableHlo.binary main_v9 main_v10 main_v11 (subf : (⟨S96, .f32⟩ : BufTy).Contents (Elt F) → (⟨S96, .f32⟩ : BufTy).Contents (Elt F) → (⟨S96, .f32⟩ : BufTy).Contents (Elt F)),
   StableHlo.nullary main_cst_3 (constant S_ .f32 0x00000000#32),
   StableHlo.unary main_cst_3 main_v12 (broadcastInDim S96 ![] bcast_S_S96 : (⟨S_, .f32⟩ : BufTy).Contents (Elt F) → (⟨S96, .f32⟩ : BufTy).Contents (Elt F)),
   StableHlo.binary main_v11 main_v12 main_v13 (maximumf : (⟨S96, .f32⟩ : BufTy).Contents (Elt F) → (⟨S96, .f32⟩ : BufTy).Contents (Elt F) → (⟨S96, .f32⟩ : BufTy).Contents (Elt F)),
   StableHlo.nullary main_cst_4 (constant S_ .f32 0x3727C5AC#32),
   StableHlo.unary main_cst_4 main_v14 (broadcastInDim S96 ![] bcast_S_S96 : (⟨S_, .f32⟩ : BufTy).Contents (Elt F) → (⟨S96, .f32⟩ : BufTy).Contents (Elt F)),
   StableHlo.binary main_v13 main_v14 main_v15 (addf : (⟨S96, .f32⟩ : BufTy).Contents (Elt F) → (⟨S96, .f32⟩ : BufTy).Contents (Elt F) → (⟨S96, .f32⟩ : BufTy).Contents (Elt F)),
   StableHlo.unary main_v15 main_v16 (Host.rsqrt : (⟨S96, .f32⟩ : BufTy).Contents (Elt F) → (⟨S96, .f32⟩ : BufTy).Contents (Elt F)),
   StableHlo.binary main_arg1 main_v16 main_v17 (mulf : (⟨S96, .f32⟩ : BufTy).Contents (Elt F) → (⟨S96, .f32⟩ : BufTy).Contents (Elt F) → (⟨S96, .f32⟩ : BufTy).Contents (Elt F)),
   StableHlo.binary main_v6 main_v17 main_v18 (mulf : (⟨S96, .f32⟩ : BufTy).Contents (Elt F) → (⟨S96, .f32⟩ : BufTy).Contents (Elt F) → (⟨S96, .f32⟩ : BufTy).Contents (Elt F)),
   StableHlo.binary main_arg2 main_v18 main_v19 (subf : (⟨S96, .f32⟩ : BufTy).Contents (Elt F) → (⟨S96, .f32⟩ : BufTy).Contents (Elt F) → (⟨S96, .f32⟩ : BufTy).Contents (Elt F)),
   StableHlo.unary main_v17 main_v20 (broadcastInDim S96x1 ![0] bcast_S96_S96x1_0 : (⟨S96, .f32⟩ : BufTy).Contents (Elt F) → (⟨S96x1, .f32⟩ : BufTy).Contents (Elt F)),
   StableHlo.reshape main_v20 main_v21 (rfl : (.f32 : EltTy) = .f32) shapeCasts_S96x1_S1x96x1x1,
   StableHlo.unary main_v21 main_v22 (broadcastInDim S1x96x16x1 ![0, 1, 2, 3] bcast_S1x96x1x1_S1x96x16x1_0_1_2_3 : (⟨S1x96x1x1, .f32⟩ : BufTy).Contents (Elt F) → (⟨S1x96x16x1, .f32⟩ : BufTy).Contents (Elt F)),
   StableHlo.reshape main_v22 main_v23 (rfl : (.f32 : EltTy) = .f32) shapeCasts_S1x96x16x1_S96x16,
   StableHlo.unary main_v19 main_v24 (broadcastInDim S96x1 ![0] bcast_S96_S96x1_0 : (⟨S96, .f32⟩ : BufTy).Contents (Elt F) → (⟨S96x1, .f32⟩ : BufTy).Contents (Elt F)),
   StableHlo.reshape main_v24 main_v25 (rfl : (.f32 : EltTy) = .f32) shapeCasts_S96x1_S1x96x1x1,
   StableHlo.unary main_v25 main_v26 (broadcastInDim S1x96x16x1 ![0, 1, 2, 3] bcast_S1x96x1x1_S1x96x16x1_0_1_2_3 : (⟨S1x96x1x1, .f32⟩ : BufTy).Contents (Elt F) → (⟨S1x96x16x1, .f32⟩ : BufTy).Contents (Elt F)),
   StableHlo.reshape main_v26 main_v27 (rfl : (.f32 : EltTy) = .f32) shapeCasts_S1x96x16x1_S96x16]

/-- The host's operations after the second call. -/
abbrev opsC : List (HloOp τ sig (Elt F)) :=
  [StableHlo.reshape main_v28 main_v29 (rfl : (.f32 : EltTy) = .f32) shapeCasts_S4x96x147456_S4x96x384x384]

/-- The program is the operations around the two calls. -/
theorem main_eq (d : Dev nD) : main (F := F) d
    = StableHlo.seqK opsA (sc.run d 0 >>= fun _ => StableHlo.seqK opsB (sc.run d 1 >>= fun _ => StableHlo.seqK opsC (pure ⟨⟩))) := rfl

theorem opsA_sub : ∀ op ∈ (opsA : List (HloOp τ sig (Elt F))), op.bufs ⊆ Pipeline.ucRefs τ sig := by
  refine fun op hop => Pipeline.sub_ucRefs op (List.forall_iff_forall_mem.mp (show (opsA : List (HloOp τ sig (Elt F))).Forall fun op => op.bufs ⊆ StableHlo.tcRefs τ sig from ?_) op hop)
  simp [List.Forall]
theorem opsA_fresh : ∀ op ∈ (opsA : List (HloOp τ sig (Elt F))), op.fresh = ∅ :=
  fun op hop => List.forall_iff_forall_mem.mp (StableHlo.forall_fresh_of_map rfl) op hop

theorem opsB_sub : ∀ op ∈ (opsB : List (HloOp τ sig (Elt F))), op.bufs ⊆ Pipeline.ucRefs τ sig := by
  refine fun op hop => Pipeline.sub_ucRefs op (List.forall_iff_forall_mem.mp (show (opsB : List (HloOp τ sig (Elt F))).Forall fun op => op.bufs ⊆ StableHlo.tcRefs τ sig from ?_) op hop)
  simp [List.Forall]
theorem opsB_fresh : ∀ op ∈ (opsB : List (HloOp τ sig (Elt F))), op.fresh = ∅ :=
  fun op hop => List.forall_iff_forall_mem.mp (StableHlo.forall_fresh_of_map rfl) op hop

theorem opsC_sub : ∀ op ∈ (opsC : List (HloOp τ sig (Elt F))), op.bufs ⊆ Pipeline.ucRefs τ sig := by
  refine fun op hop => Pipeline.sub_ucRefs op (List.forall_iff_forall_mem.mp (show (opsC : List (HloOp τ sig (Elt F))).Forall fun op => op.bufs ⊆ StableHlo.tcRefs τ sig from ?_) op hop)
  simp [List.Forall]
theorem opsC_fresh : ∀ op ∈ (opsC : List (HloOp τ sig (Elt F))), op.fresh = ∅ :=
  fun op hop => List.forall_iff_forall_mem.mp (StableHlo.forall_fresh_of_map rfl) op hop

/-! ## What the arrays hold -/

abbrev x' : DevRef τ sig := Proc.devRef .tc (main_v0 : Ref sig .tc)
abbrev s1' : DevRef τ sig := Proc.devRef .tc (main_v1_0 : Ref sig .tc)
abbrev s2' : DevRef τ sig := Proc.devRef .tc (main_v1_1 : Ref sig .tc)
abbrev ct' : DevRef τ sig := Proc.devRef .tc (main_v1_2 : Ref sig .tc)
abbrev mk' : DevRef τ sig := Proc.devRef .tc (main_v1_3 : Ref sig .tc)
abbrev sc' : DevRef τ sig := Proc.devRef .tc (main_v23 : Ref sig .tc)
abbrev sh' : DevRef τ sig := Proc.devRef .tc (main_v27 : Ref sig .tc)
abbrev o' : DevRef τ sig := Proc.devRef .tc (main_v28 : Ref sig .tc)

variable (m : (ℓ : Loc nD τ sig) → Buf (Elt F) ℓ) (d : Dev nD)

/-- At the launch. -/
def V0 : Valuation τ sig (Elt F) := fun b => m (d, b)
/-- Before the first call. -/
def VA : Valuation τ sig (Elt F) := after opsA (V0 m d)
/-- The input, its two spatial axes as one. -/
def X : FVec F S4x96x147456 .f32 := VA m d x'
/-- After the first call. -/
def VB : Valuation τ sig (Elt F) :=
  Function.update (Function.update (Function.update (Function.update (VA m d) mk' (maskArr (X m d))) s1' (s1Arr (X m d))) s2' (s2Arr (X m d))) ct' (cntArr (X m d))
/-- Before the second call. -/
def VC : Valuation τ sig (Elt F) := after opsB (VB m d)
/-- The result, its two spatial axes as one. -/
def OUT : FVec F S4x96x147456 .f32 := outArr (VC m d x') (VC m d mk') (VC m d sc') (VC m d sh')
/-- After the second call. -/
def VD : Valuation τ sig (Elt F) := Function.update (VC m d) o' (OUT m d)
/-- At the end. -/
def VE : Valuation τ sig (Elt F) := after opsC (VD m d)

/-- The first call's arrays. -/
abbrev SA : Finset (DevRef τ sig) := {x', mk', s1', s2', ct'}
/-- The second call's arrays. -/
abbrev SB : Finset (DevRef τ sig) := {x', mk', sc', sh', o'}

theorem uc {b : Ref sig .tc} (h : (Proc.devRef .tc b : DevRef τ sig).isScoped = false) : (Proc.devRef .tc b : DevRef τ sig) ∈ Pipeline.ucRefs τ sig :=
  Finset.mem_filter.mpr ⟨StableHlo.devRef_mem_tcRefs b, by rw [h]; exact Bool.false_ne_true⟩
theorem SA_sub : SA ⊆ Pipeline.ucRefs τ sig := by
  intro b hb
  simp only [Finset.mem_insert, Finset.mem_singleton] at hb
  rcases hb with rfl | rfl | rfl | rfl | rfl <;> exact uc rfl
theorem SB_sub : SB ⊆ Pipeline.ucRefs τ sig := by
  intro b hb
  simp only [Finset.mem_insert, Finset.mem_singleton] at hb
  rcases hb with rfl | rfl | rfl | rfl | rfl <;> exact uc rfl

theorem held_SA (W : Valuation τ sig (Elt F)) :
    (held (T d) SA W : sProp 𝕄) = iprop(((d, x') ↦{fullShare} W x') ∗ ((d, mk') ↦{fullShare} W mk') ∗ ((d, s1') ↦{fullShare} W s1') ∗ ((d, s2') ↦{fullShare} W s2') ∗ ((d, ct') ↦{fullShare} W ct')) := by
  unfold held SA
  rw [SparseCore.bigSep_insert' (by decide), SparseCore.bigSep_insert' (by decide), SparseCore.bigSep_insert' (by decide),
    SparseCore.bigSep_insert' (by decide), bigSep_singleton]
theorem held_SB (W : Valuation τ sig (Elt F)) :
    (held (T d) SB W : sProp 𝕄) = iprop(((d, x') ↦{fullShare} W x') ∗ ((d, mk') ↦{fullShare} W mk') ∗ ((d, sc') ↦{fullShare} W sc') ∗ ((d, sh') ↦{fullShare} W sh') ∗ ((d, o') ↦{fullShare} W o')) := by
  unfold held SB
  rw [SparseCore.bigSep_insert' (by decide), SparseCore.bigSep_insert' (by decide), SparseCore.bigSep_insert' (by decide),
    SparseCore.bigSep_insert' (by decide), bigSep_singleton]

theorem VB_x : VB m d x' = X m d := by
  unfold VB
  rw [Function.update_of_ne (show x' ≠ ct' by decide), Function.update_of_ne (show x' ≠ s2' by decide), Function.update_of_ne (show x' ≠ s1' by decide), Function.update_of_ne (show x' ≠ mk' by decide)]
  rfl
theorem VB_mk : VB m d mk' = maskArr (X m d) := by
  unfold VB
  rw [Function.update_of_ne (show mk' ≠ ct' by decide), Function.update_of_ne (show mk' ≠ s2' by decide), Function.update_of_ne (show mk' ≠ s1' by decide), Function.update_self]
theorem VB_s1 : VB m d s1' = s1Arr (X m d) := by
  unfold VB
  rw [Function.update_of_ne (show s1' ≠ ct' by decide), Function.update_of_ne (show s1' ≠ s2' by decide), Function.update_self]
theorem VB_s2 : VB m d s2' = s2Arr (X m d) := by
  unfold VB
  rw [Function.update_of_ne (show s2' ≠ ct' by decide), Function.update_self]
theorem VB_ct : VB m d ct' = cntArr (X m d) := by
  unfold VB
  rw [Function.update_self]
theorem VB_off {b : DevRef τ sig} (hb : b ∉ SA) : VB m d b = VA m d b := by
  unfold VB
  rw [Function.update_of_ne (fun e => hb (by subst e; decide)), Function.update_of_ne (fun e => hb (by subst e; decide)), Function.update_of_ne (fun e => hb (by subst e; decide)),
    Function.update_of_ne (fun e => hb (by subst e; decide))]

/-- What the host holds before the first call: the call's arrays and the others. -/
theorem held_VA : (held (T d) (Pipeline.ucRefs τ sig) (VA m d) : sProp 𝕄)
    = iprop((((d, x') ↦{fullShare} X m d) ∗ ((d, mk') ↦{fullShare} VA m d mk') ∗ ((d, s1') ↦{fullShare} VA m d s1') ∗ ((d, s2') ↦{fullShare} VA m d s2') ∗ ((d, ct') ↦{fullShare} VA m d ct'))
      ∗ held (T d) (Pipeline.ucRefs τ sig \ SA) (VA m d)) := by
  rw [StableHlo.held_sub_split _ SA_sub, held_SA]; rfl
/-- What the host holds after the first call. -/
theorem held_VB : (held (T d) (Pipeline.ucRefs τ sig) (VB m d) : sProp 𝕄)
    = iprop((((d, x') ↦{fullShare} X m d) ∗ ((d, mk') ↦{fullShare} maskArr (X m d)) ∗ ((d, s1') ↦{fullShare} s1Arr (X m d)) ∗ ((d, s2') ↦{fullShare} s2Arr (X m d)) ∗ ((d, ct') ↦{fullShare} cntArr (X m d)))
      ∗ held (T d) (Pipeline.ucRefs τ sig \ SA) (VA m d)) := by
  rw [StableHlo.held_sub_split _ SA_sub, held_SA, VB_x, VB_mk, VB_s1, VB_s2, VB_ct,
    StableHlo.held_congr _ (fun b hb => VB_off m d (Finset.mem_sdiff.mp hb).2)]
/-- What the host holds before the second call: the call's arrays and the others. -/
theorem held_VC : (held (T d) (Pipeline.ucRefs τ sig) (VC m d) : sProp 𝕄)
    = iprop((((d, x') ↦{fullShare} VC m d x') ∗ ((d, mk') ↦{fullShare} VC m d mk') ∗ ((d, sc') ↦{fullShare} VC m d sc') ∗ ((d, sh') ↦{fullShare} VC m d sh') ∗ ((d, o') ↦{fullShare} VC m d o'))
      ∗ held (T d) (Pipeline.ucRefs τ sig \ SB) (VC m d)) := by
  rw [StableHlo.held_sub_split _ SB_sub, held_SB]
/-- What the host holds after the second call. -/
theorem held_VD : (held (T d) (Pipeline.ucRefs τ sig) (VD m d) : sProp 𝕄)
    = iprop((((d, x') ↦{fullShare} VC m d x') ∗ ((d, mk') ↦{fullShare} VC m d mk') ∗ ((d, sc') ↦{fullShare} VC m d sc') ∗ ((d, sh') ↦{fullShare} VC m d sh') ∗ ((d, o') ↦{fullShare} OUT m d))
      ∗ held (T d) (Pipeline.ucRefs τ sig \ SB) (VC m d)) := by
  have hoff : ∀ b : DevRef τ sig, b ≠ o' → VD m d b = VC m d b := fun b hb => Function.update_of_ne hb _ _
  rw [StableHlo.held_sub_split _ SB_sub, held_SB, hoff x' (by decide), hoff mk' (by decide), hoff sc' (by decide), hoff sh' (by decide), show VD m d o' = OUT m d from Function.update_self _ _ _,
    StableHlo.held_congr _ (fun b hb => hoff b (fun e => (Finset.mem_sdiff.mp hb).2 (by subst e; decide)))]

end Cert.Proof.BN

end
-- ==== Proof.K0Loops.lean ====
/- The loops of the statistics kernel. -/
module

public import proofs.«01_k».proof.Proof.Base

@[expose] public section

noncomputable section

namespace Cert.Proof.BN

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-- The tile at coordinates `L` on device `d`. -/
abbrev tl (d : Dev nD) (L : grid0.Coords) : Thread nD τ := V d ((L 0).castLE hcore0) ((L 1).castLE hsub0)
/-- A memref's buffer, whole, on the tile at `L`. -/
abbrev pB (d : Dev nD) (L : grid0.Coords) {sp : Space} {s : Shape} {e : EltTy} (m : Memref sig .scVector sp s e) (f : Buf (Elt F) (m.view.loc (tl d L))) : sProp 𝕄 :=
  m.view.loc (tl d L) ↦{fullShare} f

/-- Running a program on the tile at `L`. -/
abbrev wpT (d : Dev nD) (L : grid0.Coords) {α : Type} (p : Prog (TpuEff nD τ sig (Elt F) Λ₀ (tl d L).2) α) (Q : α → sProp 𝕄) : sProp 𝕄 :=
  wp frame (wpE (defs₀ (F := F)) 𝒱₀ (tl d L) none) Set.univ p Q

variable (d : Dev nD) (L : grid0.Coords)

/-- A fact beside an assertion, used. -/
theorem pure_l {φ : Prop} {H G : sProp 𝕄} (h : φ → H ⊢ G) : iprop(⌜φ⌝ ∗ H) ⊢ G := by
  iintro ⟨%hφ, H⟩
  iapply h hφ $$ H
/-- A fact beside an assertion, given. -/
theorem pure_r {φ : Prop} {H G : sProp 𝕄} (hφ : φ) (h : H ⊢ G) : H ⊢ iprop(⌜φ⌝ ∗ G) := by
  iintro H
  isplitr
  · ipureintro; exact hφ
  iapply h $$ H
/-- Some contents beside an assertion, used. -/
theorem ex_l {β : Type} {A : β → sProp 𝕄} {R G : sProp 𝕄} (h : ∀ x, iprop(A x ∗ R) ⊢ G) : iprop((∃ x, A x) ∗ R) ⊢ G := by
  iintro ⟨⟨%x, HA⟩, HR⟩
  iapply h x
  isplitl [HA]; · iexact HA
  iexact HR
/-- Two assertions swapped in front of a third. -/
theorem swp {A B R G : sProp 𝕄} (h : iprop(B ∗ A ∗ R) ⊢ G) : iprop(A ∗ B ∗ R) ⊢ G := by
  iintro ⟨HA, HB, HR⟩
  iapply h
  isplitl [HB]; · iexact HB
  isplitl [HA]; · iexact HA
  iexact HR

/-- A load. -/
theorem ld {sp : CoreSpace} {s : Shape} {e : EltTy} {m : Memref sig .scVector sp s e} {r : LoadRect s} {hl : m.view.LoadsAt r}
    {f : Buf (Elt F) (m.view.loc (tl d L))} {R : sProp 𝕄} {Q : (r.shape.Idx → Elt F e) → sProp 𝕄}
    (h : iprop(pB d L m f ∗ R) ⊢ Q (m.view.readAt (Elt F) r f)) :
    iprop(pB d L m f ∗ R) ⊢ wpT d L (Prog.lift (.load m r hl)) Q := by
  iintro ⟨Hm, HR⟩
  iapply (wp_load 𝒱₀ (tl d L) none Set.univ (m := m) (S := Finset.univ) (Finset.subset_univ _)) $$ Hm
  iintro Hm
  rw [wp_ret]
  imodintro
  iapply h
  isplitl [Hm]; · iexact Hm
  iexact HR

/-- A store. -/
theorem sto {sp : CoreSpace} {s : Shape} {e : EltTy} {m : Memref sig .scVector sp s e} {r : Rect s} {w : r.shape.Idx → Elt F e} {Mk : Finset r.shape.Idx}
    {hx : (m.access r).Stores Mk} {hm : Mk = Finset.univ ∨ ∀ a, r.stride a = 1} {f : Buf (Elt F) (m.view.loc (tl d L))} {R : sProp 𝕄} {Q : PUnit → sProp 𝕄}
    (h : iprop(pB d L m ((m.access r).write (Elt F) f w Mk) ∗ R) ⊢ Q ⟨⟩) :
    iprop(pB d L m f ∗ R) ⊢ wpT d L (Prog.lift (.store m r w Mk hx hm)) Q := by
  iintro ⟨Hm, HR⟩
  iapply (wp_store 𝒱₀ (tl d L) none Set.univ (m := m) (r := r) (w := w) (Mk := Mk) (hx := hx) (hm := hm) (f := f) (k := .ret) (Q := Q) (S := Finset.univ)
    (Finset.subset_univ _)) $$ Hm
  iintro Hm
  rw [wp_ret]
  imodintro
  iapply h
  isplitl [Hm]; · iexact Hm
  iexact HR

/-- A loop: an invariant kept by each trip. -/
theorem lp {σ : Type} {l : Scf.Loop 32} {hok : l.OK} {init : σ} {body : Fin l.trips → σ → Prog (TpuEff nD τ sig (Elt F) Λ₀ (tl d L).2) σ} {H : sProp 𝕄} {Q : σ → sProp 𝕄}
    (I : ℕ → σ → sProp 𝕄) (h0 : H ⊢ I 0 init) (hb : ∀ (k : Fin l.trips) acc, I k.val acc ⊢ wpT d L (body k acc) (I (k.val + 1)))
    (h1 : ∀ acc, I l.trips acc ⊢ Q acc) :
    H ⊢ wpT d L (Scf.Loop.for l hok init body) Q := by
  refine BIBase.Entails.trans ?_ (Scf.wp_for frame (wpE (defs₀ (F := F)) 𝒱₀ (tl d L) none) Set.univ l.lb l.ub l.st hok init body I hb)
  iintro H
  isplitl [H]; · iapply h0 $$ H
  iintro %acc HI
  iapply h1 acc $$ HI

abbrev b7 : Memref sig .scVector .vmem S96x512 .f32 := Memref.whole cc0_scratch0
abbrev b8 : Memref sig .scVector .vmem S32x16 .f32 := Memref.whole cc0_scratch1
abbrev b9 : Memref sig .scVector .vmem S96x16 .f32 := Memref.whole cc0_scratch2
abbrev b10 : Memref sig .scVector .vmem S96x16 .f32 := Memref.whole cc0_scratch3
abbrev b11 : Memref sig .scVector .vmem S16 .f32 := Memref.whole cc0_scratch4

/-- A buffer that reads as `G`, its contents forgotten otherwise. -/
theorem fil {sp : Space} {s : Shape} {e : EltTy} {m : Memref sig .scVector sp s e} {f : Buf (Elt F) (m.view.loc (tl d L))} {G : s.Idx → Elt F e}
    (h : m.view.read (Elt F) f = G) : pB d L m f ⊢ iprop(∃ f, iprop(⌜m.view.read (Elt F) f = G⌝ ∗ pB d L m f)) := by
  iintro H
  iexists f
  iapply (pure_r h .rfl) $$ H

/-! ## The masks of a chunk -/

/-- One group's mask: sixteen lanes, over the channels. -/
def bodyA' (t : Fin k0_t2_loop.trips) (k0_t3 : Fin k0_t3_loop.trips) (acc : FVec F S16 .f32) :
    Prog (TpuEff nD τ sig (Elt F) Λ₀ (tl (0 : Dev nD) L).2) (FVec F S16 .f32) := do
  let v343 : Vec F S1x16 .f32 ← Prog.lift (.load b7 (Rect.unit (s := S96x512) (k0_off3 t k0_t3) S1x16.size (k0_off3_inb t k0_t3)).toLoadRect (View.loadsAt_vmem h_S1x16))
  pure (select (cmpf .ogt (shapeCast S16 v343 shapeCasts_S1x16_S16) zero16) one16 acc)

theorem loopA' (ch : FVec F S96x512 .f32) (t : Fin k0_t2_loop.trips) {R : sProp 𝕄} {Q : FVec F S16 .f32 → sProp 𝕄}
    (h : iprop(pB d L b7 ch ∗ R) ⊢ Q (maskv ch t.val)) :
    iprop(pB d L b7 ch ∗ R) ⊢ wpT d L (Scf.Loop.for k0_t3_loop k0_t3_ok zero16 (bodyA' L t)) Q := by
  have ht : t.val < 32 := t.isLt
  refine lp d L (fun n acc => iprop(⌜acc = maskOf (fun c => row ch c t.val) n⌝ ∗ pB d L b7 ch ∗ R)) (pure_r rfl .rfl) ?_ ?_
  · intro k acc
    have hk : k.val < 96 := k.isLt
    refine pure_l fun hacc => ?_
    refine seq (F := F) _ (ld d L (fin (F := F) _ (pure_r ?_ .rfl)))
    subst hacc
    exact congrArg (fun r => select (cmpf .ogt r zero16) one16 _) (load7 b7 ch hk ht (k0_off3_eq t k))
  · intro acc
    refine pure_l fun hacc => ?_
    subst hacc
    exact h

/-- A group's mask, stored, and the count of its valid lanes. -/
def bodyA (k0_t2 : Fin k0_t2_loop.trips) (acc : FVec F S16 .f32) : Prog (TpuEff nD τ sig (Elt F) Λ₀ (tl (0 : Dev nD) L).2) (FVec F S16 .f32) := do
  let v335 : FVec F S16 .f32 ← Scf.Loop.for k0_t3_loop k0_t3_ok zero16 (bodyA' L k0_t2)
  let _v337 : Vec F S1x16 .f32 ← Prog.lift (.load b8 (Rect.unit (s := S32x16) (k0_off4 k0_t2) S1x16.size (k0_off4_inb k0_t2)).toLoadRect (View.loadsAt_vmem h_S1x16))
  Prog.lift (.store b8 (Rect.unit (s := S32x16) (k0_off4 k0_t2) S1x16.size (k0_off4_inb k0_t2)) (shapeCast S1x16 v335 shapeCasts_S16_S1x16) Finset.univ (View.stores_vmem_bits_univ h_S1x16 rfl) (.inl rfl))
  pure (addf acc v335)

/-- All groups' masks of a chunk, stored, and the count of valid lanes. -/
theorem loopA (ch : FVec F S96x512 .f32) (v : FVec F S16 .f32) {R : sProp 𝕄} {Q : FVec F S16 .f32 → sProp 𝕄}
    (h : iprop(pB d L b7 ch ∗ pB d L b8 (maskBuf ch) ∗ R) ⊢ Q (cntN ch v 32)) :
    iprop(pB d L b7 ch ∗ (∃ f, pB d L b8 f) ∗ R) ⊢ wpT d L (Scf.Loop.for k0_t2_loop k0_t2_ok v (bodyA L)) Q := by
  refine swp (ex_l fun f0 => ?_)
  refine lp d L (fun n acc => iprop(⌜acc = cntN ch v n⌝ ∗ (∃ f, iprop(⌜b8.view.read (Elt F) f = fillR (maskBuf ch) f0 n⌝ ∗ pB d L b8 f)) ∗ pB d L b7 ch ∗ R)) ?_ ?_ ?_
  · refine pure_r rfl ?_
    iintro ⟨Hb, HR⟩
    isplitl [Hb]
    · iapply (fil d L (fillR_zero _ _).symm) $$ Hb
    iexact HR
  · intro k acc
    have hk : k.val < 32 := k.isLt
    refine pure_l fun hacc => ?_
    subst hacc
    refine ex_l fun f => ?_
    iintro ⟨⟨%hf, Hb⟩, H7, HR⟩
    iapply (show iprop(pB d L b7 ch ∗ pB d L b8 f ∗ R) ⊢ _ from ?_)
    · refine seq (F := F) _ (loopA' d L ch k (swp ?_))
      refine seq (F := F) _ (ld d L ?_)
      refine seq (F := F) _ (sto d L (fin (F := F) _ (pure_r rfl ?_)))
      iintro ⟨Hb, HR⟩
      isplitl [Hb]
      · iapply (fil d L (store_fillR b8 (n0 := 32) f (maskv ch k.val) (k0_off4_eq k) (maskBuf ch) f0 hf fun p hp => by
          show _ = maskv ch (p 0).val (ix1 (p 1))
          rw [hp])) $$ Hb
      iexact HR
    · isplitl [H7]; · iexact H7
      isplitl [Hb]; · iexact Hb
      iexact HR
  · intro acc
    refine pure_l fun hacc => ?_
    subst hacc
    refine ex_l fun f => ?_
    iintro ⟨⟨%hf, Hb⟩, H7, HR⟩
    have hf : f = maskBuf ch := (show b8.view.read (Elt F) f = f from rfl).symm.trans (hf.trans (fillR_all _ _))
    subst hf
    iapply (show iprop(pB d L b7 ch ∗ pB d L b8 (maskBuf ch) ∗ R) ⊢ Q (cntN ch v k0_t2_loop.trips) from h)
    isplitl [H7]; · iexact H7
    isplitl [Hb]; · iexact Hb
    iexact HR

/-! ## The sums of a chunk -/

/-- One group's share of a channel's sums. -/
def bodyB' (k0_t4 : Fin k0_t4_loop.trips) (k0_t5 : Fin k0_t5_loop.trips) (a : FVec F S16 .f32 × FVec F S16 .f32) :
    Prog (TpuEff nD τ sig (Elt F) Λ₀ (tl (0 : Dev nD) L).2) (FVec F S16 .f32 × FVec F S16 .f32) := do
  let v354 : Vec F S1x16 .f32 ← Prog.lift (.load b7 (Rect.unit (s := S96x512) (k0_off6 k0_t4 k0_t5) S1x16.size (k0_off6_inb k0_t4 k0_t5)).toLoadRect (View.loadsAt_vmem h_S1x16))
  let v357 : Vec F S1x16 .f32 ← Prog.lift (.load b8 (Rect.unit (s := S32x16) (k0_off7 k0_t5) S1x16.size (k0_off7_inb k0_t5)).toLoadRect (View.loadsAt_vmem h_S1x16))
  pure (addf a.1 (mulf (shapeCast S16 v354 shapeCasts_S1x16_S16) (shapeCast S16 v357 shapeCasts_S1x16_S16)),
    addf a.2 (mulf (mulf (shapeCast S16 v354 shapeCasts_S1x16_S16) (shapeCast S16 v357 shapeCasts_S1x16_S16)) (shapeCast S16 v354 shapeCasts_S1x16_S16)))

theorem loopB' (ch : FVec F S96x512 .f32) (mb : FVec F S32x16 .f32) (t : Fin k0_t4_loop.trips) {R : sProp 𝕄} {Q : FVec F S16 .f32 × FVec F S16 .f32 → sProp 𝕄}
    (h : iprop(pB d L b7 ch ∗ pB d L b8 mb ∗ R) ⊢ Q (sumN ch mb t.val 32)) :
    iprop(pB d L b7 ch ∗ pB d L b8 mb ∗ R) ⊢ wpT d L (Scf.Loop.for k0_t5_loop k0_t5_ok (zero16, zero16) (bodyB' L t)) Q := by
  have ht : t.val < 96 := t.isLt
  refine lp d L (fun n acc => iprop(⌜acc = sumN ch mb t.val n⌝ ∗ pB d L b7 ch ∗ pB d L b8 mb ∗ R)) (pure_r rfl .rfl) ?_ ?_
  · intro k acc
    have hk : k.val < 32 := k.isLt
    refine pure_l fun hacc => ?_
    subst hacc
    refine seq (F := F) _ (ld d L (swp ?_))
    refine seq (F := F) _ (ld d L (swp (fin (F := F) _ (pure_r ?_ .rfl))))
    rw [load7 b7 ch ht hk (k0_off6_eq t k), load8 b8 mb hk (k0_off7_eq k)]
    rfl
  · intro acc
    refine pure_l fun hacc => ?_
    subst hacc
    exact h

/-- A channel's sums, added to what is accumulated. -/
def bodyB (k0_t4 : Fin k0_t4_loop.trips) (_ : PUnit) : Prog (TpuEff nD τ sig (Elt F) Λ₀ (tl (0 : Dev nD) L).2) PUnit := do
  let (v333_0, v333_1) ← Scf.Loop.for k0_t5_loop k0_t5_ok (zero16, zero16) (bodyB' L k0_t4)
  let v335 : Vec F S1x16 .f32 ← Prog.lift (.load b9 (Rect.unit (s := S96x16) (k0_off8 k0_t4) S1x16.size (k0_off8_inb k0_t4)).toLoadRect (View.loadsAt_vmem h_S1x16))
  let _v339 : Vec F S1x16 .f32 ← Prog.lift (.load b9 (Rect.unit (s := S96x16) (k0_off8 k0_t4) S1x16.size (k0_off8_inb k0_t4)).toLoadRect (View.loadsAt_vmem h_S1x16))
  Prog.lift (.store b9 (Rect.unit (s := S96x16) (k0_off8 k0_t4) S1x16.size (k0_off8_inb k0_t4)) (shapeCast S1x16 (addf (shapeCast S16 v335 shapeCasts_S1x16_S16) v333_0) shapeCasts_S16_S1x16)
    Finset.univ (View.stores_vmem_bits_univ h_S1x16 rfl) (.inl rfl))
  let v343 : Vec F S1x16 .f32 ← Prog.lift (.load b10 (Rect.unit (s := S96x16) (k0_off8 k0_t4) S1x16.size (k0_off8_inb k0_t4)).toLoadRect (View.loadsAt_vmem h_S1x16))
  let _v347 : Vec F S1x16 .f32 ← Prog.lift (.load b10 (Rect.unit (s := S96x16) (k0_off8 k0_t4) S1x16.size (k0_off8_inb k0_t4)).toLoadRect (View.loadsAt_vmem h_S1x16))
  Prog.lift (.store b10 (Rect.unit (s := S96x16) (k0_off8 k0_t4) S1x16.size (k0_off8_inb k0_t4)) (shapeCast S1x16 (addf (shapeCast S16 v343 shapeCasts_S1x16_S16) v333_1) shapeCasts_S16_S1x16)
    Finset.univ (View.stores_vmem_bits_univ h_S1x16 rfl) (.inl rfl))
  pure ⟨⟩

/-- Adding `v` to row `r` of an accumulator whose rows below `r` are done. -/
theorem acc_step (m : Memref sig .scVector .vmem S96x16 .f32) {off : Fin 2 → ℕ} {inb : ∀ c, off c + S1x16.size c ≤ S96x16.size c} (f : m.view.ty.Contents (Elt F)) (v : FVec F S16 .f32)
    {r : ℕ} (hr : r < 96) (ho : off = ![r, 0]) (G f0 : FVec F S96x16 .f32) (hf : m.view.read (Elt F) f = fillR G f0 r)
    (hG : ∀ p : S96x16.Idx, (p 0).val = r → G p = addf (arow f0 r) v (ix1 (p 1))) :
    m.view.read (Elt F) ((m.access (Rect.unit (s := S96x16) off S1x16.size inb)).write (Elt F) f
        (shapeCast S1x16 (addf (shapeCast S16 ((m.view.readAt (Elt F) (Rect.unit (s := S96x16) off S1x16.size inb).toLoadRect f : Vec F S1x16 .f32)) shapeCasts_S1x16_S16) v) shapeCasts_S16_S1x16 : FVec F S1x16 .f32)
        Finset.univ) = fillR G f0 (r + 1) := by
  refine store_fillR m (n0 := 96) f _ ho G f0 hf fun p hp => ?_
  rw [load9 m f hr ho, hf, arow_fillR _ _ hr]
  exact (hG p hp).symm

/-- All channels' sums of a chunk, added to what is accumulated. -/
theorem loopB (ch : FVec F S96x512 .f32) (mb : FVec F S32x16 .f32) (a1 a2 : FVec F S96x16 .f32) {R : sProp 𝕄} {Q : PUnit → sProp 𝕄}
    (h : iprop(pB d L b9 (acc1New ch mb a1) ∗ pB d L b10 (acc2New ch mb a2) ∗ pB d L b7 ch ∗ pB d L b8 mb ∗ R) ⊢ Q ⟨⟩) :
    iprop(pB d L b9 a1 ∗ pB d L b10 a2 ∗ pB d L b7 ch ∗ pB d L b8 mb ∗ R) ⊢ wpT d L (Scf.Loop.for k0_t4_loop k0_t4_ok ⟨⟩ (bodyB L)) Q := by
  refine lp d L (fun n _ => iprop((∃ f, iprop(⌜b9.view.read (Elt F) f = fillR (acc1New ch mb a1) a1 n⌝ ∗ pB d L b9 f))
    ∗ (∃ f, iprop(⌜b10.view.read (Elt F) f = fillR (acc2New ch mb a2) a2 n⌝ ∗ pB d L b10 f)) ∗ pB d L b7 ch ∗ pB d L b8 mb ∗ R)) ?_ ?_ ?_
  · iintro ⟨H9, H10, HR⟩
    isplitl [H9]
    · iapply (fil d L (fillR_zero _ _).symm) $$ H9
    isplitl [H10]
    · iapply (fil d L (fillR_zero _ _).symm) $$ H10
    iexact HR
  · intro k _
    have hk : k.val < 96 := k.isLt
    refine ex_l fun f => ?_
    iintro ⟨⟨%hf, H9⟩, ⟨%g, %hg, H10⟩, H7, H8, HR⟩
    iapply (show iprop(pB d L b7 ch ∗ pB d L b8 mb ∗ (pB d L b9 f ∗ pB d L b10 g ∗ R)) ⊢ _ from ?_)
    · refine seq (F := F) _ (loopB' d L ch mb k ?_)
      refine BIBase.Entails.trans (Q := iprop(pB d L b9 f ∗ pB d L b10 g ∗ (pB d L b7 ch ∗ pB d L b8 mb ∗ R))) ?_ ?_
      · iintro ⟨H7, H8, H9, H10, HR⟩
        isplitl [H9]; · iexact H9
        isplitl [H10]; · iexact H10
        isplitl [H7]; · iexact H7
        isplitl [H8]; · iexact H8
        iexact HR
      refine seq (F := F) _ (ld d L ?_)
      refine seq (F := F) _ (ld d L ?_)
      refine seq (F := F) _ (sto d L (swp ?_))
      refine seq (F := F) _ (ld d L ?_)
      refine seq (F := F) _ (ld d L ?_)
      refine seq (F := F) _ (sto d L (fin (F := F) _ ?_))
      iintro ⟨H10, H9, HR⟩
      isplitl [H9]
      · iapply (fil d L (acc_step b9 f _ hk (k0_off8_eq k) (acc1New ch mb a1) a1 hf fun p hp => by
          show addf (arow a1 (p 0).val) (sumN ch mb (p 0).val 32).1 (ix1 (p 1)) = _
          rw [hp]; rfl)) $$ H9
      isplitl [H10]
      · iapply (fil d L (acc_step b10 g _ hk (k0_off8_eq k) (acc2New ch mb a2) a2 hg fun p hp => by
          show addf (arow a2 (p 0).val) (sumN ch mb (p 0).val 32).2 (ix1 (p 1)) = _
          rw [hp]; rfl)) $$ H10
      iexact HR
    · isplitl [H7]; · iexact H7
      isplitl [H8]; · iexact H8
      isplitl [H9]; · iexact H9
      isplitl [H10]; · iexact H10
      iexact HR
  · intro _
    refine ex_l fun f => ?_
    iintro ⟨⟨%hf, H9⟩, ⟨%g, %hg, H10⟩, HR⟩
    have hf : f = acc1New ch mb a1 := (show b9.view.read (Elt F) f = f from rfl).symm.trans (hf.trans (fillR_all _ _))
    have hg : g = acc2New ch mb a2 := (show b10.view.read (Elt F) g = g from rfl).symm.trans (hg.trans (fillR_all _ _))
    subst hf hg
    iapply h
    isplitl [H9]; · iexact H9
    isplitl [H10]; · iexact H10
    iexact HR

/-! ## The accumulators at zero -/

/-- A channel's accumulators set to zero. -/
def bodyZ (k0_t1 : Fin k0_t1_loop.trips) (_ : PUnit) : Prog (TpuEff nD τ sig (Elt F) Λ₀ (tl (0 : Dev nD) L).2) PUnit := do
  let _v333 : Vec F S1x16 .f32 ← Prog.lift (.load b9 (Rect.unit (s := S96x16) (k0_off1 k0_t1) S1x16.size (k0_off1_inb k0_t1)).toLoadRect (View.loadsAt_vmem h_S1x16))
  Prog.lift (.store b9 (Rect.unit (s := S96x16) (k0_off1 k0_t1) S1x16.size (k0_off1_inb k0_t1)) (shapeCast S1x16 zero16 shapeCasts_S16_S1x16) Finset.univ
    (View.stores_vmem_bits_univ h_S1x16 rfl) (.inl rfl))
  let _v337 : Vec F S1x16 .f32 ← Prog.lift (.load b10 (Rect.unit (s := S96x16) (k0_off1 k0_t1) S1x16.size (k0_off1_inb k0_t1)).toLoadRect (View.loadsAt_vmem h_S1x16))
  Prog.lift (.store b10 (Rect.unit (s := S96x16) (k0_off1 k0_t1) S1x16.size (k0_off1_inb k0_t1)) (shapeCast S1x16 zero16 shapeCasts_S16_S1x16) Finset.univ
    (View.stores_vmem_bits_univ h_S1x16 rfl) (.inl rfl))
  pure ⟨⟩

/-- Both accumulators set to zero. -/
theorem loopZ {R : sProp 𝕄} {Q : PUnit → sProp 𝕄}
    (h : iprop(pB d L b9 (fun _ => Scalar.ofBits .f32 0x00000000#32 : FVec F S96x16 .f32) ∗ pB d L b10 (fun _ => Scalar.ofBits .f32 0x00000000#32 : FVec F S96x16 .f32) ∗ R) ⊢ Q ⟨⟩) :
    iprop((∃ f, pB d L b9 f) ∗ (∃ f, pB d L b10 f) ∗ R) ⊢ wpT d L (Scf.Loop.for k0_t1_loop k0_t1_ok ⟨⟩ (bodyZ L)) Q := by
  refine ex_l fun a1 => swp (ex_l fun a2 => swp ?_)
  refine lp d L (fun n _ => iprop((∃ f, iprop(⌜b9.view.read (Elt F) f = fillR (fun _ => Scalar.ofBits .f32 0x00000000#32) a1 n⌝ ∗ pB d L b9 f))
    ∗ (∃ f, iprop(⌜b10.view.read (Elt F) f = fillR (fun _ => Scalar.ofBits .f32 0x00000000#32) a2 n⌝ ∗ pB d L b10 f)) ∗ R)) ?_ ?_ ?_
  · iintro ⟨H9, H10, HR⟩
    isplitl [H9]
    · iapply (fil d L (fillR_zero _ _).symm) $$ H9
    isplitl [H10]
    · iapply (fil d L (fillR_zero _ _).symm) $$ H10
    iexact HR
  · intro k _
    refine ex_l fun f => ?_
    iintro ⟨⟨%hf, H9⟩, ⟨%g, %hg, H10⟩, HR⟩
    iapply (show iprop(pB d L b9 f ∗ pB d L b10 g ∗ R) ⊢ _ from ?_)
    · refine seq (F := F) _ (ld d L ?_)
      refine seq (F := F) _ (sto d L (swp ?_))
      refine seq (F := F) _ (ld d L ?_)
      refine seq (F := F) _ (sto d L (fin (F := F) _ ?_))
      iintro ⟨H10, H9, HR⟩
      isplitl [H9]
      · iapply (fil d L (store_fillR b9 (n0 := 96) f zero16 (k0_off1_eq k) (fun _ => Scalar.ofBits .f32 0x00000000#32) a1 hf fun _ _ => rfl)) $$ H9
      isplitl [H10]
      · iapply (fil d L (store_fillR b10 (n0 := 96) g zero16 (k0_off1_eq k) (fun _ => Scalar.ofBits .f32 0x00000000#32) a2 hg fun _ _ => rfl)) $$ H10
      iexact HR
    · isplitl [H9]; · iexact H9
      isplitl [H10]; · iexact H10
      iexact HR
  · intro _
    refine ex_l fun f => ?_
    iintro ⟨⟨%hf, H9⟩, ⟨%g, %hg, H10⟩, HR⟩
    have hf : f = fun _ => Scalar.ofBits .f32 0x00000000#32 := (show b9.view.read (Elt F) f = f from rfl).symm.trans (hf.trans (fillR_all _ _))
    have hg : g = fun _ => Scalar.ofBits .f32 0x00000000#32 := (show b10.view.read (Elt F) g = g from rfl).symm.trans (hg.trans (fillR_all _ _))
    subst hf hg
    iapply h
    isplitl [H9]; · iexact H9
    isplitl [H10]; · iexact H10
    iexact HR

end Cert.Proof.BN

end
-- ==== Proof.K0.lean ====
/- The statistics kernel's steps: a chunk in, its masks, its masks out, its sums. -/
module

public import proofs.«01_k».proof.Proof.K0Loops

@[expose] public section

noncomputable section

namespace Cert.Proof.BN

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
variable (d : Dev nD) (L : grid0.Coords) (O : CellTallies nD τ sig (HIx 2)) (W : Waits sig (HIx 2))

/-- The tile's part of the input. -/
abbrev xS (x : FVec F S4x96x147456 .f32) : sProp 𝕄 := xV.view.loc (tl d L) ↦[tX (wid L)]{fullShare} x
/-- The tile's part of the mask. -/
abbrev mS (f : FVec F S4x9216x16 .f32) : sProp 𝕄 := mkV.view.loc (tl d L) ↦[tM (wid L)]{fullShare} f

section

variable (x : FVec F S4x96x147456 .f32) (f0 : FVec F S4x9216x16 .f32) (k : ℕ)

/-- The accumulators after `k` chunks. -/
abbrev accS (k : ℕ) : sProp 𝕄 := iprop(pB d L b9 (accAt x (wid L) k).1 ∗ pB d L b10 (accAt x (wid L) k).2.1)

/-- Before chunk `k`. -/
@[irreducible] def P0 (R : sProp 𝕄) : sProp 𝕄 :=
  iprop(Idle (F := F) (tl d L) O W ∗ xS d L x ∗ mS d L (fillM (maskArr x) f0 k) ∗ (∃ f, pB d L b7 f) ∗ (∃ f, pB d L b8 f) ∗ accS d L x k ∗ R)
/-- Chunk `k` on its way in. -/
@[irreducible] def P1 (R : sProp 𝕄) (sem : DmaSem sig) (off : Fin 3 → ℕ) (inb : ∀ a, off a + S1x96x512.size a ≤ S4x96x147456.size a) : sProp 𝕄 :=
  iprop(∃ f7 : FVec F S96x512 .f32, (Busy (F := F) (tl d L) O W sem b7.view.dmaCredit
      iprop((pB d L b7 (b7.view.write (Elt F) f7 ((xCh xV off inb).view.read (Elt F) x) Finset.univ)) ∗ (xV.view.loc (tl d L) ↦[(xCh xV off inb).view.set]{fullShare} x))
    ∗ (xV.view.loc (tl d L) ↦[tX (wid L) \ (xCh xV off inb).view.set]{fullShare} x) ∗ mS d L (fillM (maskArr x) f0 k) ∗ (∃ f, pB d L b8 f) ∗ accS d L x k ∗ R))
/-- Chunk `k` in. -/
@[irreducible] def P2 (R : sProp 𝕄) : sProp 𝕄 :=
  iprop(Idle (F := F) (tl d L) O W ∗ xS d L x ∗ mS d L (fillM (maskArr x) f0 k) ∗ pB d L b7 (chunk x (wid L) k) ∗ (∃ f, pB d L b8 f) ∗ accS d L x k ∗ R)
/-- Chunk `k`'s masks computed. -/
@[irreducible] def P3 (R : sProp 𝕄) : sProp 𝕄 :=
  iprop(Idle (F := F) (tl d L) O W ∗ xS d L x ∗ mS d L (fillM (maskArr x) f0 k) ∗ pB d L b7 (chunk x (wid L) k) ∗ pB d L b8 (maskBuf (chunk x (wid L) k)) ∗ accS d L x k ∗ R)
/-- Chunk `k`'s masks on their way out. -/
@[irreducible] def P4 (R : sProp 𝕄) (sem : DmaSem sig) (off : Fin 3 → ℕ) (inb : ∀ a, off a + S1x32x16.size a ≤ S4x9216x16.size a) : sProp 𝕄 :=
  iprop((Busy (F := F) (tl d L) O W sem (mCh mkV off inb).view.dmaCredit
      iprop((mkV.view.loc (tl d L) ↦[tM (wid L)]{fullShare} ((mCh mkV off inb).view.write (Elt F) (fillM (maskArr x) f0 k) (b8.view.read (Elt F) (maskBuf (chunk x (wid L) k))) Finset.univ))
        ∗ (b8.view.loc (tl d L) ↦[b8.view.set]{fullShare} maskBuf (chunk x (wid L) k))))
    ∗ (b8.view.loc (tl d L) ↦[Finset.univ \ b8.view.set]{fullShare} maskBuf (chunk x (wid L) k)) ∗ xS d L x ∗ pB d L b7 (chunk x (wid L) k) ∗ accS d L x k ∗ R)
/-- Chunk `k`'s masks out. -/
@[irreducible] def P5 (R : sProp 𝕄) : sProp 𝕄 :=
  iprop(Idle (F := F) (tl d L) O W ∗ xS d L x ∗ mS d L (fillM (maskArr x) f0 (k + 1)) ∗ pB d L b7 (chunk x (wid L) k) ∗ pB d L b8 (maskBuf (chunk x (wid L) k)) ∗ accS d L x k ∗ R)

variable {x f0 k} {sem : DmaSem sig}

/-- A tile's scoped copy cells are its own. -/
theorem own_cell (h : (SemLoc.dma sem : SemLoc sig).isScoped .scVector = true) : ((tl d L, SemLoc.dma sem) : GSem nD τ sig) ∈ ownCells (tl d L) :=
  mem_ownCells.mpr ⟨rfl, h⟩

/-- Chunk `k`'s copy in is started. -/
theorem enqX {R : sProp 𝕄} {Q : PUnit → sProp 𝕄} {off : Fin 3 → ℕ} {inb : ∀ a, off a + S1x96x512.size a ≤ S4x96x147456.size a}
    {hsrc : (xCh xV off inb).view.WordExact} {hdst : b7.view.WordExact} {hsem : DmaTarget.Typed (nD := nD) (p := (tl d L).2) .hbm (.dma sem) (.here b7)}
    (hk : k < 36) (ho : off = offX L k) (hs : (SemLoc.dma sem : SemLoc sig).isScoped .scVector = true)
    (h : P1 d L O W x f0 k R sem off inb ⊢ Q ⟨⟩) :
    P0 d L O W x f0 k R ⊢ wpT d L (Prog.lift (.enqueueDma (xCh xV off inb) (.here b7) (.dma sem) hsrc hdst hsem)) Q := by
  unfold P0
  iintro ⟨HI, Hx, Hm, ⟨%f7, H7⟩, H8, Ha, HR⟩
  iapply (step_enq d _ _ O W (src := xCh xV off inb) (dst := b7) (fs := x) (fd := f7) (Ss := tX (wid L)) (Sd := Finset.univ) (hsrc := hsrc) (hdst := hdst) (hsem := hsem)
    (q := fullShare) (R := iprop(mS d L (fillM (maskArr x) f0 k) ∗ (∃ f, pB d L b8 f) ∗ accS d L x k ∗ R)) (Q := Q)
    (own_cell d L hs) (show 0 < S96x512.numel by decide) (by subst ho; exact set_xCh L hk inb) (Finset.subset_univ _) ?_)
  · refine BIBase.Entails.trans ?_ h
    unfold P1
    iintro H
    iexists f7
    iexact H
  · isplitl [HI]; · iexact HI
    isplitl [Hx]; · iexact Hx
    isplitl [H7]; · iexact H7
    isplitl [Hm]; · iexact Hm
    isplitl [H8]; · iexact H8
    isplitl [Ha]; · iexact Ha
    iexact HR

/-- Chunk `k`'s copy in is waited for. -/
theorem waitX {R : sProp 𝕄} {Q : PUnit → sProp 𝕄} (hO : ∀ g, O g none = 0) {off : Fin 3 → ℕ} {inb : ∀ a, off a + S1x96x512.size a ≤ S4x96x147456.size a} {sp' : Space} {s' : Shape} {e' : EltTy} {srcw : Memref sig .scVector sp' s' e'}
    {hsrc : srcw.view.WordExact} {hdst : b7.view.WordExact}
    (hk : k < 36) (ho : off = offX L k) (hs : (SemLoc.dma sem : SemLoc sig).isScoped .scVector = true)
    (h : P2 d L O W x f0 k R ⊢ Q ⟨⟩) :
    P1 d L O W x f0 k R sem off inb ⊢ wpT d L (Prog.lift (.waitDma2 sem srcw b7 hsrc hdst)) Q := by
  subst ho
  unfold P1
  iintro ⟨%f7, HB, HR⟩
  iapply (step_wait d _ _ O W hO (srcw := srcw) (dstw := b7) (hsrc := hsrc) (hdst := hdst) (R := iprop(_ ∗ _)) (Q := Q) (own_cell d L hs) ?_)
  rotate_left
  · isplitl [HB]; · iexact HB
    iexact HR
  refine BIBase.Entails.trans ?_ h
  unfold P2
  iintro ⟨HI, ⟨H7, Hx⟩, Hr, Hm, H8, Ha, HR⟩
  isplitl [HI]; · iexact HI
  isplitl [Hx Hr]
  · iapply (pointsTo_split_subset (set_xCh L hk inb)).2
    isplitl [Hx]; · iexact Hx
    iexact Hr
  isplitl [Hm]; · iexact Hm
  isplitl [H7]
  · iapply (Entails.of_eq (congrArg (fun f => pB (F := F) d L b7 f) (show b7.view.write (Elt F) f7 ((xCh xV (offX L k) inb).view.read (Elt F) x) Finset.univ = chunk x (wid L) k from ?_)))
    · refine (show _ = b7.view.read (Elt F) _ from rfl).trans ((View.read_write_univ _ _).trans (read_xCh L hk inb x))
    iexact H7
  isplitl [H8]; · iexact H8
  isplitl [Ha]; · iexact Ha
  iexact HR

/-- Chunk `k`'s masks are computed. -/
theorem stepA {R : sProp 𝕄} {Q : FVec F S16 .f32 → sProp 𝕄} (h : P3 d L O W x f0 k R ⊢ Q (accAt x (wid L) (k + 1)).2.2) :
    P2 d L O W x f0 k R ⊢ wpT d L (Scf.Loop.for k0_t2_loop k0_t2_ok (accAt x (wid L) k).2.2 (bodyA L)) Q := by
  unfold P2
  iintro ⟨HI, Hx, Hm, H7, H8, Ha, HR⟩
  iapply (loopA d L (chunk x (wid L) k) (accAt x (wid L) k).2.2
    (R := iprop(Idle (F := F) (tl d L) O W ∗ xS d L x ∗ mS d L (fillM (maskArr x) f0 k) ∗ accS d L x k ∗ R)) (BIBase.Entails.trans ?_ h))
  · unfold P3
    iintro ⟨H7, H8, HI, Hx, Hm, Ha, HR⟩
    isplitl [HI]; · iexact HI
    isplitl [Hx]; · iexact Hx
    isplitl [Hm]; · iexact Hm
    isplitl [H7]; · iexact H7
    isplitl [H8]; · iexact H8
    isplitl [Ha]; · iexact Ha
    iexact HR
  · isplitl [H7]; · iexact H7
    isplitl [H8]; · iexact H8
    isplitl [HI]; · iexact HI
    isplitl [Hx]; · iexact Hx
    isplitl [Hm]; · iexact Hm
    isplitl [Ha]; · iexact Ha
    iexact HR

/-- Chunk `k`'s masks' copy out is started. -/
theorem enqM {R : sProp 𝕄} {Q : PUnit → sProp 𝕄} {off : Fin 3 → ℕ} {inb : ∀ a, off a + S1x32x16.size a ≤ S4x9216x16.size a}
    {hsrc : b8.view.WordExact} {hdst : (mCh mkV off inb).view.WordExact} {hsem : DmaTarget.Typed (nD := nD) (p := (tl d L).2) (.vmem : CoreSpace) (.dma sem) (.here (mCh mkV off inb))}
    (hk : k < 36) (ho : off = offM L k) (hs : (SemLoc.dma sem : SemLoc sig).isScoped .scVector = true)
    (h : P4 d L O W x f0 k R sem off inb ⊢ Q ⟨⟩) :
    P3 d L O W x f0 k R ⊢ wpT d L (Prog.lift (.enqueueDma b8 (.here (mCh mkV off inb)) (.dma sem) hsrc hdst hsem)) Q := by
  unfold P3
  iintro ⟨HI, Hx, Hm, H7, H8, Ha, HR⟩
  iapply (step_enq d _ _ O W (src := b8) (dst := mCh mkV off inb) (fs := maskBuf (chunk x (wid L) k)) (fd := fillM (maskArr x) f0 k) (Ss := Finset.univ) (Sd := tM (wid L))
    (hsrc := hsrc) (hdst := hdst) (hsem := hsem)
    (q := fullShare) (R := iprop(xS d L x ∗ pB d L b7 (chunk x (wid L) k) ∗ accS d L x k ∗ R)) (Q := Q)
    (own_cell d L hs) (show 0 < S32x16.numel by decide) (Finset.subset_univ _) (by subst ho; exact set_mCh L hk inb) (by unfold P4 at h; exact h))
  isplitl [HI]; · iexact HI
  isplitl [H8]; · iexact H8
  isplitl [Hm]; · iexact Hm
  isplitl [Hx]; · iexact Hx
  isplitl [H7]; · iexact H7
  isplitl [Ha]; · iexact Ha
  iexact HR

/-- Chunk `k`'s masks' copy out is waited for. -/
theorem waitM {R : sProp 𝕄} {Q : PUnit → sProp 𝕄} (hO : ∀ g, O g none = 0) {off : Fin 3 → ℕ} {inb : ∀ a, off a + S1x32x16.size a ≤ S4x9216x16.size a} {sp' : Space} {s' : Shape} {e' : EltTy} {srcw : Memref sig .scVector sp' s' e'}
    {hsrc : srcw.view.WordExact} {hdst : (mCh mkV off inb).view.WordExact}
    (hk : k < 36) (ho : off = offM L k) (hs : (SemLoc.dma sem : SemLoc sig).isScoped .scVector = true)
    (h : P5 d L O W x f0 k R ⊢ Q ⟨⟩) :
    P4 d L O W x f0 k R sem off inb ⊢ wpT d L (Prog.lift (.waitDma2 sem srcw (mCh mkV off inb) hsrc hdst)) Q := by
  subst ho
  unfold P4
  iintro ⟨HB, HR⟩
  iapply (step_wait d _ _ O W hO (srcw := srcw) (dstw := mCh mkV (offM L k) inb) (hsrc := hsrc) (hdst := hdst) (R := iprop(_ ∗ _)) (Q := Q) (own_cell d L hs) ?_)
  rotate_left
  · isplitl [HB]; · iexact HB
    iexact HR
  refine BIBase.Entails.trans ?_ h
  unfold P5
  iintro ⟨HI, ⟨Hm, H8⟩, Hr, Hx, H7, Ha, HR⟩
  isplitl [HI]; · iexact HI
  isplitl [Hx]; · iexact Hx
  isplitl [Hm]
  · iapply (Entails.of_eq (pointsTo_congr (write_mCh L hk inb (maskArr x) f0 (maskBuf (chunk x (wid L) k)) fun i j => maskBuf_chunk x (wid_lt L) hk i j)))
    iexact Hm
  isplitl [H7]; · iexact H7
  isplitl [H8 Hr]
  · iapply (pointsTo_split_subset (Finset.subset_univ _)).2
    isplitl [H8]; · iexact H8
    iexact Hr
  isplitl [Ha]; · iexact Ha
  iexact HR

/-- Chunk `k`'s sums are accumulated. -/
theorem stepB {R : sProp 𝕄} {Q : PUnit → sProp 𝕄} (h : P0 d L O W x f0 (k + 1) R ⊢ Q ⟨⟩) :
    P5 d L O W x f0 k R ⊢ wpT d L (Scf.Loop.for k0_t4_loop k0_t4_ok ⟨⟩ (bodyB L)) Q := by
  unfold P5
  iintro ⟨HI, Hx, Hm, H7, H8, ⟨H9, H10⟩, HR⟩
  iapply (loopB d L (chunk x (wid L) k) (maskBuf (chunk x (wid L) k)) (accAt x (wid L) k).1 (accAt x (wid L) k).2.1
    (R := iprop(Idle (F := F) (tl d L) O W ∗ xS d L x ∗ mS d L (fillM (maskArr x) f0 (k + 1)) ∗ R)) (BIBase.Entails.trans ?_ h))
  · unfold P0
    iintro ⟨H9, H10, H7, H8, HI, Hx, Hm, HR⟩
    isplitl [HI]; · iexact HI
    isplitl [Hx]; · iexact Hx
    isplitl [Hm]; · iexact Hm
    isplitl [H7]; · iexists _; iexact H7
    isplitl [H8]; · iexists _; iexact H8
    isplitl [H9 H10]
    · isplitl [H9]; · iexact H9
      iexact H10
    iexact HR
  · isplitl [H9]; · iexact H9
    isplitl [H10]; · iexact H10
    isplitl [H7]; · iexact H7
    isplitl [H8]; · iexact H8
    isplitl [HI]; · iexact HI
    isplitl [Hx]; · iexact Hx
    isplitl [Hm]; · iexact Hm
    iexact HR

end

end Cert.Proof.BN

end
-- ==== Proof.Out.lean ====
/- Copies between a tile's buffers and arrays, and the rows the statistics end in. -/
module

public import proofs.«01_k».proof.Proof.K0

@[expose] public section

noncomputable section

namespace Cert.Proof.BN

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
variable (d : Dev nD) (L : grid0.Coords) (O : CellTallies nD τ sig (HIx 2)) (W : Waits sig (HIx 2))

variable {sem : DmaSem sig}

/-! ## A copy out of a buffer, a copy into one -/

section

variable {sp sp' : Space} {s : Shape} {e : EltTy} {src : Memref sig .scVector sp s e} {dst : Memref sig .scVector sp' s e}
  {hsrc : src.view.WordExact} {hdst : dst.view.WordExact}

/-- A buffer's copy out under way. -/
def Out (src : Memref sig .scVector sp s e) (dst : Memref sig .scVector sp' s e) (sem : DmaSem sig) (Sd : Finset (Idx (dst.view.loc (tl d L))))
    (g : Buf (Elt F) (src.view.loc (tl d L))) (f : Buf (Elt F) (dst.view.loc (tl d L))) (R : sProp 𝕄) : sProp 𝕄 :=
  iprop(Busy (F := F) (tl d L) O W sem dst.view.dmaCredit
      iprop((dst.view.loc (tl d L) ↦[Sd]{fullShare} (dst.view.write (Elt F) f (src.view.read (Elt F) g) Finset.univ)) ∗ (src.view.loc (tl d L) ↦[src.view.set]{fullShare} g))
    ∗ (src.view.loc (tl d L) ↦[Finset.univ \ src.view.set]{fullShare} g) ∗ R)

theorem enqO {hsem : DmaTarget.Typed (nD := nD) (p := (tl d L).2) sp (.dma sem) (.here dst)} {R : sProp 𝕄} {Q : PUnit → sProp 𝕄}
    {Sd : Finset (Idx (dst.view.loc (tl d L)))} {g : Buf (Elt F) (src.view.loc (tl d L))} {f : Buf (Elt F) (dst.view.loc (tl d L))}
    (hs : (SemLoc.dma sem : SemLoc sig).isScoped .scVector = true) (hn : 0 < s.numel) (hSd : dst.view.set ⊆ Sd)
    (h : Out d L O W src dst sem Sd g f R ⊢ Q ⟨⟩) :
    iprop(Idle (F := F) (tl d L) O W ∗ pB d L src g ∗ (dst.view.loc (tl d L) ↦[Sd]{fullShare} f) ∗ R)
      ⊢ wpT d L (Prog.lift (.enqueueDma src (.here dst) (.dma sem) hsrc hdst hsem)) Q :=
  step_enq d _ _ O W (own_cell d L hs) hn (Finset.subset_univ _) hSd (by unfold Out at h; exact h)

theorem waitO {sp'' : Space} {s' : Shape} {e' : EltTy} {srcw : Memref sig .scVector sp'' s' e'} {hsrcw : srcw.view.WordExact} {R : sProp 𝕄} {Q : PUnit → sProp 𝕄}
    {Sd : Finset (Idx (dst.view.loc (tl d L)))} {g : Buf (Elt F) (src.view.loc (tl d L))} {f : Buf (Elt F) (dst.view.loc (tl d L))}
    (G : Buf (Elt F) (dst.view.loc (tl d L))) (hO : ∀ g, O g none = 0) (hs : (SemLoc.dma sem : SemLoc sig).isScoped .scVector = true)
    (hG : ∀ p ∈ Sd, dst.view.write (Elt F) f (src.view.read (Elt F) g) Finset.univ p = G p)
    (h : iprop(Idle (F := F) (tl d L) O W ∗ (dst.view.loc (tl d L) ↦[Sd]{fullShare} G) ∗ pB d L src g ∗ R) ⊢ Q ⟨⟩) :
    Out d L O W src dst sem Sd g f R ⊢ wpT d L (Prog.lift (.waitDma2 sem srcw dst hsrcw hdst)) Q := by
  unfold Out
  iintro ⟨HB, HR⟩
  iapply (step_wait d _ _ O W hO (srcw := srcw) (dstw := dst) (hsrc := hsrcw) (hdst := hdst) (R := iprop(_ ∗ _)) (Q := Q) (own_cell d L hs) ?_)
  rotate_left
  · isplitl [HB]; · iexact HB
    iexact HR
  refine BIBase.Entails.trans ?_ h
  iintro ⟨HI, ⟨Hd, Hs⟩, Hr, HR⟩
  isplitl [HI]; · iexact HI
  isplitl [Hd]
  · iapply (Entails.of_eq (pointsTo_congr hG))
    iexact Hd
  isplitl [Hs Hr]
  · iapply (pointsTo_split_subset (Finset.subset_univ _)).2
    isplitl [Hs]; · iexact Hs
    iexact Hr
  iexact HR

/-- A copy into a buffer under way. -/
def In (src : Memref sig .scVector sp s e) (dst : Memref sig .scVector sp' s e) (sem : DmaSem sig) (q : PosShare TreeShare) (Ss : Finset (Idx (src.view.loc (tl d L))))
    (g : Buf (Elt F) (src.view.loc (tl d L))) (R : sProp 𝕄) : sProp 𝕄 :=
  iprop(∃ f : Buf (Elt F) (dst.view.loc (tl d L)), (Busy (F := F) (tl d L) O W sem dst.view.dmaCredit
      iprop((pB d L dst (dst.view.write (Elt F) f (src.view.read (Elt F) g) Finset.univ)) ∗ (src.view.loc (tl d L) ↦[src.view.set]{q} g))
    ∗ (src.view.loc (tl d L) ↦[Ss \ src.view.set]{q} g) ∗ R))

theorem enqI {hsem : DmaTarget.Typed (nD := nD) (p := (tl d L).2) sp (.dma sem) (.here dst)} {R : sProp 𝕄} {Q : PUnit → sProp 𝕄}
    {q : PosShare TreeShare} {Ss : Finset (Idx (src.view.loc (tl d L)))} {g : Buf (Elt F) (src.view.loc (tl d L))}
    (hs : (SemLoc.dma sem : SemLoc sig).isScoped .scVector = true) (hn : 0 < s.numel) (hSs : src.view.set ⊆ Ss)
    (h : In d L O W src dst sem q Ss g R ⊢ Q ⟨⟩) :
    iprop(Idle (F := F) (tl d L) O W ∗ (src.view.loc (tl d L) ↦[Ss]{q} g) ∗ (∃ f, pB d L dst f) ∗ R)
      ⊢ wpT d L (Prog.lift (.enqueueDma src (.here dst) (.dma sem) hsrc hdst hsem)) Q := by
  iintro ⟨HI, Hs, ⟨%f, Hd⟩, HR⟩
  iapply (step_enq d _ _ O W (src := src) (dst := dst) (fs := g) (fd := f) (Ss := Ss) (Sd := Finset.univ) (hsrc := hsrc) (hdst := hdst) (hsem := hsem)
    (q := q) (R := R) (Q := Q) (own_cell d L hs) hn hSs (Finset.subset_univ _) ?_)
  · refine BIBase.Entails.trans ?_ h
    unfold In
    iintro H
    iexists f
    iexact H
  · isplitl [HI]; · iexact HI
    isplitl [Hs]; · iexact Hs
    isplitl [Hd]; · iexact Hd
    iexact HR

theorem waitI {sp'' : Space} {s' : Shape} {e' : EltTy} {srcw : Memref sig .scVector sp'' s' e'} {hsrcw : srcw.view.WordExact} {R : sProp 𝕄} {Q : PUnit → sProp 𝕄}
    {q : PosShare TreeShare} {Ss : Finset (Idx (src.view.loc (tl d L)))} {g : Buf (Elt F) (src.view.loc (tl d L))}
    (G : Buf (Elt F) (dst.view.loc (tl d L))) (hO : ∀ g, O g none = 0) (hs : (SemLoc.dma sem : SemLoc sig).isScoped .scVector = true) (hSs : src.view.set ⊆ Ss)
    (hG : ∀ f, dst.view.write (Elt F) f (src.view.read (Elt F) g) Finset.univ = G)
    (h : iprop(Idle (F := F) (tl d L) O W ∗ (src.view.loc (tl d L) ↦[Ss]{q} g) ∗ pB d L dst G ∗ R) ⊢ Q ⟨⟩) :
    In d L O W src dst sem q Ss g R ⊢ wpT d L (Prog.lift (.waitDma2 sem srcw dst hsrcw hdst)) Q := by
  unfold In
  iintro ⟨%f, HB, HR⟩
  iapply (step_wait d _ _ O W hO (srcw := srcw) (dstw := dst) (hsrc := hsrcw) (hdst := hdst) (R := iprop(_ ∗ _)) (Q := Q) (own_cell d L hs) ?_)
  rotate_left
  · isplitl [HB]; · iexact HB
    iexact HR
  refine BIBase.Entails.trans ?_ h
  rw [hG f]
  iintro ⟨HI, ⟨Hd, Hs⟩, Hr, HR⟩
  isplitl [HI]; · iexact HI
  isplitl [Hs Hr]
  · iapply (pointsTo_split_subset hSs).2
    isplitl [Hs]; · iexact Hs
    iexact Hr
  isplitl [Hd]; · iexact Hd
  iexact HR

end

/-! ## The rows of the tiles' sums and counts -/

/-- Where the tile at `L` puts its sums. -/
def offR (L : grid0.Coords) : Fin 3 → ℕ := ![2 * (L 1).val + (L 0).val, 0, 0]
/-- Where the tile at `L` puts its counts. -/
def offC (L : grid0.Coords) : Fin 2 → ℕ := ![2 * (L 1).val + (L 0).val, 0]

section

variable (inbR : ∀ a, offR L a + S1x96x16.size a ≤ S32x96x16.size a) (inbC : ∀ a, offC L a + S1x16.size a ≤ S32x16.size a)

theorem emb_rCh' (m : Memref sig .scVector .hbm S32x96x16 .f32) (i : Fin 96) (j : Fin 16) :
    (rCh m (offR L) inbR).view.emb (ix2 i j) = m.view.emb (ix3 ⟨wid L, wid_lt L⟩ i j) := by
  show m.view.emb ((Rect.unit (s := S32x96x16) (offR L) S1x96x16.size inbR).emb (Shape.reshapeEquiv _ (ix2 i j))) = _
  rw [unit_emb3]
  congr 1
  funext d
  match d with
  | ⟨0, _⟩ => rfl
  | ⟨1, _⟩ => exact Fin.ext (by show 0 + i.val = i.val; omega)
  | ⟨2, _⟩ => exact Fin.ext (by show 0 + j.val = j.val; omega)
theorem emb_rCh (m : Memref sig .scVector .hbm S32x96x16 .f32) (x : S96x16.Idx) : (rCh m (offR L) inbR).view.emb x = m.view.emb (ix3 ⟨wid L, wid_lt L⟩ (x 0) (x 1)) :=
  (congrArg (rCh m (offR L) inbR).view.emb (eq_ix2 x)).trans (emb_rCh' L inbR m (x 0) (x 1))
theorem emb_cCh' (m : Memref sig .scVector .hbm S32x16 .f32) (j : Fin 16) : (cCh m (offC L) inbC).view.emb (ix1 j) = m.view.emb (ix2 ⟨wid L, wid_lt L⟩ j) := by
  show m.view.emb ((Rect.unit (s := S32x16) (offC L) S1x16.size inbC).emb (Shape.reshapeEquiv _ (ix1 j))) = _
  rw [reshapeEquiv_ix1_1a, unit_emb2]
  congr 1
  funext d
  match d with
  | ⟨0, _⟩ => rfl
  | ⟨1, _⟩ => exact Fin.ext (by show 0 + j.val = j.val; omega)
theorem emb_cCh (m : Memref sig .scVector .hbm S32x16 .f32) (x : S16.Idx) : (cCh m (offC L) inbC).view.emb x = m.view.emb (ix2 ⟨wid L, wid_lt L⟩ (x 0)) :=
  (congrArg (cCh m (offC L) inbC).view.emb (eq_ix1 x)).trans (emb_cCh' L inbC m (x 0))

theorem set_s1 : (rCh s1V (offR L) inbR).view.set ⊆ tR (wid L) := by
  intro p hp
  obtain ⟨x, -, hx⟩ := Finset.mem_map.mp hp
  have hx := (emb_rCh L inbR s1V x).symm.trans hx
  exact Finset.mem_filter.mpr ⟨Finset.mem_univ _, hx ▸ rfl⟩
theorem set_s2 : (rCh s2V (offR L) inbR).view.set ⊆ tR (wid L) := by
  intro p hp
  obtain ⟨x, -, hx⟩ := Finset.mem_map.mp hp
  have hx := (emb_rCh L inbR s2V x).symm.trans hx
  exact Finset.mem_filter.mpr ⟨Finset.mem_univ _, hx ▸ rfl⟩
theorem set_ct : (cCh ctV (offC L) inbC).view.set ⊆ tC (wid L) := by
  intro p hp
  obtain ⟨x, -, hx⟩ := Finset.mem_map.mp hp
  have hx := (emb_cCh L inbC ctV x).symm.trans hx
  exact Finset.mem_filter.mpr ⟨Finset.mem_univ _, hx ▸ rfl⟩

theorem own_ix3 {w : ℕ} (hw : w < 32) (p : S32x96x16.Idx) (h : (p 0).val = w) : ix3 ⟨w, hw⟩ (p 1) (p 2) = p := by
  subst h; exact (eq_ix3 p).symm
theorem own_ix2 {w : ℕ} (hw : w < 32) (p : S32x16.Idx) (h : (p 0).val = w) : ix2 ⟨w, hw⟩ (p 1) = p := by
  subst h; exact (eq_ix2 p).symm

/-- The tile's row of the sums, copied out. -/
theorem write_s1 (x : FVec F S4x96x147456 .f32) (f : FVec F S32x96x16 .f32) :
    ∀ p ∈ tR (wid L), (rCh s1V (offR L) inbR).view.write (Elt F) f (b9.view.read (Elt F) (accAt x (wid L) 36).1) Finset.univ p = s1Arr x p := by
  intro p hp
  have hw := (Finset.mem_filter.mp hp).2
  refine (write_at (v := (rCh s1V (offR L) inbR).view) (x := ix2 (p 1) (p 2)) _ _ ((emb_rCh L inbR s1V _).trans (own_ix3 (wid_lt L) p hw))).trans ?_
  show (accAt x (wid L) 36).1 (ix2 (p 1) (p 2)) = (accAt x (p 0).val 36).1 (ix2 (p 1) (p 2))
  rw [hw]
/-- The tile's row of the sums of squares, copied out. -/
theorem write_s2 (x : FVec F S4x96x147456 .f32) (f : FVec F S32x96x16 .f32) :
    ∀ p ∈ tR (wid L), (rCh s2V (offR L) inbR).view.write (Elt F) f (b10.view.read (Elt F) (accAt x (wid L) 36).2.1) Finset.univ p = s2Arr x p := by
  intro p hp
  have hw := (Finset.mem_filter.mp hp).2
  refine (write_at (v := (rCh s2V (offR L) inbR).view) (x := ix2 (p 1) (p 2)) _ _ ((emb_rCh L inbR s2V _).trans (own_ix3 (wid_lt L) p hw))).trans ?_
  show (accAt x (wid L) 36).2.1 (ix2 (p 1) (p 2)) = (accAt x (p 0).val 36).2.1 (ix2 (p 1) (p 2))
  rw [hw]
/-- The tile's row of the counts, copied out. -/
theorem write_ct (x : FVec F S4x96x147456 .f32) (f : FVec F S32x16 .f32) :
    ∀ p ∈ tC (wid L), (cCh ctV (offC L) inbC).view.write (Elt F) f (b11.view.read (Elt F) (accAt x (wid L) 36).2.2) Finset.univ p = cntArr x p := by
  intro p hp
  have hw := (Finset.mem_filter.mp hp).2
  refine (write_at (v := (cCh ctV (offC L) inbC).view) (x := ix1 (p 1)) _ _ ((emb_cCh L inbC ctV _).trans (own_ix2 (wid_lt L) p hw))).trans ?_
  show (accAt x (wid L) 36).2.2 (ix1 (p 1)) = (accAt x (p 0).val 36).2.2 (ix1 (p 1))
  rw [hw]

end

/-- The counts' buffer after the counts are stored in it. -/
theorem store11 (f v : FVec F S16 .f32) (inb : ∀ a, (![0] : Fin 1 → ℕ) a + S16.size a ≤ S16.size a) (h : S16.ShapeCasts S16) :
    (b11.access (Rect.unit (s := S16) ![0] S16.size inb)).write (Elt F) f (shapeCast S16 v h : FVec F S16 .f32) Finset.univ = v := by
  rw [shapeCast_self]
  funext p
  refine write_at (Val := Elt F) (v := b11.access (Rect.unit (s := S16) ![0] S16.size inb)) (x := p) f v ?_
  funext a
  match a with
  | ⟨0, _⟩ => exact Fin.ext (by show 0 + 1 * (p 0).val = (p 0).val; omega)

/-- The counts stored. -/
theorem sto11 {f v : FVec F S16 .f32} {inb : ∀ a, (![0] : Fin 1 → ℕ) a + S16.size a ≤ S16.size a} {hc : S16.ShapeCasts S16}
    {hx : (b11.access (Rect.unit (s := S16) ![0] S16.size inb)).Stores Finset.univ} {hm : (Finset.univ : Finset S16.Idx) = Finset.univ ∨ ∀ a, (Rect.unit (s := S16) ![0] S16.size inb).stride a = 1}
    {R : sProp 𝕄} {Q : PUnit → sProp 𝕄} (h : iprop(pB d L b11 v ∗ R) ⊢ Q ⟨⟩) :
    iprop(pB d L b11 f ∗ R) ⊢ wpT d L (Prog.lift (.store b11 (Rect.unit (s := S16) ![0] S16.size inb) (shapeCast S16 v hc : FVec F S16 .f32) Finset.univ hx hm)) Q := by
  refine sto d L ?_
  rw [store11]
  exact h

end Cert.Proof.BN

end
-- ==== Proof.K0Tail.lean ====
/- The statistics kernel's closing copies: a tile's row of the sums, the sums of squares and the counts. -/
module

public import proofs.«01_k».proof.Proof.Out

@[expose] public section

noncomputable section

namespace Cert.Proof.BN

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
variable (d : Dev nD) (L : grid0.Coords) (O : CellTallies nD τ sig (HIx 2)) (W : Waits sig (HIx 2))

/-- A tile's rows of the sums, the sums of squares and the counts. -/
abbrev rS (f1 f2 : FVec F S32x96x16 .f32) (f3 : FVec F S32x16 .f32) : sProp 𝕄 :=
  iprop((s1V.view.loc (tl d L) ↦[tR (wid L)]{fullShare} f1) ∗ (s2V.view.loc (tl d L) ↦[tR (wid L)]{fullShare} f2) ∗ (ctV.view.loc (tl d L) ↦[tC (wid L)]{fullShare} f3))

section

variable (x : FVec F S4x96x147456 .f32) (f1 f2 : FVec F S32x96x16 .f32) (f3 : FVec F S32x16 .f32)

/-- What the closing copies leave alone. -/
abbrev idleS : sProp 𝕄 := iprop(xS d L x ∗ mS d L (maskArr x) ∗ (∃ f, pB d L b7 f) ∗ (∃ f, pB d L b8 f))

/-- The counts' buffer about to be stored in. -/
@[irreducible] def T0 (f : FVec F S16 .f32) : sProp 𝕄 :=
  iprop(pB d L b11 f ∗ Idle (F := F) (tl d L) O W ∗ pB d L b9 (accAt x (wid L) 36).1 ∗ pB d L b10 (accAt x (wid L) 36).2.1 ∗ rS d L f1 f2 f3 ∗ idleS d L x)
/-- The sums' copy out comes next. -/
@[irreducible] def T1 : sProp 𝕄 :=
  iprop(Idle (F := F) (tl d L) O W ∗ pB d L b9 (accAt x (wid L) 36).1 ∗ (s1V.view.loc (tl d L) ↦[tR (wid L)]{fullShare} f1)
    ∗ (pB d L b11 (accAt x (wid L) 36).2.2 ∗ pB d L b10 (accAt x (wid L) 36).2.1 ∗ (s2V.view.loc (tl d L) ↦[tR (wid L)]{fullShare} f2) ∗ (ctV.view.loc (tl d L) ↦[tC (wid L)]{fullShare} f3) ∗ idleS d L x))
/-- The sums' copy out under way. -/
@[irreducible] def T2 (sem : DmaSem sig) (off : Fin 3 → ℕ) (inb : ∀ a, off a + S1x96x16.size a ≤ S32x96x16.size a) : sProp 𝕄 :=
  Out d L O W b9 (rCh s1V off inb) sem (tR (wid L)) (accAt x (wid L) 36).1 f1
    iprop(pB d L b11 (accAt x (wid L) 36).2.2 ∗ pB d L b10 (accAt x (wid L) 36).2.1 ∗ (s2V.view.loc (tl d L) ↦[tR (wid L)]{fullShare} f2) ∗ (ctV.view.loc (tl d L) ↦[tC (wid L)]{fullShare} f3) ∗ idleS d L x)
/-- The sums of squares' copy out comes next. -/
@[irreducible] def T3 : sProp 𝕄 :=
  iprop(Idle (F := F) (tl d L) O W ∗ pB d L b10 (accAt x (wid L) 36).2.1 ∗ (s2V.view.loc (tl d L) ↦[tR (wid L)]{fullShare} f2)
    ∗ ((s1V.view.loc (tl d L) ↦[tR (wid L)]{fullShare} s1Arr x) ∗ (∃ f, pB d L b9 f) ∗ pB d L b11 (accAt x (wid L) 36).2.2 ∗ (ctV.view.loc (tl d L) ↦[tC (wid L)]{fullShare} f3) ∗ idleS d L x))
/-- The sums of squares' copy out under way. -/
@[irreducible] def T4 (sem : DmaSem sig) (off : Fin 3 → ℕ) (inb : ∀ a, off a + S1x96x16.size a ≤ S32x96x16.size a) : sProp 𝕄 :=
  Out d L O W b10 (rCh s2V off inb) sem (tR (wid L)) (accAt x (wid L) 36).2.1 f2
    iprop((s1V.view.loc (tl d L) ↦[tR (wid L)]{fullShare} s1Arr x) ∗ (∃ f, pB d L b9 f) ∗ pB d L b11 (accAt x (wid L) 36).2.2 ∗ (ctV.view.loc (tl d L) ↦[tC (wid L)]{fullShare} f3) ∗ idleS d L x)
/-- The counts' copy out comes next. -/
@[irreducible] def T5 : sProp 𝕄 :=
  iprop(Idle (F := F) (tl d L) O W ∗ pB d L b11 (accAt x (wid L) 36).2.2 ∗ (ctV.view.loc (tl d L) ↦[tC (wid L)]{fullShare} f3)
    ∗ ((s1V.view.loc (tl d L) ↦[tR (wid L)]{fullShare} s1Arr x) ∗ (∃ f, pB d L b9 f) ∗ (s2V.view.loc (tl d L) ↦[tR (wid L)]{fullShare} s2Arr x) ∗ (∃ f, pB d L b10 f) ∗ idleS d L x))
/-- The counts' copy out under way. -/
@[irreducible] def T6 (sem : DmaSem sig) (off : Fin 2 → ℕ) (inb : ∀ a, off a + S1x16.size a ≤ S32x16.size a) : sProp 𝕄 :=
  Out d L O W b11 (cCh ctV off inb) sem (tC (wid L)) (accAt x (wid L) 36).2.2 f3
    iprop((s1V.view.loc (tl d L) ↦[tR (wid L)]{fullShare} s1Arr x) ∗ (∃ f, pB d L b9 f) ∗ (s2V.view.loc (tl d L) ↦[tR (wid L)]{fullShare} s2Arr x) ∗ (∃ f, pB d L b10 f) ∗ idleS d L x)
/-- All of the statistics kernel done on a tile. -/
@[irreducible] def T7 : sProp 𝕄 :=
  iprop(Idle (F := F) (tl d L) O W ∗ xS d L x ∗ mS d L (maskArr x) ∗ rS d L (s1Arr x) (s2Arr x) (cntArr x)
      ∗ (∃ f, pB d L b7 f) ∗ (∃ f, pB d L b8 f) ∗ (∃ f, pB d L b9 f) ∗ (∃ f, pB d L b10 f) ∗ (∃ f, pB d L b11 f))

variable {x f1 f2 f3} {sem : DmaSem sig}

/-- The counts' buffer is read before it is stored in. -/
theorem stepL {f0 : FVec F S4x9216x16 .f32} {k : ℕ} (hk : k = 36) {r : LoadRect S16} {hl : b11.view.LoadsAt r} {Q : (r.shape.Idx → Elt F .f32) → sProp 𝕄}
    (h : ∀ f v, T0 d L O W x f1 f2 f3 f ⊢ Q v) :
    P0 d L O W x f0 k iprop((∃ f, pB d L b11 f) ∗ rS d L f1 f2 f3) ⊢ wpT d L (Prog.lift (.load b11 r hl)) Q := by
  subst hk
  refine BIBase.Entails.trans (Q := iprop(∃ f, T0 d L O W x f1 f2 f3 f)) ?_ ?_
  · unfold P0 T0
    rw [fillM_all]
    iintro ⟨HI, Hx, Hm, H7, H8, ⟨H9, H10⟩, ⟨%f, H11⟩, HR⟩
    iexists f
    isplitl [H11]; · iexact H11
    isplitl [HI]; · iexact HI
    isplitl [H9]; · iexact H9
    isplitl [H10]; · iexact H10
    isplitl [HR]; · iexact HR
    isplitl [Hx]; · iexact Hx
    isplitl [Hm]; · iexact Hm
    isplitl [H7]; · iexact H7
    iexact H8
  · iintro ⟨%f, H⟩
    iapply (show T0 d L O W x f1 f2 f3 f ⊢ _ from ?_) $$ H
    have h := h f
    unfold T0 at h ⊢
    exact ld d L (h _)
/-- The counts are stored. -/
theorem stepS {f v : FVec F S16 .f32} (hv : v = (accAt x (wid L) 36).2.2) {inb : ∀ a, (![0] : Fin 1 → ℕ) a + S16.size a ≤ S16.size a} {hc : S16.ShapeCasts S16}
    {hx : (b11.access (Rect.unit (s := S16) ![0] S16.size inb)).Stores Finset.univ} {hm : (Finset.univ : Finset S16.Idx) = Finset.univ ∨ ∀ a, (Rect.unit (s := S16) ![0] S16.size inb).stride a = 1}
    {Q : PUnit → sProp 𝕄} (h : T1 d L O W x f1 f2 f3 ⊢ Q ⟨⟩) :
    T0 d L O W x f1 f2 f3 f ⊢ wpT d L (Prog.lift (.store b11 (Rect.unit (s := S16) ![0] S16.size inb) (shapeCast S16 v hc : FVec F S16 .f32) Finset.univ hx hm)) Q := by
  subst hv
  unfold T0
  refine sto11 d L (BIBase.Entails.trans ?_ h)
  unfold T1
  iintro ⟨H11, HI, H9, H10, ⟨H1, H2, H3⟩, HR⟩
  isplitl [HI]; · iexact HI
  isplitl [H9]; · iexact H9
  isplitl [H1]; · iexact H1
  isplitl [H11]; · iexact H11
  isplitl [H10]; · iexact H10
  isplitl [H2]; · iexact H2
  isplitl [H3]; · iexact H3
  iexact HR
/-- The sums' copy out is started. -/
theorem enqS1 {Q : PUnit → sProp 𝕄} {off : Fin 3 → ℕ} {inb : ∀ a, off a + S1x96x16.size a ≤ S32x96x16.size a}
    {hsrc : b9.view.WordExact} {hdst : (rCh s1V off inb).view.WordExact} {hsem : DmaTarget.Typed (nD := nD) (p := (tl d L).2) (.vmem : CoreSpace) (.dma sem) (.here (rCh s1V off inb))}
    (ho : off = offR L) (hs : (SemLoc.dma sem : SemLoc sig).isScoped .scVector = true)
    (h : T2 d L O W x f1 f2 f3 sem off inb ⊢ Q ⟨⟩) :
    T1 d L O W x f1 f2 f3 ⊢ wpT d L (Prog.lift (.enqueueDma b9 (.here (rCh s1V off inb)) (.dma sem) hsrc hdst hsem)) Q := by
  unfold T1; unfold T2 at h
  exact enqO d L O W (src := b9) (dst := rCh s1V off inb) (Sd := tR (wid L)) (g := (accAt x (wid L) 36).1) (f := f1)
    (R := iprop(pB d L b11 (accAt x (wid L) 36).2.2 ∗ pB d L b10 (accAt x (wid L) 36).2.1 ∗ (s2V.view.loc (tl d L) ↦[tR (wid L)]{fullShare} f2) ∗ (ctV.view.loc (tl d L) ↦[tC (wid L)]{fullShare} f3) ∗ idleS d L x))
    hs (show 0 < S96x16.numel by decide) (by subst ho; exact set_s1 L inb) h
/-- The sums' copy out is waited for. -/
theorem waitS1 {Q : PUnit → sProp 𝕄} (hO : ∀ g, O g none = 0) {off : Fin 3 → ℕ} {inb : ∀ a, off a + S1x96x16.size a ≤ S32x96x16.size a} {sp' : Space} {s' : Shape} {e' : EltTy} {srcw : Memref sig .scVector sp' s' e'}
    {hsrc : srcw.view.WordExact} {hdst : (rCh s1V off inb).view.WordExact}
    (ho : off = offR L) (hs : (SemLoc.dma sem : SemLoc sig).isScoped .scVector = true) (h : T3 d L O W x f2 f3 ⊢ Q ⟨⟩) :
    T2 d L O W x f1 f2 f3 sem off inb ⊢ wpT d L (Prog.lift (.waitDma2 sem srcw (rCh s1V off inb) hsrc hdst)) Q := by
  subst ho
  unfold T2
  refine waitO d L O W (s1Arr x) hO hs (write_s1 L inb x f1) (BIBase.Entails.trans ?_ h)
  unfold T3
  iintro ⟨HI, H1, H9, H11, H10, H2, H3, HR⟩
  isplitl [HI]; · iexact HI
  isplitl [H10]; · iexact H10
  isplitl [H2]; · iexact H2
  isplitl [H1]; · iexact H1
  isplitl [H9]; · iexists _; iexact H9
  isplitl [H11]; · iexact H11
  isplitl [H3]; · iexact H3
  iexact HR
/-- The sums of squares' copy out is started. -/
theorem enqS2 {Q : PUnit → sProp 𝕄} {off : Fin 3 → ℕ} {inb : ∀ a, off a + S1x96x16.size a ≤ S32x96x16.size a}
    {hsrc : b10.view.WordExact} {hdst : (rCh s2V off inb).view.WordExact} {hsem : DmaTarget.Typed (nD := nD) (p := (tl d L).2) (.vmem : CoreSpace) (.dma sem) (.here (rCh s2V off inb))}
    (ho : off = offR L) (hs : (SemLoc.dma sem : SemLoc sig).isScoped .scVector = true)
    (h : T4 d L O W x f2 f3 sem off inb ⊢ Q ⟨⟩) :
    T3 d L O W x f2 f3 ⊢ wpT d L (Prog.lift (.enqueueDma b10 (.here (rCh s2V off inb)) (.dma sem) hsrc hdst hsem)) Q := by
  unfold T3; unfold T4 at h
  exact enqO d L O W (src := b10) (dst := rCh s2V off inb) (Sd := tR (wid L)) (g := (accAt x (wid L) 36).2.1) (f := f2)
    (R := iprop((s1V.view.loc (tl d L) ↦[tR (wid L)]{fullShare} s1Arr x) ∗ (∃ f, pB d L b9 f) ∗ pB d L b11 (accAt x (wid L) 36).2.2 ∗ (ctV.view.loc (tl d L) ↦[tC (wid L)]{fullShare} f3) ∗ idleS d L x))
    hs (show 0 < S96x16.numel by decide) (by subst ho; exact set_s2 L inb) h
/-- The sums of squares' copy out is waited for. -/
theorem waitS2 {Q : PUnit → sProp 𝕄} (hO : ∀ g, O g none = 0) {off : Fin 3 → ℕ} {inb : ∀ a, off a + S1x96x16.size a ≤ S32x96x16.size a} {sp' : Space} {s' : Shape} {e' : EltTy} {srcw : Memref sig .scVector sp' s' e'}
    {hsrc : srcw.view.WordExact} {hdst : (rCh s2V off inb).view.WordExact}
    (ho : off = offR L) (hs : (SemLoc.dma sem : SemLoc sig).isScoped .scVector = true) (h : T5 d L O W x f3 ⊢ Q ⟨⟩) :
    T4 d L O W x f2 f3 sem off inb ⊢ wpT d L (Prog.lift (.waitDma2 sem srcw (rCh s2V off inb) hsrc hdst)) Q := by
  subst ho
  unfold T4
  refine waitO d L O W (s2Arr x) hO hs (write_s2 L inb x f2) (BIBase.Entails.trans ?_ h)
  unfold T5
  iintro ⟨HI, H2, H10, H1, H9, H11, H3, HR⟩
  isplitl [HI]; · iexact HI
  isplitl [H11]; · iexact H11
  isplitl [H3]; · iexact H3
  isplitl [H1]; · iexact H1
  isplitl [H9]; · iexact H9
  isplitl [H2]; · iexact H2
  isplitl [H10]; · iexists _; iexact H10
  iexact HR
/-- The counts' copy out is started. -/
theorem enqC {Q : PUnit → sProp 𝕄} {off : Fin 2 → ℕ} {inb : ∀ a, off a + S1x16.size a ≤ S32x16.size a}
    {hsrc : b11.view.WordExact} {hdst : (cCh ctV off inb).view.WordExact} {hsem : DmaTarget.Typed (nD := nD) (p := (tl d L).2) (.vmem : CoreSpace) (.dma sem) (.here (cCh ctV off inb))}
    (ho : off = offC L) (hs : (SemLoc.dma sem : SemLoc sig).isScoped .scVector = true)
    (h : T6 d L O W x f3 sem off inb ⊢ Q ⟨⟩) :
    T5 d L O W x f3 ⊢ wpT d L (Prog.lift (.enqueueDma b11 (.here (cCh ctV off inb)) (.dma sem) hsrc hdst hsem)) Q := by
  unfold T5; unfold T6 at h
  exact enqO d L O W (src := b11) (dst := cCh ctV off inb) (Sd := tC (wid L)) (g := (accAt x (wid L) 36).2.2) (f := f3)
    (R := iprop((s1V.view.loc (tl d L) ↦[tR (wid L)]{fullShare} s1Arr x) ∗ (∃ f, pB d L b9 f) ∗ (s2V.view.loc (tl d L) ↦[tR (wid L)]{fullShare} s2Arr x) ∗ (∃ f, pB d L b10 f) ∗ idleS d L x))
    hs (show 0 < S16.numel by decide) (by subst ho; exact set_ct L inb) h
/-- The counts' copy out is waited for. -/
theorem waitC {Q : PUnit → sProp 𝕄} (hO : ∀ g, O g none = 0) {off : Fin 2 → ℕ} {inb : ∀ a, off a + S1x16.size a ≤ S32x16.size a} {sp' : Space} {s' : Shape} {e' : EltTy} {srcw : Memref sig .scVector sp' s' e'}
    {hsrc : srcw.view.WordExact} {hdst : (cCh ctV off inb).view.WordExact}
    (ho : off = offC L) (hs : (SemLoc.dma sem : SemLoc sig).isScoped .scVector = true) (h : T7 d L O W x ⊢ Q ⟨⟩) :
    T6 d L O W x f3 sem off inb ⊢ wpT d L (Prog.lift (.waitDma2 sem srcw (cCh ctV off inb) hsrc hdst)) Q := by
  subst ho
  unfold T6
  refine waitO d L O W (cntArr x) hO hs (write_ct L inb x f3) (BIBase.Entails.trans ?_ h)
  unfold T7
  iintro ⟨HI, H3, H11, H1, H9, H2, H10, Hx, Hm, H7, H8⟩
  isplitl [HI]; · iexact HI
  isplitl [Hx]; · iexact Hx
  isplitl [Hm]; · iexact Hm
  isplitl [H1 H2 H3]
  · isplitl [H1]; · iexact H1
    isplitl [H2]; · iexact H2
    iexact H3
  isplitl [H7]; · iexact H7
  isplitl [H8]; · iexact H8
  isplitl [H9]; · iexact H9
  isplitl [H10]; · iexact H10
  iexists _; iexact H11

end

end Cert.Proof.BN

end
-- ==== Proof.K0Body.lean ====
/- The statistics kernel on a tile. -/
module

public import proofs.«01_k».proof.Proof.K0Tail

@[expose] public section

noncomputable section

namespace Cert.Proof.BN

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
variable (d : Dev nD) (L : grid0.Coords) (O : CellTallies nD τ sig (HIx 2)) (W : Waits sig (HIx 2))

set_option maxRecDepth 10000 in
set_option maxHeartbeats 8000000 in
/-- The statistics kernel on a tile: its part of the mask, and its rows of the sums and counts. -/
theorem k0_body (hO : ∀ g, O g none = 0) (x : FVec F S4x96x147456 .f32) (f0 : FVec F S4x9216x16 .f32) (f1 f2 : FVec F S32x96x16 .f32) (f3 : FVec F S32x16 .f32)
    {Q : PUnit → sProp 𝕄}
    (h : T7 d L O W x ⊢ Q ⟨⟩) :
    iprop((∃ f, pB d L b9 f) ∗ (∃ f, pB d L b10 f) ∗ (Idle (F := F) (tl d L) O W ∗ xS d L x ∗ mS d L f0 ∗ (∃ f, pB d L b7 f) ∗ (∃ f, pB d L b8 f)
        ∗ ((∃ f, pB d L b11 f) ∗ rS d L f1 f2 f3)))
      ⊢ wpT d L (cc0__stats_body L xV (Memref.isWhole_whole _) s1V (Memref.isWhole_whole _) s2V (Memref.isWhole_whole _) ctV (Memref.isWhole_whole _) mkV (Memref.isWhole_whole _)
          b7 (Memref.isWhole_whole _) b8 (Memref.isWhole_whole _) b9 (Memref.isWhole_whole _) b10 (Memref.isWhole_whole _) b11 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74) Q := by
  unfold cc0__stats_body
  refine seq (F := F) _ ?_
  unfold k0_part33
  refine seq (F := F) _ ?_
  unfold k0_part1
  refine seq (F := F) _ ?_
  refine loopZ d L ?_
  refine BIBase.Entails.trans (Q := P0 d L O W x f0 0 iprop((∃ f, pB d L b11 f) ∗ rS d L f1 f2 f3)) ?_ ?_
  · unfold P0
    iintro ⟨H9, H10, HI, Hx, Hm, H7, H8, HR⟩
    isplitl [HI]; · iexact HI
    isplitl [Hx]; · iexact Hx
    isplitl [Hm]; · iexact Hm
    isplitl [H7]; · iexact H7
    isplitl [H8]; · iexact H8
    isplitl [H9 H10]
    · isplitl [H9]; · iexact H9
      iexact H10
    iexact HR
  repeat (first
    | with_reducible refine seq (F := F) _ ?_
    | with_reducible refine fin (F := F) _ ?_
    | unfold k0_part2 | unfold k0_part3 | unfold k0_part4 | unfold k0_part5 | unfold k0_part6 | unfold k0_part7 | unfold k0_part8 | unfold k0_part9
    | unfold k0_part10 | unfold k0_part11 | unfold k0_part12 | unfold k0_part13 | unfold k0_part14 | unfold k0_part15 | unfold k0_part16 | unfold k0_part17
    | unfold k0_part18 | unfold k0_part19 | unfold k0_part20 | unfold k0_part21 | unfold k0_part22 | unfold k0_part23 | unfold k0_part24 | unfold k0_part25
    | unfold k0_part26 | unfold k0_part27 | unfold k0_part28 | unfold k0_part29 | unfold k0_part30 | unfold k0_part31 | unfold k0_part32
    | (with_reducible refine enqX d L O W ?_ ?_ ?_ ?_; (· decide); (· exact ClosedOff.eq.trans rfl); (· decide))
    | (with_reducible refine waitX d L O W hO ?_ ?_ ?_ ?_; (· decide); (· exact ClosedOff.eq.trans rfl); (· decide))
    | (with_reducible refine enqM d L O W ?_ ?_ ?_ ?_; (· decide); (· exact ClosedOff.eq.trans rfl); (· decide))
    | (with_reducible refine waitM d L O W hO ?_ ?_ ?_ ?_; (· decide); (· exact ClosedOff.eq.trans rfl); (· decide))
    | refine stepA d L O W ?_
    | refine stepB d L O W ?_)
  refine stepL d L O W (by rfl) fun f v => ?_
  refine seq (F := F) _ ?_
  refine stepS d L O W (congrArg (fun n => (accAt x (wid L) n).2.2) (by rfl)) ?_
  repeat (first
    | with_reducible refine seq (F := F) _ ?_
    | with_reducible refine fin (F := F) _ ?_
    | (with_reducible refine enqS1 d L O W ?_ ?_ ?_; (· exact ClosedOff.eq.trans rfl); (· decide))
    | (with_reducible refine waitS1 d L O W hO ?_ ?_ ?_; (· exact ClosedOff.eq.trans rfl); (· decide))
    | (with_reducible refine enqS2 d L O W ?_ ?_ ?_; (· exact ClosedOff.eq.trans rfl); (· decide))
    | (with_reducible refine waitS2 d L O W hO ?_ ?_ ?_; (· exact ClosedOff.eq.trans rfl); (· decide))
    | (with_reducible refine enqC d L O W ?_ ?_ ?_; (· exact ClosedOff.eq.trans rfl); (· decide))
    | (with_reducible refine waitC d L O W hO ?_ ?_ ?_; (· exact ClosedOff.eq.trans rfl); (· decide)))
  exact h

end Cert.Proof.BN

end
-- ==== Proof.K1.lean ====
/- The normalisation kernel's loop and steps: a chunk and its masks in, the chunk normalised, the chunk out. -/
module

public import proofs.«01_k».proof.Proof.Out

@[expose] public section

noncomputable section

namespace Cert.Proof.BN

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
variable (d : Dev nD) (L : grid0.Coords) (O : CellTallies nD τ sig (HIx 2)) (W : Waits sig (HIx 2))

abbrev c7 : Memref sig .scVector .vmem S96x512 .f32 := Memref.whole cc1_scratch0
abbrev c8 : Memref sig .scVector .vmem S32x16 .f32 := Memref.whole cc1_scratch1
abbrev c9 : Memref sig .scVector .vmem S96x16 .f32 := Memref.whole cc1_scratch2
abbrev c10 : Memref sig .scVector .vmem S96x16 .f32 := Memref.whole cc1_scratch3

/-! ## The loop over a chunk -/

/-- One group of a channel normalised in place. -/
def bodyN' (t : Fin k1_t1_loop.trips) (v256 v259 : FVec F S16 .f32) (u : Fin k1_t2_loop.trips) (_ : PUnit) : Prog (TpuEff nD τ sig (Elt F) Λ₀ (tl (0 : Dev nD) L).2) PUnit := do
  let v265 : Vec F S1x16 .f32 ← Prog.lift (.load c7 (Rect.unit (s := S96x512) (k1_off4 t u) S1x16.size (k1_off4_inb t u)).toLoadRect (View.loadsAt_vmem h_S1x16))
  let v268 : Vec F S1x16 .f32 ← Prog.lift (.load c8 (Rect.unit (s := S32x16) (k1_off5 u) S1x16.size (k1_off5_inb u)).toLoadRect (View.loadsAt_vmem h_S1x16))
  let _v277 : Vec F S1x16 .f32 ← Prog.lift (.load c7 (Rect.unit (s := S96x512) (k1_off4 t u) S1x16.size (k1_off4_inb t u)).toLoadRect (View.loadsAt_vmem h_S1x16))
  Prog.lift (.store c7 (Rect.unit (s := S96x512) (k1_off4 t u) S1x16.size (k1_off4_inb t u))
    (shapeCast S1x16 (select (cmpf .ogt (shapeCast S16 v268 shapeCasts_S1x16_S16) zero16) (addf (mulf (shapeCast S16 v265 shapeCasts_S1x16_S16) v256) v259) (shapeCast S16 v265 shapeCasts_S1x16_S16)) shapeCasts_S16_S1x16)
    Finset.univ (View.stores_vmem_bits_univ h_S1x16 rfl) (.inl rfl))
  pure ⟨⟩

/-- A channel normalised in place. -/
def bodyN (t : Fin k1_t1_loop.trips) (_ : PUnit) : Prog (TpuEff nD τ sig (Elt F) Λ₀ (tl (0 : Dev nD) L).2) PUnit := do
  let v255 : Vec F S1x16 .f32 ← Prog.lift (.load c9 (Rect.unit (s := S96x16) (k1_off3 t) S1x16.size (k1_off3_inb t)).toLoadRect (View.loadsAt_vmem h_S1x16))
  let v258 : Vec F S1x16 .f32 ← Prog.lift (.load c10 (Rect.unit (s := S96x16) (k1_off3 t) S1x16.size (k1_off3_inb t)).toLoadRect (View.loadsAt_vmem h_S1x16))
  Scf.Loop.for k1_t2_loop k1_t2_ok ⟨⟩ (bodyN' L t (shapeCast S16 v255 shapeCasts_S1x16_S16) (shapeCast S16 v258 shapeCasts_S1x16_S16))
  pure ⟨⟩

/-- A channel's groups normalised. -/
theorem loopN' (ch : FVec F S96x512 .f32) (mb : FVec F S32x16 .f32) (sc sh : FVec F S96x16 .f32) (t : Fin k1_t1_loop.trips) {f : FVec F S96x512 .f32}
    (hf : c7.view.read (Elt F) f = normFill ch mb sc sh (32 * t.val)) {R : sProp 𝕄} {Q : PUnit → sProp 𝕄}
    (h : iprop((∃ f, iprop(⌜c7.view.read (Elt F) f = normFill ch mb sc sh (32 * (t.val + 1))⌝ ∗ pB d L c7 f)) ∗ pB d L c8 mb ∗ R) ⊢ Q ⟨⟩) :
    iprop(pB d L c7 f ∗ pB d L c8 mb ∗ R)
      ⊢ wpT d L (Scf.Loop.for k1_t2_loop k1_t2_ok ⟨⟩ (bodyN' L t (arow sc t.val) (arow sh t.val))) Q := by
  have ht : t.val < 96 := t.isLt
  refine lp d L (fun n _ => iprop((∃ f, iprop(⌜c7.view.read (Elt F) f = normFill ch mb sc sh (32 * t.val + n)⌝ ∗ pB d L c7 f)) ∗ pB d L c8 mb ∗ R)) ?_ ?_ ?_
  · iintro ⟨H7, HR⟩
    isplitl [H7]
    · iapply (fil d L hf) $$ H7
    iexact HR
  · intro u _
    have hu : u.val < 32 := u.isLt
    refine ex_l fun f => ?_
    iintro ⟨⟨%hf, H7⟩, H8, HR⟩
    iapply (show iprop(pB d L c7 f ∗ pB d L c8 mb ∗ R) ⊢ _ from ?_)
    · refine seq (F := F) _ (ld d L (swp ?_))
      refine seq (F := F) _ (ld d L (swp ?_))
      refine seq (F := F) _ (ld d L ?_)
      refine seq (F := F) _ (sto d L (fin (F := F) _ ?_))
      iintro ⟨H7, HR⟩
      isplitl [H7]
      · iapply (fil d L (store_norm c7 f _ hu (k1_off4_eq t u) ch mb sc sh hf (by
          rw [load7 c7 f ht hu (k1_off4_eq t u), load8 c8 mb hu (k1_off5_eq u), hf, row_normFill ch mb sc sh ht hu]
          rfl))) $$ H7
      iexact HR
    · isplitl [H7]; · iexact H7
      isplitl [H8]; · iexact H8
      iexact HR
  · intro _
    exact h

/-- A chunk normalised. -/
theorem loopN (ch : FVec F S96x512 .f32) (mb : FVec F S32x16 .f32) (sc sh : FVec F S96x16 .f32) {R : sProp 𝕄} {Q : PUnit → sProp 𝕄}
    (h : iprop(pB d L c7 (normBuf ch mb sc sh) ∗ pB d L c8 mb ∗ pB d L c9 sc ∗ pB d L c10 sh ∗ R) ⊢ Q ⟨⟩) :
    iprop(pB d L c7 ch ∗ pB d L c8 mb ∗ pB d L c9 sc ∗ pB d L c10 sh ∗ R) ⊢ wpT d L (Scf.Loop.for k1_t1_loop k1_t1_ok ⟨⟩ (bodyN L)) Q := by
  refine lp d L (fun n _ => iprop((∃ f, iprop(⌜c7.view.read (Elt F) f = normFill ch mb sc sh (32 * n)⌝ ∗ pB d L c7 f)) ∗ pB d L c8 mb ∗ pB d L c9 sc ∗ pB d L c10 sh ∗ R)) ?_ ?_ ?_
  · iintro ⟨H7, HR⟩
    isplitl [H7]
    · iapply (fil d L (m := c7) (show c7.view.read (Elt F) ch = normFill ch mb sc sh (32 * 0) from (normFill_zero ch mb sc sh).symm)) $$ H7
    iexact HR
  · intro t _
    have ht : t.val < 96 := t.isLt
    refine ex_l fun f => ?_
    iintro ⟨⟨%hf, H7⟩, H8, H9, H10, HR⟩
    iapply (show iprop(pB d L c9 sc ∗ pB d L c10 sh ∗ (pB d L c7 f ∗ pB d L c8 mb ∗ R)) ⊢ _ from ?_)
    · refine seq (F := F) _ (ld d L (swp ?_))
      refine seq (F := F) _ (ld d L ?_)
      rw [load9 c9 sc ht (k1_off3_eq t), load9 c10 sh ht (k1_off3_eq t)]
      refine BIBase.Entails.trans (Q := iprop(pB d L c7 f ∗ pB d L c8 mb ∗ (pB d L c9 sc ∗ pB d L c10 sh ∗ R))) ?_ ?_
      · iintro ⟨H10, H9, H7, H8, HR⟩
        isplitl [H7]; · iexact H7
        isplitl [H8]; · iexact H8
        isplitl [H9]; · iexact H9
        isplitl [H10]; · iexact H10
        iexact HR
      refine seq (F := F) _ (loopN' d L ch mb sc sh t hf (fin (F := F) _ ?_))
      exact .rfl
    · isplitl [H9]; · iexact H9
      isplitl [H10]; · iexact H10
      isplitl [H7]; · iexact H7
      isplitl [H8]; · iexact H8
      iexact HR
  · intro _
    refine ex_l fun f => ?_
    iintro ⟨⟨%hf, H7⟩, HR⟩
    have hf : f = normBuf ch mb sc sh := (show c7.view.read (Elt F) f = f from rfl).symm.trans (hf.trans (normFill_all _ _ _ _))
    subst hf
    iapply h
    isplitl [H7]; · iexact H7
    iexact HR

/-! ## The steps -/

/-- The tile's part of the result. -/
abbrev oS (f : FVec F S4x96x147456 .f32) : sProp 𝕄 := oV.view.loc (tl d L) ↦[tX (wid L)]{fullShare} f

section

variable (x : FVec F S4x96x147456 .f32) (mk : FVec F S4x9216x16 .f32) (sc sh : FVec F S96x16 .f32) (f0 : FVec F S4x96x147456 .f32) (k : ℕ)

/-- The tile's scale and shift. -/
abbrev scS : sProp 𝕄 := iprop(pB d L c9 sc ∗ pB d L c10 sh)

/-- Before chunk `k`. -/
@[irreducible] def N0 (R : sProp 𝕄) : sProp 𝕄 :=
  iprop(Idle (F := F) (tl d L) O W ∗ xS d L x ∗ (∃ f, pB d L c7 f) ∗ mS d L mk ∗ oS d L (fillX (outArr x mk sc sh) f0 k) ∗ (∃ f, pB d L c8 f) ∗ scS d L sc sh ∗ R)
/-- Chunk `k` on its way in. -/
@[irreducible] def N1 (R : sProp 𝕄) (sem : DmaSem sig) (off : Fin 3 → ℕ) (inb : ∀ a, off a + S1x96x512.size a ≤ S4x96x147456.size a) : sProp 𝕄 :=
  In d L O W (xCh xV off inb) c7 sem fullShare (tX (wid L)) x iprop(mS d L mk ∗ oS d L (fillX (outArr x mk sc sh) f0 k) ∗ (∃ f, pB d L c8 f) ∗ scS d L sc sh ∗ R)
/-- Chunk `k` in. -/
@[irreducible] def N2 (R : sProp 𝕄) : sProp 𝕄 :=
  iprop(Idle (F := F) (tl d L) O W ∗ mS d L mk ∗ (∃ f, pB d L c8 f) ∗ xS d L x ∗ pB d L c7 (chunk x (wid L) k) ∗ oS d L (fillX (outArr x mk sc sh) f0 k) ∗ scS d L sc sh ∗ R)
/-- Chunk `k`'s masks on their way in. -/
@[irreducible] def N3 (R : sProp 𝕄) (sem : DmaSem sig) (off : Fin 3 → ℕ) (inb : ∀ a, off a + S1x32x16.size a ≤ S4x9216x16.size a) : sProp 𝕄 :=
  In d L O W (mCh mkV off inb) c8 sem fullShare (tM (wid L)) mk iprop(xS d L x ∗ pB d L c7 (chunk x (wid L) k) ∗ oS d L (fillX (outArr x mk sc sh) f0 k) ∗ scS d L sc sh ∗ R)
/-- Chunk `k`'s masks in. -/
@[irreducible] def N4 (R : sProp 𝕄) : sProp 𝕄 :=
  iprop(Idle (F := F) (tl d L) O W ∗ mS d L mk ∗ pB d L c8 (mchunk mk (wid L) k) ∗ xS d L x ∗ pB d L c7 (chunk x (wid L) k) ∗ oS d L (fillX (outArr x mk sc sh) f0 k) ∗ scS d L sc sh ∗ R)
/-- Chunk `k` normalised. -/
@[irreducible] def N5 (R : sProp 𝕄) : sProp 𝕄 :=
  iprop(Idle (F := F) (tl d L) O W ∗ pB d L c7 (normBuf (chunk x (wid L) k) (mchunk mk (wid L) k) sc sh) ∗ oS d L (fillX (outArr x mk sc sh) f0 k)
    ∗ xS d L x ∗ mS d L mk ∗ (∃ f, pB d L c8 f) ∗ scS d L sc sh ∗ R)
/-- Chunk `k` normalised on its way out. -/
@[irreducible] def N6 (R : sProp 𝕄) (sem : DmaSem sig) (off : Fin 3 → ℕ) (inb : ∀ a, off a + S1x96x512.size a ≤ S4x96x147456.size a) : sProp 𝕄 :=
  Out d L O W c7 (xCh oV off inb) sem (tX (wid L)) (normBuf (chunk x (wid L) k) (mchunk mk (wid L) k) sc sh) (fillX (outArr x mk sc sh) f0 k)
    iprop(xS d L x ∗ mS d L mk ∗ (∃ f, pB d L c8 f) ∗ scS d L sc sh ∗ R)

variable {x mk sc sh f0 k} {sem : DmaSem sig}

/-- Chunk `k`'s copy in is started. -/
theorem enqX1 {R : sProp 𝕄} {Q : PUnit → sProp 𝕄} {off : Fin 3 → ℕ} {inb : ∀ a, off a + S1x96x512.size a ≤ S4x96x147456.size a}
    {hsrc : (xCh xV off inb).view.WordExact} {hdst : c7.view.WordExact} {hsem : DmaTarget.Typed (nD := nD) (p := (tl d L).2) .hbm (.dma sem) (.here c7)}
    (hk : k < 36) (ho : off = offX L k) (hs : (SemLoc.dma sem : SemLoc sig).isScoped .scVector = true)
    (h : N1 d L O W x mk sc sh f0 k R sem off inb ⊢ Q ⟨⟩) :
    N0 d L O W x mk sc sh f0 k R ⊢ wpT d L (Prog.lift (.enqueueDma (xCh xV off inb) (.here c7) (.dma sem) hsrc hdst hsem)) Q := by
  unfold N0; unfold N1 at h
  exact enqI d L O W (src := xCh xV off inb) (dst := c7) (q := fullShare) (Ss := tX (wid L)) (g := x)
    (R := iprop(mS d L mk ∗ oS d L (fillX (outArr x mk sc sh) f0 k) ∗ (∃ f, pB d L c8 f) ∗ scS d L sc sh ∗ R)) hs (show 0 < S96x512.numel by decide) (by subst ho; exact set_xCh L hk inb) h
/-- Chunk `k`'s copy in is waited for. -/
theorem waitX1 {R : sProp 𝕄} {Q : PUnit → sProp 𝕄} (hO : ∀ g, O g none = 0) {off : Fin 3 → ℕ} {inb : ∀ a, off a + S1x96x512.size a ≤ S4x96x147456.size a} {sp' : Space} {s' : Shape} {e' : EltTy} {srcw : Memref sig .scVector sp' s' e'}
    {hsrc : srcw.view.WordExact} {hdst : c7.view.WordExact}
    (hk : k < 36) (ho : off = offX L k) (hs : (SemLoc.dma sem : SemLoc sig).isScoped .scVector = true)
    (h : N2 d L O W x mk sc sh f0 k R ⊢ Q ⟨⟩) :
    N1 d L O W x mk sc sh f0 k R sem off inb ⊢ wpT d L (Prog.lift (.waitDma2 sem srcw c7 hsrc hdst)) Q := by
  subst ho
  unfold N1
  refine waitI d L O W (chunk x (wid L) k) hO hs (set_xCh L hk inb) (fun f => ?_) (BIBase.Entails.trans ?_ h)
  · exact (show _ = c7.view.read (Elt F) _ from rfl).trans ((View.read_write_univ _ _).trans (read_xCh L hk inb x))
  · unfold N2
    iintro ⟨HI, Hx, H7, Hm, Ho, H8, HR⟩
    isplitl [HI]; · iexact HI
    isplitl [Hm]; · iexact Hm
    isplitl [H8]; · iexact H8
    isplitl [Hx]; · iexact Hx
    isplitl [H7]; · iexact H7
    isplitl [Ho]; · iexact Ho
    iexact HR
/-- Chunk `k`'s masks' copy in is started. -/
theorem enqM1 {R : sProp 𝕄} {Q : PUnit → sProp 𝕄} {off : Fin 3 → ℕ} {inb : ∀ a, off a + S1x32x16.size a ≤ S4x9216x16.size a}
    {hsrc : (mCh mkV off inb).view.WordExact} {hdst : c8.view.WordExact} {hsem : DmaTarget.Typed (nD := nD) (p := (tl d L).2) .hbm (.dma sem) (.here c8)}
    (hk : k < 36) (ho : off = offM L k) (hs : (SemLoc.dma sem : SemLoc sig).isScoped .scVector = true)
    (h : N3 d L O W x mk sc sh f0 k R sem off inb ⊢ Q ⟨⟩) :
    N2 d L O W x mk sc sh f0 k R ⊢ wpT d L (Prog.lift (.enqueueDma (mCh mkV off inb) (.here c8) (.dma sem) hsrc hdst hsem)) Q := by
  unfold N2; unfold N3 at h
  exact enqI d L O W (src := mCh mkV off inb) (dst := c8) (q := fullShare) (Ss := tM (wid L)) (g := mk)
    (R := iprop(xS d L x ∗ pB d L c7 (chunk x (wid L) k) ∗ oS d L (fillX (outArr x mk sc sh) f0 k) ∗ scS d L sc sh ∗ R)) hs (show 0 < S32x16.numel by decide) (by subst ho; exact set_mCh L hk inb) h
/-- Chunk `k`'s masks' copy in is waited for. -/
theorem waitM1 {R : sProp 𝕄} {Q : PUnit → sProp 𝕄} (hO : ∀ g, O g none = 0) {off : Fin 3 → ℕ} {inb : ∀ a, off a + S1x32x16.size a ≤ S4x9216x16.size a} {sp' : Space} {s' : Shape} {e' : EltTy} {srcw : Memref sig .scVector sp' s' e'}
    {hsrc : srcw.view.WordExact} {hdst : c8.view.WordExact}
    (hk : k < 36) (ho : off = offM L k) (hs : (SemLoc.dma sem : SemLoc sig).isScoped .scVector = true)
    (h : N4 d L O W x mk sc sh f0 k R ⊢ Q ⟨⟩) :
    N3 d L O W x mk sc sh f0 k R sem off inb ⊢ wpT d L (Prog.lift (.waitDma2 sem srcw c8 hsrc hdst)) Q := by
  subst ho
  unfold N3
  refine waitI d L O W (mchunk mk (wid L) k) hO hs (set_mCh L hk inb) (fun f => ?_) (BIBase.Entails.trans ?_ h)
  · exact (show _ = c8.view.read (Elt F) _ from rfl).trans ((View.read_write_univ _ _).trans (read_mCh L hk inb mk))
  · unfold N4
    exact .rfl
/-- Chunk `k` is normalised. -/
theorem stepN {R : sProp 𝕄} {Q : PUnit → sProp 𝕄} (h : N5 d L O W x mk sc sh f0 k R ⊢ Q ⟨⟩) :
    N4 d L O W x mk sc sh f0 k R ⊢ wpT d L (Scf.Loop.for k1_t1_loop k1_t1_ok ⟨⟩ (bodyN L)) Q := by
  unfold N4
  iintro ⟨HI, Hm, H8, Hx, H7, Ho, ⟨H9, H10⟩, HR⟩
  iapply (loopN d L (chunk x (wid L) k) (mchunk mk (wid L) k) sc sh
    (R := iprop(Idle (F := F) (tl d L) O W ∗ xS d L x ∗ mS d L mk ∗ oS d L (fillX (outArr x mk sc sh) f0 k) ∗ R)) (BIBase.Entails.trans ?_ h))
  · unfold N5
    iintro ⟨H7, H8, H9, H10, HI, Hx, Hm, Ho, HR⟩
    isplitl [HI]; · iexact HI
    isplitl [H7]; · iexact H7
    isplitl [Ho]; · iexact Ho
    isplitl [Hx]; · iexact Hx
    isplitl [Hm]; · iexact Hm
    isplitl [H8]; · iexists _; iexact H8
    isplitl [H9 H10]
    · isplitl [H9]; · iexact H9
      iexact H10
    iexact HR
  · isplitl [H7]; · iexact H7
    isplitl [H8]; · iexact H8
    isplitl [H9]; · iexact H9
    isplitl [H10]; · iexact H10
    isplitl [HI]; · iexact HI
    isplitl [Hx]; · iexact Hx
    isplitl [Hm]; · iexact Hm
    isplitl [Ho]; · iexact Ho
    iexact HR
/-- Chunk `k`'s copy out is started. -/
theorem enqO1 {R : sProp 𝕄} {Q : PUnit → sProp 𝕄} {off : Fin 3 → ℕ} {inb : ∀ a, off a + S1x96x512.size a ≤ S4x96x147456.size a}
    {hsrc : c7.view.WordExact} {hdst : (xCh oV off inb).view.WordExact} {hsem : DmaTarget.Typed (nD := nD) (p := (tl d L).2) (.vmem : CoreSpace) (.dma sem) (.here (xCh oV off inb))}
    (hk : k < 36) (ho : off = offX L k) (hs : (SemLoc.dma sem : SemLoc sig).isScoped .scVector = true)
    (h : N6 d L O W x mk sc sh f0 k R sem off inb ⊢ Q ⟨⟩) :
    N5 d L O W x mk sc sh f0 k R ⊢ wpT d L (Prog.lift (.enqueueDma c7 (.here (xCh oV off inb)) (.dma sem) hsrc hdst hsem)) Q := by
  unfold N5; unfold N6 at h
  exact enqO d L O W (src := c7) (dst := xCh oV off inb) (Sd := tX (wid L)) (g := normBuf (chunk x (wid L) k) (mchunk mk (wid L) k) sc sh) (f := fillX (outArr x mk sc sh) f0 k)
    (R := iprop(xS d L x ∗ mS d L mk ∗ (∃ f, pB d L c8 f) ∗ scS d L sc sh ∗ R)) hs (show 0 < S96x512.numel by decide) (by subst ho; exact set_oCh L hk inb) h
/-- Chunk `k`'s copy out is waited for. -/
theorem waitO1 {R : sProp 𝕄} {Q : PUnit → sProp 𝕄} (hO : ∀ g, O g none = 0) {off : Fin 3 → ℕ} {inb : ∀ a, off a + S1x96x512.size a ≤ S4x96x147456.size a} {sp' : Space} {s' : Shape} {e' : EltTy} {srcw : Memref sig .scVector sp' s' e'}
    {hsrc : srcw.view.WordExact} {hdst : (xCh oV off inb).view.WordExact}
    (hk : k < 36) (ho : off = offX L k) (hs : (SemLoc.dma sem : SemLoc sig).isScoped .scVector = true)
    (h : N0 d L O W x mk sc sh f0 (k + 1) R ⊢ Q ⟨⟩) :
    N6 d L O W x mk sc sh f0 k R sem off inb ⊢ wpT d L (Prog.lift (.waitDma2 sem srcw (xCh oV off inb) hsrc hdst)) Q := by
  subst ho
  unfold N6
  refine waitO d L O W (fillX (outArr x mk sc sh) f0 (k + 1)) hO hs (write_oCh L hk inb (outArr x mk sc sh) f0 _ fun i j => normBuf_chunk x mk sc sh (wid_lt L) hk i j) (BIBase.Entails.trans ?_ h)
  unfold N0
  iintro ⟨HI, Ho, H7, Hx, Hm, H8, HR⟩
  isplitl [HI]; · iexact HI
  isplitl [Hx]; · iexact Hx
  isplitl [H7]; · iexists _; iexact H7
  isplitl [Hm]; · iexact Hm
  isplitl [Ho]; · iexact Ho
  isplitl [H8]; · iexact H8
  iexact HR

end

end Cert.Proof.BN

end
-- ==== Proof.K1Body.lean ====
/- The normalisation kernel on a tile. -/
module

public import proofs.«01_k».proof.Proof.K1

@[expose] public section

noncomputable section

namespace Cert.Proof.BN

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
variable (d : Dev nD) (L : grid0.Coords) (O : CellTallies nD τ sig (HIx 2)) (W : Waits sig (HIx 2))

/-- The tile's shares of the scale and the shift. -/
abbrev qS (q : PosShare TreeShare) (sc sh : FVec F S96x16 .f32) : sProp 𝕄 :=
  iprop((scV.view.loc (tl d L) ↦[Finset.univ]{q} sc) ∗ (shV.view.loc (tl d L) ↦[Finset.univ]{q} sh))

section

variable (x : FVec F S4x96x147456 .f32) (mk : FVec F S4x9216x16 .f32) (sc sh : FVec F S96x16 .f32) (f0 : FVec F S4x96x147456 .f32) (q : PosShare TreeShare)

/-- What the opening copies leave alone. -/
abbrev restS : sProp 𝕄 := iprop(xS d L x ∗ (∃ f, pB d L c7 f) ∗ mS d L mk ∗ oS d L f0 ∗ (∃ f, pB d L c8 f))

/-- Before the normalisation kernel. -/
@[irreducible] def H0 : sProp 𝕄 :=
  iprop(Idle (F := F) (tl d L) O W ∗ (scV.view.loc (tl d L) ↦[Finset.univ]{q} sc) ∗ (∃ f, pB d L c9 f)
    ∗ ((shV.view.loc (tl d L) ↦[Finset.univ]{q} sh) ∗ (∃ f, pB d L c10 f) ∗ restS d L x mk f0))
/-- The scale on its way in. -/
@[irreducible] def H1 (sem : DmaSem sig) : sProp 𝕄 :=
  In d L O W scV c9 sem q Finset.univ sc iprop((shV.view.loc (tl d L) ↦[Finset.univ]{q} sh) ∗ (∃ f, pB d L c10 f) ∗ restS d L x mk f0)
/-- The scale in. -/
@[irreducible] def H2 : sProp 𝕄 :=
  iprop(Idle (F := F) (tl d L) O W ∗ (shV.view.loc (tl d L) ↦[Finset.univ]{q} sh) ∗ (∃ f, pB d L c10 f)
    ∗ ((scV.view.loc (tl d L) ↦[Finset.univ]{q} sc) ∗ pB d L c9 sc ∗ restS d L x mk f0))
/-- The shift on its way in. -/
@[irreducible] def H3 (sem : DmaSem sig) : sProp 𝕄 :=
  In d L O W shV c10 sem q Finset.univ sh iprop((scV.view.loc (tl d L) ↦[Finset.univ]{q} sc) ∗ pB d L c9 sc ∗ restS d L x mk f0)

/-- All of the normalisation kernel done on a tile. -/
@[irreducible] def H5 : sProp 𝕄 :=
  iprop(Idle (F := F) (tl d L) O W ∗ xS d L x ∗ mS d L mk ∗ oS d L (outArr x mk sc sh) ∗ qS d L q sc sh
    ∗ (∃ f, pB d L c7 f) ∗ (∃ f, pB d L c8 f) ∗ (∃ f, pB d L c9 f) ∗ (∃ f, pB d L c10 f))

variable {x mk sc sh f0 q} {sem : DmaSem sig}

/-- The scale's copy in is started. -/
theorem enqSc {Q : PUnit → sProp 𝕄} {hsrc : scV.view.WordExact} {hdst : c9.view.WordExact} {hsem : DmaTarget.Typed (nD := nD) (p := (tl d L).2) .hbm (.dma sem) (.here c9)}
    (hs : (SemLoc.dma sem : SemLoc sig).isScoped .scVector = true) (h : H1 d L O W x mk sc sh f0 q sem ⊢ Q ⟨⟩) :
    H0 d L O W x mk sc sh f0 q ⊢ wpT d L (Prog.lift (.enqueueDma scV (.here c9) (.dma sem) hsrc hdst hsem)) Q := by
  unfold H0; unfold H1 at h
  exact enqI d L O W (src := scV) (dst := c9) (q := q) (Ss := Finset.univ) (g := sc)
    (R := iprop((shV.view.loc (tl d L) ↦[Finset.univ]{q} sh) ∗ (∃ f, pB d L c10 f) ∗ restS d L x mk f0)) hs (show 0 < S96x16.numel by decide) (Finset.subset_univ _) h
/-- The scale's copy in is waited for. -/
theorem waitSc {Q : PUnit → sProp 𝕄} (hO : ∀ g, O g none = 0) {sp' : Space} {s' : Shape} {e' : EltTy} {srcw : Memref sig .scVector sp' s' e'} {hsrc : srcw.view.WordExact} {hdst : c9.view.WordExact}
    (hs : (SemLoc.dma sem : SemLoc sig).isScoped .scVector = true) (h : H2 d L O W x mk sc sh f0 q ⊢ Q ⟨⟩) :
    H1 d L O W x mk sc sh f0 q sem ⊢ wpT d L (Prog.lift (.waitDma2 sem srcw c9 hsrc hdst)) Q := by
  unfold H1
  refine waitI d L O W sc hO hs (Finset.subset_univ _) (fun f => ?_) (BIBase.Entails.trans ?_ h)
  · exact (show _ = c9.view.read (Elt F) _ from rfl).trans ((View.read_write_univ _ _).trans rfl)
  · unfold H2
    iintro ⟨HI, Hsc, H9, Hsh, H10, HR⟩
    isplitl [HI]; · iexact HI
    isplitl [Hsh]; · iexact Hsh
    isplitl [H10]; · iexact H10
    isplitl [Hsc]; · iexact Hsc
    isplitl [H9]; · iexact H9
    iexact HR
/-- The shift's copy in is started. -/
theorem enqSh {Q : PUnit → sProp 𝕄} {hsrc : shV.view.WordExact} {hdst : c10.view.WordExact} {hsem : DmaTarget.Typed (nD := nD) (p := (tl d L).2) .hbm (.dma sem) (.here c10)}
    (hs : (SemLoc.dma sem : SemLoc sig).isScoped .scVector = true) (h : H3 d L O W x mk sc sh f0 q sem ⊢ Q ⟨⟩) :
    H2 d L O W x mk sc sh f0 q ⊢ wpT d L (Prog.lift (.enqueueDma shV (.here c10) (.dma sem) hsrc hdst hsem)) Q := by
  unfold H2; unfold H3 at h
  exact enqI d L O W (src := shV) (dst := c10) (q := q) (Ss := Finset.univ) (g := sh)
    (R := iprop((scV.view.loc (tl d L) ↦[Finset.univ]{q} sc) ∗ pB d L c9 sc ∗ restS d L x mk f0)) hs (show 0 < S96x16.numel by decide) (Finset.subset_univ _) h
/-- The shift's copy in is waited for. -/
theorem waitSh {Q : PUnit → sProp 𝕄} (hO : ∀ g, O g none = 0) {sp' : Space} {s' : Shape} {e' : EltTy} {srcw : Memref sig .scVector sp' s' e'} {hsrc : srcw.view.WordExact} {hdst : c10.view.WordExact}
    (hs : (SemLoc.dma sem : SemLoc sig).isScoped .scVector = true) (h : N0 d L O W x mk sc sh f0 0 (qS d L q sc sh) ⊢ Q ⟨⟩) :
    H3 d L O W x mk sc sh f0 q sem ⊢ wpT d L (Prog.lift (.waitDma2 sem srcw c10 hsrc hdst)) Q := by
  unfold H3
  refine waitI d L O W sh hO hs (Finset.subset_univ _) (fun f => ?_) (BIBase.Entails.trans ?_ h)
  · exact (show _ = c10.view.read (Elt F) _ from rfl).trans ((View.read_write_univ _ _).trans rfl)
  · unfold N0
    rw [fillX_zero]
    iintro ⟨HI, Hsh, H10, Hsc, H9, Hx, H7, Hm, Ho, H8⟩
    isplitl [HI]; · iexact HI
    isplitl [Hx]; · iexact Hx
    isplitl [H7]; · iexact H7
    isplitl [Hm]; · iexact Hm
    isplitl [Ho]; · iexact Ho
    isplitl [H8]; · iexact H8
    isplitl [H9 H10]
    · isplitl [H9]; · iexact H9
      iexact H10
    isplitl [Hsc]; · iexact Hsc
    iexact Hsh
/-- After the last chunk the tile is done. -/
theorem toH5 {k : ℕ} (hk : k = 36) : N0 d L O W x mk sc sh f0 k (qS d L q sc sh) ⊢ H5 d L O W x mk sc sh q := by
  subst hk
  unfold N0 H5
  rw [fillX_all]
  iintro ⟨HI, Hx, H7, Hm, Ho, H8, ⟨H9, H10⟩, HR⟩
  isplitl [HI]; · iexact HI
  isplitl [Hx]; · iexact Hx
  isplitl [Hm]; · iexact Hm
  isplitl [Ho]; · iexact Ho
  isplitl [HR]; · iexact HR
  isplitl [H7]; · iexact H7
  isplitl [H8]; · iexact H8
  isplitl [H9]; · iexists _; iexact H9
  iexists _; iexact H10

end

set_option maxRecDepth 10000 in
set_option maxHeartbeats 8000000 in
/-- The normalisation kernel on a tile: its part of the result. -/
theorem k1_body (hO : ∀ g, O g none = 0) (x : FVec F S4x96x147456 .f32) (mk : FVec F S4x9216x16 .f32) (sc sh : FVec F S96x16 .f32) (f0 : FVec F S4x96x147456 .f32) (q : PosShare TreeShare)
    {Q : PUnit → sProp 𝕄} (h : H5 d L O W x mk sc sh q ⊢ Q ⟨⟩) :
    H0 d L O W x mk sc sh f0 q
      ⊢ wpT d L (cc1__norm_body L xV (Memref.isWhole_whole _) mkV (Memref.isWhole_whole _) scV (Memref.isWhole_whole _) shV (Memref.isWhole_whole _) oV (Memref.isWhole_whole _)
          c7 (Memref.isWhole_whole _) c8 (Memref.isWhole_whole _) c9 (Memref.isWhole_whole _) c10 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109) Q := by
  unfold cc1__norm_body
  repeat (first
    | with_reducible refine seq (F := F) _ ?_
    | with_reducible refine fin (F := F) _ ?_
    | unfold k1_part1 | unfold k1_part2 | unfold k1_part3 | unfold k1_part4 | unfold k1_part5 | unfold k1_part6 | unfold k1_part7 | unfold k1_part8 | unfold k1_part9 | unfold k1_part10 | unfold k1_part11 | unfold k1_part12 | unfold k1_part13 | unfold k1_part14 | unfold k1_part15 | unfold k1_part16 | unfold k1_part17 | unfold k1_part18 | unfold k1_part19 | unfold k1_part20 | unfold k1_part21 | unfold k1_part22 | unfold k1_part23 | unfold k1_part24 | unfold k1_part25 | unfold k1_part26 | unfold k1_part27 | unfold k1_part28 | unfold k1_part29 | unfold k1_part30 | unfold k1_part31 | unfold k1_part32 | unfold k1_part33 | unfold k1_part34 | unfold k1_part35 | unfold k1_part36 | unfold k1_part37
    | (with_reducible refine enqX1 d L O W ?_ ?_ ?_ ?_; (· decide); (· exact ClosedOff.eq.trans rfl); (· decide))
    | (with_reducible refine waitX1 d L O W hO ?_ ?_ ?_ ?_; (· decide); (· exact ClosedOff.eq.trans rfl); (· decide))
    | (with_reducible refine enqM1 d L O W ?_ ?_ ?_ ?_; (· decide); (· exact ClosedOff.eq.trans rfl); (· decide))
    | (with_reducible refine waitM1 d L O W hO ?_ ?_ ?_ ?_; (· decide); (· exact ClosedOff.eq.trans rfl); (· decide))
    | (with_reducible refine enqO1 d L O W ?_ ?_ ?_ ?_; (· decide); (· exact ClosedOff.eq.trans rfl); (· decide))
    | (with_reducible refine waitO1 d L O W hO ?_ ?_ ?_ ?_; (· decide); (· exact ClosedOff.eq.trans rfl); (· decide))
    | (with_reducible refine enqSc d L O W ?_ ?_; (· decide))
    | (with_reducible refine waitSc d L O W hO ?_ ?_; (· decide))
    | (with_reducible refine enqSh d L O W ?_ ?_; (· decide))
    | (with_reducible refine waitSh d L O W hO ?_ ?_; (· decide))
    | refine stepN d L O W ?_)
  exact BIBase.Entails.trans (toH5 d L O W (by rfl)) h

end Cert.Proof.BN

end
-- ==== Proof.Tiles.lean ====
/- What each tile is handed and hands back in the two calls, and each tile's run. -/
module

public import proofs.«01_k».proof.Proof.Host
public import proofs.«01_k».proof.Proof.K0Body
public import proofs.«01_k».proof.Proof.K1Body

@[expose] public section

noncomputable section

namespace Cert.Proof.BN

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
variable (m : (ℓ : Loc nD τ sig) → Buf (Elt F) ℓ) (d : Dev nD)

/-! ## Pieces -/

/-- The part of the scale and shift a tile reads under. -/
def shr (c : Fin 2) (i : Fin 16) : PosShare TreeShare := Transfers.dealOf (Transfers.dealOf fullShare Finset.univ c) Finset.univ i

/-- A tile's part of the first call's arrays. -/
@[irreducible] def pc0 (w : ℕ) (x : FVec F S4x96x147456 .f32) (mk : FVec F S4x9216x16 .f32) (s1 s2 : FVec F S32x96x16 .f32) (ct : FVec F S32x16 .f32) : sProp 𝕄 :=
  iprop(((d, x') ↦[tX w]{fullShare} x) ∗ ((d, mk') ↦[tM w]{fullShare} mk) ∗ ((d, s1') ↦[tR w]{fullShare} s1) ∗ ((d, s2') ↦[tR w]{fullShare} s2) ∗ ((d, ct') ↦[tC w]{fullShare} ct))
/-- A tile's part of the second call's arrays. -/
@[irreducible] def pc1 (w : ℕ) (q : PosShare TreeShare) (x : FVec F S4x96x147456 .f32) (mk : FVec F S4x9216x16 .f32) (sc sh : FVec F S96x16 .f32) (o : FVec F S4x96x147456 .f32) : sProp 𝕄 :=
  iprop(((d, x') ↦[tX w]{fullShare} x) ∗ ((d, mk') ↦[tM w]{fullShare} mk) ∗ ((d, sc') ↦{q} sc) ∗ ((d, sh') ↦{q} sh) ∗ ((d, o') ↦[tX w]{fullShare} o))

instance (w : ℕ) (x : FVec F S4x96x147456 .f32) (mk : FVec F S4x9216x16 .f32) (s1 s2 : FVec F S32x96x16 .f32) (ct : FVec F S32x16 .f32) :
    BI.Storable (upEmb : UEmb _ 𝕄) (pc0 d w x mk s1 s2 ct) := by unfold pc0; infer_instance
instance (w : ℕ) (q : PosShare TreeShare) (x : FVec F S4x96x147456 .f32) (mk : FVec F S4x9216x16 .f32) (sc sh : FVec F S96x16 .f32) (o : FVec F S4x96x147456 .f32) :
    BI.Storable (upEmb : UEmb _ 𝕄) (pc1 d w q x mk sc sh o) := by unfold pc1; infer_instance

/-- What tile `(c, i)` is handed in the first call. -/
def go0 (c : Fin 2) (i : Fin 16) : sProp 𝕄 := pc0 d (2 * i.val + c.val) (X m d) (VA m d mk') (VA m d s1') (VA m d s2') (VA m d ct')
/-- What it hands back. -/
def td0 (c : Fin 2) (i : Fin 16) : sProp 𝕄 := pc0 d (2 * i.val + c.val) (X m d) (maskArr (X m d)) (s1Arr (X m d)) (s2Arr (X m d)) (cntArr (X m d))
/-- What tile `(c, i)` is handed in the second call. -/
def go1 (c : Fin 2) (i : Fin 16) : sProp 𝕄 := pc1 d (2 * i.val + c.val) (shr c i) (VC m d x') (VC m d mk') (VC m d sc') (VC m d sh') (VC m d o')
/-- What it hands back. -/
def td1 (c : Fin 2) (i : Fin 16) : sProp 𝕄 := pc1 d (2 * i.val + c.val) (shr c i) (VC m d x') (VC m d mk') (VC m d sc') (VC m d sh') (OUT m d)

instance (c : Fin 2) (i : Fin 16) : BI.Storable (upEmb : UEmb _ 𝕄) (go0 m d c i) := by unfold go0; infer_instance
instance (c : Fin 2) (i : Fin 16) : BI.Storable (upEmb : UEmb _ 𝕄) (td0 m d c i) := by unfold td0; infer_instance
instance (c : Fin 2) (i : Fin 16) : BI.Storable (upEmb : UEmb _ 𝕄) (go1 m d c i) := by unfold go1; infer_instance
instance (c : Fin 2) (i : Fin 16) : BI.Storable (upEmb : UEmb _ 𝕄) (td1 m d c i) := by unfold td1; infer_instance

/-- What the calls' messages carry: a core's tiles' parts, and each tile's. -/
def P : (K (F := F)).Pay (nD := nD) (Val := Elt F) (Name := ℕ) (U := UU) where
  st := fun q d c => match q with
    | 0 => bigSep Finset.univ fun i : Fin 16 => go0 m d c i
    | 1 => bigSep Finset.univ fun i : Fin 16 => go1 m d c i
  dn := fun q d c => match q with
    | 0 => bigSep Finset.univ fun i : Fin 16 => td0 m d c i
    | 1 => bigSep Finset.univ fun i : Fin 16 => td1 m d c i
  go := fun q d c i => match q with
    | 0 => go0 m d c i
    | 1 => go1 m d c i
  td := fun q d c i => match q with
    | 0 => td0 m d c i
    | 1 => td1 m d c i
  x := fun _ _ => iprop(emp)

instance P_storable : (P (F := F) m).IsStorable where
  st q d c := match q with
    | 0 => (inferInstance : BI.Storable (upEmb : UEmb _ 𝕄) (bigSep Finset.univ fun i : Fin 16 => go0 m d c i))
    | 1 => (inferInstance : BI.Storable (upEmb : UEmb _ 𝕄) (bigSep Finset.univ fun i : Fin 16 => go1 m d c i))
  dn q d c := match q with
    | 0 => (inferInstance : BI.Storable (upEmb : UEmb _ 𝕄) (bigSep Finset.univ fun i : Fin 16 => td0 m d c i))
    | 1 => (inferInstance : BI.Storable (upEmb : UEmb _ 𝕄) (bigSep Finset.univ fun i : Fin 16 => td1 m d c i))
  go q d c i := match q with
    | 0 => (inferInstance : BI.Storable (upEmb : UEmb _ 𝕄) (go0 m d c i))
    | 1 => (inferInstance : BI.Storable (upEmb : UEmb _ 𝕄) (go1 m d c i))
  td q d c i := match q with
    | 0 => (inferInstance : BI.Storable (upEmb : UEmb _ 𝕄) (td0 m d c i))
    | 1 => (inferInstance : BI.Storable (upEmb : UEmb _ 𝕄) (td1 m d c i))

/-- A core's part is its tiles' parts. -/
theorem vecSplit (q : Fin 2) : (K (F := F)).VecSplit' (P m) q := by
  intro d c
  match q with
  | 0 =>
    show (bigSep Finset.univ fun i : Fin 16 => go0 m d c i) ⊢ |={Set.univ}=> iprop((bigSep Finset.univ fun i : Fin 16 => go0 m d c i)
      ∗ ((bigSep Finset.univ fun i : Fin 16 => td0 m d c i) -∗ (bigSep Finset.univ fun i : Fin 16 => td0 m d c i)))
    iintro H; imodintro
    isplitl [H]; · iexact H
    iintro H; iexact H
  | 1 =>
    show (bigSep Finset.univ fun i : Fin 16 => go1 m d c i) ⊢ |={Set.univ}=> iprop((bigSep Finset.univ fun i : Fin 16 => go1 m d c i)
      ∗ ((bigSep Finset.univ fun i : Fin 16 => td1 m d c i) -∗ (bigSep Finset.univ fun i : Fin 16 => td1 m d c i)))
    iintro H; imodintro
    isplitl [H]; · iexact H
    iintro H; iexact H

/-! ## The tiles -/

section Tile

variable (L : grid0.Coords)

theorem mem_erase_ref {S : Finset (DevRef τ sig)} {r r' : Ref sig .scVector} (h : r' ≠ r) (hm : (tl d L : Thread nD τ).2.devRef r' ∈ S) :
    (tl d L : Thread nD τ).2.devRef r' ∈ S.erase ((tl d L : Thread nD τ).2.devRef r) :=
  Finset.mem_erase.mpr ⟨fun e => h (Proc.devRef_injective _ e), hm⟩

/-- A tile's own buffers: the first call's five and the others. -/
theorem ownBufs0 : ∃ R : sProp 𝕄, (ownBufs (tl d L) : sProp 𝕄)
    = iprop((∃ f, pB d L b7 f) ∗ (∃ f, pB d L b8 f) ∗ (∃ f, pB d L b9 f) ∗ (∃ f, pB d L b10 f) ∗ (∃ f, pB d L b11 f) ∗ R) := by
  apply Exists.intro
  unfold SparseCore.Cfg.ownBufs
  have hm : ∀ r : Ref sig .scVector, ((tl d L : Thread nD τ).2.devRef r).owner = .proc (tl d L : Thread nD τ).2 → (tl d L : Thread nD τ).2.devRef r ∈ ownRefs (τ := τ) (tl d L).2 := fun r h => SparseCore.Cfg.mem_ownRefs_of_owner h
  refine (SparseCore.bigSep_erase' (hm cc0_scratch0 rfl)).trans ?_
  rw [SparseCore.bigSep_erase' (mem_erase_ref d L (by decide) (hm cc0_scratch1 rfl)),
    SparseCore.bigSep_erase' (mem_erase_ref d L (by decide) (mem_erase_ref d L (by decide) (hm cc0_scratch2 rfl))),
    SparseCore.bigSep_erase' (mem_erase_ref d L (by decide) (mem_erase_ref d L (by decide) (mem_erase_ref d L (by decide) (hm cc0_scratch3 rfl)))),
    SparseCore.bigSep_erase' (mem_erase_ref d L (by decide) (mem_erase_ref d L (by decide) (mem_erase_ref d L (by decide) (mem_erase_ref d L (by decide) (hm cc0_scratch4 rfl)))))]
/-- A tile's own buffers: the second call's four and the others. -/
theorem ownBufs1 : ∃ R : sProp 𝕄, (ownBufs (tl d L) : sProp 𝕄)
    = iprop((∃ f, pB d L c7 f) ∗ (∃ f, pB d L c8 f) ∗ (∃ f, pB d L c9 f) ∗ (∃ f, pB d L c10 f) ∗ R) := by
  apply Exists.intro
  unfold SparseCore.Cfg.ownBufs
  have hm : ∀ r : Ref sig .scVector, ((tl d L : Thread nD τ).2.devRef r).owner = .proc (tl d L : Thread nD τ).2 → (tl d L : Thread nD τ).2.devRef r ∈ ownRefs (τ := τ) (tl d L).2 := fun r h => SparseCore.Cfg.mem_ownRefs_of_owner h
  refine (SparseCore.bigSep_erase' (hm cc1_scratch0 rfl)).trans ?_
  rw [SparseCore.bigSep_erase' (mem_erase_ref d L (by decide) (hm cc1_scratch1 rfl)),
    SparseCore.bigSep_erase' (mem_erase_ref d L (by decide) (mem_erase_ref d L (by decide) (hm cc1_scratch2 rfl))),
    SparseCore.bigSep_erase' (mem_erase_ref d L (by decide) (mem_erase_ref d L (by decide) (mem_erase_ref d L (by decide) (hm cc1_scratch3 rfl))))]

/-- What a tile owes at the end, for either call. -/
theorem own_end {c : Thread nD τ} {O : CellTallies nD τ sig (HIx 2)} {W : Waits sig (HIx 2)} (B : Option (Fin 2) → Prop) :
    Own (F := F) c O W ⊢ iprop(∃ W', ⌜∀ p ∈ W', p ∈ W ∨ p.2 = none ∨ B p.2⌝ ∗ owes c O W') := by
  unfold Own
  iintro ⟨%W', %h, HO⟩
  iexists W'
  isplitr
  · ipureintro; exact fun p hp => (h p hp).imp_right Or.inl
  iexact HO
/-- What a tile owes at the start. -/
theorem own_start {c : Thread nD τ} {O : CellTallies nD τ sig (HIx 2)} {W : Waits sig (HIx 2)} : (owes c O W : sProp 𝕄) ⊢ Own (F := F) c O W := by
  unfold Own
  iintro HO
  iexists W
  isplitr
  · ipureintro; exact fun p hp => Or.inl hp
  iexact HO

/-- A tile's first call: the mask and the sums of its columns. -/
theorem tile0 (O : CellTallies nD τ sig (HIx 2)) (W : Waits sig (HIx 2)) (hO : ∀ g, O g none = 0) (B : Option (Fin 2) → Prop)
    (x : FVec F S4x96x147456 .f32) (mk : FVec F S4x9216x16 .f32) (s1 s2 : FVec F S32x96x16 .f32) (ct : FVec F S32x16 .f32) :
    iprop(levAts (K (F := F)).L (K (F := F)).lev ∗ emp ∗ pc0 d (wid L) x mk s1 s2 ct ∗ scopedBufs (tl d L) ∗ scopedSems0 (tl d L) ∗ owes (tl d L) O W)
      ⊢ wpT d L (cc0__stats_body L xV (Memref.isWhole_whole _) s1V (Memref.isWhole_whole _) s2V (Memref.isWhole_whole _) ctV (Memref.isWhole_whole _) mkV (Memref.isWhole_whole _)
          b7 (Memref.isWhole_whole _) b8 (Memref.isWhole_whole _) b9 (Memref.isWhole_whole _) b10 (Memref.isWhole_whole _) b11 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74)
        fun _ => iprop(pc0 d (wid L) x (maskArr x) (s1Arr x) (s2Arr x) (cntArr x) ∗ scopedBufs (tl d L) ∗ scopedSems0 (tl d L)
          ∗ ∃ W', ⌜∀ p ∈ W', p ∈ W ∨ p.2 = none ∨ B p.2⌝ ∗ owes (tl d L) O W') := by
  obtain ⟨R, hR⟩ := ownBufs0 (F := F) d L
  rw [(K (F := F)).scopedBufs_V facts d _ _, SparseCore.Cfg.scopedSems0_V (Val := Elt F) d _ _, hR]
  unfold pc0
  refine BIBase.Entails.trans (Q := iprop(((∃ f, pB d L b9 f) ∗ (∃ f, pB d L b10 f) ∗ (Idle (F := F) (tl d L) O W ∗ xS d L x ∗ mS d L mk ∗ (∃ f, pB d L b7 f) ∗ (∃ f, pB d L b8 f)
        ∗ ((∃ f, pB d L b11 f) ∗ rS d L s1 s2 ct))) ∗ R)) ?_ ?_
  · iintro ⟨Hlv, -, ⟨Hx, Hm, H1, H2, H3⟩, ⟨H7, H8, H9, H10, H11, HR⟩, Hs, HO⟩
    isplitr [HR]
    · isplitl [H9]; · iexact H9
      isplitl [H10]; · iexact H10
      isplitl [Hlv Hs HO]
      · unfold Idle
        isplitl [Hlv]; · iexact Hlv
        isplitl [Hs]; · iexact Hs
        iapply (own_start (F := F)) $$ HO
      isplitl [Hx]; · iexact Hx
      isplitl [Hm]; · iexact Hm
      isplitl [H7]; · iexact H7
      isplitl [H8]; · iexact H8
      isplitl [H11]; · iexact H11
      isplitl [H1]; · iexact H1
      isplitl [H2]; · iexact H2
      iexact H3
    iexact HR
  refine BIBase.Entails.trans (sep_mono_left (k0_body d L O W hO x mk s1 s2 ct (Q := fun _ => T7 d L O W x) (BIBase.Entails.rfl))) ?_
  iintro ⟨H, HR⟩
  iapply wp_wand $$ H
  iintro %_ H
  unfold T7 Idle
  icases H with ⟨⟨-, Hs, HO⟩, Hx, Hm, ⟨H1, H2, H3⟩, H7, H8, H9, H10, H11⟩
  isplitl [Hx Hm H1 H2 H3]
  · isplitl [Hx]; · iexact Hx
    isplitl [Hm]; · iexact Hm
    isplitl [H1]; · iexact H1
    isplitl [H2]; · iexact H2
    iexact H3
  isplitl [H7 H8 H9 H10 H11 HR]
  · isplitl [H7]; · iexact H7
    isplitl [H8]; · iexact H8
    isplitl [H9]; · iexact H9
    isplitl [H10]; · iexact H10
    isplitl [H11]; · iexact H11
    iexact HR
  isplitl [Hs]; · iexact Hs
  iapply (own_end (F := F) B) $$ HO

/-- A tile's second call: its columns normalised. -/
theorem tile1 (O : CellTallies nD τ sig (HIx 2)) (W : Waits sig (HIx 2)) (hO : ∀ g, O g none = 0) (B : Option (Fin 2) → Prop)
    (x : FVec F S4x96x147456 .f32) (mk : FVec F S4x9216x16 .f32) (sc sh : FVec F S96x16 .f32) (o : FVec F S4x96x147456 .f32) (q : PosShare TreeShare) :
    iprop(levAts (K (F := F)).L (K (F := F)).lev ∗ emp ∗ pc1 d (wid L) q x mk sc sh o ∗ scopedBufs (tl d L) ∗ scopedSems0 (tl d L) ∗ owes (tl d L) O W)
      ⊢ wpT d L (cc1__norm_body L xV (Memref.isWhole_whole _) mkV (Memref.isWhole_whole _) scV (Memref.isWhole_whole _) shV (Memref.isWhole_whole _) oV (Memref.isWhole_whole _)
          c7 (Memref.isWhole_whole _) c8 (Memref.isWhole_whole _) c9 (Memref.isWhole_whole _) c10 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109)
        fun _ => iprop(pc1 d (wid L) q x mk sc sh (outArr x mk sc sh) ∗ scopedBufs (tl d L) ∗ scopedSems0 (tl d L)
          ∗ ∃ W', ⌜∀ p ∈ W', p ∈ W ∨ p.2 = none ∨ B p.2⌝ ∗ owes (tl d L) O W') := by
  obtain ⟨R, hR⟩ := ownBufs1 (F := F) d L
  rw [(K (F := F)).scopedBufs_V facts d _ _, SparseCore.Cfg.scopedSems0_V (Val := Elt F) d _ _, hR]
  unfold pc1
  refine BIBase.Entails.trans (Q := iprop(H0 d L O W x mk sc sh o q ∗ R)) ?_ ?_
  · unfold H0
    iintro ⟨Hlv, -, ⟨Hx, Hm, H1, H2, H3⟩, ⟨H7, H8, H9, H10, HR⟩, Hs, HO⟩
    isplitr [HR]
    · isplitl [Hlv Hs HO]
      · unfold Idle
        isplitl [Hlv]; · iexact Hlv
        isplitl [Hs]; · iexact Hs
        iapply (own_start (F := F)) $$ HO
      isplitl [H1]; · iexact H1
      isplitl [H9]; · iexact H9
      isplitl [H2]; · iexact H2
      isplitl [H10]; · iexact H10
      isplitl [Hx]; · iexact Hx
      isplitl [H7]; · iexact H7
      isplitl [Hm]; · iexact Hm
      isplitl [H3]; · iexact H3
      iexact H8
    iexact HR
  refine BIBase.Entails.trans (sep_mono_left (k1_body d L O W hO x mk sc sh o q (Q := fun _ => H5 d L O W x mk sc sh q) (BIBase.Entails.rfl))) ?_
  iintro ⟨H, HR⟩
  iapply wp_wand $$ H
  iintro %_ H
  unfold H5 qS Idle
  icases H with ⟨⟨-, Hs, HO⟩, Hx, Hm, H3, ⟨H1, H2⟩, H7, H8, H9, H10⟩
  isplitl [Hx Hm H1 H2 H3]
  · isplitl [Hx]; · iexact Hx
    isplitl [Hm]; · iexact Hm
    isplitl [H1]; · iexact H1
    isplitl [H2]; · iexact H2
    iexact H3
  isplitl [H7 H8 H9 H10 HR]
  · isplitl [H7]; · iexact H7
    isplitl [H8]; · iexact H8
    isplitl [H9]; · iexact H9
    isplitl [H10]; · iexact H10
    iexact HR
  isplitl [Hs]; · iexact Hs
  iapply (own_end (F := F) B) $$ HO

end Tile

/-! ## The obligations -/

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_0 (c : Fin τ.nSC) (s : Fin τ.nSub) :
    defs₀ (F := F) (.scVector c s) 0 ()
      = SparseCore.onTile hcore0 hsub0 (fun c s => cc0__stats_body (coordsV c s) xV (Memref.isWhole_whole _) s1V (Memref.isWhole_whole _) s2V (Memref.isWhole_whole _) ctV (Memref.isWhole_whole _) mkV (Memref.isWhole_whole _)
          b7 (Memref.isWhole_whole _) b8 (Memref.isWhole_whole _) b9 (Memref.isWhole_whole _) b10 (Memref.isWhole_whole _) b11 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74) ⟨⟩ c s := rfl
theorem defs₀_1 (c : Fin τ.nSC) (s : Fin τ.nSub) :
    defs₀ (F := F) (.scVector c s) 1 ()
      = SparseCore.onTile hcore1 hsub1 (fun c s => cc1__norm_body (coordsV c s) xV (Memref.isWhole_whole _) mkV (Memref.isWhole_whole _) scV (Memref.isWhole_whole _) shV (Memref.isWhole_whole _) oV (Memref.isWhole_whole _)
          c7 (Memref.isWhole_whole _) c8 (Memref.isWhole_whole _) c9 (Memref.isWhole_whole _) c10 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92 cc1_scoped93 cc1_scoped94 cc1_scoped95 cc1_scoped96 cc1_scoped97 cc1_scoped98 cc1_scoped99 cc1_scoped100 cc1_scoped101 cc1_scoped102 cc1_scoped103 cc1_scoped104 cc1_scoped105 cc1_scoped106 cc1_scoped107 cc1_scoped108 cc1_scoped109) ⟨⟩ c s := rfl

theorem tileObl0 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_0]; simp only [SparseCore.onTile, hci, and_self, ↓reduceDIte]
  exact tile0 d (coordsV ⟨_, hci.1⟩ ⟨_, hci.2⟩) O W hO _ (X m d) (VA m d mk') (VA m d s1') (VA m d s2') (VA m d ct')

theorem tileObl1 : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BIBase.Entails.trans ?_ (Pipeline.wp_liftProg (D (F := F)) (Pipeline.defs_kernel pcfgs defs₀) 𝒱₀ _ Set.univ none _ _)
  rw [defs₀_1]; simp only [SparseCore.onTile, hci, and_self, ↓reduceDIte]
  exact tile1 d (coordsV ⟨_, hci.1⟩ ⟨_, hci.2⟩) O W hO _ (VC m d x') (VC m d mk') (VC m d sc') (VC m d sh') (VC m d o') (shr c i)

end Cert.Proof.BN

end
-- ==== Proof.Main.lean ====
/- The program's run: every execution ends with the arguments unchanged, the result the operations' value, and every counter at zero. -/
module

public import proofs.«01_k».proof.Proof.Tiles

@[expose] public section

noncomputable section

namespace Cert.Proof.BN

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
open Idealize.ShloMosaic.StableHlo (held after)

variable (m : (ℓ : Loc nD τ sig) → Buf (Elt F) ℓ) (ρ : Dev nD → PrngReg)

/-! ## The arrays split among the tiles -/

/-- The tiles' columns of an array are apart and cover it. -/
theorem split32 {ℓ : Loc nD τ sig} (f : Buf (Elt F) ℓ) (w : Idx ℓ → ℕ) (hw : ∀ p, w p < 32) (t : ℕ → Finset (Idx ℓ)) (ht : ∀ n p, p ∈ t n ↔ w p = n) :
    (ℓ ↦{fullShare} f : sProp 𝕄) = bigSep Finset.univ fun c : Fin 2 => bigSep Finset.univ fun i : Fin 16 => ℓ ↦[t (2 * i.val + c.val)]{fullShare} f := by
  have h1 : ∀ c : Fin 2, (bigSep Finset.univ fun i : Fin 16 => (ℓ ↦[t (2 * i.val + c.val)]{fullShare} f : sProp 𝕄))
      = ℓ ↦[(Finset.univ : Finset (Fin 16)).biUnion fun i => t (2 * i.val + c.val)]{fullShare} f := fun c =>
    (pointsTo_biUnion (ℓ := ℓ) (Finset.univ : Finset (Fin 16)) (fun i : Fin 16 => t (2 * i.val + c.val)) (fun i _ j _ hij => by
      rw [Finset.disjoint_left]; intro p hp hq
      rw [ht] at hp hq
      exact hij (Fin.ext (by omega)))).symm
  rw [show (fun c : Fin 2 => bigSep Finset.univ fun i : Fin 16 => (ℓ ↦[t (2 * i.val + c.val)]{fullShare} f : sProp 𝕄)) = _ from funext h1,
    ← pointsTo_biUnion (ℓ := ℓ) (Finset.univ : Finset (Fin 2)) (fun c : Fin 2 => (Finset.univ : Finset (Fin 16)).biUnion fun i => t (2 * i.val + c.val)) (fun c _ c' _ hcc => by
      rw [Finset.disjoint_left]; intro p hp hq
      obtain ⟨i, -, hp⟩ := Finset.mem_biUnion.mp hp
      obtain ⟨j, -, hq⟩ := Finset.mem_biUnion.mp hq
      rw [ht] at hp hq
      exact hcc (Fin.ext (by omega)))]
  congr 1
  symm
  rw [Finset.eq_univ_iff_forall]
  intro p
  have := hw p
  refine Finset.mem_biUnion.mpr ⟨⟨w p % 2, by omega⟩, Finset.mem_univ _, Finset.mem_biUnion.mpr ⟨⟨w p / 2, by omega⟩, Finset.mem_univ _, ?_⟩⟩
  rw [ht]
  show w p = 2 * (w p / 2) + w p % 2
  omega
/-- An array read by every tile, its share dealt among them. -/
theorem share32 {ℓ : Loc nD τ sig} (f : Buf (Elt F) ℓ) :
    (ℓ ↦{fullShare} f : sProp 𝕄) = bigSep Finset.univ fun c : Fin 2 => bigSep Finset.univ fun i : Fin 16 => ℓ ↦{shr c i} f := by
  unfold shr
  rw [Transfers.pointsTo_deal (Finset.univ : Finset (Fin 2)) Finset.univ_nonempty fullShare]
  exact bigSep_congr fun c _ => Transfers.pointsTo_deal (Finset.univ : Finset (Fin 16)) Finset.univ_nonempty _

theorem wX_lt (p : S4x96x147456.Idx) : wX p < 32 := by
  have : (p 2).val < 147456 := (p 2).isLt
  unfold wX; omega
theorem wM_lt (p : S4x9216x16.Idx) : wM p < 32 := by
  have : (p 1).val < 9216 := (p 1).isLt
  unfold wM; omega

variable (d : Dev nD)

/-- The first call's arrays are its tiles' parts. -/
theorem parts0 (x : FVec F S4x96x147456 .f32) (mk : FVec F S4x9216x16 .f32) (s1 s2 : FVec F S32x96x16 .f32) (ct : FVec F S32x16 .f32) :
    (iprop(((d, x') ↦{fullShare} x) ∗ ((d, mk') ↦{fullShare} mk) ∗ ((d, s1') ↦{fullShare} s1) ∗ ((d, s2') ↦{fullShare} s2) ∗ ((d, ct') ↦{fullShare} ct)) : sProp 𝕄)
      = bigSep Finset.univ fun c : Fin 2 => bigSep Finset.univ fun i : Fin 16 => pc0 d (2 * i.val + c.val) x mk s1 s2 ct := by
  unfold pc0
  simp only [bigSep_sep']
  rw [split32 (ℓ := ((d, x') : Loc nD τ sig)) x wX wX_lt tX (fun n p => by simp [tX]), split32 (ℓ := ((d, mk') : Loc nD τ sig)) mk wM wM_lt tM (fun n p => by simp [tM]),
    split32 (ℓ := ((d, s1') : Loc nD τ sig)) s1 (fun p : S32x96x16.Idx => (p 0).val) (fun p => (p 0).isLt) tR (fun n p => by simp [tR]),
    split32 (ℓ := ((d, s2') : Loc nD τ sig)) s2 (fun p : S32x96x16.Idx => (p 0).val) (fun p => (p 0).isLt) tR (fun n p => by simp [tR]),
    split32 (ℓ := ((d, ct') : Loc nD τ sig)) ct (fun p : S32x16.Idx => (p 0).val) (fun p => (p 0).isLt) tC (fun n p => by simp [tC])]
/-- The second call's arrays are its tiles' parts. -/
theorem parts1 (x : FVec F S4x96x147456 .f32) (mk : FVec F S4x9216x16 .f32) (sc sh : FVec F S96x16 .f32) (o : FVec F S4x96x147456 .f32) :
    (iprop(((d, x') ↦{fullShare} x) ∗ ((d, mk') ↦{fullShare} mk) ∗ ((d, sc') ↦{fullShare} sc) ∗ ((d, sh') ↦{fullShare} sh) ∗ ((d, o') ↦{fullShare} o)) : sProp 𝕄)
      = bigSep Finset.univ fun c : Fin 2 => bigSep Finset.univ fun i : Fin 16 => pc1 d (2 * i.val + c.val) (shr c i) x mk sc sh o := by
  unfold pc1
  simp only [bigSep_sep']
  rw [split32 (ℓ := ((d, x') : Loc nD τ sig)) x wX wX_lt tX (fun n p => by simp [tX]), split32 (ℓ := ((d, mk') : Loc nD τ sig)) mk wM wM_lt tM (fun n p => by simp [tM]),
    share32 (ℓ := ((d, sc') : Loc nD τ sig)) sc, share32 (ℓ := ((d, sh') : Loc nD τ sig)) sh,
    split32 (ℓ := ((d, o') : Loc nD τ sig)) o wX wX_lt tX (fun n p => by simp [tX])]

theorem st0_eq : (bigSep Finset.univ fun c : Fin ((K (F := F)).nCore 0) => (P m).st 0 d c)
    = iprop(((d, x') ↦{fullShare} X m d) ∗ ((d, mk') ↦{fullShare} VA m d mk') ∗ ((d, s1') ↦{fullShare} VA m d s1') ∗ ((d, s2') ↦{fullShare} VA m d s2') ∗ ((d, ct') ↦{fullShare} VA m d ct')) := by
  rw [parts0]; rfl
theorem dn0_eq : (bigSep Finset.univ fun c : Fin ((K (F := F)).nCore 0) => (P m).dn 0 d c)
    = iprop(((d, x') ↦{fullShare} X m d) ∗ ((d, mk') ↦{fullShare} maskArr (X m d)) ∗ ((d, s1') ↦{fullShare} s1Arr (X m d)) ∗ ((d, s2') ↦{fullShare} s2Arr (X m d)) ∗ ((d, ct') ↦{fullShare} cntArr (X m d))) := by
  rw [parts0]; rfl
theorem st1_eq : (bigSep Finset.univ fun c : Fin ((K (F := F)).nCore 1) => (P m).st 1 d c)
    = iprop(((d, x') ↦{fullShare} VC m d x') ∗ ((d, mk') ↦{fullShare} VC m d mk') ∗ ((d, sc') ↦{fullShare} VC m d sc') ∗ ((d, sh') ↦{fullShare} VC m d sh') ∗ ((d, o') ↦{fullShare} VC m d o')) := by
  rw [parts1]; rfl
theorem dn1_eq : (bigSep Finset.univ fun c : Fin ((K (F := F)).nCore 1) => (P m).dn 1 d c)
    = iprop(((d, x') ↦{fullShare} VC m d x') ∗ ((d, mk') ↦{fullShare} VC m d mk') ∗ ((d, sc') ↦{fullShare} VC m d sc') ∗ ((d, sh') ↦{fullShare} VC m d sh') ∗ ((d, o') ↦{fullShare} OUT m d)) := by
  rw [parts1]; rfl

/-! ## The launch's element: the handshakes' rounds -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

/-! ## The program on a device -/

/-- What the program ends holding. -/
abbrev FIN (d : Dev nD) : sProp 𝕄 := held (T d) (Pipeline.ucRefs τ sig) (VE m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((d.tc : Thread nD τ).loc b)) : sProp 𝕄) = held (T d) (Pipeline.ucRefs τ sig) (V0 m d) from Pipeline.unscopedBufs_held d (V0 m d),
    main_eq, ← StableHlo.seq_bind_seqK]
  iintro ⟨#Hctx, Hst, ⟨Hb, Hh, Hts, -⟩, -⟩
  iapply (StableHlo.wp_seq 𝒱 none Set.univ d _ _ opsA opsA_sub opsA_fresh (V0 m d)) $$ [Hb Hh]
  · isplitl [Hb]; · iexact Hb
    iexact Hh
  iintro ⟨Hb, Hh⟩
  ihave Hh' := (Entails.of_eq (show (held (d.tc : Thread nD τ) (Pipeline.ucRefs τ sig) (after opsA (V0 m d)) : sProp 𝕄) = _ from held_VA m d)) $$ Hh
  icases Hh' with ⟨Hc, Hr⟩
  rw [wp_bind]
  iapply ((K (F := F)).wp_run (D (F := F)) 𝒱 (EH := EH) (P := P m) κ d 0)
  isplitr; · iexact Hctx
  isplitl [Hst]; · iexact Hst
  isplitl [Hc]
  · rw [st0_eq]; iexact Hc
  iintro ⟨Hst, Hdn⟩
  ihave Hdn := (Entails.of_eq (dn0_eq m d)) $$ Hdn
  rw [← StableHlo.seq_bind_seqK]
  ihave Hh := (Entails.of_eq (held_VB m d).symm) $$ [Hdn Hr]
  · isplitl [Hdn]; · iexact Hdn
    iexact Hr
  iapply (StableHlo.wp_seq 𝒱 none Set.univ d _ _ opsB opsB_sub opsB_fresh (VB m d)) $$ [Hb Hh]
  · isplitl [Hb]; · iexact Hb
    iexact Hh
  iintro ⟨Hb, Hh⟩
  ihave Hh' := (Entails.of_eq (show (held (d.tc : Thread nD τ) (Pipeline.ucRefs τ sig) (after opsB (VB m d)) : sProp 𝕄) = _ from held_VC m d)) $$ Hh
  icases Hh' with ⟨Hc, Hr⟩
  rw [wp_bind]
  iapply ((K (F := F)).wp_run (D (F := F)) 𝒱 (EH := EH) (P := P m) κ d 1)
  isplitr; · iexact Hctx
  isplitl [Hst]; · iexact Hst
  isplitl [Hc]
  · rw [st1_eq]; iexact Hc
  iintro ⟨Hst, Hdn⟩
  ihave Hdn := (Entails.of_eq (dn1_eq m d)) $$ Hdn
  rw [← StableHlo.seq_bind_seqK]
  ihave Hh := (Entails.of_eq (held_VD m d).symm) $$ [Hdn Hr]
  · isplitl [Hdn]; · iexact Hdn
    iexact Hr
  iapply (StableHlo.wp_seq 𝒱 none Set.univ d _ _ opsC opsC_sub opsC_fresh (VD m d)) $$ [Hb Hh]
  · isplitl [Hb]; · iexact Hb
    iexact Hh
  iintro ⟨Hb, Hh⟩
  rw [wp_pure]
  imodintro
  isplitl [Hst]; · iexact Hst
  isplitl [Hh]; · iapply (Entails.of_eq (show (held (d.tc : Thread nD τ) (Pipeline.ucRefs τ sig) (after opsC (VD m d)) : sProp 𝕄) = FIN m d from rfl)) $$ Hh
  isplitl [Hb]; · iexact Hb
  iexact Hts

/-- What the memory holds at the end. -/
def fq (d : Dev nD) (s' : Phys nD τ sig (Elt F)) : Prop := ∀ b ∈ Pipeline.ucRefs τ sig, s'.mem.mem (d, b) = VE m d b

theorem hfin (d : Dev nD) (s' : Phys nD τ sig (Elt F)) : iprop(FIN m d ∗ SI s') ⊢ (⌜fq m d s'⌝ : sProp 𝕄) := by
  refine BIBase.Entails.trans ?_ (pure_forall (φ := fun b : DevRef τ sig => b ∈ Pipeline.ucRefs τ sig → s'.mem.mem (d, b) = VE m d b)).2
  refine forall_intro fun b => ?_
  by_cases hb : b ∈ Pipeline.ucRefs τ sig
  · unfold FIN held
    rw [SparseCore.bigSep_erase' hb]
    iintro ⟨⟨Hb, -⟩, HSI⟩
    ihave H := (SI_pointsTo_agree (st := s') (ℓ := ((d, b) : Loc nD τ sig)) (I := Finset.univ) (q := fullShare) (f := VE m d b)) $$ [HSI Hb]
    · isplitl [HSI]; · iexact HSI
      iexact Hb
    icases H with %h
    ipureintro
    exact fun _ => funext fun i => h i (Finset.mem_univ i)
  · iintro -
    ipureintro
    exact fun h => absurd h hb

/-- What every execution ends at. -/
def QC : PUnit × MemSt nD τ sig (Elt F) → Prop := fun r => (∀ d : Dev nD, ∀ b ∈ Pipeline.ucRefs τ sig, r.2.mem (d, b) = VE m d b) ∧ r.2.sem = fun _ => 0

theorem run_main [∀ e, Nonempty (Elt F e)] : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m | 1 => tileObl1 m)
    (fun q _ => SparseCore.Cfg.VecSplit.of_plain (vecSplit m q))
    m ρ main (fun _ => iprop(emp)) (FIN m) (u₀ (F := F)) (sep_elim_left.trans (hu₀ m)) (hmain m ρ) (fq m) (hfin m) (QC m) (fun _ h hz => ⟨h, hz⟩)

/-! ## The arguments -/

/-- What the operations between the calls write. -/
abbrev WB : List (Ref sig .tc) := [main_cst, main_v2, main_cst_0, main_v3, main_cst_1, main_v4, main_v5, main_v6, main_cst_2, main_v7, main_v8, main_v9, main_v10, main_v11, main_cst_3, main_v12, main_v13, main_cst_4, main_v14, main_v15, main_v16, main_v17, main_v18, main_v19, main_v20, main_v21, main_v22, main_v23, main_v24, main_v25, main_v26, main_v27]
theorem VC_of {b : Ref sig .tc} (h : b ∉ WB) : VC m d (Proc.devRef .tc b) = VB m d (Proc.devRef .tc b) :=
  StableHlo.after_unwritten (ops := opsB) WB rfl h (VB m d)
theorem VE_of {b : Ref sig .tc} (hA : b ∉ [(main_v0 : Ref sig .tc)]) (hB : b ∉ WB) (hC : b ∉ [(main_v29 : Ref sig .tc)])
    (h1 : (Proc.devRef .tc b : DevRef τ sig) ∉ SA) (h2 : (Proc.devRef .tc b : DevRef τ sig) ≠ o') : VE m d (Proc.devRef .tc b) = m (d, Proc.devRef .tc b) := by
  unfold VE
  rw [StableHlo.after_unwritten (ops := opsC) [(main_v29 : Ref sig .tc)] rfl hC]
  unfold VD
  rw [Function.update_of_ne h2, VC_of m d hB, VB_off m d h1]
  unfold VA
  rw [StableHlo.after_unwritten (ops := opsA) [(main_v0 : Ref sig .tc)] rfl hA]
  rfl
theorem VE_arg0 : VE m d (Proc.devRef .tc main_arg0) = m (d, Proc.devRef .tc main_arg0) := VE_of m d (by decide) (by decide) (by decide) (by decide) (by decide)
theorem VE_arg1 : VE m d (Proc.devRef .tc main_arg1) = m (d, Proc.devRef .tc main_arg1) := VE_of m d (by decide) (by decide) (by decide) (by decide) (by decide)
theorem VE_arg2 : VE m d (Proc.devRef .tc main_arg2) = m (d, Proc.devRef .tc main_arg2) := VE_of m d (by decide) (by decide) (by decide) (by decide) (by decide)

/-- Every execution ends with the result at its value, the arguments unchanged and every counter at zero. -/
theorem run_args [∀ e, Nonempty (Elt F e)] : θ_run (Cert.Kernel.defs (F := F)) (Cert.Kernel.threads (F := F)) ⟨m, fun _ => 0, ρ⟩ fun r =>
    (∀ c : Dev nD, r.2.mem ((c.tc : Thread nD τ).loc main_v29) = VE m c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run Cert.Kernel.defs _ _).mono (fun _ h => ⟨fun c => ⟨h.1 c _ (uc rfl), (h.1 c _ (uc rfl)).trans (VE_arg0 m c), (h.1 c _ (uc rfl)).trans (VE_arg1 m c),
    (h.1 c _ (uc rfl)).trans (VE_arg2 m c)⟩, h.2⟩) (run_main m ρ)

end Cert.Proof.BN

end
-- ==== Proof.Frames.lean ====
/- The frames: every execution of each program ends with its arguments unchanged and every counter at zero. -/
module

public import proofs.«01_k».proof.Defs
public import proofs.«01_k».proof.Proof.Main
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof.Frames

open Idealize.ShloMosaic Idealize.SL.Sem

/-- The kernel's frame. -/
theorem frame_P : Cert.quiescent_Kernel (hKernel := Cert.Kernel.Gen.facts) := fun m g _ =>
  (θ_run (Cert.Kernel.defs (F := Bits)) _ _).mono (fun _ h => ⟨fun c => (h.1 c).2, h.2⟩) (Cert.Proof.BN.run_args (F := Bits) m g)

/-- The kernel's run at the extended reals, with the arguments unchanged and every counter at zero. -/
theorem frame_ideal : ∀ (m : (ℓ : Loc Cert.Kernel.nD Cert.Kernel.τ Cert.Kernel.sig) → Buf (Elt Ideal) ℓ) (g : Dev Cert.Kernel.nD → PrngReg),
    θ_run (Cert.Kernel.defs (F := Ideal)) (Cert.Kernel.threads (F := Ideal)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := fun m g =>
  (θ_run (Cert.Kernel.defs (F := Ideal)) _ _).mono (fun _ h => ⟨fun c => (h.1 c).2, h.2⟩) (Cert.Proof.BN.run_args (F := Ideal) m g)

/-- The idealized kernel's frame: it is the kernel's own text. -/
theorem frame_PI : Cert.quiescent_KernelIdeal (hKernelIdeal := Cert.KernelIdeal.Gen.facts) := fun m g _ => frame_ideal m g

/-- The reference's frame: it declares no counter. -/
theorem frame_RI : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- The idealized kernel's frame for finite arguments. -/
theorem frame_PI_finite (hP : Cert.Pre_finite.Facts) :
    Cert.quiescent_KernelIdeal_pre_finite (hKernelIdeal := Cert.KernelIdeal.Gen.facts) (hPre_finite := hP) := fun m g _ => frame_ideal m g

/-- The reference's frame for finite arguments. -/
theorem frame_RI_finite (hP : Cert.Pre_finite.Facts) :
    Cert.quiescent_ReferenceIdeal_pre_finite (hReferenceIdeal := Cert.ReferenceIdeal.Gen.facts) (hPre_finite := hP) := fun m g _ => frame_RI m g trivial

end Cert.Proof.Frames

end
-- ==== Proof.HostVal.lean ====
/- The arrays the host's operations write, as terms of the arrays they read. -/
module

public import proofs.«01_k».proof.Proof.Main

@[expose] public section

noncomputable section

namespace Cert.Proof.BN

open Cert.Kernel Cert.Kernel.Gen
open Idealize.ShloMosaic Idealize.ShloMosaic.ValueIdx
open Idealize.ShloMosaic.StableHlo

variable {F : FTy → Type} [FloatOps F]

namespace Ker

/-- The count of valid positions, at least one. -/
def cnt (ct : FVec F S32x16 .f32) : FVec F S_ .f32 :=
  maximumf (Host.reduceAdd ct (constant S_ .f32 0x00000000#32) reducesTo_S32x16_S_d0_1 h_S_) (constant S_ .f32 0x3F800000#32)
/-- A masked mean: the tiles' sums added and divided by the count. -/
def avg (s : FVec F S32x96x16 .f32) (ct : FVec F S32x16 .f32) : FVec F S96 .f32 :=
  Host.divf (Host.reduceAdd s (constant S_ .f32 0x00000000#32) reducesTo_S32x96x16_S96_d0_2 h_S_) (broadcastInDim S96 ![] bcast_S_S96 (cnt ct))
/-- The variance, at least zero. -/
def vr (s1 s2 : FVec F S32x96x16 .f32) (ct : FVec F S32x16 .f32) : FVec F S96 .f32 :=
  maximumf (subf (avg s2 ct) (mulf (avg s1 ct) (avg s1 ct))) (broadcastInDim S96 ![] bcast_S_S96 (constant S_ .f32 0x00000000#32))
/-- The factor of each channel. -/
def sc (s1 s2 : FVec F S32x96x16 .f32) (ct : FVec F S32x16 .f32) (ga : FVec F S96 .f32) : FVec F S96 .f32 :=
  mulf ga (Host.rsqrt (addf (vr s1 s2 ct) (broadcastInDim S96 ![] bcast_S_S96 (constant S_ .f32 0x3727C5AC#32))))
/-- The summand of each channel. -/
def sh (s1 s2 : FVec F S32x96x16 .f32) (ct : FVec F S32x16 .f32) (ga be : FVec F S96 .f32) : FVec F S96 .f32 :=
  subf be (mulf (avg s1 ct) (sc s1 s2 ct ga))
/-- A per-channel array, sixteen lanes each. -/
def wide (a : FVec F S96 .f32) : FVec F S96x16 .f32 :=
  shapeCast S96x16 (broadcastInDim S1x96x16x1 ![0, 1, 2, 3] bcast_S1x96x1x1_S1x96x16x1_0_1_2_3
    (shapeCast S1x96x1x1 (broadcastInDim S96x1 ![0] bcast_S96_S96x1_0 a) shapeCasts_S96x1_S1x96x1x1)) shapeCasts_S1x96x16x1_S96x16

end Ker

/-- What the host leaves as the factors. -/
theorem after_sc (W : Valuation τ sig (Elt F)) :
    after opsB W sc' = Ker.wide (Ker.sc (W s1') (W s2') (W ct') (W (Proc.devRef .tc (main_arg1 : Ref sig .tc)))) := by
  simp only [opsB]
  after_results_simp <;> (unfold Ker.wide Ker.sc Ker.vr Ker.avg Ker.cnt; rfl)

/-- What the host leaves as the summands. -/
theorem after_sh (W : Valuation τ sig (Elt F)) :
    after opsB W sh' = Ker.wide (Ker.sh (W s1') (W s2') (W ct') (W (Proc.devRef .tc (main_arg1 : Ref sig .tc))) (W (Proc.devRef .tc (main_arg2 : Ref sig .tc)))) := by
  simp only [opsB]
  after_results_simp <;> (unfold Ker.wide Ker.sh Ker.sc Ker.vr Ker.avg Ker.cnt; rfl)

/-- The input as the calls see it. -/
theorem after_x (W : Valuation τ sig (Elt F)) :
    after opsA W x' = shapeCast S4x96x147456 (W (Proc.devRef .tc (main_arg0 : Ref sig .tc)) : FVec F S4x96x384x384 .f32) shapeCasts_S4x96x384x384_S4x96x147456 := by
  simp only [opsA]
  after_results_simp
  rfl

/-- The result as the program returns it. -/
theorem after_out (W : Valuation τ sig (Elt F)) :
    after opsC W (Proc.devRef .tc (main_v29 : Ref sig .tc)) = shapeCast S4x96x384x384 (W o' : FVec F S4x96x147456 .f32) shapeCasts_S4x96x147456_S4x96x384x384 := by
  simp only [opsC]
  after_results_simp
  rfl

end Cert.Proof.BN

end
-- ==== Proof.Stats.lean ====
/- The statistics as real numbers: means, variances, and the two forms of the variance and of the normalised value. -/
module

public import Idealize.ShloMosaic.Lib.IdealHost

@[expose] public section

noncomputable section

namespace Cert.Proof.BN

open Idealize.ShloMosaic
open scoped BigOperators

/-- A finite sum of reals, read as extended reals, is the sum of the readings. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The divisor of the means: the count, at least one. -/
def cnt1 {ι : Type} [Fintype ι] (M : ι → ℝ) : ℝ := max (∑ i, M i) 1
/-- The masked mean. -/
def meanOf {ι : Type} [Fintype ι] (a M : ι → ℝ) : ℝ := (∑ i, a i * M i) / cnt1 M
/-- The masked mean of the squared deviations. -/
def varOf {ι : Type} [Fintype ι] (a M : ι → ℝ) : ℝ := (∑ i, (a i - meanOf a M) * (a i - meanOf a M) * M i) / cnt1 M

theorem cnt1_pos {ι : Type} [Fintype ι] (M : ι → ℝ) : 0 < cnt1 M := lt_of_lt_of_le one_pos (le_max_right _ _)

/-- The variance is not negative. -/
theorem varOf_nonneg {ι : Type} [Fintype ι] (a M : ι → ℝ) (hM : ∀ i, M i = 0 ∨ M i = 1) : 0 ≤ varOf a M :=
  div_nonneg (Finset.sum_nonneg fun i _ => mul_nonneg (mul_self_nonneg _) (by rcases hM i with h | h <;> rw [h] <;> norm_num)) (cnt1_pos M).le

/-- The mean of the squares less the square of the mean, held at zero or above, is the variance. -/
theorem var_eq {ι : Type} [Fintype ι] (a M : ι → ℝ) (hM : ∀ i, M i = 0 ∨ M i = 1) :
    max ((∑ i, a i * M i * a i) / cnt1 M - meanOf a M * meanOf a M) 0 = varOf a M := by
  have hnn : ∀ i, 0 ≤ M i := fun i => by rcases hM i with h | h <;> rw [h] <;> norm_num
  suffices h : (∑ i, a i * M i * a i) / cnt1 M - meanOf a M * meanOf a M = varOf a M by
    rw [h]; exact max_eq_left (varOf_nonneg a M hM)
  by_cases hz : ∀ i, M i = 0
  · simp [varOf, meanOf, hz]
  · obtain ⟨i, hi⟩ := not_forall.1 hz
    have h1 : 1 ≤ ∑ i, M i := by
      rw [← (hM i).resolve_left hi]
      exact Finset.single_le_sum (f := M) (fun j _ => hnn j) (Finset.mem_univ i)
    have hc : cnt1 M = ∑ i, M i := max_eq_left h1
    have hne : (∑ i, M i) ≠ 0 := by linarith
    have hs : (∑ i, a i * M i) = meanOf a M * ∑ i, M i := by
      unfold meanOf; rw [hc, div_mul_cancel₀ _ hne]
    have he : (∑ i, (a i - meanOf a M) * (a i - meanOf a M) * M i)
        = (∑ i, a i * M i * a i) - 2 * meanOf a M * (∑ i, a i * M i) + meanOf a M * meanOf a M * ∑ i, M i := by
      rw [Finset.mul_sum, Finset.mul_sum, ← Finset.sum_sub_distrib, ← Finset.sum_add_distrib]
      exact Finset.sum_congr rfl fun i _ => by ring
    unfold varOf
    rw [he, hs, hc, eq_div_iff hne, sub_mul, div_mul_cancel₀ _ hne]
    ring

/-- The small constant added to a variance. -/
def eps : ℝ := (2 ^ 23 + 2606508 : ℕ) * (2 : ℝ) ^ (-40 : ℤ)

theorem eps_pos : 0 < eps := by unfold eps; positivity

theorem ofBits_eps : Ideal.ofBits .f32 0x3727C5AC#32 = (eps : EReal) := by
  simp [Ideal.ofBits, Ideal.ieee, eps, -EReal.coe_mul]

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem sqrt_coe (x : ℝ) (h : 0 ≤ x) : Ideal.sqrt (x : EReal) = (Real.sqrt x : EReal) := by
  show (if x < 0 then _ else _) = _
  rw [if_neg (not_lt.2 h)]

theorem rsqrt_coe (x : ℝ) (h : 0 < x) : Ideal.rsqrt (x : EReal) = ((Real.sqrt x)⁻¹ : ℝ) := by
  show (if x < 0 then _ else if x = 0 then _ else _) = _
  rw [if_neg (not_lt.2 h.le), if_neg h.ne']

theorem max_coe (x y : ℝ) : max (x : EReal) (y : EReal) = ((max x y : ℝ) : EReal) :=
  (EReal.coe_strictMono.monotone.map_max (a := x) (b := y)).symm

/-- Scaling and shifting by the folded constants is subtracting the mean, dividing by the deviation, scaling and shifting. -/
theorem norm_eq (x μ s γ : ℝ) (β : EReal) :
    (x : EReal) * ((γ : EReal) * ((s⁻¹ : ℝ) : EReal)) + (β - (μ : EReal) * ((γ : EReal) * ((s⁻¹ : ℝ) : EReal)))
      = (((x - μ) / s : ℝ) : EReal) * (γ : EReal) + β := by
  rw [sub_eq_add_neg, ← EReal.coe_mul, ← EReal.coe_mul, ← EReal.coe_mul, ← EReal.coe_mul, ← EReal.coe_neg, add_comm β, ← add_assoc, ← EReal.coe_add]
  congr 2
  ring

end Cert.Proof.BN

end
-- ==== Proof.KerSum.lean ====
/- The first kernel's arrays over the extended reals: masks, counts and sums as real sums over the positions. -/
module

public import proofs.«01_k».proof.Proof.Vals
public import proofs.«01_k».proof.Proof.Stats

@[expose] public section

noncomputable section

namespace Cert.Proof.BN

open Cert.Kernel Cert.Kernel.Gen
open Idealize.ShloMosaic Idealize.ShloMosaic.ValueIdx
open scoped BigOperators

/-- One where some channel is positive, zero elsewhere. -/
def ind {ι : Type} (q : ι → Fin 96 → ℝ) (i : ι) : ℝ := open Classical in if ∃ c, 0 < q i c then 1 else 0

theorem ind_cases {ι : Type} (q : ι → Fin 96 → ℝ) (i : ι) : ind q i = 0 ∨ ind q i = 1 := by
  unfold ind; split <;> simp

theorem zero16_apply (l : S16.Idx) : zero16 (F := Ideal) l = 0 := Ideal.ofBits_zero_f32
theorem one16_apply (l : S16.Idx) : one16 (F := Ideal) l = 1 := Ideal.ofBits_one_f32

/-- A selection by a comparison with zero. -/
theorem select_gt (a b c : EReal) : Scalar.select (FloatOps.cmpf (F := Ideal) (φ := .f32) .ogt a 0) b c = if 0 < a then b else c := by
  show Scalar.select (BitVec.ofBool (decide (0 < a))) b c = _
  by_cases h : 0 < a
  · rw [if_pos h, decide_eq_true h]; rfl
  · rw [if_neg h, decide_eq_false h]; rfl

/-- The mask of the rows `0 … n-1`, at a lane. -/
theorem maskOf_apply (rows : ℕ → FVec Ideal S16 .f32) (n : ℕ) (l : S16.Idx) :
    maskOf rows n l = open Classical in if ∃ c < n, 0 < rows c l then 1 else 0 := by
  induction n with
  | zero => simp [maskOf, zero16_apply]
  | succ n ih =>
    show Scalar.select (FloatOps.cmpf .ogt (rows n l) (zero16 l)) (one16 l) (maskOf rows n l) = _
    rw [zero16_apply, one16_apply, select_gt, ih]
    by_cases h : 0 < rows n l
    · rw [if_pos h, if_pos ⟨n, n.lt_succ_self, h⟩]
    · rw [if_neg h]
      refine if_congr ⟨fun ⟨c, hc, hp⟩ => ⟨c, by omega, hp⟩, fun ⟨c, hc, hp⟩ => ⟨c, ?_, hp⟩⟩ rfl rfl
      rcases Nat.lt_succ_iff_lt_or_eq.1 hc with h' | h'
      · exact h'
      · exact absurd (h' ▸ hp) h

/-- The mask of the 96 channels of one position whose channels are real. -/
theorem maskOf_real {ι : Type} (q : ι → Fin 96 → ℝ) (i : ι) (rows : ℕ → FVec Ideal S16 .f32) (l : S16.Idx)
    (h : ∀ c : Fin 96, rows c.val l = (q i c : EReal)) : maskOf rows 96 l = (ind q i : EReal) := by
  rw [maskOf_apply]
  unfold ind
  have e : (∃ c < 96, 0 < rows c l) ↔ ∃ c, 0 < q i c :=
    ⟨fun ⟨c, hc, hp⟩ => ⟨⟨c, hc⟩, by rw [h ⟨c, hc⟩] at hp; exact_mod_cast hp⟩,
      fun ⟨c, hp⟩ => ⟨c.val, c.isLt, by rw [h c]; exact_mod_cast hp⟩⟩
  by_cases hp : ∃ c, 0 < q i c
  · rw [if_pos (e.2 hp), if_pos hp]; rfl
  · rw [if_neg (fun h => hp (e.1 h)), if_neg hp]; rfl

/-! ## One tile -/

/-- The batch of chunk `k`. -/
def bat (k : ℕ) : Fin 4 := Fin.ofNat 4 (k / 9)
/-- The column of lane `l` of group `g` of chunk `k` of tile `w`. -/
def col (w k g l : ℕ) : Fin 147456 := Fin.ofNat 147456 (4608 * w + 512 * (k % 9) + (16 * g + l))

/-- The real array, a position first. -/
abbrev QF (q : Fin 4 → Fin 96 → Fin 147456 → ℝ) : Fin 4 × Fin 147456 → Fin 96 → ℝ := fun i c => q i.1 c i.2

variable (x : FVec Ideal S4x96x147456 .f32) (q : Fin 4 → Fin 96 → Fin 147456 → ℝ)

theorem row_chunk (hx : ∀ b c n, x (ix3 b c n) = (q b c n : EReal)) (w k g : ℕ) (hg : g < 32) (c : Fin 96) (l : Fin 16) :
    row (chunk x w k) c.val g (ix1 l) = (QF q (bat k, col w k g l.val) c : EReal) := by
  have hl := l.isLt
  show x (ix3 (Fin.ofNat 4 (k / 9)) (Fin.ofNat 96 c.val) (Fin.ofNat 147456 (4608 * w + 512 * (k % 9) + (16 * g + l.val) % 512))) = _
  rw [Nat.mod_eq_of_lt (show 16 * g + l.val < 512 by omega), show Fin.ofNat 96 c.val = c from Fin.ext (Nat.mod_eq_of_lt c.isLt), hx]
  rfl

theorem maskv_chunk (hx : ∀ b c n, x (ix3 b c n) = (q b c n : EReal)) (w k g : ℕ) (hg : g < 32) (l : Fin 16) :
    maskv (chunk x w k) g (ix1 l) = (ind (QF q) (bat k, col w k g l.val) : EReal) :=
  maskOf_real (QF q) _ _ _ fun c => row_chunk x q hx w k g hg c l

theorem mrow_chunk (hx : ∀ b c n, x (ix3 b c n) = (q b c n : EReal)) (w k g : ℕ) (hg : g < 32) (l : Fin 16) :
    mrow (maskBuf (chunk x w k)) g (ix1 l) = (ind (QF q) (bat k, col w k g l.val) : EReal) := by
  show maskv (chunk x w k) (g % 32) (ix1 l) = _
  rw [Nat.mod_eq_of_lt hg, maskv_chunk x q hx w k g hg l]

/-- A function of the positions summed over tile `w`'s lane `l`, its first `k` chunks. -/
def tileSum (f : Fin 4 × Fin 147456 → ℝ) (w l k : ℕ) : ℝ := ∑ k' ∈ Finset.range k, ∑ g ∈ Finset.range 32, f (bat k', col w k' g l)

theorem tileSum_succ (f : Fin 4 × Fin 147456 → ℝ) (w l k : ℕ) :
    tileSum f w l (k + 1) = tileSum f w l k + ∑ g ∈ Finset.range 32, f (bat k, col w k g l) := Finset.sum_range_succ _ _

theorem cntN_chunk (hx : ∀ b c n, x (ix3 b c n) = (q b c n : EReal)) (w k : ℕ) (v : FVec Ideal S16 .f32) (l : Fin 16) (a : ℝ) (hv : v (ix1 l) = (a : EReal)) :
    ∀ n ≤ 32, cntN (chunk x w k) v n (ix1 l) = ((a + ∑ g ∈ Finset.range n, ind (QF q) (bat k, col w k g l.val) : ℝ) : EReal)
  | 0, _ => hv.trans (by simp)
  | n + 1, h => by
    show cntN (chunk x w k) v n (ix1 l) + maskv (chunk x w k) n (ix1 l) = _
    rw [cntN_chunk hx w k v l a hv n (by omega), maskv_chunk x q hx w k n (by omega) l, ← EReal.coe_add, Finset.sum_range_succ, add_assoc]

theorem sumN_chunk1 (hx : ∀ b c n, x (ix3 b c n) = (q b c n : EReal)) (w k : ℕ) (c : Fin 96) (l : Fin 16) :
    ∀ n ≤ 32, (sumN (chunk x w k) (maskBuf (chunk x w k)) c.val n).1 (ix1 l)
      = ((∑ g ∈ Finset.range n, (fun i => QF q i c * ind (QF q) i) (bat k, col w k g l.val) : ℝ) : EReal)
  | 0, _ => (zero16_apply (ix1 l)).trans (by simp)
  | n + 1, h => by
    show (sumN (chunk x w k) (maskBuf (chunk x w k)) c.val n).1 (ix1 l)
      + row (chunk x w k) c.val n (ix1 l) * mrow (maskBuf (chunk x w k)) n (ix1 l) = _
    rw [sumN_chunk1 hx w k c l n (by omega), row_chunk x q hx w k n (by omega) c l, mrow_chunk x q hx w k n (by omega) l, ← EReal.coe_mul, ← EReal.coe_add,
      Finset.sum_range_succ]

theorem sumN_chunk2 (hx : ∀ b c n, x (ix3 b c n) = (q b c n : EReal)) (w k : ℕ) (c : Fin 96) (l : Fin 16) :
    ∀ n ≤ 32, (sumN (chunk x w k) (maskBuf (chunk x w k)) c.val n).2 (ix1 l)
      = ((∑ g ∈ Finset.range n, (fun i => QF q i c * ind (QF q) i * QF q i c) (bat k, col w k g l.val) : ℝ) : EReal)
  | 0, _ => (zero16_apply (ix1 l)).trans (by simp)
  | n + 1, h => by
    show (sumN (chunk x w k) (maskBuf (chunk x w k)) c.val n).2 (ix1 l)
      + row (chunk x w k) c.val n (ix1 l) * mrow (maskBuf (chunk x w k)) n (ix1 l) * row (chunk x w k) c.val n (ix1 l) = _
    rw [sumN_chunk2 hx w k c l n (by omega), row_chunk x q hx w k n (by omega) c l, mrow_chunk x q hx w k n (by omega) l, ← EReal.coe_mul, ← EReal.coe_mul,
      ← EReal.coe_add, Finset.sum_range_succ]

/-- A tile's count of valid positions at a lane. -/
theorem accAt_cnt (hx : ∀ b c n, x (ix3 b c n) = (q b c n : EReal)) (w : ℕ) (l : Fin 16) :
    ∀ k, (accAt x w k).2.2 (ix1 l) = (tileSum (ind (QF q)) w l.val k : EReal)
  | 0 => (zero16_apply (ix1 l)).trans (by simp [tileSum])
  | k + 1 => by
    show cntN (chunk x w k) (accAt x w k).2.2 32 (ix1 l) = _
    rw [cntN_chunk x q hx w k _ l _ (accAt_cnt hx w l k) 32 le_rfl, tileSum_succ]

/-- A tile's masked sum of a channel at a lane. -/
theorem accAt_s1 (hx : ∀ b c n, x (ix3 b c n) = (q b c n : EReal)) (w : ℕ) (c : Fin 96) (l : Fin 16) :
    ∀ k, (accAt x w k).1 (ix2 c l) = (tileSum (fun i => QF q i c * ind (QF q) i) w l.val k : EReal)
  | 0 => (zero16_apply (ix1 l)).trans (by simp [tileSum])
  | k + 1 => by
    show (accAt x w k).1 (ix2 (Fin.ofNat 96 c.val) l) + (sumN (chunk x w k) (maskBuf (chunk x w k)) c.val 32).1 (ix1 l) = _
    rw [show Fin.ofNat 96 c.val = c from Fin.ext (Nat.mod_eq_of_lt c.isLt), accAt_s1 hx w c l k, sumN_chunk1 x q hx w k c l 32 le_rfl, tileSum_succ, ← EReal.coe_add]

/-- A tile's masked sum of a channel's squares at a lane. -/
theorem accAt_s2 (hx : ∀ b c n, x (ix3 b c n) = (q b c n : EReal)) (w : ℕ) (c : Fin 96) (l : Fin 16) :
    ∀ k, (accAt x w k).2.1 (ix2 c l) = (tileSum (fun i => QF q i c * ind (QF q) i * QF q i c) w l.val k : EReal)
  | 0 => (zero16_apply (ix1 l)).trans (by simp [tileSum])
  | k + 1 => by
    show (accAt x w k).2.1 (ix2 (Fin.ofNat 96 c.val) l) + (sumN (chunk x w k) (maskBuf (chunk x w k)) c.val 32).2 (ix1 l) = _
    rw [show Fin.ofNat 96 c.val = c from Fin.ext (Nat.mod_eq_of_lt c.isLt), accAt_s2 hx w c l k, sumN_chunk2 x q hx w k c l 32 le_rfl, tileSum_succ, ← EReal.coe_add]

/-! ## All tiles -/

/-- A sum over `a * b` terms, cut in runs of `b`. -/
theorem sum_cut (a b : ℕ) (f : ℕ → ℝ) : ∑ i ∈ Finset.range a, ∑ j ∈ Finset.range b, f (b * i + j) = ∑ n ∈ Finset.range (a * b), f n := by
  induction a with
  | zero => simp
  | succ a ih => rw [Finset.sum_range_succ, ih, Nat.succ_mul, Finset.sum_range_add, mul_comm b a]

/-- Over all tiles and lanes, the tiles' sums are the sum over all positions. -/
theorem sum_tiles (f : Fin 4 × Fin 147456 → ℝ) : ∑ w : Fin 32, ∑ l : Fin 16, tileSum f w.val l.val 36 = ∑ i, f i := by
  have hr : ∑ i, f i = ∑ b ∈ Finset.range 4, ∑ n ∈ Finset.range 147456, f (Fin.ofNat 4 b, Fin.ofNat 147456 n) := by
    rw [Fintype.sum_prod_type, Finset.sum_range]
    refine Finset.sum_congr rfl fun b _ => ?_
    rw [Finset.sum_range]
    refine Finset.sum_congr rfl fun n _ => ?_
    congr 2
    · exact Fin.ext (Nat.mod_eq_of_lt b.isLt).symm
    · exact Fin.ext (Nat.mod_eq_of_lt n.isLt).symm
  have hk : ∀ w l, tileSum f w l 36 = ∑ b ∈ Finset.range 4, ∑ r ∈ Finset.range 9, ∑ g ∈ Finset.range 32,
      f (Fin.ofNat 4 b, Fin.ofNat 147456 (4608 * w + (512 * r + (16 * g + l)))) := by
    intro w l
    unfold tileSum
    rw [show (36 : ℕ) = 4 * 9 from rfl, ← sum_cut 4 9]
    refine Finset.sum_congr rfl fun b _ => Finset.sum_congr rfl fun r hr => Finset.sum_congr rfl fun g _ => ?_
    have hr := Finset.mem_range.1 hr
    unfold bat col
    rw [show (9 * b + r) / 9 = b by omega, show (9 * b + r) % 9 = r by omega, add_assoc]
  rw [hr, Finset.sum_congr rfl fun w _ => Finset.sum_congr rfl fun l _ => hk w.val l.val,
    ← Finset.sum_range (fun w => ∑ l : Fin 16, ∑ b ∈ Finset.range 4, ∑ r ∈ Finset.range 9, ∑ g ∈ Finset.range 32,
      f (Fin.ofNat 4 b, Fin.ofNat 147456 (4608 * w + (512 * r + (16 * g + l.val)))))]
  have hl : ∀ w, (∑ l : Fin 16, ∑ b ∈ Finset.range 4, ∑ r ∈ Finset.range 9, ∑ g ∈ Finset.range 32,
      f (Fin.ofNat 4 b, Fin.ofNat 147456 (4608 * w + (512 * r + (16 * g + l.val)))))
      = ∑ b ∈ Finset.range 4, ∑ r ∈ Finset.range 4608, f (Fin.ofNat 4 b, Fin.ofNat 147456 (4608 * w + r)) := by
    intro w
    rw [← Finset.sum_range (fun l => ∑ b ∈ Finset.range 4, ∑ r ∈ Finset.range 9, ∑ g ∈ Finset.range 32,
      f (Fin.ofNat 4 b, Fin.ofNat 147456 (4608 * w + (512 * r + (16 * g + l))))), Finset.sum_comm]
    refine Finset.sum_congr rfl fun b _ => ?_
    rw [Finset.sum_comm, show (4608 : ℕ) = 9 * 512 from rfl, ← sum_cut 9 512]
    refine Finset.sum_congr rfl fun r _ => ?_
    rw [Finset.sum_comm, sum_cut 32 16 fun n => f (Fin.ofNat 4 b, Fin.ofNat 147456 (9 * 512 * w + (512 * r + n)))]
  rw [Finset.sum_congr rfl fun w _ => hl w, Finset.sum_comm]
  refine Finset.sum_congr rfl fun b _ => ?_
  exact sum_cut 32 4608 fun n => f (Fin.ofNat 4 b, Fin.ofNat 147456 n)

end Cert.Proof.BN

end
-- ==== Proof.RefVal.lean ====
/- The reference's result over the extended reals, at an index, for a finite input. -/
module

public import proofs.«01_k».proof.Proof.Gen.ReferenceIdeal.Run
public import proofs.«01_k».proof.Proof.KerSum
public import Idealize.ShloMosaic.Lib.Pointwise.Reduce
public import Idealize.ShloMosaic.Lib.Routing.OpsOrder

@[expose] public section

noncomputable section

namespace Cert.Proof.BN

open Idealize.ShloMosaic hiding ix0 ix1 ix2 ix3 ix4
open Idealize.ShloMosaic.ValueIdx
open scoped BigOperators

/-- The host's square root at an index. -/
theorem hostSqrt_apply {s : Shape} {φ : FTy} (a : FVec Ideal s φ) (i : s.Idx) : Host.sqrt a i = Ideal.sqrt (a i) := rfl
/-- The host's reciprocal square root at an index. -/
theorem hostRsqrt_apply {s : Shape} {φ : FTy} (a : FVec Ideal s φ) (i : s.Idx) : Host.rsqrt a i = Ideal.rsqrt (a i) := rfl

/-! ## Sums the host takes -/

/-- A host sum over the first three axes of four, at the last. -/
theorem sum_first3 {n0 n1 n2 n3 : ℕ} (h : (⟨4, ![n0, n1, n2, n3]⟩ : Shape).ReducesTo [0, 1, 2] ⟨1, ![n3]⟩)
    (v : (⟨4, ![n0, n1, n2, n3]⟩ : Shape).Idx → EReal) (c : Fin n3) :
    Ideal.hostReduceAdd h v 0 (ix1 c) = ∑ p : Fin n0 × Fin n1 × Fin n2, v (ix4 p.1 p.2.1 p.2.2 c) := by
  unfold Ideal.hostReduceAdd
  rw [zero_add]
  refine Finset.sum_filter_eq_sum_of_fiber _ (fun p : Fin n0 × Fin n1 × Fin n2 => (ix4 p.1 p.2.1 p.2.2 c : (⟨4, ![n0, n1, n2, n3]⟩ : Shape).Idx)) ?_ ?_ v
  · intro p p' e
    exact Prod.ext (congrFun e 0) (Prod.ext (congrFun e 1) (congrFun e 2))
  · intro i
    constructor
    · intro e
      refine ⟨(i 0, i 1, i 2), ?_⟩
      funext a; apply Fin.ext
      match a with
      | ⟨0, _⟩ => rfl
      | ⟨1, _⟩ => rfl
      | ⟨2, _⟩ => rfl
      | ⟨3, _⟩ => exact (congrArg Fin.val (congrFun e ⟨0, Nat.one_pos⟩)).symm
    · rintro ⟨p, rfl⟩
      funext b; apply Fin.ext
      match b with
      | ⟨0, _⟩ => rfl

/-- A host sum over the first and last axes of three, at the middle one. -/
theorem sum_outer2 {n0 n1 n2 : ℕ} (h : (⟨3, ![n0, n1, n2]⟩ : Shape).ReducesTo [0, 2] ⟨1, ![n1]⟩)
    (v : (⟨3, ![n0, n1, n2]⟩ : Shape).Idx → EReal) (c : Fin n1) :
    Ideal.hostReduceAdd h v 0 (ix1 c) = ∑ p : Fin n0 × Fin n2, v (ix3 p.1 c p.2) := by
  unfold Ideal.hostReduceAdd
  rw [zero_add]
  refine Finset.sum_filter_eq_sum_of_fiber _ (fun p : Fin n0 × Fin n2 => (ix3 p.1 c p.2 : (⟨3, ![n0, n1, n2]⟩ : Shape).Idx)) ?_ ?_ v
  · intro p p' e
    exact Prod.ext (congrFun e 0) (congrFun e 2)
  · intro i
    constructor
    · intro e
      refine ⟨(i 0, i 2), ?_⟩
      funext a; apply Fin.ext
      match a with
      | ⟨0, _⟩ => rfl
      | ⟨1, _⟩ => exact (congrArg Fin.val (congrFun e ⟨0, Nat.one_pos⟩)).symm
      | ⟨2, _⟩ => rfl
    · rintro ⟨p, rfl⟩
      funext b; apply Fin.ext
      match b with
      | ⟨0, _⟩ => rfl

/-- A host sum over every axis of four whose last has one coordinate. -/
theorem sum_all4 {n0 n1 n2 : ℕ} {t : Shape} {axes : List (Fin 4)} (h : (⟨4, ![n0, n1, n2, 1]⟩ : Shape).ReducesTo axes t) (ht : ∀ b, t.size b = 1)
    (v : (⟨4, ![n0, n1, n2, 1]⟩ : Shape).Idx → EReal) (j : t.Idx) :
    Ideal.hostReduceAdd h v 0 j = ∑ p : Fin n0 × Fin n1 × Fin n2, v (ix4 p.1 p.2.1 p.2.2 0) := by
  rw [Ideal.hostReduceAdd_total h ht, zero_add]
  symm
  refine Fintype.sum_bijective (fun p : Fin n0 × Fin n1 × Fin n2 => (ix4 p.1 p.2.1 p.2.2 0 : (⟨4, ![n0, n1, n2, 1]⟩ : Shape).Idx)) ⟨?_, ?_⟩ _ _ fun _ => rfl
  · intro p p' e
    exact Prod.ext (congrFun e 0) (Prod.ext (congrFun e 1) (congrFun e 2))
  · intro i
    refine ⟨(i 0, i 1, i 2), ?_⟩
    funext a; apply Fin.ext
    match a with
    | ⟨0, _⟩ => rfl
    | ⟨1, _⟩ => rfl
    | ⟨2, _⟩ => rfl
    | ⟨3, _⟩ => exact (Nat.lt_one_iff.1 (i 3).isLt).symm

/-! ## The result both programs compute -/

/-- One channel of an array of real values, position first. -/
abbrev chan {ι : Type} (q : ι → Fin 96 → ℝ) (c : Fin 96) : ι → ℝ := fun i => q i c

/-- The normalised value at a position and channel. -/
def normVal {ι : Type} [Fintype ι] (q : ι → Fin 96 → ℝ) (γ : Fin 96 → ℝ) (β : Fin 96 → EReal) (i : ι) (c : Fin 96) : EReal :=
  open Classical in
  if ∃ c', 0 < q i c' then
    (((q i c - meanOf (chan q c) (ind q)) / Real.sqrt (varOf (chan q c) (ind q) + eps) : ℝ) : EReal) * (γ c : EReal) + β c
  else (q i c : EReal)

/-! ## The reference -/

/-- The positions. -/
abbrev Pos : Type := Fin 4 × Fin 384 × Fin 384

namespace Ref

open Cert.ReferenceIdeal Cert.ReferenceIdeal.Gen

variable (x : FVec Ideal S4x96x384x384 .f32) (ga be : FVec Ideal S96 .f32)

/-- The input, channels last. -/
def xt : FVec Ideal S4x384x384x96 .f32 := transpose S4x384x384x96 [0, 2, 3, 1] x transposes_S4x96x384x384_S4x384x384x96_0_2_3_1
/-- Whether a position is valid. -/
def msk : IVec S4x384x384 1 :=
  Host.reduce IntOp.ori (cmpf .ogt (xt x) (broadcastInDim S4x384x384x96 ![] bcast_S_S4x384x384x96 (constant S_ .f32 0x00000000#32))) (constantI S_ 1 0#1) reducesTo_S4x384x384x96_S4x384x384_d3 h_S_
/-- The same as a number, with a channel axis. -/
def mf : FVec Ideal S4x384x384x1 .f32 := broadcastInDim S4x384x384x1 ![0, 1, 2] bcast_S4x384x384_S4x384x384x1_0_1_2 (uitofp .f32 (msk x))
/-- The same, at every channel. -/
def mfb : FVec Ideal S4x384x384x96 .f32 := broadcastInDim S4x384x384x96 ![0, 1, 2, 3] bcast_S4x384x384x1_S4x384x384x96_0_1_2_3 (mf x)
/-- The count, at least one, at every channel. -/
def cnt : FVec Ideal S96 .f32 :=
  broadcastInDim S96 ![] bcast_S_S96 (maximumf (Host.reduceAdd (mf x) (constant S_ .f32 0x00000000#32) reducesTo_S4x384x384x1_S_d0_1_2_3 h_S_) (constant S_ .f32 0x3F800000#32))
/-- A per-channel array at every position. -/
def atAll (a : FVec Ideal S96 .f32) : FVec Ideal S4x384x384x96 .f32 :=
  broadcastInDim S4x384x384x96 ![0, 1, 2, 3] bcast_S1x1x1x96_S4x384x384x96_0_1_2_3 (broadcastInDim S1x1x1x96 ![3] bcast_S96_S1x1x1x96_3 a)
/-- The means. -/
def mu : FVec Ideal S96 .f32 := Host.divf (Host.reduceAdd (mulf (xt x) (mfb x)) (constant S_ .f32 0x00000000#32) reducesTo_S4x384x384x96_S96_d0_1_2 h_S_) (cnt x)
/-- The deviations. -/
def dev : FVec Ideal S4x384x384x96 .f32 := subf (xt x) (atAll (mu x))
/-- The variances. -/
def vr : FVec Ideal S96 .f32 :=
  Host.divf (Host.reduceAdd (mulf (mulf (dev x) (dev x)) (mfb x)) (constant S_ .f32 0x00000000#32) reducesTo_S4x384x384x96_S96_d0_1_2 h_S_) (cnt x)
/-- The standard deviations. -/
def sd : FVec Ideal S96 .f32 := Host.sqrt (addf (vr x) (broadcastInDim S96 ![] bcast_S_S96 (constant S_ .f32 0x3727C5AC#32)))
/-- The result, channels last. -/
def out : FVec Ideal S4x384x384x96 .f32 :=
  select (broadcastInDim S4x384x384x96 ![0, 1, 2, 3] bcast_S4x384x384x1_S4x384x384x96_0_1_2_3 (broadcastInDim S4x384x384x1 ![0, 1, 2] bcast_S4x384x384_S4x384x384x1_0_1_2 (msk x)))
    (addf (mulf (Host.divf (dev x) (atAll (sd x))) (atAll ga)) (atAll be)) (xt x)
/-- The result. -/
def res : FVec Ideal S4x96x384x384 .f32 := transpose S4x96x384x384 [0, 3, 1, 2] (out x ga be) transposes_S4x384x384x96_S4x96x384x384_0_3_1_2

/-- The reference's composed result is the one read off step by step above. -/
theorem res_eq (m : (ℓ : Loc nD τ sig) → Buf (Elt Ideal) ℓ) (c : Dev nD) :
    Value.res_main_v39 m c = res (m ((c.tc : Thread nD τ).loc main_arg0)) (m ((c.tc : Thread nD τ).loc main_arg1)) (m ((c.tc : Thread nD τ).loc main_arg2)) := rfl

theorem xt_apply (b : Fin 4) (h w : Fin 384) (c : Fin 96) : xt x (ix4 b h w c) = x (ix4 b c h w) :=
  transpose_apply _ _ _ _ _ fun a => by
    match a with
    | ⟨0, _⟩ => rfl
    | ⟨1, _⟩ => rfl
    | ⟨2, _⟩ => rfl
    | ⟨3, _⟩ => rfl

theorem res_apply (b : Fin 4) (c : Fin 96) (h w : Fin 384) : res x ga be (ix4 b c h w) = out x ga be (ix4 b h w c) :=
  transpose_apply _ _ _ _ _ fun a => by
    match a with
    | ⟨0, _⟩ => rfl
    | ⟨1, _⟩ => rfl
    | ⟨2, _⟩ => rfl
    | ⟨3, _⟩ => rfl

theorem atAll_apply (a : FVec Ideal S96 .f32) (b : Fin 4) (h w : Fin 384) (c : Fin 96) : atAll a (ix4 b h w c) = a (ix1 c) := by
  unfold atAll
  rw [broadcastInDim_apply _ _ _ _ (ix4 0 0 0 c) fun a => by
    match a with
    | ⟨0, _⟩ => rfl
    | ⟨1, _⟩ => rfl
    | ⟨2, _⟩ => rfl
    | ⟨3, _⟩ => rfl]
  exact broadcastInDim_apply _ _ _ _ (ix1 c) fun a => by
    match a with
    | ⟨0, _⟩ => rfl

theorem bc1_apply {α : Type} (a : S4x384x384.Idx → α) (b : Fin 4) (h w : Fin 384) (z : Fin 1) :
    broadcastInDim S4x384x384x1 ![0, 1, 2] bcast_S4x384x384_S4x384x384x1_0_1_2 a (ix4 b h w z) = a (ix3 b h w) :=
  broadcastInDim_apply _ _ _ _ (ix3 b h w) fun a => by
    match a with
    | ⟨0, _⟩ => rfl
    | ⟨1, _⟩ => rfl
    | ⟨2, _⟩ => rfl

theorem bc2_apply {α : Type} (a : S4x384x384x1.Idx → α) (b : Fin 4) (h w : Fin 384) (c : Fin 96) :
    broadcastInDim S4x384x384x96 ![0, 1, 2, 3] bcast_S4x384x384x1_S4x384x384x96_0_1_2_3 a (ix4 b h w c) = a (ix4 b h w 0) :=
  broadcastInDim_apply _ _ _ _ (ix4 b h w 0) fun a => by
    match a with
    | ⟨0, _⟩ => rfl
    | ⟨1, _⟩ => rfl
    | ⟨2, _⟩ => rfl
    | ⟨3, _⟩ => rfl

variable (q : Pos → Fin 96 → ℝ) (γ : Fin 96 → ℝ)

/-- The validity bit of a position. -/
theorem msk_apply (hx : ∀ b c h w, x (ix4 b c h w) = (q (b, h, w) c : EReal)) (b : Fin 4) (h w : Fin 384) :
    msk x (ix3 b h w) = 1#1 ↔ ∃ c, 0 < q (b, h, w) c := by
  unfold msk
  rw [Host.reduce_eq_fold, Shape.ReducesTo.fold_fiber_r4_a3 reducesTo_S4x384x384x96_S4x384x384_d3]
  refine (Routing.fold_ori _ _).trans ?_
  constructor
  · rintro ⟨c, _, hc⟩
    refine ⟨c, ?_⟩
    have e : xt x (ix4 b h w c) = (q (b, h, w) c : EReal) := (xt_apply x b h w c).trans (hx b c h w)
    have hc' : BitVec.ofBool (decide (Ideal.ofBits .f32 0x00000000#32 < xt x (ix4 b h w c))) = 1#1 := hc
    rw [e, Ideal.ofBits_zero_f32] at hc'
    by_contra hn
    rw [decide_eq_false (fun hp => hn (by exact_mod_cast hp))] at hc'
    exact absurd hc' (by decide)
  · rintro ⟨c, hc⟩
    refine ⟨c, Finset.mem_univ _, ?_⟩
    have e : xt x (ix4 b h w c) = (q (b, h, w) c : EReal) := (xt_apply x b h w c).trans (hx b c h w)
    show BitVec.ofBool (decide (Ideal.ofBits .f32 0x00000000#32 < xt x (ix4 b h w c))) = 1#1
    rw [e, Ideal.ofBits_zero_f32, decide_eq_true (by exact_mod_cast hc)]
    rfl

theorem mf_apply (hx : ∀ b c h w, x (ix4 b c h w) = (q (b, h, w) c : EReal)) (b : Fin 4) (h w : Fin 384) (z : Fin 1) :
    mf x (ix4 b h w z) = (ind q (b, h, w) : EReal) := by
  unfold mf
  rw [bc1_apply]
  show ((((msk x (ix3 b h w)).toNat : ℕ) : ℝ) : EReal) = _
  unfold ind
  by_cases hp : ∃ c, 0 < q (b, h, w) c
  · rw [if_pos hp, (msk_apply x q hx b h w).2 hp]; simp
  · rw [if_neg hp, eq_zero_of_ne_one fun e => hp ((msk_apply x q hx b h w).1 e)]; simp

theorem mfb_apply (hx : ∀ b c h w, x (ix4 b c h w) = (q (b, h, w) c : EReal)) (b : Fin 4) (h w : Fin 384) (c : Fin 96) :
    mfb x (ix4 b h w c) = (ind q (b, h, w) : EReal) := by
  unfold mfb; rw [bc2_apply, mf_apply x q hx]

theorem cnt_apply (hx : ∀ b c h w, x (ix4 b c h w) = (q (b, h, w) c : EReal)) (c : Fin 96) : cnt x (ix1 c) = (cnt1 (ind q) : EReal) := by
  unfold cnt
  rw [broadcastInDim_scalar_apply]
  have hs : (∑ p : Pos, mf x (ix4 p.1 p.2.1 p.2.2 0)) = ((∑ p : Pos, ind q p : ℝ) : EReal) := by
    rw [coe_sum']
    exact Finset.sum_congr rfl fun p _ => mf_apply x q hx p.1 p.2.1 p.2.2 0
  rw [maximumf_apply, hostReduceAdd_apply, constant_apply, constant_apply, Ideal.ofBits_zero_f32, Ideal.ofBits_one_f32, sum_all4 _ (fun b => b.elim0), hs, ← EReal.coe_one, max_coe, cnt1]

theorem mu_apply (hx : ∀ b c h w, x (ix4 b c h w) = (q (b, h, w) c : EReal)) (c : Fin 96) : mu x (ix1 c) = (meanOf (chan q c) (ind q) : EReal) := by
  unfold mu
  rw [hostDivf_apply, cnt_apply x q hx, hostReduceAdd_apply, constant_apply, Ideal.ofBits_zero_f32, sum_first3, Finset.sum_congr rfl fun p _ => show mulf (xt x) (mfb x) (ix4 p.1 p.2.1 p.2.2 c) = ((q p c * ind q p : ℝ) : EReal) by
    rw [mulf_apply, xt_apply, hx, mfb_apply x q hx, EReal.coe_mul], ← coe_sum', div_coe _ _ (cnt1_pos _).ne']
  rfl

theorem dev_apply (hx : ∀ b c h w, x (ix4 b c h w) = (q (b, h, w) c : EReal)) (b : Fin 4) (h w : Fin 384) (c : Fin 96) :
    dev x (ix4 b h w c) = ((q (b, h, w) c - meanOf (chan q c) (ind q) : ℝ) : EReal) := by
  unfold dev
  rw [subf_apply, xt_apply, hx, atAll_apply, mu_apply x q hx, EReal.coe_sub]

theorem vr_apply (hx : ∀ b c h w, x (ix4 b c h w) = (q (b, h, w) c : EReal)) (c : Fin 96) : vr x (ix1 c) = (varOf (chan q c) (ind q) : EReal) := by
  unfold vr
  rw [hostDivf_apply, cnt_apply x q hx, hostReduceAdd_apply, constant_apply, Ideal.ofBits_zero_f32, sum_first3, Finset.sum_congr rfl fun p _ => show mulf (mulf (dev x) (dev x)) (mfb x) (ix4 p.1 p.2.1 p.2.2 c)
      = (((q p c - meanOf (chan q c) (ind q)) * (q p c - meanOf (chan q c) (ind q)) * ind q p : ℝ) : EReal) by
    rw [mulf_apply, mulf_apply, dev_apply x q hx, mfb_apply x q hx, EReal.coe_mul, EReal.coe_mul], ← coe_sum', div_coe _ _ (cnt1_pos _).ne']
  rfl

theorem sd_apply (hx : ∀ b c h w, x (ix4 b c h w) = (q (b, h, w) c : EReal)) (c : Fin 96) :
    sd x (ix1 c) = (Real.sqrt (varOf (chan q c) (ind q) + eps) : EReal) := by
  unfold sd
  rw [hostSqrt_apply, addf_apply, broadcastInDim_scalar_apply, constant_apply, vr_apply x q hx, ofBits_eps, ← EReal.coe_add, sqrt_coe _ (add_nonneg (varOf_nonneg _ _ (ind_cases q)) eps_pos.le)]

/-- The reference's result at an index. -/
theorem res_val (hx : ∀ b c h w, x (ix4 b c h w) = (q (b, h, w) c : EReal)) (hg : ∀ c, ga (ix1 c) = (γ c : EReal)) (b : Fin 4) (c : Fin 96) (h w : Fin 384) :
    res x ga be (ix4 b c h w) = normVal q γ (fun c => be (ix1 c)) (b, h, w) c := by
  rw [res_apply]
  unfold out
  rw [select_apply, bc2_apply, bc1_apply, addf_apply, mulf_apply, hostDivf_apply, dev_apply x q hx, atAll_apply, atAll_apply, atAll_apply, sd_apply x q hx, hg,
    xt_apply, hx, div_coe _ _ (Real.sqrt_pos.2 (add_pos_of_nonneg_of_pos (varOf_nonneg _ _ (ind_cases q)) eps_pos)).ne']
  unfold normVal
  by_cases hp : ∃ c, 0 < q (b, h, w) c
  · rw [if_pos hp, (msk_apply x q hx b h w).2 hp, select_one]
  · rw [if_neg hp, eq_zero_of_ne_one fun e => hp ((msk_apply x q hx b h w).1 e), select_zero]

end Ref

end Cert.Proof.BN

end
-- ==== Proof.KerVal.lean ====
/- The kernel's result over the extended reals, at an index, for a finite input. -/
module

public import proofs.«01_k».proof.Proof.HostVal
public import proofs.«01_k».proof.Proof.RefVal

@[expose] public section

noncomputable section

namespace Cert.Proof.BN

open Cert.Kernel Cert.Kernel.Gen
open Idealize.ShloMosaic hiding ix0 ix1 ix2 ix3 ix4 sum_idx2
open Idealize.ShloMosaic.ValueIdx
open Idealize.ShloMosaic.StableHlo
open scoped BigOperators

/-! ## Positions with the two spatial axes as one -/

/-- A batch and a column as a batch and two spatial coordinates. -/
def unflat : Fin 4 × Fin 147456 ≃ Pos := Equiv.prodCongr (Equiv.refl _) (finProdFinEquiv (m := 384) (n := 384)).symm

/-- The statistics do not depend on how the positions are numbered. -/
theorem normVal_comp {ι κ : Type} [Fintype ι] [Fintype κ] (e : ι ≃ κ) (q : κ → Fin 96 → ℝ) (γ : Fin 96 → ℝ) (β : Fin 96 → EReal) (i : ι) (c : Fin 96) :
    normVal (fun i => q (e i)) γ β i c = normVal q γ β (e i) c := by
  have hc : cnt1 (ind fun i => q (e i)) = cnt1 (ind q) := congrArg (fun s => max s 1) (Equiv.sum_comp e (ind q))
  have hm : ∀ c, meanOf (chan (fun i => q (e i)) c) (ind fun i => q (e i)) = meanOf (chan q c) (ind q) := fun c => by
    unfold meanOf
    rw [hc, ← Equiv.sum_comp e]
    rfl
  have hv : ∀ c, varOf (chan (fun i => q (e i)) c) (ind fun i => q (e i)) = varOf (chan q c) (ind q) := fun c => by
    unfold varOf
    rw [hc, hm, ← Equiv.sum_comp e]
    rfl
  unfold normVal
  rw [hm, hv]

/-! ## The host's operations between the calls -/

section
variable (x : FVec Ideal S4x96x147456 .f32) (q : Fin 4 → Fin 96 → Fin 147456 → ℝ) (ga be : FVec Ideal S96 .f32) (γ : Fin 96 → ℝ)

theorem ker_cnt (hx : ∀ b c n, x (ix3 b c n) = (q b c n : EReal)) : Ker.cnt (cntArr x) ix0 = (cnt1 (ind (QF q)) : EReal) := by
  unfold Ker.cnt
  have hs : (∑ i : S32x16.Idx, cntArr x i) = ((∑ i, ind (QF q) i : ℝ) : EReal) := by
    rw [sum_idx2 (n0 := 32) (n1 := 16), ← sum_tiles, coe_sum']
    refine Finset.sum_congr rfl fun w _ => ?_
    rw [coe_sum']
    exact Finset.sum_congr rfl fun l _ => accAt_cnt x q hx w.val l 36
  rw [maximumf_apply, hostReduceAdd_apply, constant_apply, constant_apply, Ideal.ofBits_zero_f32, Ideal.ofBits_one_f32, Ideal.hostReduceAdd_total _ (fun b => b.elim0), zero_add,
    hs, ← EReal.coe_one, max_coe, cnt1]

theorem ker_avg (hx : ∀ b c n, x (ix3 b c n) = (q b c n : EReal)) (s : FVec Ideal S32x96x16 .f32) (f : Fin 4 × Fin 147456 → ℝ) (c : Fin 96)
    (hs : ∀ (w : Fin 32) (l : Fin 16), s (ix3 w c l) = (tileSum f w.val l.val 36 : EReal)) :
    Ker.avg s (cntArr x) (ix1 c) = (((∑ i, f i) / cnt1 (ind (QF q)) : ℝ) : EReal) := by
  unfold Ker.avg
  have hs' : (∑ p : Fin 32 × Fin 16, s (ix3 p.1 c p.2)) = ((∑ i, f i : ℝ) : EReal) := by
    rw [Fintype.sum_prod_type, ← sum_tiles, coe_sum']
    refine Finset.sum_congr rfl fun w _ => ?_
    rw [coe_sum']
    exact Finset.sum_congr rfl fun l _ => hs w l
  rw [hostDivf_apply, hostReduceAdd_apply, constant_apply, Ideal.ofBits_zero_f32, sum_outer2, hs', broadcastInDim_scalar_apply, ker_cnt x q hx, div_coe _ _ (cnt1_pos _).ne']

theorem ker_mean (hx : ∀ b c n, x (ix3 b c n) = (q b c n : EReal)) (c : Fin 96) :
    Ker.avg (s1Arr x) (cntArr x) (ix1 c) = (meanOf (chan (QF q) c) (ind (QF q)) : EReal) :=
  ker_avg x q hx (s1Arr x) (fun i => QF q i c * ind (QF q) i) c fun w l => accAt_s1 x q hx w.val c l 36

theorem ker_vr (hx : ∀ b c n, x (ix3 b c n) = (q b c n : EReal)) (c : Fin 96) :
    Ker.vr (s1Arr x) (s2Arr x) (cntArr x) (ix1 c) = (varOf (chan (QF q) c) (ind (QF q)) : EReal) := by
  unfold Ker.vr
  rw [maximumf_apply, subf_apply, mulf_apply, ker_mean x q hx, ker_avg x q hx (s2Arr x) (fun i => QF q i c * ind (QF q) i * QF q i c) c fun w l => accAt_s2 x q hx w.val c l 36,
    broadcastInDim_scalar_apply, constant_apply, Ideal.ofBits_zero_f32, ← EReal.coe_mul, ← EReal.coe_sub, ← EReal.coe_zero, max_coe]
  exact congrArg _ (var_eq (chan (QF q) c) (ind (QF q)) (ind_cases _))

theorem ker_sc (hx : ∀ b c n, x (ix3 b c n) = (q b c n : EReal)) (hg : ∀ c, ga (ix1 c) = (γ c : EReal)) (c : Fin 96) :
    Ker.sc (s1Arr x) (s2Arr x) (cntArr x) ga (ix1 c) = (γ c : EReal) * (((Real.sqrt (varOf (chan (QF q) c) (ind (QF q)) + eps))⁻¹ : ℝ) : EReal) := by
  unfold Ker.sc
  rw [mulf_apply, hostRsqrt_apply, addf_apply, ker_vr x q hx, broadcastInDim_scalar_apply, constant_apply, ofBits_eps, ← EReal.coe_add,
    rsqrt_coe _ (add_pos_of_nonneg_of_pos (varOf_nonneg _ _ (ind_cases _)) eps_pos), hg]

theorem ker_sh (hx : ∀ b c n, x (ix3 b c n) = (q b c n : EReal)) (hg : ∀ c, ga (ix1 c) = (γ c : EReal)) (c : Fin 96) :
    Ker.sh (s1Arr x) (s2Arr x) (cntArr x) ga be (ix1 c)
      = be (ix1 c) - (meanOf (chan (QF q) c) (ind (QF q)) : EReal) * ((γ c : EReal) * (((Real.sqrt (varOf (chan (QF q) c) (ind (QF q)) + eps))⁻¹ : ℝ) : EReal)) := by
  unfold Ker.sh
  rw [subf_apply, mulf_apply, ker_mean x q hx, ker_sc x q ga γ hx hg]

/-- Every lane of a widened per-channel array is the channel's element. -/
theorem wide_apply (a : FVec Ideal S96 .f32) (c : Fin 96) (l : Fin 16) : Ker.wide a (ix2 c l) = a (ix1 c) := by
  unfold Ker.wide
  rw [shapeCast_apply _ _ _ (ix4 0 c l 0) (by rw [Shape.rowMajor_val_four, Shape.rowMajor_val_two]; simp),
    broadcastInDim_apply _ _ _ _ (ix4 0 c 0 0) (fun a => by
      match a with
      | ⟨0, _⟩ => rfl
      | ⟨1, _⟩ => rfl
      | ⟨2, _⟩ => rfl
      | ⟨3, _⟩ => rfl),
    shapeCast_apply _ _ _ (ix2 c 0) (by rw [Shape.rowMajor_val_four, Shape.rowMajor_val_two]; simp)]
  exact broadcastInDim_apply _ _ _ _ (ix1 c) fun a => by
    match a with
    | ⟨0, _⟩ => rfl

/-! ## The second call's result -/

/-- The mask array. -/
theorem maskArr_apply (hx : ∀ b c n, x (ix3 b c n) = (q b c n : EReal)) (b : Fin 4) (g : Fin 9216) (l : Fin 16) :
    maskArr x (ix3 b g l) = (ind (QF q) (b, Fin.ofNat 147456 (16 * g.val + l.val)) : EReal) :=
  maskOf_real (QF q) _ _ _ fun c => by
    show x (ix3 b (Fin.ofNat 96 c.val) (Fin.ofNat 147456 (16 * g.val + l.val))) = _
    rw [show Fin.ofNat 96 c.val = c from Fin.ext (Nat.mod_eq_of_lt c.isLt), hx]

/-- The result array at a batch, channel and column. -/
theorem outArr_apply (hx : ∀ b c n, x (ix3 b c n) = (q b c n : EReal)) (hg : ∀ c, ga (ix1 c) = (γ c : EReal)) (b : Fin 4) (c : Fin 96) (n : Fin 147456) :
    outArr x (maskArr x) (Ker.wide (Ker.sc (s1Arr x) (s2Arr x) (cntArr x) ga)) (Ker.wide (Ker.sh (s1Arr x) (s2Arr x) (cntArr x) ga be)) (ix3 b c n)
      = normVal (QF q) γ (fun c => be (ix1 c)) (b, n) c := by
  have hn := n.isLt
  have e1 : Fin.ofNat 147456 (16 * (n.val / 16) + n.val % 16) = n := Fin.ext (by show (16 * (n.val / 16) + n.val % 16) % 147456 = n.val; omega)
  have e2 : (Fin.ofNat 9216 (n.val / 16)).val = n.val / 16 := Nat.mod_eq_of_lt (by omega)
  have ec : Fin.ofNat 96 c.val = c := Fin.ext (Nat.mod_eq_of_lt c.isLt)
  have hm : maskArr x (ix3 b (Fin.ofNat 9216 (n.val / 16)) (Fin.ofNat 16 n.val)) = (ind (QF q) (b, n) : EReal) := by
    rw [maskArr_apply x q hx, e2]
    exact congrArg (fun k => ((ind (QF q) (b, k) : ℝ) : EReal)) e1
  have hv : x (ix3 b c (Fin.ofNat 147456 (16 * (n.val / 16) + n.val % 16))) = (q b c n : EReal) := by rw [e1, hx]
  show Scalar.select (FloatOps.cmpf (F := Ideal) (φ := .f32) .ogt (maskArr x (ix3 b (Fin.ofNat 9216 (n.val / 16)) (Fin.ofNat 16 n.val))) (zero16 (ix1 (Fin.ofNat 16 n.val))))
    (x (ix3 b c (Fin.ofNat 147456 (16 * (n.val / 16) + n.val % 16)))
        * Ker.wide (Ker.sc (s1Arr x) (s2Arr x) (cntArr x) ga) (ix2 (Fin.ofNat 96 c.val) (Fin.ofNat 16 n.val))
      + Ker.wide (Ker.sh (s1Arr x) (s2Arr x) (cntArr x) ga be) (ix2 (Fin.ofNat 96 c.val) (Fin.ofNat 16 n.val)))
    (x (ix3 b c (Fin.ofNat 147456 (16 * (n.val / 16) + n.val % 16)))) = _
  rw [hm, zero16_apply, select_gt, hv, wide_apply, wide_apply, ec, ker_sc x q ga γ hx hg, ker_sh x q ga be γ hx hg, norm_eq]
  unfold normVal
  by_cases hp : ∃ c', 0 < QF q (b, n) c'
  · rw [if_pos hp, if_pos]
    unfold ind
    rw [if_pos hp]
    exact_mod_cast one_pos
  · rw [if_neg hp, if_neg]
    unfold ind
    rw [if_neg hp]
    simp
end

/-! ## The whole program -/

variable (m : (ℓ : Loc nD τ sig) → Buf (Elt Ideal) ℓ) (d : Dev nD)

theorem X_apply (q : Pos → Fin 96 → ℝ) (hx : ∀ b c h w, (m ((d.tc : Thread nD τ).loc main_arg0) : FVec Ideal S4x96x384x384 .f32) (ix4 b c h w) = (q (b, h, w) c : EReal))
    (b : Fin 4) (c : Fin 96) (n : Fin 147456) : X m d (ix3 b c n) = (q (unflat (b, n)) c : EReal) := by
  unfold X VA
  rw [after_x]
  refine (shapeCast_apply _ _ _ (ix4 b c (unflat (b, n)).2.1 (unflat (b, n)).2.2) ?_).trans (hx b c _ _)
  rw [Shape.rowMajor_val_four, Shape.rowMajor_val_three]
  show ((b.val * 96 + c.val) * 384 + n.val / 384) * 384 + n.val % 384 = (b.val * 96 + c.val) * 147456 + n.val
  omega

/-- The kernel's result at an index. -/
theorem ker_val (q : Pos → Fin 96 → ℝ) (γ : Fin 96 → ℝ)
    (hx : ∀ b c h w, (m ((d.tc : Thread nD τ).loc main_arg0) : FVec Ideal S4x96x384x384 .f32) (ix4 b c h w) = (q (b, h, w) c : EReal))
    (hg : ∀ c, (m ((d.tc : Thread nD τ).loc main_arg1) : FVec Ideal S96 .f32) (ix1 c) = (γ c : EReal)) (b : Fin 4) (c : Fin 96) (h w : Fin 384) :
    (VE m d (Proc.devRef .tc (main_v29 : Ref sig .tc)) : FVec Ideal S4x96x384x384 .f32) (ix4 b c h w)
      = normVal q γ (fun c => (m ((d.tc : Thread nD τ).loc main_arg2) : FVec Ideal S96 .f32) (ix1 c)) (b, h, w) c := by
  unfold VE
  rw [after_out]
  have hd : VD m d o' = OUT m d := Function.update_self ..
  have e := unflat.apply_symm_apply (b, h, w)
  have e1 : (unflat.symm (b, h, w)).1 = b := rfl
  refine (shapeCast_apply _ _ _ (ix3 b c (unflat.symm (b, h, w)).2) ?_).trans ?_
  · rw [Shape.rowMajor_val_four, Shape.rowMajor_val_three]
    show (b.val * 96 + c.val) * 147456 + (w.val + 384 * h.val) = ((b.val * 96 + c.val) * 384 + h.val) * 384 + w.val
    omega
  rw [hd]
  unfold OUT
  have hX : VC m d x' = X m d := (VC_of m d (by decide)).trans (VB_x m d)
  have hM : VC m d mk' = maskArr (X m d) := (VC_of m d (by decide)).trans (VB_mk m d)
  have hA : ∀ {b : Ref sig .tc}, b ∉ [(main_v0 : Ref sig .tc)] → (Proc.devRef .tc b : DevRef τ sig) ∉ SA → VB m d (Proc.devRef .tc b) = m (d, Proc.devRef .tc b) :=
    fun hb hs => (VB_off m d hs).trans (StableHlo.after_unwritten (ops := opsA) [(main_v0 : Ref sig .tc)] rfl hb (V0 m d))
  have hS : VC m d sc' = Ker.wide (Ker.sc (s1Arr (X m d)) (s2Arr (X m d)) (cntArr (X m d)) (m ((d.tc : Thread nD τ).loc main_arg1))) := by
    unfold VC
    rw [after_sc, VB_s1, VB_s2, VB_ct, hA (by decide) (by decide)]
  have hH : VC m d sh' = Ker.wide (Ker.sh (s1Arr (X m d)) (s2Arr (X m d)) (cntArr (X m d)) (m ((d.tc : Thread nD τ).loc main_arg1)) (m ((d.tc : Thread nD τ).loc main_arg2))) := by
    unfold VC
    rw [after_sh, VB_s1, VB_s2, VB_ct, hA (by decide) (by decide), hA (by decide) (by decide)]
  rw [hX, hM, hS, hH]
  refine (outArr_apply (X m d) (fun b c n => q (unflat (b, n)) c) _ _ γ (X_apply m d q hx) hg b c _).trans ?_
  refine (normVal_comp unflat q γ _ (b, (unflat.symm (b, h, w)).2) c).trans ?_
  exact congrArg (fun p => normVal q γ _ p c) e

end Cert.Proof.BN

end
-- ==== Proof.Alg.lean ====
/- The value claim: for finite inputs the kernel and the reference end with the same result over the extended reals. -/
module

public import proofs.«01_k».proof.Proof.Frames
public import proofs.«01_k».proof.Proof.KerVal
public import Idealize.ShloMosaic.Lib.ReduceAll

@[expose] public section

noncomputable section

namespace Cert.Proof.Alg

open Idealize.ShloMosaic hiding ix0 ix1 ix2 ix3 ix4 eq_ix4
open Idealize.ShloMosaic.ValueIdx
open Idealize.SL.Sem
open Cert.Proof.BN

/-! ## The precondition -/

/-- The precondition's side conditions. -/
theorem finiteFacts : Cert.Pre_finite.Facts where
  bcast_S_S4x96x384x384 := by decide
  reducesTo_S4x96x384x384_S_d0_1_2_3 := by decide
  h_S_ := by decide
  bcast_S_S96 := by decide
  reducesTo_S96_S_d0 := by decide

/-- The pattern of an infinity. -/
theorem ofBits_inf : Ideal.ofBits .f32 0x7F800000#32 = ⊤ := by simp [Ideal.ofBits, Ideal.ieee]

/-- An extended real whose absolute value is below infinity is a real. -/
theorem real_of_lt (a : EReal) (h : FloatOps.cmpf (F := Ideal) (φ := .f32) .olt (max a (-a)) (Ideal.ofBits .f32 0x7F800000#32) = 1#1) : a = (a.toReal : EReal) := by
  have h' : BitVec.ofBool (decide (max a (-a) < ⊤)) = 1#1 := ofBits_inf ▸ h
  have hlt : max a (-a) < ⊤ := by
    by_contra hn
    rw [decide_eq_false hn] at h'
    exact absurd h' (by decide)
  refine (EReal.coe_toReal (fun e => ?_) fun e => ?_).symm
  · rw [e] at hlt; simp at hlt
  · rw [e] at hlt; simp at hlt

/-- Under the precondition every element of the input and every factor is a real. -/
theorem finite_args (x : FVec Ideal Cert.Pre_finite.S4x96x384x384 .f32) (ga be : FVec Ideal Cert.Pre_finite.S96 .f32)
    (h : @Cert.Pre_finite.fn finiteFacts Ideal _ x ga be = fun _ => 1#1) :
    (∀ i, x i = ((x i).toReal : EReal)) ∧ ∀ i, ga i = ((ga i).toReal : EReal) := by
  have h0 := congrFun h ix0
  obtain ⟨h1, h2⟩ := IntOp.andi_eq_one.1 h0
  haveI : Subsingleton Cert.Pre_finite.S_.Idx := ⟨fun a b => funext fun i => i.elim0⟩
  exact ⟨fun i => real_of_lt _ (Host.reduce_andi_all _ _ _ _ _ h1 i), fun i => real_of_lt _ (Host.reduce_andi_all _ _ _ _ _ h2 i)⟩

/-! ## The claim -/

/-- From finite arguments the two programs' results are equal. -/
theorem results_eq (m : (ℓ : Loc Cert.Kernel.nD Cert.Kernel.τ Cert.Kernel.sig) → Buf (Elt Ideal) ℓ) (d : Dev Cert.Kernel.nD)
    (h : @Cert.Pre_finite.fn finiteFacts Ideal _ (m ((d.tc : Thread Cert.Kernel.nD Cert.Kernel.τ).loc Cert.Kernel.main_arg0))
      (m ((d.tc : Thread Cert.Kernel.nD Cert.Kernel.τ).loc Cert.Kernel.main_arg1)) (m ((d.tc : Thread Cert.Kernel.nD Cert.Kernel.τ).loc Cert.Kernel.main_arg2)) = fun _ => 1#1) :
    Ref.res (m ((d.tc : Thread Cert.Kernel.nD Cert.Kernel.τ).loc Cert.Kernel.main_arg0)) (m ((d.tc : Thread Cert.Kernel.nD Cert.Kernel.τ).loc Cert.Kernel.main_arg1))
      (m ((d.tc : Thread Cert.Kernel.nD Cert.Kernel.τ).loc Cert.Kernel.main_arg2)) = VE m d (Proc.devRef .tc (Cert.Kernel.main_v29 : Ref Cert.Kernel.sig .tc)) := by
  obtain ⟨hx, hg⟩ := finite_args _ _ _ h
  funext i
  rw [eq_ix4 i]
  exact (Ref.res_val _ _ _ (fun p c => EReal.toReal (m ((d.tc : Thread Cert.Kernel.nD Cert.Kernel.τ).loc Cert.Kernel.main_arg0) (ix4 p.1 c p.2.1 p.2.2)))
      (fun c => EReal.toReal (m ((d.tc : Thread Cert.Kernel.nD Cert.Kernel.τ).loc Cert.Kernel.main_arg1) (ix1 c))) (fun b c h w => hx _) (fun c => hg _) _ _ _ _).trans
    (ker_val m d (fun p c => EReal.toReal (m ((d.tc : Thread Cert.Kernel.nD Cert.Kernel.τ).loc Cert.Kernel.main_arg0) (ix4 p.1 c p.2.1 p.2.2)))
      (fun c => EReal.toReal (m ((d.tc : Thread Cert.Kernel.nD Cert.Kernel.τ).loc Cert.Kernel.main_arg1) (ix1 c))) (fun b c h w => hx _) (fun c => hg _) _ _ _ _).symm

/-- The kernel's run at the extended reals: the result at its value, the arguments unchanged. -/
theorem run_ideal (m : (ℓ : Loc Cert.Kernel.nD Cert.Kernel.τ Cert.Kernel.sig) → Buf (Elt Ideal) ℓ) (g : Dev Cert.Kernel.nD → PrngReg) :
    θ_run (Cert.Kernel.defs (F := Ideal)) (Cert.Kernel.threads (F := Ideal)) ⟨m, fun _ => 0, g⟩ (fun r => ∀ c : Dev Cert.Kernel.nD,
      r.2.mem ((c.tc : Thread Cert.Kernel.nD Cert.Kernel.τ).loc Cert.Kernel.main_v29) = VE m c (Proc.devRef .tc (Cert.Kernel.main_v29 : Ref Cert.Kernel.sig .tc))
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)) :=
  (θ_run (Cert.Kernel.defs (F := Ideal)) _ _).mono (fun _ h => h.1) (run_args (F := Ideal) m g)

/-- The kernel and the reference agree over the extended reals, for a finite input and finite factors. -/
theorem algebraic : Cert.algebraic_KernelIdeal_ReferenceIdeal_pre_finite (hKernelIdeal := Cert.KernelIdeal.Gen.facts)
    (hReferenceIdeal := Cert.ReferenceIdeal.Gen.facts) (hPre_finite := finiteFacts) := by
  intro m g m' g' hpre heq
  refine ⟨fun c => VE m c (Proc.devRef .tc (Cert.Kernel.main_v29 : Ref Cert.Kernel.sig .tc)), run_ideal m g, ?_⟩
  refine (θ_run (Cert.ReferenceIdeal.defs (F := Ideal)) _ _).mono (fun r h c => ⟨(h c).1.trans ?_, (h c).2⟩) (Cert.ReferenceIdeal.Value.run (F := Ideal) m' g')
  refine (Ref.res_eq m' c).trans ?_
  rw [(heq c).1, (heq c).2.1, (heq c).2.2]
  exact results_eq m c (hpre c)

end Cert.Proof.Alg

end
-- ==== Proof.lean ====
/- The proof of the certificate: the claims of the modules it imports, put together. -/
module

public import proofs.«01_k».proof.Defs
public import proofs.«01_k».proof.Proof.Gen.Kernel

public import proofs.«01_k».proof.Proof.Gen.KernelIdeal

public import proofs.«01_k».proof.Proof.Gen.ReferenceIdeal
public import proofs.«01_k».proof.Proof.Gen.ReferenceIdeal.Run
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Alg.finiteFacts, Frames.frame_P, Frames.frame_PI, Frames.frame_PI_finite _,
    Frames.frame_RI, Frames.frame_RI_finite _, trivial, Alg.algebraic⟩

end Cert.Proof

end
